-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Moe [hPre_named : Cert.Pre_named.Facts] (m : (ℓ : Loc Cert.Moe.nD Cert.Moe.τ Cert.Moe.sig) → Buf (Elt Bits) ℓ) : Prop :=
  ∀ c : Dev Cert.Moe.nD,
    (Cert.Pre_named.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))) = (fun _ => 1#1)

def Pre_MoeIdeal [hPre_named : Cert.Pre_named.Facts] (m : (ℓ : Loc Cert.MoeIdeal.nD Cert.MoeIdeal.τ Cert.MoeIdeal.sig) → Buf (Elt Ideal) ℓ) : Prop :=
  ∀ c : Dev Cert.MoeIdeal.nD,
    (Cert.Pre_named.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_named [hPre_named : Cert.Pre_named.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_named.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_Moe [hMoe : Cert.Moe.Facts] [hPre_named : Cert.Pre_named.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] [hPre_named : Cert.Pre_named.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4))
      ∧ r.2.sem = fun _ => 0)

def quiescent_MoeReferenceIdeal_pre_named [hMoeReferenceIdeal : Cert.MoeReferenceIdeal.Facts] [hPre_named : Cert.Pre_named.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_named m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7)
      ∧ r.2.mem ((c.tc : Thread Cert.ConvReferenceIdeal.nD Cert.ConvReferenceIdeal.τ).loc Cert.ConvReferenceIdeal.main_arg8) = m ((c.tc : Thread Cert.ConvReferenceIdeal.nD Cert.ConvReferenceIdeal.τ).loc Cert.ConvReferenceIdeal.main_arg8))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v30) = v0 c
          ∧ r.2.mem ((c.tc : Thread Cert.FfnReferenceIdeal.nD Cert.FfnReferenceIdeal.τ).loc Cert.FfnReferenceIdeal.main_v63) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Moe_MoeIdeal : Prop :=
  True

def algebraic_MoeIdeal_MoeReferenceIdeal [hMoeIdeal : Cert.MoeIdeal.Facts] [hMoeReferenceIdeal : Cert.MoeReferenceIdeal.Facts] [hPre_named : Cert.Pre_named.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v132) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v28) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)
      ∧ m' ((c.tc : Thread Cert.ConvReferenceIdeal.nD Cert.ConvReferenceIdeal.τ).loc Cert.ConvReferenceIdeal.main_arg7) = m ((c.tc : Thread Cert.ConvIdeal.nD Cert.ConvIdeal.τ).loc Cert.ConvIdeal.main_arg7)
      ∧ m' ((c.tc : Thread Cert.ConvReferenceIdeal.nD Cert.ConvReferenceIdeal.τ).loc Cert.ConvReferenceIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v54) = v0 c
          ∧ r.2.mem ((c.tc : Thread Cert.ConvReferenceIdeal.nD Cert.ConvReferenceIdeal.τ).loc Cert.ConvReferenceIdeal.main_v74) = v1 c
          ∧ r.2.mem ((c.tc : Thread Cert.ConvReferenceIdeal.nD Cert.ConvReferenceIdeal.τ).loc Cert.ConvReferenceIdeal.main_v75) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7)
          ∧ r.2.mem ((c.tc : Thread Cert.ConvReferenceIdeal.nD Cert.ConvReferenceIdeal.τ).loc Cert.ConvReferenceIdeal.main_arg8) = m' ((c.tc : Thread Cert.ConvReferenceIdeal.nD Cert.ConvReferenceIdeal.τ).loc Cert.ConvReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMoe : Cert.Moe.Facts) (hMoeIdeal : Cert.MoeIdeal.Facts) (hMoeReferenceIdeal : Cert.MoeReferenceIdeal.Facts) (hCombine : Cert.Combine.Facts) (hCombineIdeal : Cert.CombineIdeal.Facts) (hCombineReferenceIdeal : Cert.CombineReferenceIdeal.Facts) (hConv : Cert.Conv.Facts) (hConvIdeal : Cert.ConvIdeal.Facts) (hConvReferenceIdeal : Cert.ConvReferenceIdeal.Facts) (hPre_tame : Cert.Pre_tame.Facts) (hPre_named : Cert.Pre_named.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Moe (hMoe := hMoe) (hPre_named := hPre_named)
    ∧ quiescent_MoeIdeal (hMoeIdeal := hMoeIdeal) (hPre_named := hPre_named)
    ∧ quiescent_MoeReferenceIdeal (hMoeReferenceIdeal := hMoeReferenceIdeal)
    ∧ quiescent_MoeReferenceIdeal_pre_named (hMoeReferenceIdeal := hMoeReferenceIdeal) (hPre_named := hPre_named)
    ∧ quiescent_Combine (hCombine := hCombine)
    ∧ quiescent_CombineIdeal (hCombineIdeal := hCombineIdeal)
    ∧ quiescent_CombineReferenceIdeal (hCombineReferenceIdeal := hCombineReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_Ffn_FfnIdeal
    ∧ algebraic_FfnIdeal_FfnReferenceIdeal (hFfnIdeal := hFfnIdeal) (hFfnReferenceIdeal := hFfnReferenceIdeal)
    ∧ preserves_Moe_MoeIdeal
    ∧ algebraic_MoeIdeal_MoeReferenceIdeal (hMoeIdeal := hMoeIdeal) (hMoeReferenceIdeal := hMoeReferenceIdeal) (hPre_named := hPre_named)
    ∧ preserves_Combine_CombineIdeal
    ∧ algebraic_CombineIdeal_CombineReferenceIdeal (hCombineIdeal := hCombineIdeal) (hCombineReferenceIdeal := hCombineReferenceIdeal)
    ∧ preserves_Conv_ConvIdeal
    ∧ algebraic_ConvIdeal_ConvReferenceIdeal (hConvIdeal := hConvIdeal) (hConvReferenceIdeal := hConvReferenceIdeal)
-- ==== Pre_named.lean ====
abbrev S40960x1024 : Shape := ⟨2, ![40960, 1024]⟩
abbrev S40 : Shape := ⟨1, ![40]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S40960x1024 .bf16) (main_arg1 : IVec S40 32) (main_arg2 : IVec S40 32) (main_arg3 : FVec F S8x1024x7168 .bf16) (main_arg4 : FVec F S8x3584x1024 .bf16) : IVec S_ 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_tame.lean ====
abbrev S8x2048x1024 : Shape := ⟨3, ![8, 2048, 1024]⟩
abbrev S1x1024 : Shape := ⟨2, ![1, 1024]⟩
abbrev S8x2x8x128x128 : Shape := ⟨5, ![8, 2, 8, 128, 128]⟩
abbrev S_ : Shape := ⟨0, ![]⟩
abbrev S8x2x8x64x64 : Shape := ⟨5, ![8, 2, 8, 64, 64]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8x2x8x128x128 : S_.BroadcastsInDim S8x2x8x128x128 (![] : Fin 0 → Fin S8x2x8x128x128.rank)
  reducesTo_S8x2x8x128x128_S_d0_1_2_3_4 : S8x2x8x128x128.ReducesTo [0, 1, 2, 3, 4] S_
  slices_S8x2x8x128x128_S8x2x8x64x64_0_0_0_0_64 : S8x2x8x128x128.Slices ![0, 0, 0, 0, 64] S8x2x8x64x64
  bcast_S_S8x2x8x64x64 : S_.BroadcastsInDim S8x2x8x64x64 (![] : Fin 0 → Fin S8x2x8x64x64.rank)
  reducesTo_S8x2x8x64x64_S_d0_1_2_3_4 : S8x2x8x64x64.ReducesTo [0, 1, 2, 3, 4] S_
  slices_S8x2x8x128x128_S8x2x8x64x64_0_0_0_64_0 : S8x2x8x128x128.Slices ![0, 0, 0, 64, 0] S8x2x8x64x64

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : IVec S_ 1 := andi main_v3 main_v7
  let main_v49 : IVec S_ 1 := andi main_v48 main_v11
  let main_v50 : IVec S_ 1 := andi main_v49 main_v15
  let main_v51 : IVec S_ 1 := andi main_v50 main_v19
  let main_v52 : IVec S_ 1 := andi main_v51 main_v23
  let main_v53 : IVec S_ 1 := andi main_v52 main_v27
  let main_v54 : IVec S_ 1 := andi main_v53 main_v31
  let main_v55 : IVec S_ 1 := andi main_v54 main_v35
  let main_v56 : IVec S_ 1 := andi main_v55 main_v39
  let main_v57 : IVec S_ 1 := andi main_v56 main_v43
  let main_v58 : IVec S_ 1 := andi main_v57 main_v47
  main_v58

def fn_part2 {F : FTy → Type} [FloatOps F] (main_arg8 : FVec F S1x1024 .f32) (main_arg9 : FVec F S8x2x8x128x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S8x2x8x128x128 .f32 := Host.absf main_arg9
  let main_cst_16 : FVec F S_ .f32 := constant S_ .f32 0x7F800000#32
  let main_v37 : FVec F S8x2x8x128x128 .f32 := broadcastInDim S8x2x8x128x128 ![] bcast_S_S8x2x8x128x128 main_cst_16
  let main_v38 : IVec S8x2x8x128x128 1 := cmpf .olt main_v36 main_v37
  let main_c_17 : IVec S_ 1 := constantI S_ 1 1#1
  let main_v39 : IVec S_ 1 := (fun x v => Host.reduce IntOp.andi x v reducesTo_S8x2x8x128x128_S_d0_1_2_3_4 h_S_) main_v38 main_c_17
  let main_v40 : FVec F S8x2x8x64x64 .f32 := (extractStridedSlice S8x2x8x64x64 ![0, 0, 0, 0, 64] · slices_S8x2x8x128x128_S8x2x8x64x64_0_0_0_0_64) main_arg9
  let main_cst_18 : FVec F S_ .f32 := constant S_ .f32 0x00000000#32
  let main_v41 : FVec F S8x2x8x64x64 .f32 := broadcastInDim S8x2x8x64x64 ![] bcast_S_S8x2x8x64x64 main_cst_18
  let main_v42 : IVec S8x2x8x64x64 1 := cmpf .oeq main_v40 main_v41
  let main_c_19 : IVec S_ 1 := constantI S_ 1 1#1
  let main_v43 : IVec S_ 1 := (fun x v => Host.reduce IntOp.andi x v reducesTo_S8x2x8x64x64_S_d0_1_2_3_4 h_S_) main_v42 main_c_19
  let main_v44 : FVec F S8x2x8x64x64 .f32 := (extractStridedSlice S8x2x8x64x64 ![0, 0, 0, 64, 0] · slices_S8x2x8x128x128_S8x2x8x64x64_0_0_0_64_0) main_arg9
  let main_cst_20 : FVec F S_ .f32 := constant S_ .f32 0x00000000#32
  let main_v45 : FVec F S8x2x8x64x64 .f32 := broadcastInDim S8x2x8x64x64 ![] bcast_S_S8x2x8x64x64 main_cst_20
  let main_v46 : IVec S8x2x8x64x64 1 := cmpf .oeq main_v44 main_v45
  let main_c_21 : IVec S_ 1 := constantI S_ 1 1#1
  let main_v47 : IVec S_ 1 := (fun x v => Host.reduce IntOp.andi x v reducesTo_S8x2x8x64x64_S_d0_1_2_3_4 h_S_) main_v46 main_c_21
  fn_part3 (F := F) main_v3 main_v7 main_v11 main_v15 main_v19 main_v23 main_v27 main_v31 main_v35 main_v39 main_v43 main_v47

def fn_part1 {F : FTy → Type} [FloatOps F] (main_arg4 : FVec F S8x2048x1024 .f32) (main_arg5 : FVec F S8x2048x1024 .f32) (main_arg6 : FVec F S8x2048x1024 .f32) (main_arg7 : FVec F S8x2048x1024 .f32) (main_arg8 : FVec F S1x1024 .f32) (main_arg9 : FVec F S8x2x8x128x128 .f32) (main_v3 : IVec S_ 1) (main_v7 : IVec S_ 1) (main_v11 : IVec S_ 1) (main_v15 : IVec S_ 1) : IVec S_ 1 :=
  let main_v16 : FVec F S8x2048x1024 .f32 := Host.absf main_arg4
  let main_cst_6 : FVec F S_ .f32 := constant S_ .f32 0x7F800000#32
  let main_v17 : FVec F S8x2048x1024 .f32 := broadcastInDim S8x2048x1024 ![] bcast_S_S8x2048x1024 main_cst_6
  let main_v18 : IVec S8x2048x1024 1 := cmpf .olt main_v16 main_v17
  let main_c_7 : IVec S_ 1 := constantI S_ 1 1#1
  let main_v19 : IVec S_ 1 := (fun x v => Host.reduce IntOp.andi x v reducesTo_S8x2048x1024_S_d0_1_2 h_S_) main_v18 main_c_7
  let main_v20 : FVec F S8x2048x1024 .f32 := Host.absf main_arg5
  let main_cst_8 : FVec F S_ .f32 := constant S_ .f32 0x7F800000#32
  let main_v21 : FVec F S8x2048x1024 .f32 := broadcastInDim S8x2048x1024 ![] bcast_S_S8x2048x1024 main_cst_8
  let main_v22 : IVec S8x2048x1024 1 := cmpf .olt main_v20 main_v21
  let main_c_9 : IVec S_ 1 := constantI S_ 1 1#1
  let main_v23 : IVec S_ 1 := (fun x v => Host.reduce IntOp.andi x v reducesTo_S8x2048x1024_S_d0_1_2 h_S_) main_v22 main_c_9
  let main_v24 : FVec F S8x2048x1024 .f32 := Host.absf main_arg6
  let main_cst_10 : FVec F S_ .f32 := constant S_ .f32 0x7F800000#32
  let main_v25 : FVec F S8x2048x1024 .f32 := broadcastInDim S8x2048x1024 ![] bcast_S_S8x2048x1024 main_cst_10
  let main_v26 : IVec S8x2048x1024 1 := cmpf .olt main_v24 main_v25
  let main_c_11 : IVec S_ 1 := constantI S_ 1 1#1
  let main_v27 : IVec S_ 1 := (fun x v => Host.reduce IntOp.andi x v reducesTo_S8x2048x1024_S_d0_1_2 h_S_) main_v26 main_c_11
  let main_v28 : FVec F S8x2048x1024 .f32 := Host.absf main_arg7
  let main_cst_12 : FVec F S_ .f32 := constant S_ .f32 0x7F800000#32
  let main_v29 : FVec F S8x2048x1024 .f32 := broadcastInDim S8x2048x1024 ![] bcast_S_S8x2048x1024 main_cst_12
  let main_v30 : IVec S8x2048x1024 1 := cmpf .olt main_v28 main_v29
  let main_c_13 : IVec S_ 1 := constantI S_ 1 1#1
  let main_v31 : IVec S_ 1 := (fun x v => Host.reduce IntOp.andi x v reducesTo_S8x2048x1024_S_d0_1_2 h_S_) main_v30 main_c_13
  fn_part2 (F := F) main_arg8 main_arg9 main_v3 main_v7 main_v11 main_v15 main_v19 main_v23 main_v27 main_v31

def fn {F : FTy → Type} [FloatOps F] (main_arg0 : FVec F S8x2048x1024 .f32) (main_arg1 : FVec F S8x2048x1024 .f32) (main_arg2 : FVec F S8x2048x1024 .f32) (main_arg3 : FVec F S8x2048x1024 .f32) (main_arg4 : FVec F S8x2048x1024 .f32) (main_arg5 : FVec F S8x2048x1024 .f32) (main_arg6 : FVec F S8x2048x1024 .f32) (main_arg7 : FVec F S8x2048x1024 .f32) (main_arg8 : FVec F S1x1024 .f32) (main_arg9 : FVec F S8x2x8x128x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : FVec F S8x2048x1024 .f32 := Host.absf main_arg2
  let main_cst_2 : FVec F S_ .f32 := constant S_ .f32 0x7F800000#32
  let main_v9 : FVec F S8x2048x1024 .f32 := broadcastInDim S8x2048x1024 ![] bcast_S_S8x2048x1024 main_cst_2
  let main_v10 : IVec S8x2048x1024 1 := cmpf .olt main_v8 main_v9
  let main_c_3 : IVec S_ 1 := constantI S_ 1 1#1
  let main_v11 : IVec S_ 1 := (fun x v => Host.reduce IntOp.andi x v reducesTo_S8x2048x1024_S_d0_1_2 h_S_) main_v10 main_c_3
  let main_v12 : FVec F S8x2048x1024 .f32 := Host.absf main_arg3
  let main_cst_4 : FVec F S_ .f32 := constant S_ .f32 0x7F800000#32
  let main_v13 : FVec F S8x2048x1024 .f32 := broadcastInDim S8x2048x1024 ![] bcast_S_S8x2048x1024 main_cst_4
  let main_v14 : IVec S8x2048x1024 1 := cmpf .olt main_v12 main_v13
  let main_c_5 : IVec S_ 1 := constantI S_ 1 1#1
  let main_v15 : IVec S_ 1 := (fun x v => Host.reduce IntOp.andi x v reducesTo_S8x2048x1024_S_d0_1_2 h_S_) main_v14 main_c_5
  fn_part1 (F := F) main_arg4 main_arg5 main_arg6 main_arg7 main_arg8 main_arg9 main_v3 main_v7 main_v11 main_v15
-- ==== Kernel.lean ====
abbrev S8x2048x1024 : Shape := ⟨3, ![8, 2048, 1024]⟩
abbrev S1x1024 : Shape := ⟨2, ![1, 1024]⟩
abbrev S8x2x8x128x128 : Shape := ⟨5, ![8, 2, 8, 128, 128]⟩
abbrev S1x64x256 : Shape := ⟨3, ![1, 64, 256]⟩
abbrev S1x256 : Shape := ⟨2, ![1, 256]⟩
abbrev S1x2x2x128x128 : Shape := ⟨5, ![1, 2, 2, 128, 128]⟩
abbrev S2x2x128x128 : Shape := ⟨4, ![2, 2, 128, 128]⟩
abbrev S1x64x128 : Shape := ⟨3, ![1, 64, 128]⟩
abbrev S64x128 : Shape := ⟨2, ![64, 128]⟩
abbrev S1x128 : Shape := ⟨2, ![1, 128]⟩
abbrev S1x1x128x128 : Shape := ⟨4, ![1, 1, 128, 128]⟩
abbrev S128x128 : Shape := ⟨2, ![128, 128]⟩
abbrev S64x64 : Shape := ⟨2, ![64, 64]⟩
abbrev S256x128 : Shape := ⟨2, ![256, 128]⟩
abbrev S256x256 : Shape := ⟨2, ![256, 256]⟩
abbrev S128x256 : Shape := ⟨2, ![128, 256]⟩

abbrev nBuf : Space → Nat
  | .hbm => 12
  | .vmem => 33
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S1x1024, .f32⟩
  | .hbm, ⟨9, _⟩ => ⟨S8x2x8x128x128, .f32⟩
  | .hbm, ⟨10, _⟩ => ⟨S8x2048x1024, .f32⟩
  | .hbm, ⟨11, _⟩ => ⟨S8x2048x1024, .f32⟩
  | .local _ .vmem, ⟨0, _⟩ => ⟨S1x64x256, .f32⟩
  | .local _ .vmem, ⟨1, _⟩ => ⟨S1x64x256, .f32⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x64x256, .f32⟩
  | .local _ .vmem, ⟨14, _⟩ => ⟨S1x64x256, .f32⟩
  | .local _ .vmem, ⟨15, _⟩ => ⟨S1x64x256, .f32⟩
  | .local _ .vmem, ⟨16, _⟩ => ⟨S1x64x256, .f32⟩
  | .local _ .vmem, ⟨17, _⟩ => ⟨S1x64x256, .f32⟩
  | .local _ .vmem, ⟨18, _⟩ => ⟨S1x64x256, .f32⟩
  | .local _ .vmem, ⟨19, _⟩ => ⟨S1x64x256, .f32⟩
  | .local _ .vmem, ⟨20, _⟩ => ⟨S1x64x256, .f32⟩
  | .local _ .vmem, ⟨21, _⟩ => ⟨S1x64x256, .f32⟩
  | .local _ .vmem, ⟨22, _⟩ => ⟨S1x64x256, .f32⟩
  | .local _ .vmem, ⟨23, _⟩ => ⟨S1x64x256, .f32⟩
  | .local _ .vmem, ⟨24, _⟩ => ⟨S1x256, .f32⟩
  | .local _ .vmem, ⟨25, _⟩ => ⟨S1x256, .f32⟩
  | .local _ .vmem, ⟨26, _⟩ => ⟨S1x2x2x128x128, .f32⟩
  | .local _ .vmem, ⟨27, _⟩ => ⟨S1x2x2x128x128, .f32⟩
  | .local _ .vmem, ⟨28, _⟩ => ⟨S1x64x256, .f32⟩
  | .local _ .vmem, ⟨29, _⟩ => ⟨S1x64x256, .f32⟩
  | .local _ .vmem, ⟨30, _⟩ => ⟨S1x64x256, .f32⟩
  | .local _ .vmem, ⟨31, _⟩ => ⟨S1x64x256, .f32⟩
  | .local _ .vmem, ⟨32, _⟩ => ⟨S2x2x128x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![8, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg0.toNat, v0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg0.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg0.toNat, v0.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg0.toNat, v0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg0.toNat, v0.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg0.toNat, v0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_13 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg0.toNat, v0.toNat, arg1.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x2x2x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== ReferenceIdeal.lean ====
abbrev S8x2048x1024 : Shape := ⟨3, ![8, 2048, 1024]⟩
abbrev S1x1024 : Shape := ⟨2, ![1, 1024]⟩
abbrev S8x2x8x128x128 : Shape := ⟨5, ![8, 2, 8, 128, 128]⟩
abbrev S8x2x8x64x64 : Shape := ⟨5, ![8, 2, 8, 64, 64]⟩
abbrev S8x2x8x1x64x64 : Shape := ⟨6, ![8, 2, 8, 1, 64, 64]⟩
abbrev S8x2x8x2x64x64 : Shape := ⟨6, ![8, 2, 8, 2, 64, 64]⟩
abbrev S8x2x16x64x64 : Shape := ⟨5, ![8, 2, 16, 64, 64]⟩
abbrev S2x8x16x64x64 : Shape := ⟨5, ![2, 8, 16, 64, 64]⟩
abbrev S8x2048x16x64 : Shape := ⟨4, ![8, 2048, 16, 64]⟩
abbrev S2048x8x16x64 : Shape := ⟨4, ![2048, 8, 16, 64]⟩
abbrev S2048x1x8x16x64 : Shape := ⟨5, ![2048, 1, 8, 16, 64]⟩
abbrev S2048x2x8x16x64 : Shape := ⟨5, ![2048, 2, 8, 16, 64]⟩
abbrev S_ : Shape := ⟨0, ![]⟩
abbrev S1x1x1024 : Shape := ⟨3, ![1, 1, 1024]⟩
abbrev S1x2x8x16x64 : Shape := ⟨5, ![1, 2, 8, 16, 64]⟩
abbrev S2x8x16x64 : Shape := ⟨4, ![2, 8, 16, 64]⟩
abbrev S2x8x16x1x64 : Shape := ⟨5, ![2, 8, 16, 1, 64]⟩
abbrev S2x8x16x64x1 : Shape := ⟨5, ![2, 8, 16, 64, 1]⟩

abbrev nBuf : Space → Nat
  | .hbm => 175
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S8x2048x1024, .f32⟩
  | 5 => ⟨S8x2048x1024, .f32⟩
  | 6 => ⟨S8x2048x1024, .f32⟩
  | 7 => ⟨S8x2048x1024, .f32⟩
  | 8 => ⟨S1x1024, .f32⟩
  | 9 => ⟨S8x2x8x128x128, .f32⟩
  | 10 => ⟨S8x2x8x64x64, .f32⟩
  | 11 => ⟨S8x2x8x64x64, .f32⟩
  | 12 => ⟨S8x2x8x1x64x64, .f32⟩
  | 13 => ⟨S8x2x8x1x64x64, .f32⟩
  | 14 => ⟨S8x2x8x2x64x64, .f32⟩
  | 15 => ⟨S8x2x16x64x64, .f32⟩
  | 16 => ⟨S2x8x16x64x64, .f32⟩
  | 17 => ⟨S8x2048x16x64, .f32⟩
  | 18 => ⟨S2048x8x16x64, .f32⟩
  | 19 => ⟨S8x2048x16x64, .f32⟩
  | 20 => ⟨S2048x8x16x64, .f32⟩
  | 21 => ⟨S2048x8x16x64, .f32⟩
  | 22 => ⟨S2048x1x8x16x64, .f32⟩
  | 23 => ⟨S2048x1x8x16x64, .f32⟩
  | 24 => ⟨S2048x2x8x16x64, .f32⟩
  | 25 => ⟨S8x2048x1024, .f32⟩
  | 26 => ⟨S8x2048x1024, .f32⟩
  | 27 => ⟨S8x2048x16x64, .f32⟩
  | 28 => ⟨S2048x8x16x64, .f32⟩
  | 29 => ⟨S8x2048x16x64, .f32⟩
  | 30 => ⟨S2048x8x16x64, .f32⟩
  | 31 => ⟨S2048x8x16x64, .f32⟩
  | 32 => ⟨S2048x1x8x16x64, .f32⟩
  | 33 => ⟨S2048x1x8x16x64, .f32⟩
  | 34 => ⟨S2048x2x8x16x64, .f32⟩
  | 35 => ⟨S_, .f32⟩
  | 36 => ⟨S8x2048x1024, .f32⟩
  | 37 => ⟨S8x2048x1024, .f32⟩
  | 38 => ⟨S1x1x1024, .f32⟩
  | 39 => ⟨S8x2048x1024, .f32⟩
  | 40 => ⟨S8x2048x1024, .f32⟩
  | 41 => ⟨S_, .f32⟩
  | 42 => ⟨S8x2048x1024, .f32⟩
  | 43 => ⟨S8x2048x1024, .f32⟩
  | 44 => ⟨S8x2048x1024, .f32⟩
  | 45 => ⟨S_, .f32⟩
  | 46 => ⟨S8x2048x1024, .f32⟩
  | 47 => ⟨S8x2048x1024, .f32⟩
  | 48 => ⟨S1x1x1024, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S8x2048x1024, .f32⟩
  | 55 => ⟨S8x2048x16x64, .f32⟩
  | 56 => ⟨S2048x8x16x64, .f32⟩
  | 57 => ⟨S8x2048x16x64, .f32⟩
  | 58 => ⟨S2048x8x16x64, .f32⟩
  | 59 => ⟨S2048x8x16x64, .f32⟩
  | 60 => ⟨S2048x1x8x16x64, .f32⟩
  | 61 => ⟨S2048x1x8x16x64, .f32⟩
  | 62 => ⟨S2048x2x8x16x64, .f32⟩
  | 63 => ⟨S8x2048x16x64, .f32⟩
  | 64 => ⟨S2048x8x16x64, .f32⟩
  | 65 => ⟨S8x2048x16x64, .f32⟩
  | 66 => ⟨S2048x8x16x64, .f32⟩
  | 67 => ⟨S2048x8x16x64, .f32⟩
  | 68 => ⟨S2048x1x8x16x64, .f32⟩
  | 69 => ⟨S2048x1x8x16x64, .f32⟩
  | 70 => ⟨S2048x2x8x16x64, .f32⟩
  | 71 => ⟨S8x2048x1024, .f32⟩
  | 72 => ⟨S8x2048x1024, .f32⟩
  | 73 => ⟨S8x2048x16x64, .f32⟩
  | 74 => ⟨S2048x8x16x64, .f32⟩
  | 75 => ⟨S8x2048x16x64, .f32⟩
  | 76 => ⟨S2048x8x16x64, .f32⟩
  | 77 => ⟨S2048x8x16x64, .f32⟩
  | 78 => ⟨S2048x1x8x16x64, .f32⟩
  | 79 => ⟨S2048x1x8x16x64, .f32⟩
  | 80 => ⟨S2048x2x8x16x64, .f32⟩
  | 81 => ⟨S8x2048x1024, .f32⟩
  | 82 => ⟨S8x2048x1024, .f32⟩
  | 83 => ⟨S8x2048x16x64, .f32⟩
  | 84 => ⟨S2048x8x16x64, .f32⟩
  | 85 => ⟨S8x2048x16x64, .f32⟩
  | 86 => ⟨S2048x8x16x64, .f32⟩
  | 87 => ⟨S2048x8x16x64, .f32⟩
  | 88 => ⟨S2048x1x8x16x64, .f32⟩
  | 89 => ⟨S2048x1x8x16x64, .f32⟩
  | 90 => ⟨S2048x2x8x16x64, .f32⟩
  | 91 => ⟨S_, .f32⟩
  | 92 => ⟨S2048x2x8x16x64, .f32⟩
  | 93 => ⟨S_, .i32⟩
  | 94 => ⟨S2048x2x8x16x64, .f32⟩
  | 95 => ⟨S2048x2x8x16x64, .f32⟩
  | 96 => ⟨S2048x2x8x16x64, .f32⟩
  | 97 => ⟨S2048x2x8x16x64, .f32⟩
  | 98 => ⟨S2048x2x8x16x64, .f32⟩
  | 99 => ⟨S2048x2x8x16x64, .f32⟩
  | 100 => ⟨S_, .i32⟩
  | 101 => ⟨S2x8x16x64x64, .f32⟩
  | 102 => ⟨S2048x2x8x16x64, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x2x8x16x64, .f32⟩
  | 110 => ⟨S2x8x16x64, .f32⟩
  | 111 => ⟨S_, .i32⟩
  | 112 => ⟨S_, .i32⟩
  | 113 => ⟨S_, .i32⟩
  | 114 => ⟨S_, .i32⟩
  | 115 => ⟨S1x2x8x16x64, .f32⟩
  | 116 => ⟨S2x8x16x64, .f32⟩
  | 117 => ⟨S_, .i32⟩
  | 118 => ⟨S_, .i32⟩
  | 119 => ⟨S_, .i32⟩
  | 120 => ⟨S_, .i32⟩
  | 121 => ⟨S1x2x8x16x64, .f32⟩
  | 122 => ⟨S2x8x16x64, .f32⟩
  | 123 => ⟨S_, .i32⟩
  | 124 => ⟨S_, .i32⟩
  | 125 => ⟨S_, .i32⟩
  | 126 => ⟨S_, .i32⟩
  | 127 => ⟨S1x2x8x16x64, .f32⟩
  | _ => ⟨S8x2048x1024, .f32⟩

abbrev hbmTy0_1 (i : Nat) : BufTy := match i % 128 with
  | 0 => ⟨S2x8x16x64, .f32⟩
  | 1 => ⟨S_, .i32⟩
  | 2 => ⟨S_, .i32⟩
  | 3 => ⟨S_, .i32⟩
  | 4 => ⟨S_, .i32⟩
  | 5 => ⟨S1x2x8x16x64, .f32⟩
  | 6 => ⟨S2x8x16x64, .f32⟩
  | 7 => ⟨S_, .i32⟩
  | 8 => ⟨S_, .i32⟩
  | 9 => ⟨S_, .i32⟩
  | 10 => ⟨S_, .i32⟩
  | 11 => ⟨S1x2x8x16x64, .f32⟩
  | 12 => ⟨S2x8x16x64, .f32⟩
  | 13 => ⟨S2x8x16x64, .f32⟩
  | 14 => ⟨S2x8x16x1x64, .f32⟩
  | 15 => ⟨S2x8x16x64x64, .f32⟩
  | 16 => ⟨S2x8x16x64x64, .f32⟩
  | 17 => ⟨S2x8x16x64x1, .f32⟩
  | 18 => ⟨S2x8x16x1x64, .f32⟩
  | 19 => ⟨S2x8x16x64x64, .f32⟩
  | 20 => ⟨S2x8x16x64x64, .f32⟩
  | 21 => ⟨S2x8x16x64x64, .f32⟩
  | 22 => ⟨S2x8x16x64x64, .f32⟩
  | 23 => ⟨S2x8x16x64x1, .f32⟩
  | 24 => ⟨S2x8x16x1x64, .f32⟩
  | 25 => ⟨S2x8x16x64x64, .f32⟩
  | 26 => ⟨S2x8x16x64x64, .f32⟩
  | 27 => ⟨S2x8x16x64x64, .f32⟩
  | 28 => ⟨S2x8x16x64x64, .f32⟩
  | 29 => ⟨S2x8x16x64, .f32⟩
  | 30 => ⟨S1x2x8x16x64, .f32⟩
  | 31 => ⟨S_, .i32⟩
  | 32 => ⟨S_, .i32⟩
  | 33 => ⟨S_, .i32⟩
  | 34 => ⟨S_, .i32⟩
  | 35 => ⟨S2048x2x8x16x64, .f32⟩
  | 36 => ⟨S_, .i32⟩
  | 37 => ⟨S_, .i32⟩
  | 38 => ⟨S2048x1x8x16x64, .f32⟩
  | 39 => ⟨S2048x8x16x64, .f32⟩
  | 40 => ⟨S2048x1x8x16x64, .f32⟩
  | 41 => ⟨S2048x8x16x64, .f32⟩
  | 42 => ⟨S2048x8x16x64, .f32⟩
  | 43 => ⟨S8x2048x16x64, .f32⟩
  | 44 => ⟨S8x2048x1024, .f32⟩
  | 45 => ⟨S8x2048x16x64, .f32⟩
  | 46 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_3 : Ref sig .tc := ⟨.hbm, 91, rfl⟩
abbrev main_v77 : Ref sig .tc := ⟨.hbm, 92, rfl⟩
abbrev main_c : Ref sig .tc := ⟨.hbm, 93, rfl⟩
abbrev main_v78_0 : Ref sig .tc := ⟨.hbm, 94, rfl⟩
abbrev main_v78_1 : Ref sig .tc := ⟨.hbm, 95, rfl⟩
abbrev main_v78_2 : Ref sig .tc := ⟨.hbm, 96, rfl⟩
abbrev main_v78_3 : Ref sig .tc := ⟨.hbm, 97, rfl⟩
abbrev main_v78_4 : Ref sig .tc := ⟨.hbm, 98, rfl⟩
abbrev main_v78_5 : Ref sig .tc := ⟨.hbm, 99, rfl⟩
abbrev main_v78_6 : Ref sig .tc := ⟨.hbm, 100, rfl⟩
abbrev main_v78_7 : Ref sig .tc := ⟨.hbm, 101, rfl⟩
abbrev main_v78_8 : Ref sig .tc := ⟨.hbm, 102, rfl⟩
abbrev main_while0c_c_12 : Ref sig .tc := ⟨.hbm, 103, rfl⟩
abbrev main_while0c_v88 : Ref sig .tc := ⟨.hbm, 104, rfl⟩
abbrev main_while0b_call6_c : Ref sig .tc := ⟨.hbm, 105, rfl⟩
abbrev main_while0b_call6_c_0 : Ref sig .tc := ⟨.hbm, 106, rfl⟩
abbrev main_while0b_call6_c_1 : Ref sig .tc := ⟨.hbm, 107, rfl⟩
abbrev main_while0b_call6_c_2 : Ref sig .tc := ⟨.hbm, 108, rfl⟩
abbrev main_while0b_call6_v0 : Ref sig .tc := ⟨.hbm, 109, rfl⟩
abbrev main_while0b_v88 : Ref sig .tc := ⟨.hbm, 110, rfl⟩
abbrev main_while0b_call7_c : Ref sig .tc := ⟨.hbm, 111, rfl⟩
abbrev main_while0b_call7_c_0 : Ref sig .tc := ⟨.hbm, 112, rfl⟩
abbrev main_while0b_call7_c_1 : Ref sig .tc := ⟨.hbm, 113, rfl⟩
abbrev main_while0b_call7_c_2 : Ref sig .tc := ⟨.hbm, 114, rfl⟩
abbrev main_while0b_call7_v0 : Ref sig .tc := ⟨.hbm, 115, rfl⟩
abbrev main_while0b_v89 : Ref sig .tc := ⟨.hbm, 116, rfl⟩
abbrev main_while0b_call8_c : Ref sig .tc := ⟨.hbm, 117, rfl⟩
abbrev main_while0b_call8_c_0 : Ref sig .tc := ⟨.hbm, 118, rfl⟩
abbrev main_while0b_call8_c_1 : Ref sig .tc := ⟨.hbm, 119, rfl⟩
abbrev main_while0b_call8_c_2 : Ref sig .tc := ⟨.hbm, 120, rfl⟩
abbrev main_while0b_call8_v0 : Ref sig .tc := ⟨.hbm, 121, rfl⟩
abbrev main_while0b_v90 : Ref sig .tc := ⟨.hbm, 122, rfl⟩
abbrev main_while0b_call9_c : Ref sig .tc := ⟨.hbm, 123, rfl⟩
abbrev main_while0b_call9_c_0 : Ref sig .tc := ⟨.hbm, 124, rfl⟩
abbrev main_while0b_call9_c_1 : Ref sig .tc := ⟨.hbm, 125, rfl⟩
abbrev main_while0b_call9_c_2 : Ref sig .tc := ⟨.hbm, 126, rfl⟩
abbrev main_while0b_call9_v0 : Ref sig .tc := ⟨.hbm, 127, rfl⟩
abbrev main_while0b_v91 : Ref sig .tc := ⟨.hbm, 128, rfl⟩
abbrev main_while0b_call10_c : Ref sig .tc := ⟨.hbm, 129, rfl⟩
abbrev main_while0b_call10_c_0 : Ref sig .tc := ⟨.hbm, 130, rfl⟩
abbrev main_while0b_call10_c_1 : Ref sig .tc := ⟨.hbm, 131, rfl⟩
abbrev main_while0b_call10_c_2 : Ref sig .tc := ⟨.hbm, 132, rfl⟩
abbrev main_while0b_call10_v0 : Ref sig .tc := ⟨.hbm, 133, rfl⟩
abbrev main_while0b_v92 : Ref sig .tc := ⟨.hbm, 134, rfl⟩
abbrev main_while0b_call11_c : Ref sig .tc := ⟨.hbm, 135, rfl⟩
abbrev main_while0b_call11_c_0 : Ref sig .tc := ⟨.hbm, 136, rfl⟩
abbrev main_while0b_call11_c_1 : Ref sig .tc := ⟨.hbm, 137, rfl⟩
abbrev main_while0b_call11_c_2 : Ref sig .tc := ⟨.hbm, 138, rfl⟩
abbrev main_while0b_call11_v0 : Ref sig .tc := ⟨.hbm, 139, rfl⟩
abbrev main_while0b_v93 : Ref sig .tc := ⟨.hbm, 140, rfl⟩
abbrev main_while0b_v94 : Ref sig .tc := ⟨.hbm, 141, rfl⟩
abbrev main_while0b_v95 : Ref sig .tc := ⟨.hbm, 142, rfl⟩
abbrev main_while0b_v96 : Ref sig .tc := ⟨.hbm, 143, rfl⟩
abbrev main_while0b_v97 : Ref sig .tc := ⟨.hbm, 144, rfl⟩
abbrev main_while0b_v98 : Ref sig .tc := ⟨.hbm, 145, rfl⟩
abbrev main_while0b_v99 : Ref sig .tc := ⟨.hbm, 146, rfl⟩
abbrev main_while0b_v100 : Ref sig .tc := ⟨.hbm, 147, rfl⟩
abbrev main_while0b_v101 : Ref sig .tc := ⟨.hbm, 148, rfl⟩
abbrev main_while0b_v102 : Ref sig .tc := ⟨.hbm, 149, rfl⟩
abbrev main_while0b_v103 : Ref sig .tc := ⟨.hbm, 150, rfl⟩
abbrev main_while0b_v104 : Ref sig .tc := ⟨.hbm, 151, rfl⟩
abbrev main_while0b_v105 : Ref sig .tc := ⟨.hbm, 152, rfl⟩
abbrev main_while0b_v106 : Ref sig .tc := ⟨.hbm, 153, rfl⟩
abbrev main_while0b_v107 : Ref sig .tc := ⟨.hbm, 154, rfl⟩
abbrev main_while0b_v108 : Ref sig .tc := ⟨.hbm, 155, rfl⟩
abbrev main_while0b_v109 : Ref sig .tc := ⟨.hbm, 156, rfl⟩
abbrev main_while0b_v110 : Ref sig .tc := ⟨.hbm, 157, rfl⟩
abbrev main_while0b_call12_v0 : Ref sig .tc := ⟨.hbm, 158, rfl⟩
abbrev main_while0b_call12_c : Ref sig .tc := ⟨.hbm, 159, rfl⟩
abbrev main_while0b_call12_c_0 : Ref sig .tc := ⟨.hbm, 160, rfl⟩
abbrev main_while0b_call12_c_1 : Ref sig .tc := ⟨.hbm, 161, rfl⟩
abbrev main_while0b_call12_c_2 : Ref sig .tc := ⟨.hbm, 162, rfl⟩
abbrev main_while0b_v111 : Ref sig .tc := ⟨.hbm, 163, rfl⟩
abbrev main_while0b_c_12 : Ref sig .tc := ⟨.hbm, 164, rfl⟩
abbrev main_while0b_v112 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S16384x1024 : Shape := ⟨2, ![16384, 1024]⟩
abbrev S1024x7168 : Shape := ⟨2, ![1024, 7168]⟩
abbrev S3584x1024 : Shape := ⟨2, ![3584, 1024]⟩
abbrev S8x1x6144 : Shape := ⟨3, ![8, 1, 6144]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1x1x6144 : Shape := ⟨3, ![1, 1, 6144]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 10
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S1024x7168, .bf16⟩
  | .hbm, ⟨2, _⟩ => ⟨S3584x1024, .bf16⟩
  | .hbm, ⟨3, _⟩ => ⟨S16384x1024, .f32⟩
  | .hbm, ⟨4, _⟩ => ⟨S8x1x6144, .f32⟩
  | .hbm, ⟨5, _⟩ => ⟨S1x1024, .f32⟩
  | .hbm, ⟨6, _⟩ => ⟨S1x1024, .f32⟩
  | .hbm, ⟨7, _⟩ => ⟨S8x1x6144, .f32⟩
  | .hbm, ⟨8, _⟩ => ⟨S16384x1024, .f32⟩
  | .hbm, ⟨9, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x6144, .f32⟩
  | .local _ .vmem, ⟨11, _⟩ => ⟨S1x1x6144, .f32⟩
  | .local _ .vmem, ⟨12, _⟩ => ⟨S1x1024, .f32⟩
  | .local _ .vmem, ⟨13, _⟩ => ⟨S1x1024, .f32⟩
  | .local _ .vmem, ⟨14, _⟩ => ⟨S1x1x6144, .f32⟩
  | .local _ .vmem, ⟨15, _⟩ => ⟨S1x1x6144, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v19 : BitVec 1 := Scalar.cmpi .eq arg1 c6_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnReferenceIdeal.lean ====
abbrev S16384x1024 : Shape := ⟨2, ![16384, 1024]⟩
abbrev S1024x7168 : Shape := ⟨2, ![1024, 7168]⟩
abbrev S3584x1024 : Shape := ⟨2, ![3584, 1024]⟩
abbrev S8x1x6144 : Shape := ⟨3, ![8, 1, 6144]⟩
abbrev S1x1024 : Shape := ⟨2, ![1, 1024]⟩
abbrev S8x1x1024 : Shape := ⟨3, ![8, 1, 1024]⟩
abbrev S8x2048x1024 : Shape := ⟨3, ![8, 2048, 1024]⟩
abbrev S16384x7168 : Shape := ⟨2, ![16384, 7168]⟩
abbrev S16384x3584 : Shape := ⟨2, ![16384, 3584]⟩
abbrev S_ : Shape := ⟨0, ![]⟩
abbrev S16384 : Shape := ⟨1, ![16384]⟩
abbrev S16384x1 : Shape := ⟨2, ![16384, 1]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x7168, .bf16⟩
  | .hbm, ⟨2, _⟩ => ⟨S3584x1024, .bf16⟩
  | .hbm, ⟨3, _⟩ => ⟨S16384x1024, .f32⟩
  | .hbm, ⟨4, _⟩ => ⟨S8x1x6144, .f32⟩
  | .hbm, ⟨5, _⟩ => ⟨S1x1024, .f32⟩
  | .hbm, ⟨6, _⟩ => ⟨S1x1024, .f32⟩
  | .hbm, ⟨7, _⟩ => ⟨S8x1x6144, .f32⟩
  | .hbm, ⟨8, _⟩ => ⟨S16384x1024, .f32⟩
  | .hbm, ⟨9, _⟩ => ⟨S1024x7168, .f32⟩
  | .hbm, ⟨10, _⟩ => ⟨S3584x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S16384x1024, .f32⟩
  | .hbm, ⟨19, _⟩ => ⟨S16384x7168, .f32⟩
  | .hbm, ⟨20, _⟩ => ⟨S16384x3584, .f32⟩
  | .hbm, ⟨21, _⟩ => ⟨S16384x3584, .f32⟩
  | .hbm, ⟨22, _⟩ => ⟨S16384x3584, .f32⟩
  | .hbm, ⟨23, _⟩ => ⟨S16384x3584, .f32⟩
  | .hbm, ⟨24, _⟩ => ⟨S_, .f32⟩
  | .hbm, ⟨25, _⟩ => ⟨S16384x3584, .f32⟩
  | .hbm, ⟨26, _⟩ => ⟨S16384x3584, .f32⟩
  | .hbm, ⟨27, _⟩ => ⟨S_, .f32⟩
  | .hbm, ⟨28, _⟩ => ⟨S16384x3584, .f32⟩
  | .hbm, ⟨29, _⟩ => ⟨S16384x3584, .f32⟩
  | .hbm, ⟨30, _⟩ => ⟨S16384x3584, .f32⟩
  | .hbm, ⟨31, _⟩ => ⟨S16384x3584, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S8x1x1024, .f32⟩
  | .hbm, ⟨66, _⟩ => ⟨S8x1x1024, .f32⟩
  | .hbm, ⟨67, _⟩ => ⟨S8x1x1024, .f32⟩
  | .hbm, ⟨68, _⟩ => ⟨S8x1x1024, .f32⟩
  | .hbm, ⟨69, _⟩ => ⟨S8x1x1024, .f32⟩
  | .hbm, ⟨70, _⟩ => ⟨S8x1x1024, .f32⟩
  | .hbm, ⟨71, _⟩ => ⟨S8x2048x1024, .f32⟩
  | .hbm, ⟨72, _⟩ => ⟨S16384x1024, .f32⟩
  | .hbm, ⟨73, _⟩ => ⟨S8x1x1024, .f32⟩
  | .hbm, ⟨74, _⟩ => ⟨S8x1x1024, .f32⟩
  | .hbm, ⟨75, _⟩ => ⟨S8x1x1024, .f32⟩
  | .hbm, ⟨76, _⟩ => ⟨S8x1x1024, .f32⟩
  | .hbm, ⟨77, _⟩ => ⟨S8x1x1024, .f32⟩
  | .hbm, ⟨78, _⟩ => ⟨S8x1x1024, .f32⟩
  | .hbm, ⟨79, _⟩ => ⟨S8x2048x1024, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Moe.lean ====
abbrev S40960x1024 : Shape := ⟨2, ![40960, 1024]⟩
abbrev S40 : Shape := ⟨1, ![40]⟩
abbrev S8x1024x7168 : Shape := ⟨3, ![8, 1024, 7168]⟩
abbrev S8x3584x1024 : Shape := ⟨3, ![8, 3584, 1024]⟩
abbrev S1024x1024 : Shape := ⟨2, ![1024, 1024]⟩
abbrev S1x1024x512 : Shape := ⟨3, ![1, 1024, 512]⟩
abbrev S1 : Shape := ⟨1, ![1]⟩
abbrev S1x512x1024 : Shape := ⟨3, ![1, 512, 1024]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 4
  | .vmem => 11
  | .smem => 2
  | _ => 0

abbrev bufTy : (tb : Table) → Fin (tcTables nBuf tb) → BufTy
  | .hbm, ⟨0, _⟩ => ⟨S40960x1024, .bf16⟩
  | .hbm, ⟨1, _⟩ => ⟨S8x1024x7168, .bf16⟩
  | .hbm, ⟨2, _⟩ => ⟨S8x3584x1024, .bf16⟩
  | .hbm, ⟨3, _⟩ => ⟨S40960x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S40, .i32⟩
  | .local _ .smem, ⟨1, _⟩ => ⟨S40, .i32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond4 (i : grid0.Coords) : BitVec 1 :=
  let arg1 : BitVec 32 := BitVec.ofNat 32 (i 1).val
  let c6_i32_30 : BitVec 32 := 6#32
  let v54 : BitVec 1 := Scalar.cmpi .eq arg1 c6_i32_30
  let v55 : BitVec 32 := Scalar.extui v54
  let c0_i32_31 : BitVec 32 := 0#32
  let v56 : BitVec 1 := Scalar.cmpi .ne v55 c0_i32_31
  v56

def k0_cond5 (i : grid0.Coords) (v1 : BitVec 32) : BitVec 1 :=
  let c0_i32 : BitVec 32 := 0#32
  let v2 : BitVec 1 := Scalar.cmpi .sgt v1 c0_i32
  let v_true : BitVec 1 := 1#1
  let v5 : BitVec 1 := Scalar.xori v2 v_true
  let arg1 : BitVec 32 := BitVec.ofNat 32 (i 1).val
  let c6_i32 : BitVec 32 := 6#32
  let v6 : BitVec 1 := Scalar.cmpi .eq arg1 c6_i32
  let v7 : BitVec 1 := Scalar.andi v5 v6
  let v8 : BitVec 32 := Scalar.extui v7
  let c0_i32_1 : BitVec 32 := 0#32
  let v9 : BitVec 1 := Scalar.cmpi .ne v8 c0_i32_1
  v9

def k0_cond6 (v1 : BitVec 32) : BitVec 1 :=
  let c256_i32 : BitVec 32 := 256#32
  let v10 : BitVec 1 := Scalar.cmpi .sgt v1 c256_i32
  let v11 : BitVec 32 := Scalar.extui v10
  let c0_i32_2 : BitVec 32 := 0#32
  let v12 : BitVec 1 := Scalar.cmpi .ne v11 c0_i32_2
  v12

def k0_cond9 (i : grid0.Coords) : BitVec 1 :=
  let arg1 : BitVec 32 := BitVec.ofNat 32 (i 1).val
  let c6_i32_29 : BitVec 32 := 6#32
  let v54 : BitVec 1 := Scalar.cmpi .eq arg1 c6_i32_29
  let v55 : BitVec 32 := Scalar.extui v54
  let c0_i32_30 : BitVec 32 := 0#32
  let v56 : BitVec 1 := Scalar.cmpi .ne v55 c0_i32_30
  v56

def k0_cond10 (i : grid0.Coords) (v1 : BitVec 32) : BitVec 1 :=
  let c256_i32 : BitVec 32 := 256#32
  let v10 : BitVec 1 := Scalar.cmpi .sgt v1 c256_i32
  let true_3 : BitVec 1 := 1#1
  let v13 : BitVec 1 := Scalar.xori v10 true_3
  let arg1 : BitVec 32 := BitVec.ofNat 32 (i 1).val
  let c6_i32_4 : BitVec 32 := 6#32
  let v14 : BitVec 1 := Scalar.cmpi .eq arg1 c6_i32_4
  let v15 : BitVec 1 := Scalar.andi v13 v14
  let v16 : BitVec 32 := Scalar.extui v15
  let c0_i32_5 : BitVec 32 := 0#32
  let v17 : BitVec 1 := Scalar.cmpi .ne v16 c0_i32_5
  v17

def k0_cond11 (v1 : BitVec 32) : BitVec 1 :=
  let c512_i32 : BitVec 32 := 512#32
  let v18 : BitVec 1 := Scalar.cmpi .sgt v1 c512_i32
  let v19 : BitVec 32 := Scalar.extui v18
  let c0_i32_6 : BitVec 32 := 0#32
  let v20 : BitVec 1 := Scalar.cmpi .ne v19 c0_i32_6
  v20

def k0_cond14 (i : grid0.Coords) : BitVec 1 :=
  let arg1 : BitVec 32 := BitVec.ofNat 32 (i 1).val
  let c6_i32_29 : BitVec 32 := 6#32
  let v54 : BitVec 1 := Scalar.cmpi .eq arg1 c6_i32_29
  let v55 : BitVec 32 := Scalar.extui v54
  let c0_i32_30 : BitVec 32 := 0#32
  let v56 : BitVec 1 := Scalar.cmpi .ne v55 c0_i32_30
  v56

def k0_cond15 (i : grid0.Coords) (v1 : BitVec 32) : BitVec 1 :=
  let c512_i32 : BitVec 32 := 512#32
  let v18 : BitVec 1 := Scalar.cmpi .sgt v1 c512_i32
  let true_7 : BitVec 1 := 1#1
  let v21 : BitVec 1 := Scalar.xori v18 true_7
  let arg1 : BitVec 32 := BitVec.ofNat 32 (i 1).val
  let c6_i32_8 : BitVec 32 := 6#32
  let v22 : BitVec 1 := Scalar.cmpi .eq arg1 c6_i32_8
  let v23 : BitVec 1 := Scalar.andi v21 v22
  let v24 : BitVec 32 := Scalar.extui v23
  let c0_i32_9 : BitVec 32 := 0#32
  let v25 : BitVec 1 := Scalar.cmpi .ne v24 c0_i32_9
  v25

def k0_cond16 (v1 : BitVec 32) : BitVec 1 :=
  let c768_i32 : BitVec 32 := 768#32
  let v26 : BitVec 1 := Scalar.cmpi .sgt v1 c768_i32
  let v27 : BitVec 32 := Scalar.extui v26
  let c0_i32_10 : BitVec 32 := 0#32
  let v28 : BitVec 1 := Scalar.cmpi .ne v27 c0_i32_10
  v28

def k0_cond19 (i : grid0.Coords) : BitVec 1 :=
  let arg1 : BitVec 32 := BitVec.ofNat 32 (i 1).val
  let c6_i32_29 : BitVec 32 := 6#32
  let v54 : BitVec 1 := Scalar.cmpi .eq arg1 c6_i32_29
  let v55 : BitVec 32 := Scalar.extui v54
  let c0_i32_30 : BitVec 32 := 0#32
  let v56 : BitVec 1 := Scalar.cmpi .ne v55 c0_i32_30
  v56

def k0_cond20 (i : grid0.Coords) (v1 : BitVec 32) : BitVec 1 :=
  let c768_i32 : BitVec 32 := 768#32
  let v26 : BitVec 1 := Scalar.cmpi .sgt v1 c768_i32
  let true_11 : BitVec 1 := 1#1
  let v29 : BitVec 1 := Scalar.xori v26 true_11
  let arg1 : BitVec 32 := BitVec.ofNat 32 (i 1).val
  let c6_i32_12 : BitVec 32 := 6#32
  let v30 : BitVec 1 := Scalar.cmpi .eq arg1 c6_i32_12
  let v31 : BitVec 1 := Scalar.andi v29 v30
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c7_i32 : BitVec 32 := 7#32
  let v6 : BitVec 32 := Scalar.addi c7_i32 v5
  let c0_i32_0 : BitVec 32 := 0#32
  let c0_i32_1 : BitVec 32 := 0#32
  ![v1.toNat, c0_i32_0.toNat, v6.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeReferenceIdeal.lean ====
abbrev S40960x1024 : Shape := ⟨2, ![40960, 1024]⟩
abbrev S40 : Shape := ⟨1, ![40]⟩
abbrev S8x1024x7168 : Shape := ⟨3, ![8, 1024, 7168]⟩
abbrev S8x3584x1024 : Shape := ⟨3, ![8, 3584, 1024]⟩
abbrev S40x1024 : Shape := ⟨2, ![40, 1024]⟩
abbrev S40960 : Shape := ⟨1, ![40960]⟩
abbrev S40960x1 : Shape := ⟨2, ![40960, 1]⟩
abbrev S_ : Shape := ⟨0, ![]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S40960x7168 : Shape := ⟨2, ![40960, 7168]⟩
abbrev S40960x3584 : Shape := ⟨2, ![40960, 3584]⟩
abbrev S4 : Shape := ⟨1, ![4]⟩
abbrev S4x256 : Shape := ⟨2, ![4, 256]⟩
abbrev S1024 : Shape := ⟨1, ![1024]⟩
abbrev S1x1024 : Shape := ⟨2, ![1, 1024]⟩

abbrev nBuf : Space → Nat
  | .hbm => 248
  | .vmem => 0
  | .smem => 0
  | _ => 0

abbrev hbmTy0_0 (i : Nat) : BufTy := match i % 128 with
  | 0 => ⟨S40960x1024, .bf16⟩
  | 1 => ⟨S40, .i32⟩
  | 2 => ⟨S40, .i32⟩
  | 3 => ⟨S8x1024x7168, .bf16⟩
  | 4 => ⟨S8x3584x1024, .bf16⟩
  | 5 => ⟨S40960x1024, .f32⟩
  | 6 => ⟨S8x1024x7168, .f32⟩
  | 7 => ⟨S8x3584x1024, .f32⟩
  | 8 => ⟨S40x1024, .i32⟩
  | 9 => ⟨S40960, .i32⟩
  | 10 => ⟨S40960x1, .i32⟩
  | 11 => ⟨S40x1024, .i32⟩
  | 12 => ⟨S40960, .i32⟩
  | 13 => ⟨S40960x1, .i32⟩
  | 14 => ⟨S_, .i32⟩
  | 15 => ⟨S40960x1, .i32⟩
  | 16 => ⟨S40960x1, .i1⟩
  | 17 => ⟨S1x1024x7168, .f32⟩
  | 18 => ⟨S1024x7168, .f32⟩
  | 19 => ⟨S1x3584x1024, .f32⟩
  | 20 => ⟨S3584x1024, .f32⟩
  | 21 => ⟨S40960x7168, .f32⟩
  | 22 => ⟨S40960x3584, .f32⟩
  | 23 => ⟨S40960x3584, .f32⟩
  | 24 => ⟨S40960x3584, .f32⟩
  | 25 => ⟨S40960x3584, .f32⟩
  | 26 => ⟨S_, .f32⟩
  | 27 => ⟨S40960x3584, .f32⟩
  | 28 => ⟨S40960x3584, .f32⟩
  | 29 => ⟨S_, .f32⟩
  | 30 => ⟨S40960x3584, .f32⟩
  | 31 => ⟨S40960x3584, .f32⟩
  | 32 => ⟨S40960x3584, .f32⟩
  | 33 => ⟨S40960x3584, .f32⟩
  | 34 => ⟨S40960x1024, .f32⟩
  | 35 => ⟨S_, .f32⟩
  | 36 => ⟨S_, .f32⟩
  | 37 => ⟨S40960x1024, .i1⟩
  | 38 => ⟨S40960x1024, .f32⟩
  | 39 => ⟨S40960x1024, .f32⟩
  | 40 => ⟨S_, .f32⟩
  | 41 => ⟨S40960x1024, .f32⟩
  | 42 => ⟨S40960x1024, .f32⟩
  | 43 => ⟨S_, .i32⟩
  | 44 => ⟨S40960x1, .i32⟩
  | 45 => ⟨S40960x1, .i1⟩
  | 46 => ⟨S1x1024x7168, .f32⟩
  | 47 => ⟨S1024x7168, .f32⟩
  | 48 => ⟨S1x3584x1024, .f32⟩
  | 49 => ⟨S3584x1024, .f32⟩
  | 50 => ⟨S40960x7168, .f32⟩
  | 51 => ⟨S40960x3584, .f32⟩
  | 52 => ⟨S40960x3584, .f32⟩
  | 53 => ⟨S40960x3584, .f32⟩
  | 54 => ⟨S40960x3584, .f32⟩
  | 55 => ⟨S_, .f32⟩
  | 56 => ⟨S40960x3584, .f32⟩
  | 57 => ⟨S40960x3584, .f32⟩
  | 58 => ⟨S_, .f32⟩
  | 59 => ⟨S40960x3584, .f32⟩
  | 60 => ⟨S40960x3584, .f32⟩
  | 61 => ⟨S40960x3584, .f32⟩
  | 62 => ⟨S40960x3584, .f32⟩
  | 63 => ⟨S40960x1024, .f32⟩
  | 64 => ⟨S_, .f32⟩
  | 65 => ⟨S_, .f32⟩
  | 66 => ⟨S40960x1024, .i1⟩
  | 67 => ⟨S40960x1024, .f32⟩
  | 68 => ⟨S40960x1024, .f32⟩
  | 69 => ⟨S40960x1024, .f32⟩
  | 70 => ⟨S_, .i32⟩
  | 71 => ⟨S40960x1, .i32⟩
  | 72 => ⟨S40960x1, .i1⟩
  | 73 => ⟨S1x1024x7168, .f32⟩
  | 74 => ⟨S1024x7168, .f32⟩
  | 75 => ⟨S1x3584x1024, .f32⟩
  | 76 => ⟨S3584x1024, .f32⟩
  | 77 => ⟨S40960x7168, .f32⟩
  | 78 => ⟨S40960x3584, .f32⟩
  | 79 => ⟨S40960x3584, .f32⟩
  | 80 => ⟨S40960x3584, .f32⟩
  | 81 => ⟨S40960x3584, .f32⟩
  | 82 => ⟨S_, .f32⟩
  | 83 => ⟨S40960x3584, .f32⟩
  | 84 => ⟨S40960x3584, .f32⟩
  | 85 => ⟨S_, .f32⟩
  | 86 => ⟨S40960x3584, .f32⟩
  | 87 => ⟨S40960x3584, .f32⟩
  | 88 => ⟨S40960x3584, .f32⟩
  | 89 => ⟨S40960x3584, .f32⟩
  | 90 => ⟨S40960x1024, .f32⟩
  | 91 => ⟨S_, .f32⟩
  | 92 => ⟨S_, .f32⟩
  | 93 => ⟨S40960x1024, .i1⟩
  | 94 => ⟨S40960x1024, .f32⟩
  | 95 => ⟨S40960x1024, .f32⟩
  | 96 => ⟨S40960x1024, .f32⟩
  | 97 => ⟨S_, .i32⟩
  | 98 => ⟨S40960x1, .i32⟩
  | 99 => ⟨S40960x1, .i1⟩
  | 100 => ⟨S1x1024x7168, .f32⟩
  | 101 => ⟨S1024x7168, .f32⟩
  | 102 => ⟨S1x3584x1024, .f32⟩
  | 103 => ⟨S3584x1024, .f32⟩
  | 104 => ⟨S40960x7168, .f32⟩
  | 105 => ⟨S40960x3584, .f32⟩
  | 106 => ⟨S40960x3584, .f32⟩
  | 107 => ⟨S40960x3584, .f32⟩
  | 108 => ⟨S40960x3584, .f32⟩
  | 109 => ⟨S_, .f32⟩
  | 110 => ⟨S40960x3584, .f32⟩
  | 111 => ⟨S40960x3584, .f32⟩
  | 112 => ⟨S_, .f32⟩
  | 113 => ⟨S40960x3584, .f32⟩
  | 114 => ⟨S40960x3584, .f32⟩
  | 115 => ⟨S40960x3584, .f32⟩
  | 116 => ⟨S40960x3584, .f32⟩
  | 117 => ⟨S40960x1024, .f32⟩
  | 118 => ⟨S_, .f32⟩
  | 119 => ⟨S_, .f32⟩
  | 120 => ⟨S40960x1024, .i1⟩
  | 121 => ⟨S40960x1024, .f32⟩
  | 122 => ⟨S40960x1024, .f32⟩
  | 123 => ⟨S40960x1024, .f32⟩
  | 124 => ⟨S_, .i32⟩
  | 125 => ⟨S40960x1, .i32⟩
  | 126 => ⟨S40960x1, .i1⟩
  | 127 => ⟨S1x1024x7168, .f32⟩
  | _ => ⟨S40960x1024, .bf16⟩

abbrev hbmTy0_1 (i : Nat) : BufTy := match i % 128 with
  | 0 => ⟨S1024x7168, .f32⟩
  | 1 => ⟨S1x3584x1024, .f32⟩
  | 2 => ⟨S3584x1024, .f32⟩
  | 3 => ⟨S40960x7168, .f32⟩
  | 4 => ⟨S40960x3584, .f32⟩
  | 5 => ⟨S40960x3584, .f32⟩
  | 6 => ⟨S40960x3584, .f32⟩
  | 7 => ⟨S40960x3584, .f32⟩
  | 8 => ⟨S_, .f32⟩
  | 9 => ⟨S40960x3584, .f32⟩
  | 10 => ⟨S40960x3584, .f32⟩
  | 11 => ⟨S_, .f32⟩
  | 12 => ⟨S40960x3584, .f32⟩
  | 13 => ⟨S40960x3584, .f32⟩
  | 14 => ⟨S40960x3584, .f32⟩
  | 15 => ⟨S40960x3584, .f32⟩
  | 16 => ⟨S40960x1024, .f32⟩
  | 17 => ⟨S_, .f32⟩
  | 18 => ⟨S_, .f32⟩
  | 19 => ⟨S40960x1024, .i1⟩
  | 20 => ⟨S40960x1024, .f32⟩
  | 21 => ⟨S40960x1024, .f32⟩
  | 22 => ⟨S40960x1024, .f32⟩
  | 23 => ⟨S_, .i32⟩
  | 24 => ⟨S40960x1, .i32⟩
  | 25 => ⟨S40960x1, .i1⟩
  | 26 => ⟨S1x1024x7168, .f32⟩
  | 27 => ⟨S1024x7168, .f32⟩
  | 28 => ⟨S1x3584x1024, .f32⟩
  | 29 => ⟨S3584x1024, .f32⟩
  | 30 => ⟨S40960x7168, .f32⟩
  | 31 => ⟨S40960x3584, .f32⟩
  | 32 => ⟨S40960x3584, .f32⟩
  | 33 => ⟨S40960x3584, .f32⟩
  | 34 => ⟨S40960x3584, .f32⟩
  | 35 => ⟨S_, .f32⟩
  | 36 => ⟨S40960x3584, .f32⟩
  | 37 => ⟨S40960x3584, .f32⟩
  | 38 => ⟨S_, .f32⟩
  | 39 => ⟨S40960x3584, .f32⟩
  | 40 => ⟨S40960x3584, .f32⟩
  | 41 => ⟨S40960x3584, .f32⟩
  | 42 => ⟨S40960x3584, .f32⟩
  | 43 => ⟨S40960x1024, .f32⟩
  | 44 => ⟨S_, .f32⟩
  | 45 => ⟨S_, .f32⟩
  | 46 => ⟨S40960x1024, .i1⟩
  | 47 => ⟨S40960x1024, .f32⟩
  | 48 => ⟨S40960x1024, .f32⟩
  | 49 => ⟨S40960x1024, .f32⟩
  | 50 => ⟨S_, .i32⟩
  | 51 => ⟨S40960x1, .i32⟩
  | 52 => ⟨S40960x1, .i1⟩
  | 53 => ⟨S1x1024x7168, .f32⟩
  | 54 => ⟨S1024x7168, .f32⟩
  | 55 => ⟨S1x3584x1024, .f32⟩
  | 56 => ⟨S3584x1024, .f32⟩
  | 57 => ⟨S40960x7168, .f32⟩
  | 58 => ⟨S40960x3584, .f32⟩
  | 59 => ⟨S40960x3584, .f32⟩
  | 60 => ⟨S40960x3584, .f32⟩
  | 61 => ⟨S40960x3584, .f32⟩
  | 62 => ⟨S_, .f32⟩
  | 63 => ⟨S40960x3584, .f32⟩
  | 64 => ⟨S40960x3584, .f32⟩
  | 65 => ⟨S_, .f32⟩
  | 66 => ⟨S40960x3584, .f32⟩
  | 67 => ⟨S40960x3584, .f32⟩
  | 68 => ⟨S40960x3584, .f32⟩
  | 69 => ⟨S40960x3584, .f32⟩
  | 70 => ⟨S40960x1024, .f32⟩
  | 71 => ⟨S_, .f32⟩
  | 72 => ⟨S_, .f32⟩
  | 73 => ⟨S40960x1024, .i1⟩
  | 74 => ⟨S40960x1024, .f32⟩
  | 75 => ⟨S40960x1024, .f32⟩
  | 76 => ⟨S40960x1024, .f32⟩
  | 77 => ⟨S_, .i32⟩
  | 78 => ⟨S40960x1, .i32⟩
  | 79 => ⟨S40960x1, .i1⟩
  | 80 => ⟨S1x1024x7168, .f32⟩
  | 81 => ⟨S1024x7168, .f32⟩
  | 82 => ⟨S1x3584x1024, .f32⟩
  | 83 => ⟨S3584x1024, .f32⟩
  | 84 => ⟨S40960x7168, .f32⟩
  | 85 => ⟨S40960x3584, .f32⟩
  | 86 => ⟨S40960x3584, .f32⟩
  | 87 => ⟨S40960x3584, .f32⟩
  | 88 => ⟨S40960x3584, .f32⟩
  | 89 => ⟨S_, .f32⟩
  | 90 => ⟨S40960x3584, .f32⟩
  | 91 => ⟨S40960x3584, .f32⟩
  | 92 => ⟨S_, .f32⟩
  | 93 => ⟨S40960x3584, .f32⟩
  | 94 => ⟨S40960x3584, .f32⟩
  | 95 => ⟨S40960x3584, .f32⟩
  | 96 => ⟨S40960x3584, .f32⟩
  | 97 => ⟨S40960x1024, .f32⟩
  | 98 => ⟨S_, .f32⟩
  | 99 => ⟨S_, .f32⟩
  | 100 => ⟨S40960x1024, .i1⟩
  | 101 => ⟨S40960x1024, .f32⟩
  | 102 => ⟨S40960x1024, .f32⟩
  | 103 => ⟨S40960x1024, .f32⟩
  | 104 => ⟨S4, .i32⟩
  | 105 => ⟨S_, .i32⟩
  | 106 => ⟨S4, .i32⟩
  | 107 => ⟨S4, .i32⟩
  | 108 => ⟨S4x256, .i32⟩
  | 109 => ⟨S1024, .i32⟩
  | 110 => ⟨S1x1024, .i32⟩
  | 111 => ⟨S40x1024, .i32⟩
  | 112 => ⟨S40960, .i32⟩
  | 113 => ⟨S40960x1, .i32⟩
  | 114 => ⟨S40960x1, .i1⟩
  | 115 => ⟨S_, .f32⟩
  | 116 => ⟨S_, .f32⟩
  | 117 => ⟨S40960x1024, .i1⟩
  | 118 => ⟨S40960x1024, .f32⟩
  | 119 => ⟨S40960x1024, .f32⟩
  | _ => ⟨S40960x1024, .bf16⟩

abbrev hbmTy (i : Nat) : BufTy := match i / 128 with
  | 0 => hbmTy0_0 i
  | 1 => hbmTy0_1 i
  | _ => ⟨S40960x1024, .bf16⟩

abbrev bufTy : (tb : Table) → Fin (tcTables nBuf tb) → BufTy
  | .hbm, ⟨i, _⟩ => hbmTy i
  | _, _ => ⟨S40960x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_c_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v36 : Ref sig .tc := ⟨.hbm, 68, rfl⟩
abbrev main_v37 : Ref sig .tc := ⟨.hbm, 69, rfl⟩
abbrev main_c_3 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call4_v0 : Ref sig .tc := ⟨.hbm, 80, rfl⟩
abbrev main_call4_v1 : Ref sig .tc := ⟨.hbm, 81, rfl⟩
abbrev main_call4_cst : Ref sig .tc := ⟨.hbm, 82, rfl⟩
abbrev main_call4_v2 : Ref sig .tc := ⟨.hbm, 83, rfl⟩
abbrev main_call4_v3 : Ref sig .tc := ⟨.hbm, 84, rfl⟩
abbrev main_call4_cst_0 : Ref sig .tc := ⟨.hbm, 85, rfl⟩
abbrev main_call4_v4 : Ref sig .tc := ⟨.hbm, 86, rfl⟩
abbrev main_call4_v5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_4 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_v50 : Ref sig .tc := ⟨.hbm, 95, rfl⟩
abbrev main_v51 : Ref sig .tc := ⟨.hbm, 96, rfl⟩
abbrev main_c_5 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_call6_v0 : Ref sig .tc := ⟨.hbm, 107, rfl⟩
abbrev main_call6_v1 : Ref sig .tc := ⟨.hbm, 108, rfl⟩
abbrev main_call6_cst : Ref sig .tc := ⟨.hbm, 109, rfl⟩
abbrev main_call6_v2 : Ref sig .tc := ⟨.hbm, 110, rfl⟩
abbrev main_call6_v3 : Ref sig .tc := ⟨.hbm, 111, rfl⟩
abbrev main_call6_cst_0 : Ref sig .tc := ⟨.hbm, 112, rfl⟩
abbrev main_call6_v4 : Ref sig .tc := ⟨.hbm, 113, rfl⟩
abbrev main_call6_v5 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_6 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_v64 : Ref sig .tc := ⟨.hbm, 122, rfl⟩
abbrev main_v65 : Ref sig .tc := ⟨.hbm, 123, rfl⟩
abbrev main_c_7 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_call8_v0 : Ref sig .tc := ⟨.hbm, 134, rfl⟩
abbrev main_call8_v1 : Ref sig .tc := ⟨.hbm, 135, rfl⟩
abbrev main_call8_cst : Ref sig .tc := ⟨.hbm, 136, rfl⟩
abbrev main_call8_v2 : Ref sig .tc := ⟨.hbm, 137, rfl⟩
abbrev main_call8_v3 : Ref sig .tc := ⟨.hbm, 138, rfl⟩
abbrev main_call8_cst_0 : Ref sig .tc := ⟨.hbm, 139, rfl⟩
abbrev main_call8_v4 : Ref sig .tc := ⟨.hbm, 140, rfl⟩
abbrev main_call8_v5 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_cst_8 : Ref sig .tc := ⟨.hbm, 145, rfl⟩
abbrev main_call9_v0 : Ref sig .tc := ⟨.hbm, 146, rfl⟩
abbrev main_call9_v1 : Ref sig .tc := ⟨.hbm, 147, rfl⟩
abbrev main_call9_v2 : Ref sig .tc := ⟨.hbm, 148, rfl⟩
abbrev main_v78 : Ref sig .tc := ⟨.hbm, 149, rfl⟩
abbrev main_v79 : Ref sig .tc := ⟨.hbm, 150, rfl⟩
abbrev main_c_9 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_call10_v0 : Ref sig .tc := ⟨.hbm, 161, rfl⟩
abbrev main_call10_v1 : Ref sig .tc := ⟨.hbm, 162, rfl⟩
abbrev main_call10_cst : Ref sig .tc := ⟨.hbm, 163, rfl⟩
abbrev main_call10_v2 : Ref sig .tc := ⟨.hbm, 164, rfl⟩
abbrev main_call10_v3 : Ref sig .tc := ⟨.hbm, 165, rfl⟩
abbrev main_call10_cst_0 : Ref sig .tc := ⟨.hbm, 166, rfl⟩
abbrev main_call10_v4 : Ref sig .tc := ⟨.hbm, 167, rfl⟩
abbrev main_call10_v5 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_cst_10 : Ref sig .tc := ⟨.hbm, 172, rfl⟩
abbrev main_call11_v0 : Ref sig .tc := ⟨.hbm, 173, rfl⟩
abbrev main_call11_v1 : Ref sig .tc := ⟨.hbm, 174, rfl⟩
abbrev main_call11_v2 : Ref sig .tc := ⟨.hbm, 175, rfl⟩
abbrev main_v92 : Ref sig .tc := ⟨.hbm, 176, rfl⟩
abbrev main_v93 : Ref sig .tc := ⟨.hbm, 177, rfl⟩
abbrev main_c_11 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_call12_v0 : Ref sig .tc := ⟨.hbm, 188, rfl⟩
abbrev main_call12_v1 : Ref sig .tc := ⟨.hbm, 189, rfl⟩
abbrev main_call12_cst : Ref sig .tc := ⟨.hbm, 190, rfl⟩
abbrev main_call12_v2 : Ref sig .tc := ⟨.hbm, 191, rfl⟩
abbrev main_call12_v3 : Ref sig .tc := ⟨.hbm, 192, rfl⟩
abbrev main_call12_cst_0 : Ref sig .tc := ⟨.hbm, 193, rfl⟩
abbrev main_call12_v4 : Ref sig .tc := ⟨.hbm, 194, rfl⟩
abbrev main_call12_v5 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_cst_12 : Ref sig .tc := ⟨.hbm, 199, rfl⟩
abbrev main_call13_v0 : Ref sig .tc := ⟨.hbm, 200, rfl⟩
abbrev main_call13_v1 : Ref sig .tc := ⟨.hbm, 201, rfl⟩
abbrev main_call13_v2 : Ref sig .tc := ⟨.hbm, 202, rfl⟩
abbrev main_v106 : Ref sig .tc := ⟨.hbm, 203, rfl⟩
abbrev main_v107 : Ref sig .tc := ⟨.hbm, 204, rfl⟩
abbrev main_c_13 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_call14_v0 : Ref sig .tc := ⟨.hbm, 215, rfl⟩
abbrev main_call14_v1 : Ref sig .tc := ⟨.hbm, 216, rfl⟩
abbrev main_call14_cst : Ref sig .tc := ⟨.hbm, 217, rfl⟩
abbrev main_call14_v2 : Ref sig .tc := ⟨.hbm, 218, rfl⟩
abbrev main_call14_v3 : Ref sig .tc := ⟨.hbm, 219, rfl⟩
abbrev main_call14_cst_0 : Ref sig .tc := ⟨.hbm, 220, rfl⟩
abbrev main_call14_v4 : Ref sig .tc := ⟨.hbm, 221, rfl⟩
abbrev main_call14_v5 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_cst_14 : Ref sig .tc := ⟨.hbm, 226, rfl⟩
abbrev main_call15_v0 : Ref sig .tc := ⟨.hbm, 227, rfl⟩
abbrev main_call15_v1 : Ref sig .tc := ⟨.hbm, 228, rfl⟩
abbrev main_call15_v2 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_c_15 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_cst_16 : Ref sig .tc := ⟨.hbm, 243, rfl⟩
abbrev main_call16_v0 : Ref sig .tc := ⟨.hbm, 244, rfl⟩
abbrev main_call16_v1 : Ref sig .tc := ⟨.hbm, 245, rfl⟩
abbrev main_call16_v2 : Ref sig .tc := ⟨.hbm, 246, rfl⟩
abbrev main_v132 : Ref sig .tc := ⟨.hbm, 247, rfl⟩

abbrev nD : Nat := 1
abbrev τ : Topo := Topo.v7x

variable {F : FTy → Type} [FloatOps F]
-- ==== Combine.lean ====
abbrev S8x2048x1024 : Shape := ⟨3, ![8, 2048, 1024]⟩
abbrev S8x2048x128 : Shape := ⟨3, ![8, 2048, 128]⟩
abbrev S8x1x6144 : Shape := ⟨3, ![8, 1, 6144]⟩
abbrev S1x1024 : Shape := ⟨2, ![1, 1024]⟩
abbrev S1x256x1024 : Shape := ⟨3, ![1, 256, 1024]⟩
abbrev S1x256x128 : Shape := ⟨3, ![1, 256, 128]⟩
abbrev S1x1x6144 : Shape := ⟨3, ![1, 1, 6144]⟩
abbrev S256x128 : Shape := ⟨2, ![256, 128]⟩
abbrev S256x1024 : Shape := ⟨2, ![256, 1024]⟩
abbrev S256x1 : Shape := ⟨2, ![256, 1]⟩
abbrev S1x1x1024 : Shape := ⟨3, ![1, 1, 1024]⟩
abbrev S256 : Shape := ⟨1, ![256]⟩

abbrev nBuf : Space → Nat
  | .hbm => 7
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x128, .f32⟩
  | .hbm, ⟨3, _⟩ => ⟨S8x2048x1024, .f32⟩
  | .hbm, ⟨4, _⟩ => ⟨S8x1x6144, .f32⟩
  | .hbm, ⟨5, _⟩ => ⟨S1x1024, .f32⟩
  | .hbm, ⟨6, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x128, .f32⟩
  | .local _ .vmem, ⟨5, _⟩ => ⟨S1x256x128, .f32⟩
  | .local _ .vmem, ⟨6, _⟩ => ⟨S1x256x1024, .f32⟩
  | .local _ .vmem, ⟨7, _⟩ => ⟨S1x256x1024, .f32⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CombineReferenceIdeal.lean ====
abbrev S8x2048x1024 : Shape := ⟨3, ![8, 2048, 1024]⟩
abbrev S8x2048x128 : Shape := ⟨3, ![8, 2048, 128]⟩
abbrev S8x1x6144 : Shape := ⟨3, ![8, 1, 6144]⟩
abbrev S1x1024 : Shape := ⟨2, ![1, 1024]⟩
abbrev S8x1x1024 : Shape := ⟨3, ![8, 1, 1024]⟩
abbrev S8x2048x1 : Shape := ⟨3, ![8, 2048, 1]⟩
abbrev S_ : Shape := ⟨0, ![]⟩
abbrev S8x2048 : Shape := ⟨2, ![8, 2048]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x128, .f32⟩
  | .hbm, ⟨3, _⟩ => ⟨S8x2048x1024, .f32⟩
  | .hbm, ⟨4, _⟩ => ⟨S8x1x6144, .f32⟩
  | .hbm, ⟨5, _⟩ => ⟨S1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x1, .f32⟩
  | .hbm, ⟨13, _⟩ => ⟨S8x2048x1024, .f32⟩
  | .hbm, ⟨14, _⟩ => ⟨S8x2048x1024, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Conv.lean ====
abbrev S8x2048x1024 : Shape := ⟨3, ![8, 2048, 1024]⟩
abbrev S8x1x6144 : Shape := ⟨3, ![8, 1, 6144]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S1024x128 : Shape := ⟨2, ![1024, 128]⟩
abbrev S8x2048x128 : Shape := ⟨3, ![8, 2048, 128]⟩
abbrev S1x256x1024 : Shape := ⟨3, ![1, 256, 1024]⟩
abbrev S1x16x1024 : Shape := ⟨3, ![1, 16, 1024]⟩
abbrev S1x1x6144 : Shape := ⟨3, ![1, 1, 6144]⟩
abbrev S1x256x128 : Shape := ⟨3, ![1, 256, 128]⟩
abbrev S16x1024 : Shape := ⟨2, ![16, 1024]⟩
abbrev S256x1024 : Shape := ⟨2, ![256, 1024]⟩
abbrev S288x1024 : Shape := ⟨2, ![288, 1024]⟩
abbrev S288x3072 : Shape := ⟨2, ![288, 3072]⟩
abbrev S1x1x1024 : Shape := ⟨3, ![1, 1, 1024]⟩
abbrev S256 : Shape := ⟨1, ![256]⟩
abbrev S256x1 : Shape := ⟨2, ![256, 1]⟩
abbrev S256x128 : Shape := ⟨2, ![256, 128]⟩

abbrev nBuf : Space → Nat
  | .hbm => 12
  | .vmem => 22
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S8x1x6144, .f32⟩
  | .hbm, ⟨3, _⟩ => ⟨S1024x3072, .bf16⟩
  | .hbm, ⟨4, _⟩ => ⟨S3x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S1024x128, .f32⟩
  | .hbm, ⟨9, _⟩ => ⟨S8x2048x1024, .f32⟩
  | .hbm, ⟨10, _⟩ => ⟨S8x2048x1024, .bf16⟩
  | .hbm, ⟨11, _⟩ => ⟨S8x2048x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x6144, .f32⟩
  | .local _ .vmem, ⟨9, _⟩ => ⟨S1x1x6144, .f32⟩
  | .local _ .vmem, ⟨10, _⟩ => ⟨S1024x3072, .bf16⟩
  | .local _ .vmem, ⟨11, _⟩ => ⟨S3x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x128, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .bf16⟩
  | .local _ .vmem, ⟨19, _⟩ => ⟨S1x256x1024, .bf16⟩
  | .local _ .vmem, ⟨20, _⟩ => ⟨S1x256x128, .f32⟩
  | .local _ .vmem, ⟨21, _⟩ => ⟨S1x256x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ConvReferenceIdeal.lean ====
abbrev S8x2048x1024 : Shape := ⟨3, ![8, 2048, 1024]⟩
abbrev S8x1x6144 : Shape := ⟨3, ![8, 1, 6144]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S1024x128 : Shape := ⟨2, ![1024, 128]⟩
abbrev S8x1x1024 : Shape := ⟨3, ![8, 1, 1024]⟩
abbrev S8x2048x3072 : Shape := ⟨3, ![8, 2048, 3072]⟩
abbrev S_ : Shape := ⟨0, ![]⟩
abbrev S8x2050x1024 : Shape := ⟨3, ![8, 2050, 1024]⟩
abbrev S1024 : Shape := ⟨1, ![1024]⟩
abbrev S1x1x1024 : Shape := ⟨3, ![1, 1, 1024]⟩
abbrev S8x2048 : Shape := ⟨2, ![8, 2048]⟩
abbrev S8x2048x1 : Shape := ⟨3, ![8, 2048, 1]⟩
abbrev S8x2048x128 : Shape := ⟨3, ![8, 2048, 128]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S8x1x6144, .f32⟩
  | .hbm, ⟨3, _⟩ => ⟨S1024x3072, .bf16⟩
  | .hbm, ⟨4, _⟩ => ⟨S3x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S1024x128, .f32⟩
  | .hbm, ⟨9, _⟩ => ⟨S8x2048x1024, .f32⟩
  | .hbm, ⟨10, _⟩ => ⟨S1024x3072, .f32⟩
  | .hbm, ⟨11, _⟩ => ⟨S1024x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x2048x3072, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .i32⟩
  | .hbm, ⟨24, _⟩ => ⟨S_, .f32⟩
  | .hbm, ⟨25, _⟩ => ⟨S8x2050x1024, .f32⟩
  | .hbm, ⟨26, _⟩ => ⟨S8x2048x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S1x1024, .f32⟩
  | .hbm, ⟨44, _⟩ => ⟨S1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x1, .f32⟩
  | .hbm, ⟨62, _⟩ => ⟨S8x2048x1024, .f32⟩
  | .hbm, ⟨63, _⟩ => ⟨S8x2048x1024, .f32⟩
  | .hbm, ⟨64, _⟩ => ⟨S1x1x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1, .f32⟩
  | .hbm, ⟨81, _⟩ => ⟨S8x2048x1024, .f32⟩
  | .hbm, ⟨82, _⟩ => ⟨S8x2048x1024, .f32⟩
  | .hbm, ⟨83, _⟩ => ⟨S1x1x1024, .f32⟩
  | .hbm, ⟨84, _⟩ => ⟨S8x2048x1024, .f32⟩
  | .hbm, ⟨85, _⟩ => ⟨S8x2048x1024, .f32⟩
  | .hbm, ⟨86, _⟩ => ⟨S_, .f32⟩
  | .hbm, ⟨87, _⟩ => ⟨S8x1x1024, .f32⟩
  | .hbm, ⟨88, _⟩ => ⟨S8x1x1024, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S8x2048x1024, .bf16⟩
  | .hbm, ⟨94, _⟩ => ⟨S8x2048x128, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_0 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_6 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Proof.Scan.Generic.lean ====
/- One chunk of the scan as the kernel writes it, in named steps: the decay's cumulative sums, the stacked rows of the
   two heads, the masked Gram blocks, the blocked inverse, the outputs and the new state. The masks and the row that
   carries the whole chunk's decay differ between the two directions and are arguments. -/
module

public import proofs.«01_k».proof.Proof.Gen.KernelIdeal.Skeleton

@[expose] public section

noncomputable section

namespace Scan

open Idealize.ShloMosaic Idealize.ShloMosaic.TcCoe Cert.KernelIdeal Cert.KernelIdeal.Gen

variable {F : FTy → Type} [FloatOps F]

abbrev TileF (F : FTy → Type) := FVec F S64x128 .f32
abbrev MatF (F : FTy → Type) := FVec F S128x128 .f32

/-- The six inputs of a chunk as vectors. -/
structure InsF (F : FTy → Type) where
  (r kd v lw kk ic : TileF F)

/-- What depends on the direction. -/
structure Masks where
  tri : IVec S64x64 1
  strict : IVec S128x128 1
  incl : IVec S128x128 1
  off : Fin 2 → ℕ
  slices : S64x128.Slices off S1x128

def fwdMasks : Masks where
  tri := cmpi .sle (iota .tc S64x64 32 [1] iota_S64x64_d1_w32) (iota .tc S64x64 32 [0] iota_S64x64_d0_w32)
  strict := cmpi .slt (iota .tc S128x128 32 [1] iota_S128x128_d1_w32) (iota .tc S128x128 32 [0] iota_S128x128_d0_w32)
  incl := cmpi .sle (iota .tc S128x128 32 [1] iota_S128x128_d1_w32) (iota .tc S128x128 32 [0] iota_S128x128_d0_w32)
  off := ![63, 0]
  slices := slices_S64x128_o63_0_S1x128

def bwdMasks : Masks where
  tri := cmpi .sge (iota .tc S64x64 32 [1] iota_S64x64_d1_w32) (iota .tc S64x64 32 [0] iota_S64x64_d0_w32)
  strict := cmpi .sgt (iota .tc S128x128 32 [1] iota_S128x128_d1_w32) (iota .tc S128x128 32 [0] iota_S128x128_d0_w32)
  incl := cmpi .sge (iota .tc S128x128 32 [1] iota_S128x128_d1_w32) (iota .tc S128x128 32 [0] iota_S128x128_d0_w32)
  off := ![0, 0]
  slices := slices_S64x128_o0_0_S1x128

def sameF : IVec S128x128 1 :=
  k0_pay32 (iota .tc S128x128 32 [1] iota_S128x128_d1_w32) k0_pay29 k0_pay30 k0_pay31

def laneF : IVec S64x128 1 :=
  cmpi .slt (iota .tc S64x128 32 [1] iota_S64x128_d1_w32) (broadcast S64x128 64#32)

def zeroT : TileF F := broadcast S64x128 (Scalar.ofBits .f32 0x00000000#32)
def zeroM : MatF F := broadcast S128x128 (Scalar.ofBits .f32 0x00000000#32)

def msF (x : TileF F) : MatF F :=
  concatenate S128x128 0 [⟨S64x128, select laneF x zeroT⟩, ⟨S64x128, select laneF zeroT x⟩]
    concatenates_S64x128_S64x128_S128x128_d0

def stackF (A B : MatF F) : FVec F S256x128 .f32 :=
  concatenate S256x128 0 [⟨S128x128, A⟩, ⟨S128x128, B⟩] concatenates_S128x128_S128x128_S256x128_d0

def shortM (A : MatF F) : FVec F S128x128 .bf16 := truncf .bf16 A bitsLt_bf16_f32
def shortS (A : FVec F S256x128 .f32) : FVec F S256x128 .bf16 := truncf .bf16 A bitsLt_bf16_f32

def mmF (A B : MatF F) : MatF F :=
  matmul dot_S128x128_S128x128_S128x128_1_0_0_1_n_n none (shortM A) (shortM B) (constant S128x128 .f32 0x00000000#32)

/-- A product with the second operand transposed. -/
def mtF (A B : FVec F S128x128 .bf16) : MatF F :=
  matmul dot_S128x128_S128x128_S128x128_1_1_0_0_n_n none A B (constant S128x128 .f32 0x00000000#32)

def cumF (M : Masks) (lw : TileF F) : TileF F :=
  addf
    (matmul dot_S64x64_S64x128_S64x128_1_0_0_1_n_n none
      (truncf .bf16 (sitofp .f32 (extui 32 M.tri natLt_1_32)) bitsLt_bf16_f32)
      (truncf .bf16 lw bitsLt_bf16_f32) (constant S64x128 .f32 0x00000000#32))
    (matmul dot_S64x64_S64x128_S64x128_1_0_0_1_n_n none
      (truncf .bf16 (sitofp .f32 (extui 32 M.tri natLt_1_32)) bitsLt_bf16_f32)
      (truncf .bf16 (subf lw (extf .f32 (truncf .bf16 lw bitsLt_bf16_f32) bitsLt_bf16_f32)) bitsLt_bf16_f32)
      (constant S64x128 .f32 0x00000000#32))

def pcF (M : Masks) (lw : TileF F) : FVec F S1x128 .f32 := extractStridedSlice S1x128 M.off (cumF M lw) M.slices
def invF (M : Masks) (lw : TileF F) : TileF F := exp (subf zeroT (cumF M lw))
def restF (M : Masks) (lw : TileF F) : TileF F :=
  exp (subf (broadcastTo S64x128 (pcF M lw) broadcasts_S1x128_S64x128) (cumF M lw))
def atF (M : Masks) (x : InsF F) : TileF F := subf zeroT (mulf x.kk (exp (subf (cumF M x.lw) x.lw)))
def rtF (M : Masks) (x : InsF F) : TileF F := mulf x.r (exp (cumF M x.lw))
def bF (x : InsF F) : TileF F := mulf x.kk x.ic
def btF (M : Masks) (x : InsF F) : TileF F := mulf (bF x) (invF M x.lw)
def ktF (M : Masks) (x : InsF F) : TileF F := mulf x.kd (invF M x.lw)
def bpF (M : Masks) (x : InsF F) : TileF F := mulf (bF x) (restF M x.lw)
def kpF (M : Masks) (x : InsF F) : TileF F := mulf x.kd (restF M x.lw)

def lhsF (M : Masks) (x : InsF F) : FVec F S256x128 .bf16 := shortS (stackF (msF (atF M x)) (msF (rtF M x)))
def rhsF (M : Masks) (x : InsF F) : FVec F S256x128 .bf16 := shortS (stackF (msF (btF M x)) (msF (ktF M x)))

def gramF (M : Masks) (x : InsF F) : FVec F S256x256 .f32 :=
  matmul dot_S256x128_S256x128_S256x256_1_1_0_0_n_n none (lhsF M x) (rhsF M x) (constant S256x256 .f32 0x00000000#32)

def nF (M : Masks) (x : InsF F) : MatF F :=
  select M.strict (extractStridedSlice S128x128 ![0, 0] (gramF M x) slices_S256x256_o0_0_S128x128) zeroM
def akF (M : Masks) (x : InsF F) : MatF F :=
  select M.strict (extractStridedSlice S128x128 ![0, 128] (gramF M x) slices_S256x256_o0_128_S128x128) zeroM
def rbF (M : Masks) (x : InsF F) : MatF F :=
  select M.incl (extractStridedSlice S128x128 ![128, 0] (gramF M x) slices_S256x256_o128_0_S128x128) zeroM
def rkF (M : Masks) (x : InsF F) : MatF F :=
  select M.incl (extractStridedSlice S128x128 ![128, 128] (gramF M x) slices_S256x256_o128_128_S128x128) zeroM

def ndF (N : MatF F) : MatF F := select sameF N zeroM
def noF (N : MatF F) : MatF F := select sameF zeroM N

/-- `t + p + t p`. -/
def growF (t p : MatF F) : MatF F := addf (addf t p) (mmF t p)

def inv16F (d : MatF F) : MatF F :=
  growF (growF (growF d (mmF d d)) (mmF (mmF d d) (mmF d d)))
    (mmF (mmF (mmF d d) (mmF d d)) (mmF (mmF d d) (mmF d d)))

def acrossF (N : MatF F) : MatF F := addf (noF N) (mmF (inv16F (ndF N)) (noF N))
def powF (m : MatF F) : MatF F := growF m (mmF m m)
def solveF (N : MatF F) : MatF F :=
  addf (addf (inv16F (ndF N)) (powF (acrossF N))) (mmF (powF (acrossF N)) (inv16F (ndF N)))

def topF (L : FVec F S256x128 .bf16) : FVec F S128x128 .bf16 :=
  extractStridedSlice S128x128 ![0, 0] L slices_S256x128_o0_0_S128x128
def botF (L : FVec F S256x128 .bf16) : FVec F S128x128 .bf16 :=
  extractStridedSlice S128x128 ![128, 0] L slices_S256x128_o128_0_S128x128

def rzF (M : Masks) (x : InsF F) (s : MatF F) : MatF F :=
  addf (mtF (topF (lhsF M x)) (shortM s)) (mmF (akF M x) (msF x.v))
def zF (M : Masks) (x : InsF F) (s : MatF F) : MatF F :=
  addf (rzF M x s) (mmF (solveF (nF M x)) (rzF M x s))
def ymF (M : Masks) (x : InsF F) (s : MatF F) : MatF F :=
  addf (addf (mtF (botF (lhsF M x)) (shortM s)) (mmF (rbF M x) (zF M x s))) (mmF (rkF M x) (msF x.v))
def yF (M : Masks) (x : InsF F) (s : MatF F) : TileF F :=
  addf (extractStridedSlice S64x128 ![0, 0] (ymF M x s) slices_S128x128_o0_0_S64x128)
    (extractStridedSlice S64x128 ![64, 0] (ymF M x s) slices_S128x128_o64_0_S64x128)

def updF (M : Masks) (x : InsF F) (s : MatF F) : MatF F :=
  matmul dot_S128x256_S256x128_S128x128_1_0_0_1_n_n none
    (truncf .bf16 (transpose S128x256 [1, 0] (stackF (zF M x s) (msF x.v)) transposes_S256x128_p1_0_S128x256) bitsLt_bf16_f32)
    (shortS (stackF (msF (bpF M x)) (msF (kpF M x)))) (constant S128x128 .f32 0x00000000#32)
def newF (M : Masks) (x : InsF F) (s : MatF F) : MatF F :=
  addf (mulf s (broadcastTo S128x128 (exp (pcF M x.lw)) broadcasts_S1x128_S128x128)) (updF M x s)

/-! ## The chunk's inputs as the kernel loads them -/

def tileF (v : Vec F S1x64x128 .f32) : TileF F := shapeCast S64x128 v shapeCasts_S1x64x128_S64x128
def oneT : TileF F := broadcast S64x128 (Scalar.ofBits .f32 0x3F800000#32)

/-- The key after its in-context rate. -/
def kdF (k ic : TileF F) (ka : Vec F S1x128 .f32) : TileF F :=
  mulf k (addf oneT (mulf (subf ic oneT) (broadcastTo S64x128 ka broadcasts_S1x128_S64x128)))

def insF (r k v kk ic lw : Vec F S1x64x128 .f32) (ka : Vec F S1x128 .f32) : InsF F where
  r := tileF r
  kd := kdF (tileF k) (tileF ic) ka
  v := tileF v
  lw := tileF lw
  kk := tileF kk
  ic := tileF ic

def stF (s : Vec F S1x1x128x128 .f32) : MatF F := shapeCast S128x128 s shapeCasts_S1x1x128x128_S128x128

/-- What the kernel stores: the outputs of a chunk and the state after it. -/
def yOut (M : Masks) (x : InsF F) (s : Vec F S1x1x128x128 .f32) : FVec F S1x64x128 .f32 :=
  shapeCast S1x64x128 (yF M x (stF s)) shapeCasts_S64x128_S1x64x128
def sOut (M : Masks) (x : InsF F) (s : Vec F S1x1x128x128 .f32) : FVec F S1x1x128x128 .f32 :=
  shapeCast S1x1x128x128 (newF M x (stF s)) shapeCasts_S128x128_S1x1x128x128

end Scan
-- ==== Proof.Scan.Loads.lean ====
/- What one run of the kernel's body loads. -/
module

public import proofs.«01_k».proof.Proof.Gen.KernelIdeal.Value
public import proofs.«01_k».proof.Proof.Scan.Generic

@[expose] public section

set_option maxRecDepth 16384

noncomputable section

namespace Scan

open Idealize.ShloMosaic Idealize.ShloMosaic.TcCoe Idealize.SL.Sem Cert.KernelIdeal Cert.KernelIdeal.Gen

variable {F : FTy → Type}

def read0 (a : Memref sig .tc .vmem S1x64x256 .f32) (h : a.IsWhole) (x : Vec F S1x64x256 .f32) : Vec F S1x64x128 .f32 :=
  View.readAt (Elt F) a.view (Rect.unit (s := S1x64x256) ![0, 0, 0] S1x64x128.size inb_S1x64x256_S1x64x128_0_0_0).toLoadRect (h.unread x)
def read1 (a : Memref sig .tc .vmem S1x64x256 .f32) (h : a.IsWhole) (x : Vec F S1x64x256 .f32) : Vec F S1x64x128 .f32 :=
  View.readAt (Elt F) a.view (Rect.unit (s := S1x64x256) ![0, 0, 128] S1x64x128.size inb_S1x64x256_S1x64x128_0_0_128).toLoadRect (h.unread x)
def row0 (a : Memref sig .tc .vmem S1x256 .f32) (h : a.IsWhole) (x : Vec F S1x256 .f32) : Vec F S1x128 .f32 :=
  View.readAt (Elt F) a.view (Rect.unit (s := S1x256) ![0, 0] S1x128.size inb_S1x256_S1x128_0_0).toLoadRect (h.unread x)
def row1 (a : Memref sig .tc .vmem S1x256 .f32) (h : a.IsWhole) (x : Vec F S1x256 .f32) : Vec F S1x128 .f32 :=
  View.readAt (Elt F) a.view (Rect.unit (s := S1x256) ![0, 128] S1x128.size inb_S1x256_S1x128_0_128).toLoadRect (h.unread x)

/-- What the first position's run stores into the state before it reads it. -/
def first (a : Memref sig .tc .vmem S1x2x2x128x128 .f32) (h : a.IsWhole) (x : Vec F S1x2x2x128x128 .f32) :
    List (View.Piece (Elt F) S2x2x128x128 .f32) :=
  [⟨Rect.unit ![0, 0, 0, 0] S2x2x128x128.size inb_S2x2x128x128_S2x2x128x128_0_0_0_0,
    k0_pay2 (View.readAt (Elt F) a.view
      (Rect.unit ![0, 0, 0, 0, 0] S1x2x2x128x128.size inb_S1x2x2x128x128_S1x2x2x128x128_0_0_0_0_0).toLoadRect (h.unread x))⟩]

variable [FloatOps F]

section
variable (a0 : Memref sig .tc .vmem S1x64x256 .f32) (h0 : a0.IsWhole) (a1 : Memref sig .tc .vmem S1x64x256 .f32) (h1 : a1.IsWhole)
  (a2 : Memref sig .tc .vmem S1x64x256 .f32) (h2 : a2.IsWhole) (a3 : Memref sig .tc .vmem S1x64x256 .f32) (h3 : a3.IsWhole)
  (a4 : Memref sig .tc .vmem S1x64x256 .f32) (h4 : a4.IsWhole) (a5 : Memref sig .tc .vmem S1x64x256 .f32) (h5 : a5.IsWhole)
  (b : Memref sig .tc .vmem S1x256 .f32) (hb : b.IsWhole)
  (x0 x1 x2 x3 x4 x5 : Vec F S1x64x256 .f32) (y : Vec F S1x256 .f32)

def load0 : InsF F :=
  insF (read0 a0 h0 x0) (read0 a1 h1 x1) (read0 a2 h2 x2) (read0 a3 h3 x3) (read0 a4 h4 x4) (read0 a5 h5 x5) (row0 b hb y)
def load1 : InsF F :=
  insF (read1 a0 h0 x0) (read1 a1 h1 x1) (read1 a2 h2 x2) (read1 a3 h3 x3) (read1 a4 h4 x4) (read1 a5 h5 x5) (row1 b hb y)
end

end Scan
-- ==== Proof.Scan.PiecesA.lean ====
/- What one run of the kernel's body stores at the first position of its grid row, as pieces: each output's
   two halves and the four states are the chunk's own functions of what the body loads. -/
module

public import proofs.«01_k».proof.Proof.Scan.Loads

@[expose] public section

set_option maxRecDepth 16384

noncomputable section

namespace Scan

open Idealize.ShloMosaic Idealize.ShloMosaic.TcCoe Idealize.SL.Sem Cert.KernelIdeal Cert.KernelIdeal.Gen

variable {F : FTy → Type} [FloatOps F]

variable (c : Dev nD) (i : grid0.Coords) (arg3 : Memref sig .tc .vmem S1x64x256 .f32) (harg3 : arg3.IsWhole)
  (arg4 : Memref sig .tc .vmem S1x64x256 .f32) (harg4 : arg4.IsWhole)
  (arg5 : Memref sig .tc .vmem S1x64x256 .f32) (harg5 : arg5.IsWhole)
  (arg6 : Memref sig .tc .vmem S1x64x256 .f32) (harg6 : arg6.IsWhole)
  (arg7 : Memref sig .tc .vmem S1x64x256 .f32) (harg7 : arg7.IsWhole)
  (arg8 : Memref sig .tc .vmem S1x64x256 .f32) (harg8 : arg8.IsWhole)
  (arg9 : Memref sig .tc .vmem S1x64x256 .f32) (harg9 : arg9.IsWhole)
  (arg10 : Memref sig .tc .vmem S1x64x256 .f32) (harg10 : arg10.IsWhole)
  (arg11 : Memref sig .tc .vmem S1x64x256 .f32) (harg11 : arg11.IsWhole)
  (arg12 : Memref sig .tc .vmem S1x64x256 .f32) (harg12 : arg12.IsWhole)
  (arg13 : Memref sig .tc .vmem S1x64x256 .f32) (harg13 : arg13.IsWhole)
  (arg14 : Memref sig .tc .vmem S1x64x256 .f32) (harg14 : arg14.IsWhole)
  (arg15 : Memref sig .tc .vmem S1x256 .f32) (harg15 : arg15.IsWhole)
  (arg16 : Memref sig .tc .vmem S1x2x2x128x128 .f32) (harg16 : arg16.IsWhole)
  (arg17 : Memref sig .tc .vmem S1x64x256 .f32) (harg17 : arg17.IsWhole)
  (arg18 : Memref sig .tc .vmem S1x64x256 .f32) (harg18 : arg18.IsWhole)
  (arg19 : Memref sig .tc .vmem S2x2x128x128 .f32) (harg19 : arg19.IsWhole)
  (x0 x1 x2 x3 x4 x5 x6 x7 x8 x9 x10 x11 : Vec F S1x64x256 .f32) (x12 : Vec F S1x256 .f32) (x13 : Vec F S1x2x2x128x128 .f32)
  (xs0 : Vec F S2x2x128x128 .f32)

set_option maxHeartbeats 0 in
theorem hist2 : (kernelRun0_A.sl.HS0_2 c arg3 harg3 arg4 harg4 arg5 harg5 arg6 harg6 arg7 harg7 arg8 harg8 arg15 harg15 arg16 harg16 arg19 x0 x1 x2 x3 x4 x5 x12 x13) = ⟨(Rect.unit (s := S2x2x128x128) ![0, 0, 0, 0] S1x1x128x128.size inb_S2x2x128x128_S1x1x128x128_0_0_0_0),
    sOut fwdMasks (load0 arg3 harg3 arg4 harg4 arg5 harg5 arg6 harg6 arg7 harg7 arg8 harg8 arg15 harg15 x0 x1 x2 x3 x4 x5 x12) (kernelRun0_A.sl.v23 c arg16 harg16 arg19 x13)⟩ :: (kernelRun0_A.sl.HS0_1 c arg16 harg16 x13) := by exact rfl

set_option maxHeartbeats 0 in
theorem hist3 : (kernelRun0_A.sl.HS0_3 c arg3 harg3 arg4 harg4 arg5 harg5 arg6 harg6 arg7 harg7 arg8 harg8 arg15 harg15 arg16 harg16 arg19 x0 x1 x2 x3 x4 x5 x12 x13) = ⟨(Rect.unit (s := S2x2x128x128) ![0, 1, 0, 0] S1x1x128x128.size inb_S2x2x128x128_S1x1x128x128_0_1_0_0),
    sOut fwdMasks (load1 arg3 harg3 arg4 harg4 arg5 harg5 arg6 harg6 arg7 harg7 arg8 harg8 arg15 harg15 x0 x1 x2 x3 x4 x5 x12) (kernelRun0_A.sl.v270 c arg3 harg3 arg4 harg4 arg5 harg5 arg6 harg6 arg7 harg7 arg8 harg8 arg15 harg15 arg16 harg16 arg19 x0 x1 x2 x3 x4 x5 x12 x13)⟩ :: (kernelRun0_A.sl.HS0_2 c arg3 harg3 arg4 harg4 arg5 harg5 arg6 harg6 arg7 harg7 arg8 harg8 arg15 harg15 arg16 harg16 arg19 x0 x1 x2 x3 x4 x5 x12 x13) := by exact rfl

set_option maxHeartbeats 0 in
theorem hist4 : (kernelRun0_A.sl.HS0_4 c arg3 harg3 arg4 harg4 arg5 harg5 arg6 harg6 arg7 harg7 arg8 harg8 arg9 harg9 arg10 harg10 arg11 harg11 arg12 harg12 arg13 harg13 arg14 harg14 arg15 harg15 arg16 harg16 arg19 x0 x1 x2 x3 x4 x5 x6 x7 x8 x9 x10 x11 x12 x13) = ⟨(Rect.unit (s := S2x2x128x128) ![1, 0, 0, 0] S1x1x128x128.size inb_S2x2x128x128_S1x1x128x128_1_0_0_0),
    sOut bwdMasks (load0 arg9 harg9 arg10 harg10 arg11 harg11 arg12 harg12 arg13 harg13 arg14 harg14 arg15 harg15 x6 x7 x8 x9 x10 x11 x12) (kernelRun0_A.sl.v517 c arg3 harg3 arg4 harg4 arg5 harg5 arg6 harg6 arg7 harg7 arg8 harg8 arg15 harg15 arg16 harg16 arg19 x0 x1 x2 x3 x4 x5 x12 x13)⟩ :: (kernelRun0_A.sl.HS0_3 c arg3 harg3 arg4 harg4 arg5 harg5 arg6 harg6 arg7 harg7 arg8 harg8 arg15 harg15 arg16 harg16 arg19 x0 x1 x2 x3 x4 x5 x12 x13) := by exact rfl

set_option maxHeartbeats 0 in
theorem runS_A (hc0 : cond0_0 i) : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).2.2.1 = ⟨(Rect.unit (s := S2x2x128x128) ![1, 1, 0, 0] S1x1x128x128.size inb_S2x2x128x128_S1x1x128x128_1_1_0_0),
    sOut bwdMasks (load1 arg9 harg9 arg10 harg10 arg11 harg11 arg12 harg12 arg13 harg13 arg14 harg14 arg15 harg15 x6 x7 x8 x9 x10 x11 x12) (kernelRun0_A.sl.v764 c arg3 harg3 arg4 harg4 arg5 harg5 arg6 harg6 arg7 harg7 arg8 harg8 arg9 harg9 arg10 harg10 arg11 harg11 arg12 harg12 arg13 harg13 arg14 harg14 arg15 harg15 arg16 harg16 arg19 x0 x1 x2 x3 x4 x5 x6 x7 x8 x9 x10 x11 x12 x13)⟩ :: (kernelRun0_A.sl.HS0_4 c arg3 harg3 arg4 harg4 arg5 harg5 arg6 harg6 arg7 harg7 arg8 harg8 arg9 harg9 arg10 harg10 arg11 harg11 arg12 harg12 arg13 harg13 arg14 harg14 arg15 harg15 arg16 harg16 arg19 x0 x1 x2 x3 x4 x5 x6 x7 x8 x9 x10 x11 x12 x13) := by exact rfl

set_option maxHeartbeats 0 in
theorem run14_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).1
      = [⟨Rect.unit (s := S1x64x256) ![0, 0, 128] S1x64x128.size inb_S1x64x256_S1x64x128_0_0_128,
          yOut fwdMasks (load1 arg3 harg3 arg4 harg4 arg5 harg5 arg6 harg6 arg7 harg7 arg8 harg8 arg15 harg15 x0 x1 x2 x3 x4 x5 x12) (kernelRun0_A.sl.v270 c arg3 harg3 arg4 harg4 arg5 harg5 arg6 harg6 arg7 harg7 arg8 harg8 arg15 harg15 arg16 harg16 arg19 x0 x1 x2 x3 x4 x5 x12 x13)⟩,
        ⟨Rect.unit (s := S1x64x256) ![0, 0, 0] S1x64x128.size inb_S1x64x256_S1x64x128_0_0_0,
          yOut fwdMasks (load0 arg3 harg3 arg4 harg4 arg5 harg5 arg6 harg6 arg7 harg7 arg8 harg8 arg15 harg15 x0 x1 x2 x3 x4 x5 x12) (kernelRun0_A.sl.v23 c arg16 harg16 arg19 x13)⟩] := by exact rfl

set_option maxHeartbeats 0 in
theorem run15_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).2.1
      = [⟨Rect.unit (s := S1x64x256) ![0, 0, 128] S1x64x128.size inb_S1x64x256_S1x64x128_0_0_128,
          yOut bwdMasks (load1 arg9 harg9 arg10 harg10 arg11 harg11 arg12 harg12 arg13 harg13 arg14 harg14 arg15 harg15 x6 x7 x8 x9 x10 x11 x12) (kernelRun0_A.sl.v764 c arg3 harg3 arg4 harg4 arg5 harg5 arg6 harg6 arg7 harg7 arg8 harg8 arg9 harg9 arg10 harg10 arg11 harg11 arg12 harg12 arg13 harg13 arg14 harg14 arg15 harg15 arg16 harg16 arg19 x0 x1 x2 x3 x4 x5 x6 x7 x8 x9 x10 x11 x12 x13)⟩,
        ⟨Rect.unit (s := S1x64x256) ![0, 0, 0] S1x64x128.size inb_S1x64x256_S1x64x128_0_0_0,
          yOut bwdMasks (load0 arg9 harg9 arg10 harg10 arg11 harg11 arg12 harg12 arg13 harg13 arg14 harg14 arg15 harg15 x6 x7 x8 x9 x10 x11 x12) (kernelRun0_A.sl.v517 c arg3 harg3 arg4 harg4 arg5 harg5 arg6 harg6 arg7 harg7 arg8 harg8 arg15 harg15 arg16 harg16 arg19 x0 x1 x2 x3 x4 x5 x12 x13)⟩] := by exact rfl

end Scan
-- ==== Proof.Scan.PiecesB.lean ====
/- What one run of the kernel's body stores at a later position of its grid row, as pieces: each output's
   two halves and the four states are the chunk's own functions of what the body loads. -/
module

public import proofs.«01_k».proof.Proof.Scan.Loads

@[expose] public section

set_option maxRecDepth 16384

noncomputable section

namespace Scan

open Idealize.ShloMosaic Idealize.ShloMosaic.TcCoe Idealize.SL.Sem Cert.KernelIdeal Cert.KernelIdeal.Gen

variable {F : FTy → Type} [FloatOps F]

variable (c : Dev nD) (i : grid0.Coords) (arg3 : Memref sig .tc .vmem S1x64x256 .f32) (harg3 : arg3.IsWhole)
  (arg4 : Memref sig .tc .vmem S1x64x256 .f32) (harg4 : arg4.IsWhole)
  (arg5 : Memref sig .tc .vmem S1x64x256 .f32) (harg5 : arg5.IsWhole)
  (arg6 : Memref sig .tc .vmem S1x64x256 .f32) (harg6 : arg6.IsWhole)
  (arg7 : Memref sig .tc .vmem S1x64x256 .f32) (harg7 : arg7.IsWhole)
  (arg8 : Memref sig .tc .vmem S1x64x256 .f32) (harg8 : arg8.IsWhole)
  (arg9 : Memref sig .tc .vmem S1x64x256 .f32) (harg9 : arg9.IsWhole)
  (arg10 : Memref sig .tc .vmem S1x64x256 .f32) (harg10 : arg10.IsWhole)
  (arg11 : Memref sig .tc .vmem S1x64x256 .f32) (harg11 : arg11.IsWhole)
  (arg12 : Memref sig .tc .vmem S1x64x256 .f32) (harg12 : arg12.IsWhole)
  (arg13 : Memref sig .tc .vmem S1x64x256 .f32) (harg13 : arg13.IsWhole)
  (arg14 : Memref sig .tc .vmem S1x64x256 .f32) (harg14 : arg14.IsWhole)
  (arg15 : Memref sig .tc .vmem S1x256 .f32) (harg15 : arg15.IsWhole)
  (arg16 : Memref sig .tc .vmem S1x2x2x128x128 .f32) (harg16 : arg16.IsWhole)
  (arg17 : Memref sig .tc .vmem S1x64x256 .f32) (harg17 : arg17.IsWhole)
  (arg18 : Memref sig .tc .vmem S1x64x256 .f32) (harg18 : arg18.IsWhole)
  (arg19 : Memref sig .tc .vmem S2x2x128x128 .f32) (harg19 : arg19.IsWhole)
  (x0 x1 x2 x3 x4 x5 x6 x7 x8 x9 x10 x11 : Vec F S1x64x256 .f32) (x12 : Vec F S1x256 .f32) (x13 : Vec F S1x2x2x128x128 .f32)
  (xs0 : Vec F S2x2x128x128 .f32)

set_option maxHeartbeats 0 in
theorem run14_B (hc0 : ¬cond0_0 i) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs0).1
      = [⟨Rect.unit (s := S1x64x256) ![0, 0, 128] S1x64x128.size inb_S1x64x256_S1x64x128_0_0_128,
          yOut fwdMasks (load1 arg3 harg3 arg4 harg4 arg5 harg5 arg6 harg6 arg7 harg7 arg8 harg8 arg15 harg15 x0 x1 x2 x3 x4 x5 x12) (View.readAt (Elt F) arg19.view (Rect.unit (s := S2x2x128x128) ![0, 1, 0, 0] S1x1x128x128.size inb_S2x2x128x128_S1x1x128x128_0_1_0_0).toLoadRect (harg19.unread xs0))⟩,
        ⟨Rect.unit (s := S1x64x256) ![0, 0, 0] S1x64x128.size inb_S1x64x256_S1x64x128_0_0_0,
          yOut fwdMasks (load0 arg3 harg3 arg4 harg4 arg5 harg5 arg6 harg6 arg7 harg7 arg8 harg8 arg15 harg15 x0 x1 x2 x3 x4 x5 x12) (View.readAt (Elt F) arg19.view (Rect.unit (s := S2x2x128x128) ![0, 0, 0, 0] S1x1x128x128.size inb_S2x2x128x128_S1x1x128x128_0_0_0_0).toLoadRect (harg19.unread xs0))⟩] := by exact rfl

set_option maxHeartbeats 0 in
theorem run15_B (hc0 : ¬cond0_0 i) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs0).2.1
      = [⟨Rect.unit (s := S1x64x256) ![0, 0, 128] S1x64x128.size inb_S1x64x256_S1x64x128_0_0_128,
          yOut bwdMasks (load1 arg9 harg9 arg10 harg10 arg11 harg11 arg12 harg12 arg13 harg13 arg14 harg14 arg15 harg15 x6 x7 x8 x9 x10 x11 x12) (View.readAt (Elt F) arg19.view (Rect.unit (s := S2x2x128x128) ![1, 1, 0, 0] S1x1x128x128.size inb_S2x2x128x128_S1x1x128x128_1_1_0_0).toLoadRect (harg19.unread xs0))⟩,
        ⟨Rect.unit (s := S1x64x256) ![0, 0, 0] S1x64x128.size inb_S1x64x256_S1x64x128_0_0_0,
          yOut bwdMasks (load0 arg9 harg9 arg10 harg10 arg11 harg11 arg12 harg12 arg13 harg13 arg14 harg14 arg15 harg15 x6 x7 x8 x9 x10 x11 x12) (View.readAt (Elt F) arg19.view (Rect.unit (s := S2x2x128x128) ![1, 0, 0, 0] S1x1x128x128.size inb_S2x2x128x128_S1x1x128x128_1_0_0_0).toLoadRect (harg19.unread xs0))⟩] := by exact rfl

set_option maxHeartbeats 0 in
theorem runS_B (hc0 : ¬cond0_0 i) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs0).2.2.1
      = ⟨(Rect.unit (s := S2x2x128x128) ![1, 1, 0, 0] S1x1x128x128.size inb_S2x2x128x128_S1x1x128x128_1_1_0_0),
          sOut bwdMasks (load1 arg9 harg9 arg10 harg10 arg11 harg11 arg12 harg12 arg13 harg13 arg14 harg14 arg15 harg15 x6 x7 x8 x9 x10 x11 x12) (View.readAt (Elt F) arg19.view (Rect.unit (s := S2x2x128x128) ![1, 1, 0, 0] S1x1x128x128.size inb_S2x2x128x128_S1x1x128x128_1_1_0_0).toLoadRect (harg19.unread xs0))⟩ ::
        ⟨(Rect.unit (s := S2x2x128x128) ![1, 0, 0, 0] S1x1x128x128.size inb_S2x2x128x128_S1x1x128x128_1_0_0_0),
          sOut bwdMasks (load0 arg9 harg9 arg10 harg10 arg11 harg11 arg12 harg12 arg13 harg13 arg14 harg14 arg15 harg15 x6 x7 x8 x9 x10 x11 x12) (View.readAt (Elt F) arg19.view (Rect.unit (s := S2x2x128x128) ![1, 0, 0, 0] S1x1x128x128.size inb_S2x2x128x128_S1x1x128x128_1_0_0_0).toLoadRect (harg19.unread xs0))⟩ ::
        ⟨(Rect.unit (s := S2x2x128x128) ![0, 1, 0, 0] S1x1x128x128.size inb_S2x2x128x128_S1x1x128x128_0_1_0_0),
          sOut fwdMasks (load1 arg3 harg3 arg4 harg4 arg5 harg5 arg6 harg6 arg7 harg7 arg8 harg8 arg15 harg15 x0 x1 x2 x3 x4 x5 x12) (View.readAt (Elt F) arg19.view (Rect.unit (s := S2x2x128x128) ![0, 1, 0, 0] S1x1x128x128.size inb_S2x2x128x128_S1x1x128x128_0_1_0_0).toLoadRect (harg19.unread xs0))⟩ ::
        ⟨(Rect.unit (s := S2x2x128x128) ![0, 0, 0, 0] S1x1x128x128.size inb_S2x2x128x128_S1x1x128x128_0_0_0_0),
          sOut fwdMasks (load0 arg3 harg3 arg4 harg4 arg5 harg5 arg6 harg6 arg7 harg7 arg8 harg8 arg15 harg15 x0 x1 x2 x3 x4 x5 x12) (View.readAt (Elt F) arg19.view (Rect.unit (s := S2x2x128x128) ![0, 0, 0, 0] S1x1x128x128.size inb_S2x2x128x128_S1x1x128x128_0_0_0_0).toLoadRect (harg19.unread xs0))⟩ ::
        [] := by exact rfl

end Scan
-- ==== Proof.Scan.Inverse.lean ====
/- The triangular inverse of one chunk, over the reals. The kernel builds `(1 - N)⁻¹ - 1` of a strictly
   triangular 128 x 128 matrix by doubling: first on the 16 x 16 diagonal blocks, then across the blocks. Both
   Neumann series end because the matrices are nilpotent. -/
module

public import Mathlib.Data.Matrix.Mul
public import Mathlib.Data.Real.Basic
public import Mathlib.Tactic.NoncommRing
public import Mathlib.Tactic.Ring
public import Mathlib.Algebra.BigOperators.Fin

@[expose] public section

noncomputable section

namespace Scan

abbrev Mat := Matrix (Fin 128) (Fin 128) ℝ

/-- The place of a row in the order the scan runs: upwards, or downwards for the reverse scan. -/
def ord (rev : Bool) (i : Fin 128) : ℕ := if rev then 127 - i.val else i.val

/-- A matrix whose entries vanish outside a relation. -/
def Supp (R : Fin 128 → Fin 128 → Prop) (M : Mat) : Prop := ∀ i j, M i j ≠ 0 → R i j

theorem Supp.add {R : Fin 128 → Fin 128 → Prop} {M N : Mat} (hM : Supp R M) (hN : Supp R N) : Supp R (M + N) := by
  intro i j h
  by_cases hm : M i j = 0
  · exact hN i j fun hn => h (by rw [Matrix.add_apply, hm, hn, add_zero])
  · exact hM i j hm

theorem Supp.mul {R S T : Fin 128 → Fin 128 → Prop} {M N : Mat} (hM : Supp R M) (hN : Supp S N)
    (h : ∀ i k j, R i k → S k j → T i j) : Supp T (M * N) := by
  intro i j hne
  rw [Matrix.mul_apply] at hne
  obtain ⟨k, -, hk⟩ := Finset.exists_ne_zero_of_sum_ne_zero hne
  exact h i k j (hM i k (left_ne_zero_of_mul hk)) (hN k j (right_ne_zero_of_mul hk))

/-- A matrix that strictly lowers a bounded rank is nilpotent. -/
theorem pow_eq_zero_of_rank (f : Fin 128 → ℕ) (k : ℕ) (hf : ∀ i, f i < k) (M : Mat)
    (hM : Supp (fun i j => f j < f i) M) : M ^ k = 0 := by
  have key : ∀ n, Supp (fun i j => f j + n ≤ f i) (M ^ n) := by
    intro n
    induction n with
    | zero =>
      intro i j h
      have : i = j := by
        by_contra hij
        exact h (by rw [pow_zero, Matrix.one_apply_ne hij])
      simp [this]
    | succ n ih =>
      rw [pow_succ]
      exact ih.mul hM fun i k j h1 h2 => by omega
  ext i j
  by_contra h
  have := key k i j h
  have := hf i
  omega

/-- The sum of the first fifteen powers, by doubling. -/
def doubled (nd : Mat) : Mat :=
  let p2 := nd * nd
  let t2 := nd + p2 + nd * p2
  let p4 := p2 * p2
  let t4 := t2 + p4 + t2 * p4
  let p8 := p4 * p4
  t4 + p8 + t4 * p8

theorem one_add_doubled (nd : Mat) (h : nd ^ 16 = 0) : (1 + doubled nd) * (1 - nd) = 1 := by
  have e : (1 + doubled nd) * (1 - nd) = 1 - nd ^ 16 := by
    unfold doubled
    noncomm_ring
  rw [e, h, sub_zero]

/-- The part of a matrix inside the 16 x 16 diagonal blocks. -/
def inBlock (N : Mat) : Mat := fun i j => if i.val / 16 = j.val / 16 then N i j else 0

/-- The part of a matrix outside the 16 x 16 diagonal blocks. -/
def offBlock (N : Mat) : Mat := fun i j => if i.val / 16 = j.val / 16 then 0 else N i j

theorem inBlock_add_offBlock (N : Mat) : inBlock N + offBlock N = N := by
  ext i j
  rw [Matrix.add_apply]
  unfold inBlock offBlock
  split_ifs <;> simp

def across (N : Mat) : Mat := offBlock N + doubled (inBlock N) * offBlock N

def powers (m : Mat) : Mat := m + m * m + m * (m * m)

/-- What the kernel adds to the identity to invert `1 - N`. -/
def solver (N : Mat) : Mat :=
  doubled (inBlock N) + powers (across N) + powers (across N) * doubled (inBlock N)

/-- Strictly below the diagonal in the order of the scan, and inside one head's 64 rows. -/
def Lower (rev : Bool) (N : Mat) : Prop := Supp (fun i j => ord rev j < ord rev i ∧ i.val / 64 = j.val / 64) N

theorem inBlock_nilpotent (rev : Bool) (N : Mat) (hN : Lower rev N) : inBlock N ^ 16 = 0 := by
  refine pow_eq_zero_of_rank (fun i => ord rev i % 16) 16 (fun i => Nat.mod_lt _ (by norm_num)) _ ?_
  intro i j h
  unfold inBlock at h
  split_ifs at h with hb
  · have := (hN i j h).1
    have hi := i.isLt
    have hj := j.isLt
    cases rev <;> simp [ord] at this ⊢ <;> omega
  · exact absurd rfl h

theorem doubled_supp (N : Mat) : Supp (fun i j => i.val / 16 = j.val / 16) (doubled (inBlock N)) := by
  have h1 : Supp (fun i j => i.val / 16 = j.val / 16) (inBlock N) := by
    intro i j h
    unfold inBlock at h
    by_contra hb
    exact h (if_neg hb)
  have hm : ∀ {A B : Mat}, Supp (fun i j => i.val / 16 = j.val / 16) A → Supp (fun i j => i.val / 16 = j.val / 16) B →
      Supp (fun i j => i.val / 16 = j.val / 16) (A * B) := fun ha hb => ha.mul hb fun i k j h h' => h.trans h'
  unfold doubled
  have p2 := hm h1 h1
  have t2 := (h1.add p2).add (hm h1 p2)
  have p4 := hm p2 p2
  have t4 := (t2.add p4).add (hm t2 p4)
  have p8 := hm p4 p4
  exact (t4.add p8).add (hm t4 p8)

theorem across_nilpotent (rev : Bool) (N : Mat) (hN : Lower rev N) : across N ^ 4 = 0 := by
  refine pow_eq_zero_of_rank (fun i => ord rev i % 64 / 16) 4
    (fun i => Nat.div_lt_of_lt_mul (Nat.mod_lt _ (by norm_num))) _ ?_
  have ho : Supp (fun i j => ord rev j % 64 / 16 < ord rev i % 64 / 16) (offBlock N) := by
    intro i j h
    unfold offBlock at h
    split_ifs at h with hb
    · exact absurd rfl h
    · have := hN i j h
      have hi := i.isLt
      have hj := j.isLt
      cases rev <;> simp [ord] at this ⊢ <;> omega
  unfold across
  refine ho.add ((doubled_supp N).mul ho ?_)
  intro i k j h h'
  have hi := i.isLt
  have hk := k.isLt
  cases rev <;> simp [ord] at h' ⊢ <;> omega

theorem solver_spec (rev : Bool) (N : Mat) (hN : Lower rev N) : (1 + solver N) * (1 - N) = 1 := by
  have h1 := one_add_doubled (inBlock N) (inBlock_nilpotent rev N hN)
  have h2 : (1 + powers (across N)) * (1 - across N) = 1 := by
    have e : (1 + powers (across N)) * (1 - across N) = 1 - across N ^ 4 := by
      unfold powers
      noncomm_ring
    rw [e, across_nilpotent rev N hN, sub_zero]
  have e1 : 1 + solver N = (1 + powers (across N)) * (1 + doubled (inBlock N)) := by
    unfold solver
    noncomm_ring
  have e2 : (1 + doubled (inBlock N)) * (1 - N) = 1 - across N := by
    have e3 : 1 - N = (1 - inBlock N) - offBlock N := by rw [sub_sub, inBlock_add_offBlock]
    rw [e3, mul_sub, h1]
    unfold across
    noncomm_ring
  rw [e1, mul_assoc, e2, h2]

end Scan

end
-- ==== Proof.Scan.Chunk.lean ====
/- One chunk of 64 positions over the reals: what the kernel computes from a chunk's inputs and the state before
   it is what 64 steps of the recurrence give. Two heads share the 128 lanes; the state of the pair is
   block diagonal. -/
module

public import proofs.«01_k».proof.Proof.Scan.Inverse
public import Mathlib.Analysis.SpecialFunctions.Exp
public import Mathlib.Tactic.LinearCombination

@[expose] public section

noncomputable section

namespace Scan

/-- A chunk of an input: 64 positions of 128 lanes. -/
abbrev Tile := Fin 64 → Fin 128 → ℝ

/-- The place of a position in the order the scan runs. -/
def pos (rev : Bool) (t : Fin 64) : ℕ := if rev then 63 - t.val else t.val

theorem pos_lt (rev : Bool) (t : Fin 64) : pos rev t < 64 := by
  have := t.isLt
  cases rev <;> simp [pos] <;> omega

/-- The position at a place of that order. -/
def rowAt (rev : Bool) (τ : Fin 64) : Fin 64 := ⟨pos rev τ, pos_lt rev τ⟩

theorem pos_rowAt (rev : Bool) (τ : Fin 64) : pos rev (rowAt rev τ) = τ.val := by
  have := τ.isLt
  cases rev <;> simp [pos, rowAt] <;> omega

theorem pos_inj (rev : Bool) {s t : Fin 64} (h : pos rev s = pos rev t) : s = t := by
  have h1 := s.isLt
  have h2 := t.isLt
  apply Fin.ext
  cases rev <;> simp [pos] at h <;> omega

/-- The six inputs of a chunk (`w` the logarithm of the decay). -/
structure Ins where
  (r kd v lw kk ic : Tile)

def zOf (S : Mat) (q : Fin 128 → ℝ) (l : Fin 128) : ℝ := ∑ k, S l k * q k

/-- One step of the recurrence on a pair of heads. -/
def stepS (x : Ins) (t : Fin 64) (S : Mat) : Mat := fun l k =>
  if l.val / 64 = k.val / 64 then
    S l k * Real.exp (x.lw t k) + zOf S (fun k => -x.kk t k) l * (x.kk t k * x.ic t k) + x.v t l * x.kd t k
  else 0

/-- The state after the first `τ` steps of a chunk. -/
def seqS (rev : Bool) (x : Ins) (S0 : Mat) : ℕ → Mat
  | 0 => S0
  | τ + 1 => if h : τ < 64 then stepS x (rowAt rev ⟨τ, h⟩) (seqS rev x S0 τ) else seqS rev x S0 τ

theorem seqS_succ (rev : Bool) (x : Ins) (S0 : Mat) (τ : ℕ) (h : τ < 64) :
    seqS rev x S0 (τ + 1) = stepS x (rowAt rev ⟨τ, h⟩) (seqS rev x S0 τ) := by
  rw [seqS, dif_pos h]

def BlockDiag (S : Mat) : Prop := ∀ l k : Fin 128, l.val / 64 ≠ k.val / 64 → S l k = 0

theorem seqS_blockDiag (rev : Bool) (x : Ins) (S0 : Mat) (h0 : BlockDiag S0) : ∀ τ, BlockDiag (seqS rev x S0 τ)
  | 0 => h0
  | τ + 1 => by
    intro l k hlk
    rw [seqS]
    split_ifs
    · unfold stepS
      rw [if_neg hlk]
    · exact seqS_blockDiag rev x S0 h0 τ l k hlk

/-- A sum over the first places of the order grows by the position at the next. -/
theorem sum_step (rev : Bool) (τ : ℕ) (h : τ < 64) (f : Fin 64 → ℝ) :
    (∑ s, if pos rev s < τ + 1 then f s else 0) = (∑ s, if pos rev s < τ then f s else 0) + f (rowAt rev ⟨τ, h⟩) := by
  have e : ∀ s, (if pos rev s < τ + 1 then f s else 0)
      = (if pos rev s < τ then f s else 0) + (if s = rowAt rev ⟨τ, h⟩ then f s else 0) := by
    intro s
    by_cases hs : s = rowAt rev ⟨τ, h⟩
    · have hp : pos rev s = τ := by rw [hs, pos_rowAt]
      rw [if_pos hs, if_pos (by omega), if_neg (by omega), zero_add]
    · have hp : pos rev s ≠ τ := fun hp => hs (pos_inj rev (by rw [pos_rowAt]; exact hp))
      rw [if_neg hs, add_zero]
      by_cases hl : pos rev s < τ
      · rw [if_pos hl, if_pos (by omega)]
      · rw [if_neg hl, if_neg (by omega)]
  rw [Finset.sum_congr rfl fun s _ => e s, Finset.sum_add_distrib, Finset.sum_ite_eq' Finset.univ, if_pos (Finset.mem_univ _)]

/-- The decay accumulated before a place of the order, as a logarithm. -/
def logP (rev : Bool) (lw : Tile) (τ : ℕ) (k : Fin 128) : ℝ := ∑ s, if pos rev s < τ then lw s k else 0

/-- The kernel's cumulative sum. -/
def cum (rev : Bool) (lw : Tile) : Tile := fun t k => logP rev lw (pos rev t + 1) k

/-- What one position's state contributes to its own row. -/
def zAt (rev : Bool) (x : Ins) (S0 : Mat) (s : Fin 64) (l : Fin 128) : ℝ :=
  zOf (seqS rev x S0 (pos rev s)) (fun k => -x.kk s k) l

theorem closed (rev : Bool) (x : Ins) (S0 : Mat) (τ : ℕ) (hτ : τ ≤ 64) (l k : Fin 128) (hlk : l.val / 64 = k.val / 64) :
    seqS rev x S0 τ l k = Real.exp (logP rev x.lw τ k) * (S0 l k + ∑ s, if pos rev s < τ then
      (zAt rev x S0 s l * (x.kk s k * x.ic s k) + x.v s l * x.kd s k) * Real.exp (-cum rev x.lw s k) else 0) := by
  induction τ with
  | zero => simp [seqS, logP]
  | succ τ ih =>
    have h : τ < 64 := by omega
    rw [seqS_succ rev x S0 τ h, sum_step rev τ h]
    have hl : logP rev x.lw (τ + 1) k = logP rev x.lw τ k + x.lw (rowAt rev ⟨τ, h⟩) k := sum_step rev τ h _
    have hc : cum rev x.lw (rowAt rev ⟨τ, h⟩) k = logP rev x.lw τ k + x.lw (rowAt rev ⟨τ, h⟩) k := by
      unfold cum
      rw [pos_rowAt, hl]
    have hz : zAt rev x S0 (rowAt rev ⟨τ, h⟩) l
        = zOf (seqS rev x S0 τ) (fun k => -x.kk (rowAt rev ⟨τ, h⟩) k) l := by
      unfold zAt
      rw [pos_rowAt]
    unfold stepS
    rw [if_pos hlk, ih (by omega), hc, hl, hz, Real.exp_add, Real.exp_neg, Real.exp_add]
    have e1 := Real.exp_ne_zero (logP rev x.lw τ k)
    have e2 := Real.exp_ne_zero (x.lw (rowAt rev ⟨τ, h⟩) k)
    rw [mul_inv]
    generalize (∑ s, if pos rev s < τ then (zAt rev x S0 s l * (x.kk s k * x.ic s k) + x.v s l * x.kd s k) *
      Real.exp (-cum rev x.lw s k) else 0) = A
    field_simp
    ring

/-! ## The kernel's arrangement -/

/-- Row `64 h + t` holds the lanes of head `h` at position `t`, the others zero. -/
def rowOf (i : Fin 128) : Fin 64 := ⟨i.val % 64, Nat.mod_lt _ (by norm_num)⟩

def ms (x : Tile) : Mat := fun i l => if i.val / 64 = l.val / 64 then x (rowOf i) l else 0

def gram (A B : Mat) : Mat := fun i j => ∑ k, A i k * B j k

/-- A Gram matrix cut to the earlier rows (`c = 0`), or to the earlier rows and the row itself (`c = 1`). -/
def trig (rev : Bool) (c : ℕ) (A B : Mat) : Mat := fun i j => if ord rev j < ord rev i + c then gram A B i j else 0

def bOf (x : Ins) : Tile := fun t k => x.kk t k * x.ic t k
def rtOf (rev : Bool) (x : Ins) : Tile := fun t k => x.r t k * Real.exp (cum rev x.lw t k)
def atOf (rev : Bool) (x : Ins) : Tile := fun t k => -(x.kk t k * Real.exp (cum rev x.lw t k - x.lw t k))
def btOf (rev : Bool) (x : Ins) : Tile := fun t k => bOf x t k * Real.exp (-cum rev x.lw t k)
def ktOf (rev : Bool) (x : Ins) : Tile := fun t k => x.kd t k * Real.exp (-cum rev x.lw t k)
def pcOf (rev : Bool) (x : Ins) : Fin 128 → ℝ := cum rev x.lw (rowAt rev 63)
def bpOf (rev : Bool) (x : Ins) : Tile := fun t k => bOf x t k * Real.exp (pcOf rev x k - cum rev x.lw t k)
def kpOf (rev : Bool) (x : Ins) : Tile := fun t k => x.kd t k * Real.exp (pcOf rev x k - cum rev x.lw t k)

def nOf (rev : Bool) (x : Ins) : Mat := trig rev 0 (ms (atOf rev x)) (ms (btOf rev x))
def rhsOf (rev : Bool) (x : Ins) (S : Mat) : Mat :=
  gram (ms (atOf rev x)) S + trig rev 0 (ms (atOf rev x)) (ms (ktOf rev x)) * ms x.v
def zzOf (rev : Bool) (x : Ins) (S : Mat) : Mat := rhsOf rev x S + solver (nOf rev x) * rhsOf rev x S
def ymsOf (rev : Bool) (x : Ins) (S : Mat) : Mat :=
  gram (ms (rtOf rev x)) S + trig rev 1 (ms (rtOf rev x)) (ms (btOf rev x)) * zzOf rev x S
    + trig rev 1 (ms (rtOf rev x)) (ms (ktOf rev x)) * ms x.v
def top (t : Fin 64) : Fin 128 := ⟨t.val, by omega⟩
def bot (t : Fin 64) : Fin 128 := ⟨64 + t.val, by omega⟩
def yOf (rev : Bool) (x : Ins) (S : Mat) : Tile := fun t l => ymsOf rev x S (top t) l + ymsOf rev x S (bot t) l
def newOf (rev : Bool) (x : Ins) (S : Mat) : Mat := fun l k =>
  S l k * Real.exp (pcOf rev x k)
    + ((∑ i, zzOf rev x S i l * ms (bpOf rev x) i k) + ∑ i, ms x.v i l * ms (kpOf rev x) i k)

/-! ## The two agree -/

theorem sum_two (f : Fin 128 → ℝ) : ∑ i, f i = ∑ t, f (top t) + ∑ t, f (bot t) := by
  rw [show (∑ i, f i) = ∑ i : Fin (64 + 64), f i from rfl, Fin.sum_univ_add]
  rfl

theorem rowOf_top (t : Fin 64) : rowOf (top t) = t := Fin.ext (by simp [rowOf, top])
theorem rowOf_bot (t : Fin 64) : rowOf (bot t) = t := Fin.ext (by simp [rowOf, bot])
theorem head_top (t : Fin 64) : (top t).val / 64 = 0 := by simp only [top]; omega
theorem head_bot (t : Fin 64) : (bot t).val / 64 = 1 := by simp only [bot]; omega

/-- A sum over the rows whose summand lives in one head. -/
theorem sum_head (h : ℕ) (hh : h < 2) (f : Fin 128 → ℝ) (g : Fin 64 → ℝ) (h1 : ∀ i : Fin 128, i.val / 64 = h → f i = g (rowOf i))
    (h0 : ∀ i : Fin 128, i.val / 64 ≠ h → f i = 0) : ∑ i, f i = ∑ t, g t := by
  rw [sum_two]
  obtain rfl | rfl : h = 0 ∨ h = 1 := by omega
  · rw [Finset.sum_congr rfl fun t _ => h1 (top t) (head_top t), Finset.sum_congr rfl fun t _ => h0 (bot t) (by rw [head_bot]; omega)]
    simp [rowOf_top]
  · rw [Finset.sum_congr rfl fun t _ => h1 (bot t) (head_bot t), Finset.sum_congr rfl fun t _ => h0 (top t) (by rw [head_top]; omega)]
    simp [rowOf_bot]

theorem ord_lt_iff (rev : Bool) (c : ℕ) (i j : Fin 128) (h : i.val / 64 = j.val / 64) :
    ord rev j < ord rev i + c ↔ pos rev (rowOf j) < pos rev (rowOf i) + c := by
  have hi := i.isLt
  have hj := j.isLt
  cases rev <;> simp [ord, pos, rowOf] <;> omega

/-- The inner product of a row with another inside the head of lane `l`. -/
def dotIn (l : Fin 128) (p q : Fin 128 → ℝ) : ℝ := ∑ k : Fin 128, if l.val / 64 = k.val / 64 then p k * q k else 0

theorem gram_ms (a b : Tile) (i j : Fin 128) :
    gram (ms a) (ms b) i j = if i.val / 64 = j.val / 64 then dotIn i (a (rowOf i)) (b (rowOf j)) else 0 := by
  unfold gram ms dotIn
  split_ifs with h
  · refine Finset.sum_congr rfl fun k _ => ?_
    rw [← h]
    split_ifs <;> simp
  · refine Finset.sum_eq_zero fun k _ => ?_
    split_ifs with h1 h2
    · exact absurd (h1.trans h2.symm) h
    all_goals simp

theorem dotIn_head {l i : Fin 128} (h : l.val / 64 = i.val / 64) (p q : Fin 128 → ℝ) : dotIn l p q = dotIn i p q := by
  unfold dotIn
  rw [h]

theorem gram_state (a : Tile) (S : Mat) (hS : BlockDiag S) (i l : Fin 128) :
    gram (ms a) S i l = if i.val / 64 = l.val / 64 then dotIn l (a (rowOf i)) (S l) else 0 := by
  unfold gram ms dotIn
  split_ifs with h
  · refine Finset.sum_congr rfl fun k _ => ?_
    rw [← h]
    split_ifs <;> simp
  · refine Finset.sum_eq_zero fun k _ => ?_
    split_ifs with h1
    · rw [hS l k (fun h2 => h (h1.trans h2.symm)), mul_zero]
    · simp

/-- A matrix in the kernel's arrangement, from its rows. -/
theorem trig_mul (rev : Bool) (c : ℕ) (a b X : Tile) (i l : Fin 128) :
    (trig rev c (ms a) (ms b) * ms X) i l = if i.val / 64 = l.val / 64 then
      ∑ s, if pos rev s < pos rev (rowOf i) + c then X s l * dotIn l (a (rowOf i)) (b s) else 0 else 0 := by
  rw [Matrix.mul_apply]
  have hl : l.val / 64 < 2 := by omega
  split_ifs with h
  · refine sum_head (l.val / 64) hl _ _ (fun j hj => ?_) fun j hj => ?_
    · unfold trig
      rw [gram_ms, if_pos (h.trans hj.symm)]
      unfold ms
      rw [if_pos hj]
      by_cases ho : ord rev j < ord rev i + c
      · rw [if_pos ho, if_pos ((ord_lt_iff rev c i j (h.trans hj.symm)).1 ho), mul_comm, dotIn_head h]
      · rw [if_neg ho, if_neg (fun hp => ho ((ord_lt_iff rev c i j (h.trans hj.symm)).2 hp)), zero_mul]
    · unfold ms
      rw [if_neg hj, mul_zero]
  · refine Finset.sum_eq_zero fun j _ => ?_
    by_cases hj : j.val / 64 = l.val / 64
    · unfold trig
      rw [gram_ms, if_neg (show ¬ i.val / 64 = j.val / 64 from fun hij => h (hij.trans hj))]
      simp
    · rw [show ms X j l = 0 from if_neg hj, mul_zero]

/-- A reading of the state at a place of the order, in the kernel's terms. -/
theorem read (rev : Bool) (x : Ins) (S0 : Mat) (hS : BlockDiag S0) (τ : ℕ) (hτ : τ ≤ 64) (p q : Fin 128 → ℝ) (l : Fin 128)
    (hp : ∀ k, p k = q k * Real.exp (logP rev x.lw τ k)) :
    zOf (seqS rev x S0 τ) q l = dotIn l p (S0 l)
      + (∑ s, if pos rev s < τ then zAt rev x S0 s l * dotIn l p (btOf rev x s) else 0)
      + ∑ s, if pos rev s < τ then x.v s l * dotIn l p (ktOf rev x s) else 0 := by
  have e : ∀ k, seqS rev x S0 τ l k * q k = (if l.val / 64 = k.val / 64 then p k * S0 l k else 0)
      + (∑ s, if pos rev s < τ then zAt rev x S0 s l * (if l.val / 64 = k.val / 64 then p k * btOf rev x s k else 0) else 0)
      + ∑ s, if pos rev s < τ then x.v s l * (if l.val / 64 = k.val / 64 then p k * ktOf rev x s k else 0) else 0 := by
    intro k
    by_cases h : l.val / 64 = k.val / 64
    · rw [closed rev x S0 τ hτ l k h]
      simp only [if_pos h]
      rw [add_assoc, ← Finset.sum_add_distrib, mul_comm, mul_add, mul_add, Finset.mul_sum, Finset.mul_sum]
      congr 1
      · rw [hp]; ring
      · refine Finset.sum_congr rfl fun s _ => ?_
        split_ifs
        · rw [hp]; unfold btOf ktOf bOf; ring
        · simp
    · rw [seqS_blockDiag rev x S0 hS τ l k h]
      simp [if_neg h]
  unfold zOf
  rw [Finset.sum_congr rfl fun k _ => e k, Finset.sum_add_distrib, Finset.sum_add_distrib]
  congr 1
  · congr 1
    rw [Finset.sum_comm]
    refine Finset.sum_congr rfl fun s _ => ?_
    split_ifs
    · unfold dotIn
      rw [Finset.mul_sum]
    · simp
  · rw [Finset.sum_comm]
    refine Finset.sum_congr rfl fun s _ => ?_
    split_ifs
    · unfold dotIn
      rw [Finset.mul_sum]
    · simp

theorem cum_sub (rev : Bool) (lw : Tile) (t : Fin 64) (k : Fin 128) : cum rev lw t k - lw t k = logP rev lw (pos rev t) k := by
  have h := sum_step rev (pos rev t) (pos_lt rev t) fun s => lw s k
  have e : rowAt rev ⟨pos rev t, pos_lt rev t⟩ = t := pos_inj rev (by rw [pos_rowAt])
  rw [e] at h
  unfold cum logP
  rw [h]
  ring

theorem zz_eq (rev : Bool) (x : Ins) (S : Mat) (hS : BlockDiag S) : zzOf rev x S = ms (zAt rev x S) := by
  have hN : Lower rev (nOf rev x) := by
    intro i j h
    unfold nOf trig at h
    split_ifs at h with ho
    · refine ⟨ho, ?_⟩
      rw [gram_ms] at h
      by_contra hb
      exact h (if_neg hb)
    · exact absurd rfl h
  have hr : rhsOf rev x S = (1 - nOf rev x) * ms (zAt rev x S) := by
    have : ms (zAt rev x S) = rhsOf rev x S + nOf rev x * ms (zAt rev x S) := by
      ext i l
      unfold rhsOf nOf
      rw [Matrix.add_apply, Matrix.add_apply, gram_state _ _ hS, trig_mul, trig_mul]
      by_cases h : i.val / 64 = l.val / 64
      · simp only [if_pos h]
        rw [show ms (zAt rev x S) i l = zAt rev x S (rowOf i) l from if_pos h]
        conv_lhs => unfold zAt
        rw [read rev x S hS (pos rev (rowOf i)) (pos_lt rev _).le (atOf rev x (rowOf i)) _ l fun k => by
          unfold atOf
          rw [cum_sub]
          ring]
        simp only [add_zero]
        ring
      · simp only [if_neg h]
        rw [show ms (zAt rev x S) i l = 0 from if_neg h]
        simp
    rw [sub_mul, one_mul]
    exact eq_sub_of_add_eq this.symm
  unfold zzOf
  have e : rhsOf rev x S + solver (nOf rev x) * rhsOf rev x S = (1 + solver (nOf rev x)) * rhsOf rev x S := by
    rw [add_mul, one_mul]
  rw [e, hr, ← mul_assoc, solver_spec rev _ hN, one_mul]

theorem yms_eq (rev : Bool) (x : Ins) (S : Mat) (hS : BlockDiag S) (i l : Fin 128) :
    ymsOf rev x S i l = if i.val / 64 = l.val / 64 then zOf (seqS rev x S (pos rev (rowOf i) + 1)) (x.r (rowOf i)) l else 0 := by
  unfold ymsOf
  rw [zz_eq rev x S hS, Matrix.add_apply, Matrix.add_apply, gram_state _ _ hS, trig_mul, trig_mul]
  by_cases h : i.val / 64 = l.val / 64
  · simp only [if_pos h]
    rw [read rev x S hS _ (by have := pos_lt rev (rowOf i); omega) (rtOf rev x (rowOf i)) _ l fun k => rfl]
  · simp only [if_neg h]
    simp

/-- The chunk's outputs are the recurrence's. -/
theorem y_eq (rev : Bool) (x : Ins) (S : Mat) (hS : BlockDiag S) (t : Fin 64) (l : Fin 128) :
    yOf rev x S t l = zOf (seqS rev x S (pos rev t + 1)) (x.r t) l := by
  unfold yOf
  rw [yms_eq rev x S hS, yms_eq rev x S hS, rowOf_top, rowOf_bot, head_top, head_bot]
  have hl : l.val / 64 < 2 := by omega
  by_cases h : l.val / 64 = 0
  · rw [if_pos h.symm, if_neg (by omega), add_zero]
  · rw [if_neg (by omega), if_pos (by omega), zero_add]

/-- The chunk's final state is the recurrence's. -/
theorem new_eq (rev : Bool) (x : Ins) (S : Mat) (hS : BlockDiag S) : newOf rev x S = seqS rev x S 64 := by
  ext l k
  have hl : l.val / 64 < 2 := by omega
  have hp : pcOf rev x k = logP rev x.lw 64 k := by
    unfold pcOf cum
    rw [pos_rowAt]
    rfl
  unfold newOf
  rw [zz_eq rev x S hS]
  by_cases h : l.val / 64 = k.val / 64
  · rw [closed rev x S 64 le_rfl l k h]
    rw [sum_head (l.val / 64) hl (fun i => ms (zAt rev x S) i l * ms (bpOf rev x) i k) (fun s => zAt rev x S s l * bpOf rev x s k)
      (fun i hi => by unfold ms; rw [if_pos hi, if_pos (hi.trans h)]) (fun i hi => by unfold ms; rw [if_neg hi, zero_mul])]
    rw [sum_head (l.val / 64) hl (fun i => ms x.v i l * ms (kpOf rev x) i k) (fun s => x.v s l * kpOf rev x s k)
      (fun i hi => by unfold ms; rw [if_pos hi, if_pos (hi.trans h)]) (fun i hi => by unfold ms; rw [if_neg hi, zero_mul])]
    rw [← Finset.sum_add_distrib, hp, mul_add, Finset.mul_sum, mul_comm (S l k)]
    congr 1
    refine Finset.sum_congr rfl fun s _ => ?_
    rw [if_pos (pos_lt rev s)]
    unfold bpOf kpOf bOf
    rw [hp, sub_eq_add_neg, Real.exp_add]
    ring
  · rw [hS l k h, seqS_blockDiag rev x S hS 64 l k h, zero_mul, zero_add]
    have z1 : ∀ (a b : Tile), (∑ i, ms a i l * ms b i k) = 0 := fun a b => Finset.sum_eq_zero fun i _ => by
      unfold ms
      split_ifs with h1 h2
      · exact absurd (h1.symm.trans h2) h
      all_goals simp
    rw [z1, z1, add_zero]

end Scan

end
-- ==== Proof.Scan.Lift.lean ====
/- The kernel's vector operations on vectors of finite numbers are the real operations. -/
module

public import proofs.«01_k».proof.Proof.Scan.Generic
public import proofs.«01_k».proof.Proof.Scan.Chunk
public import Idealize.ShloMosaic.Lib.Pointwise
public import Idealize.ShloMosaic.Lib.MatmulPlain

@[expose] public section

noncomputable section

namespace Scan

open Idealize.ShloMosaic Idealize.ShloMosaic.TcCoe Cert.KernelIdeal Cert.KernelIdeal.Gen

/-- A real matrix as a vector of extended reals. -/
def up {n m : ℕ} {φ : FTy} (A : Fin n → Fin m → ℝ) : FVec Ideal ⟨2, ![n, m]⟩ φ :=
  fun i => ((A (i 0) (i 1) : ℝ) : EReal)

theorem up_ix2 {n m : ℕ} {φ : FTy} (A : Fin n → Fin m → ℝ) (r : Fin n) (l : Fin m) :
    (up A : FVec Ideal ⟨2, ![n, m]⟩ φ) (ix2 r l) = ((A r l : ℝ) : EReal) := rfl

/-- Two vectors agree if they agree at every row and lane. -/
theorem ext2 {n m : ℕ} {α : Type} {x y : (⟨2, ![n, m]⟩ : Shape).Idx → α} (h : ∀ r l, x (ix2 r l) = y (ix2 r l)) : x = y := by
  funext i
  rw [eq_ix2 i]
  exact h _ _

theorem eq_up {n m : ℕ} {φ : FTy} {x : FVec Ideal ⟨2, ![n, m]⟩ φ} {A : Fin n → Fin m → ℝ}
    (h : ∀ r l, x (ix2 r l) = ((A r l : ℝ) : EReal)) : x = up A := ext2 h

section
variable {n m : ℕ} {φ : FTy} (A B : Fin n → Fin m → ℝ)

theorem addf_up : addf (up A : FVec Ideal ⟨2, ![n, m]⟩ φ) (up B) = up (fun r l => A r l + B r l) :=
  funext fun _ => (EReal.coe_add _ _).symm
theorem subf_up : subf (up A : FVec Ideal ⟨2, ![n, m]⟩ φ) (up B) = up (fun r l => A r l - B r l) :=
  funext fun _ => (EReal.coe_sub _ _).symm
theorem mulf_up : mulf (up A : FVec Ideal ⟨2, ![n, m]⟩ φ) (up B) = up (fun r l => A r l * B r l) :=
  funext fun _ => (EReal.coe_mul _ _).symm
theorem exp_up : exp (up A : FVec Ideal ⟨2, ![n, m]⟩ φ) = up (fun r l => Real.exp (A r l)) :=
  funext fun _ => rfl
theorem truncf_up (ψ : FTy) (h : ψ.bits < φ.bits) : truncf ψ (up A : FVec Ideal ⟨2, ![n, m]⟩ φ) h = up A := rfl
theorem extf_up (ψ : FTy) (h : φ.bits < ψ.bits) : extf ψ (up A : FVec Ideal ⟨2, ![n, m]⟩ φ) h = up A := rfl

theorem select_up (c : IVec ⟨2, ![n, m]⟩ 1) (p : Fin n → Fin m → Prop) [∀ r l, Decidable (p r l)]
    (hc : ∀ r l, c (ix2 r l) = if p r l then 1#1 else 0#1) :
    select c (up A : FVec Ideal ⟨2, ![n, m]⟩ φ) (up B) = up (fun r l => if p r l then A r l else B r l) := by
  refine eq_up fun r l => ?_
  show Scalar.select (c (ix2 r l)) _ _ = _
  rw [hc r l]
  by_cases h : p r l <;> simp [h, Scalar.select, up_ix2]
end

theorem zero_up {n m : ℕ} : (broadcast ⟨2, ![n, m]⟩ (Scalar.ofBits .f32 0x00000000#32) : FVec Ideal ⟨2, ![n, m]⟩ .f32) = up (fun _ _ => 0) :=
  funext fun _ => Ideal.ofBits_zero_f32
theorem one_up {n m : ℕ} : (broadcast ⟨2, ![n, m]⟩ (Scalar.ofBits .f32 0x3F800000#32) : FVec Ideal ⟨2, ![n, m]⟩ .f32) = up (fun _ _ => 1) :=
  funext fun _ => Ideal.ofBits_one_f32
theorem const_up {n m : ℕ} : (constant ⟨2, ![n, m]⟩ .f32 0x00000000#32 : FVec Ideal ⟨2, ![n, m]⟩ .f32) = up (fun _ _ => 0) :=
  funext fun _ => Ideal.ofBits_zero_f32

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem plain_up {M K N : ℕ} {φ₁ φ₂ : FTy} (p : Option ContractPrecision) (A : Fin M → Fin K → ℝ) (B : Fin K → Fin N → ℝ) :
    FloatOps.matmul (DotDims.plain M K N) p (up A : FVec Ideal ⟨2, ![M, K]⟩ φ₁) (up B : FVec Ideal ⟨2, ![K, N]⟩ φ₂)
      (constant ⟨2, ![M, N]⟩ .f32 0x00000000#32) = up (fun r l => ∑ k, A r k * B k l) := by
  refine eq_up fun r l => ?_
  rw [ix2_eq_valueIdx, Ideal.matmul_plain_apply, const_up, coe_sum]
  simp only [← ix2_eq_valueIdx, up_ix2, EReal.coe_zero, zero_add, EReal.coe_mul]

theorem transposed_up {M K N : ℕ} {φ₁ φ₂ : FTy} (p : Option ContractPrecision) (A : Fin M → Fin K → ℝ) (B : Fin N → Fin K → ℝ) :
    FloatOps.matmul (DotDims.transposedRhs M K N) p (up A : FVec Ideal ⟨2, ![M, K]⟩ φ₁) (up B : FVec Ideal ⟨2, ![N, K]⟩ φ₂)
      (constant ⟨2, ![M, N]⟩ .f32 0x00000000#32) = up (fun r l => ∑ k, A r k * B l k) := by
  refine eq_up fun r l => ?_
  rw [ix2_eq_valueIdx, Ideal.matmul_transposedRhs_apply, const_up, coe_sum]
  simp only [← ix2_eq_valueIdx, up_ix2, EReal.coe_zero, zero_add, EReal.coe_mul]

/-! ## The masks -/

theorem toInt_small (a : ℕ) (h : a < 128) : (BitVec.ofNat 32 a).toInt = (a : ℤ) := by
  rw [BitVec.toInt_eq_toNat_cond, BitVec.toNat_ofNat]
  omega

theorem slt_small (a b : ℕ) (ha : a < 128) (hb : b < 128) :
    IntOp.cmpi .slt (BitVec.ofNat 32 a) (BitVec.ofNat 32 b) = if a < b then 1#1 else 0#1 := by
  show BitVec.ofBool ((BitVec.ofNat 32 a).slt (BitVec.ofNat 32 b)) = _
  rw [BitVec.slt_eq_decide, toInt_small a ha, toInt_small b hb]
  by_cases h : a < b <;> simp [h]

theorem sle_small (a b : ℕ) (ha : a < 128) (hb : b < 128) :
    IntOp.cmpi .sle (BitVec.ofNat 32 a) (BitVec.ofNat 32 b) = if a ≤ b then 1#1 else 0#1 := by
  show BitVec.ofBool ((BitVec.ofNat 32 a).sle (BitVec.ofNat 32 b)) = _
  rw [BitVec.sle_eq_decide, toInt_small a ha, toInt_small b hb]
  by_cases h : a ≤ b <;> simp [h]

theorem row_at {n m : ℕ} (h : (⟨2, ![n, m]⟩ : Shape).Iotas .tc 32 [0]) (r : Fin n) (l : Fin m) :
    iota .tc ⟨2, ![n, m]⟩ 32 [0] h (ix2 r l) = BitVec.ofNat 32 r.val := by
  show BitVec.ofNat 32 (0 * _ + r.val) = _
  rw [Nat.zero_mul, Nat.zero_add]
theorem col_at {n m : ℕ} (h : (⟨2, ![n, m]⟩ : Shape).Iotas .tc 32 [1]) (r : Fin n) (l : Fin m) :
    iota .tc ⟨2, ![n, m]⟩ 32 [1] h (ix2 r l) = BitVec.ofNat 32 l.val := by
  show BitVec.ofNat 32 (0 * _ + l.val) = _
  rw [Nat.zero_mul, Nat.zero_add]

theorem lane_at (r : Fin 64) (l : Fin 128) : laneF (ix2 r l) = if l.val < 64 then 1#1 else 0#1 := by
  show IntOp.cmpi .slt (iota .tc S64x128 32 [1] iota_S64x128_d1_w32 (ix2 r l)) (BitVec.ofNat 32 64) = _
  rw [col_at, slt_small _ _ l.isLt (by norm_num)]

/-- The masks of a direction. -/
def masks (rev : Bool) : Masks := if rev then bwdMasks else fwdMasks

theorem tri_at (rev : Bool) (r l : Fin 64) :
    (masks rev).tri (ix2 r l) = if pos rev l < pos rev r + 1 then 1#1 else 0#1 := by
  have hr := r.isLt
  have hl := l.isLt
  cases rev
  · show IntOp.cmpi .sle (iota .tc S64x64 32 [1] iota_S64x64_d1_w32 (ix2 r l)) (iota .tc S64x64 32 [0] iota_S64x64_d0_w32 (ix2 r l)) = _
    rw [col_at, row_at, sle_small _ _ (by omega) (by omega)]
    exact if_congr (by simp only [pos, Bool.false_eq_true, if_false]; omega) rfl rfl
  · show IntOp.cmpi .sle (iota .tc S64x64 32 [0] iota_S64x64_d0_w32 (ix2 r l)) (iota .tc S64x64 32 [1] iota_S64x64_d1_w32 (ix2 r l)) = _
    rw [col_at, row_at, sle_small _ _ (by omega) (by omega)]
    exact if_congr (by simp only [pos, if_true]; omega) rfl rfl

theorem strict_at (rev : Bool) (r l : Fin 128) :
    (masks rev).strict (ix2 r l) = if ord rev l < ord rev r + 0 then 1#1 else 0#1 := by
  have hr := r.isLt
  have hl := l.isLt
  cases rev
  · show IntOp.cmpi .slt (iota .tc S128x128 32 [1] iota_S128x128_d1_w32 (ix2 r l)) (iota .tc S128x128 32 [0] iota_S128x128_d0_w32 (ix2 r l)) = _
    rw [col_at, row_at, slt_small _ _ hl hr]
    exact if_congr (by simp only [ord, Bool.false_eq_true, if_false]; omega) rfl rfl
  · show IntOp.cmpi .slt (iota .tc S128x128 32 [0] iota_S128x128_d0_w32 (ix2 r l)) (iota .tc S128x128 32 [1] iota_S128x128_d1_w32 (ix2 r l)) = _
    rw [col_at, row_at, slt_small _ _ hr hl]
    exact if_congr (by simp only [ord, if_true]; omega) rfl rfl

theorem incl_at (rev : Bool) (r l : Fin 128) :
    (masks rev).incl (ix2 r l) = if ord rev l < ord rev r + 1 then 1#1 else 0#1 := by
  have hr := r.isLt
  have hl := l.isLt
  cases rev
  · show IntOp.cmpi .sle (iota .tc S128x128 32 [1] iota_S128x128_d1_w32 (ix2 r l)) (iota .tc S128x128 32 [0] iota_S128x128_d0_w32 (ix2 r l)) = _
    rw [col_at, row_at, sle_small _ _ hl hr]
    exact if_congr (by simp only [ord, Bool.false_eq_true, if_false]; omega) rfl rfl
  · show IntOp.cmpi .sle (iota .tc S128x128 32 [0] iota_S128x128_d0_w32 (ix2 r l)) (iota .tc S128x128 32 [1] iota_S128x128_d1_w32 (ix2 r l)) = _
    rw [col_at, row_at, sle_small _ _ hr hl]
    exact if_congr (by simp only [ord, if_true]; omega) rfl rfl

theorem floor_row (r l : Fin 128) :
    select k0_pay30 (subi k0_pay29 k0_pay31) k0_pay29 (ix2 r l) = BitVec.ofNat 32 (r.val / 16) := by
  have h : ∀ r : Fin 128, select k0_pay30 (subi k0_pay29 k0_pay31) k0_pay29 (ix2 r 0) = BitVec.ofNat 32 (r.val / 16) := by
    decide
  exact h r

theorem same_at (r l : Fin 128) : sameF (ix2 r l) = if r.val / 16 = l.val / 16 then 1#1 else 0#1 := by
  have h : ∀ (l : Fin 128) (q : Fin 8), k0_pay32 (iota .tc S128x128 32 [1] iota_S128x128_d1_w32) (fun _ => BitVec.ofNat 32 q.val)
      (fun _ => 0#1) k0_pay31 (ix2 0 l) = if q.val = l.val / 16 then 1#1 else 0#1 := by
    decide
  have e : sameF (ix2 r l) = k0_pay32 (iota .tc S128x128 32 [1] iota_S128x128_d1_w32)
      (fun _ => select k0_pay30 (subi k0_pay29 k0_pay31) k0_pay29 (ix2 r l)) (fun _ => 0#1) k0_pay31 (ix2 0 l) := rfl
  rw [e, floor_row]
  exact h l ⟨r.val / 16, by omega⟩

end Scan
-- ==== Proof.Scan.LiftChunk.lean ====
/- The chunk's vector program on finite inputs is the real chunk of Chunk.lean. -/
module

public import proofs.«01_k».proof.Proof.Scan.Lift

@[expose] public section

noncomputable section

namespace Scan

open Idealize.ShloMosaic Idealize.ShloMosaic.TcCoe Cert.KernelIdeal Cert.KernelIdeal.Gen

theorem concat_up {n1 n2 n m : ℕ} {φ : FTy} (A : Fin n1 → Fin m → ℝ) (B : Fin n2 → Fin m → ℝ) (hn : n = n1 + n2)
    (h : Shape.Concatenates [⟨2, ![n1, m]⟩, ⟨2, ![n2, m]⟩] ⟨2, ![n, m]⟩ 0) :
    concatenate ⟨2, ![n, m]⟩ 0 [⟨⟨2, ![n1, m]⟩, (up A : FVec Ideal ⟨2, ![n1, m]⟩ φ)⟩, ⟨⟨2, ![n2, m]⟩, (up B : FVec Ideal ⟨2, ![n2, m]⟩ φ)⟩] h
      = (up (fun r l => if hr : r.val < n1 then A ⟨r.val, hr⟩ l else B ⟨r.val - n1, by have := r.isLt; omega⟩ l) : FVec Ideal ⟨2, ![n, m]⟩ φ) := by
  refine eq_up fun r l => ?_
  rw [concatenate_pair_apply]
  by_cases hr : r.val < n1
  · rw [dif_pos hr]
    exact dif_pos (show r.val < n1 from hr)
  · rw [dif_neg hr]
    exact dif_neg (show ¬ r.val < n1 from hr)

theorem slice_up {n m n' m' : ℕ} {φ : FTy} (A : Fin n → Fin m → ℝ) (o p : ℕ) (hn : o + n' ≤ n) (hm : p + m' ≤ m)
    (h : (⟨2, ![n, m]⟩ : Shape).Slices ![o, p] ⟨2, ![n', m']⟩) :
    extractStridedSlice ⟨2, ![n', m']⟩ ![o, p] (up A : FVec Ideal ⟨2, ![n, m]⟩ φ) h
      = up (fun r l => A ⟨o + r.val, by omega⟩ ⟨p + l.val, by omega⟩) :=
  eq_up fun _ _ => rfl

theorem spread_up {n m : ℕ} {φ : FTy} (A : Fin 1 → Fin m → ℝ) (hm : m ≠ 1) (h : (⟨2, ![1, m]⟩ : Shape).Broadcasts ⟨2, ![n, m]⟩) :
    broadcastTo ⟨2, ![n, m]⟩ (up A : FVec Ideal ⟨2, ![1, m]⟩ φ) h = up (fun _ l => A 0 l) := by
  refine eq_up fun r l => ?_
  rw [Pointwise.broadcastTo_apply]
  simp only [up, Shape.Idx.norm_def]
  congr 2
  rw [dif_neg (show ¬ (![1, m] : Fin 2 → ℕ) 1 = 1 from hm)]
  rfl

theorem flip_up {n m : ℕ} {φ : FTy} (A : Fin n → Fin m → ℝ) (h : (⟨2, ![n, m]⟩ : Shape).Transposes [1, 0] ⟨2, ![m, n]⟩) :
    transpose ⟨2, ![m, n]⟩ [1, 0] (up A : FVec Ideal ⟨2, ![n, m]⟩ φ) h = up (fun r l => A l r) :=
  eq_up fun _ _ => rfl

theorem zeroT_up : (zeroT : TileF Ideal) = up (fun _ _ => 0) := zero_up
theorem zeroM_up : (zeroM : MatF Ideal) = up (fun _ _ => 0) := zero_up

theorem msF_up (x : Tile) : msF (up x : TileF Ideal) = up (ms x) := by
  unfold msF
  rw [zeroT_up, select_up _ _ laneF (fun _ l => l.val < 64) lane_at, select_up _ _ laneF (fun _ l => l.val < 64) lane_at]
  refine (concat_up (n1 := 64) (n2 := 64) (n := 128) (m := 128) _ _ rfl _).trans (congrArg up ?_)
  funext i l
  have hi := i.isLt
  have hl := l.isLt
  unfold ms rowOf
  by_cases h : i.val < 64
  · rw [dif_pos h]
    by_cases h2 : l.val < 64
    · rw [if_pos h2, if_pos (by omega)]
      congr 2
      omega
    · rw [if_neg h2, if_neg (by omega)]
  · rw [dif_neg h]
    by_cases h2 : l.val < 64
    · rw [if_pos h2, if_neg (by omega)]
    · rw [if_neg h2, if_pos (by omega)]
      congr 2
      omega

/-- Two matrices one above the other. -/
def stk (A B : Mat) : Fin 256 → Fin 128 → ℝ :=
  fun r l => if hr : r.val < 128 then A ⟨r.val, hr⟩ l else B ⟨r.val - 128, by have := r.isLt; omega⟩ l

theorem stk_lo (A B : Mat) (r l : Fin 128) (h : 0 + r.val < 256) : stk A B ⟨0 + r.val, h⟩ l = A r l := by
  have := r.isLt
  unfold stk
  rw [dif_pos (by simp only; omega)]
  congr 1
  exact Fin.ext (Nat.zero_add _)
theorem stk_hi (A B : Mat) (r l : Fin 128) (h : 128 + r.val < 256) : stk A B ⟨128 + r.val, h⟩ l = B r l := by
  unfold stk
  rw [dif_neg (by simp only; omega)]
  congr 1
  exact Fin.ext (by simp only; omega)
theorem stk_lo' (A B : Mat) (r l : Fin 128) (h : r.val < 256) : stk A B ⟨r.val, h⟩ l = A r l := by
  unfold stk
  rw [dif_pos r.isLt]

theorem stackF_up (A B : Mat) : stackF (up A : MatF Ideal) (up B) = up (stk A B) :=
  concat_up (n1 := 128) (n2 := 128) (n := 256) (m := 128) A B rfl _

theorem mmF_up (A B : Mat) : mmF (up A : MatF Ideal) (up B) = up (A * B) := plain_up _ A B
theorem mtF_up (A B : Mat) : mtF (up A) (up B) = (up (gram A B) : MatF Ideal) := transposed_up _ A B
theorem addM_up (A B : Mat) : addf (up A : MatF Ideal) (up B) = up (A + B) := addf_up A B
theorem shortM_up (A : Mat) : shortM (up A : MatF Ideal) = up A := rfl
theorem shortS_up (A : Fin 256 → Fin 128 → ℝ) : shortS (up A : FVec Ideal S256x128 .f32) = up A := rfl

/-- The chunk's inputs as vectors. -/
def upIns (x : Ins) : InsF Ideal where
  r := up x.r
  kd := up x.kd
  v := up x.v
  lw := up x.lw
  kk := up x.kk
  ic := up x.ic

section
variable (rev : Bool) (x : Ins) (S : Mat)

theorem cumF_up (lw : Tile) : cumF (masks rev) (up lw : TileF Ideal) = up (cum rev lw) := by
  have ht : (truncf .bf16 (sitofp .f32 (extui 32 (masks rev).tri natLt_1_32)) bitsLt_bf16_f32 : FVec Ideal S64x64 .bf16)
      = up (fun r l => if pos rev l < pos rev r + 1 then (1 : ℝ) else 0) := by
    refine eq_up fun r l => ?_
    show (((((masks rev).tri (ix2 r l)).setWidth 32).toInt : ℝ) : EReal) = _
    rw [tri_at]
    split_ifs <;> simp
  unfold cumF
  rw [ht, truncf_up, extf_up, subf_up, truncf_up]
  refine (congrArg₂ addf (plain_up _ _ _) (plain_up _ _ _)).trans ((addf_up _ _).trans (congrArg up ?_))
  funext t k
  unfold cum logP
  simp only [sub_self, mul_zero, Finset.sum_const_zero, add_zero, ite_mul, one_mul, zero_mul]

theorem pcF_up (lw : Tile) : pcF (masks rev) (up lw : TileF Ideal) = up (fun _ k => cum rev lw (rowAt rev 63) k) := by
  unfold pcF
  rw [cumF_up]
  cases rev
  · exact (slice_up _ 63 0 (by norm_num) (by norm_num) _).trans (congrArg up (by
      funext r l
      congr 1 <;> apply Fin.ext <;> simp [rowAt, pos]))
  · exact (slice_up _ 0 0 (by norm_num) (by norm_num) _).trans (congrArg up (by
      funext r l
      congr 1 <;> apply Fin.ext <;> simp [rowAt, pos]))

theorem invF_up (lw : Tile) : invF (masks rev) (up lw : TileF Ideal) = up (fun t k => Real.exp (-cum rev lw t k)) := by
  unfold invF
  rw [cumF_up, zeroT_up, subf_up, exp_up]
  simp only [zero_sub]
theorem restF_up : restF (masks rev) (up x.lw : TileF Ideal) = up (fun t k => Real.exp (pcOf rev x k - cum rev x.lw t k)) := by
  unfold restF
  rw [cumF_up, pcF_up, spread_up _ (by norm_num), subf_up, exp_up]
  rfl
theorem atF_up : atF (masks rev) (upIns x) = up (atOf rev x) := by
  unfold atF upIns
  simp only [cumF_up, zeroT_up, subf_up, exp_up, mulf_up, zero_sub]
  rfl
theorem rtF_up : rtF (masks rev) (upIns x) = up (rtOf rev x) := by
  unfold rtF upIns
  simp only [cumF_up, exp_up, mulf_up]
  rfl
theorem bF_up : bF (upIns x) = up (bOf x) := mulf_up _ _
theorem btF_up : btF (masks rev) (upIns x) = up (btOf rev x) := by
  unfold btF
  rw [bF_up]
  exact (congrArg _ (invF_up rev x.lw)).trans (mulf_up _ _)
theorem ktF_up : ktF (masks rev) (upIns x) = up (ktOf rev x) :=
  (congrArg _ (invF_up rev x.lw)).trans (mulf_up _ _)
theorem bpF_up : bpF (masks rev) (upIns x) = up (bpOf rev x) := by
  unfold bpF
  rw [bF_up]
  exact (congrArg _ (restF_up rev x)).trans (mulf_up _ _)
theorem kpF_up : kpF (masks rev) (upIns x) = up (kpOf rev x) :=
  (congrArg _ (restF_up rev x)).trans (mulf_up _ _)

theorem lhsF_up : lhsF (masks rev) (upIns x) = up (stk (ms (atOf rev x)) (ms (rtOf rev x))) := by
  unfold lhsF
  rw [atF_up, rtF_up, msF_up, msF_up, stackF_up, shortS_up]
theorem rhsF_up : rhsF (masks rev) (upIns x) = up (stk (ms (btOf rev x)) (ms (ktOf rev x))) := by
  unfold rhsF
  rw [btF_up, ktF_up, msF_up, msF_up, stackF_up, shortS_up]

theorem gramF_up : gramF (masks rev) (upIns x) = up (fun r l => ∑ k, stk (ms (atOf rev x)) (ms (rtOf rev x)) r k
    * stk (ms (btOf rev x)) (ms (ktOf rev x)) l k) := by
  unfold gramF
  rw [lhsF_up, rhsF_up]
  exact transposed_up _ _ _

theorem nF_up : nF (masks rev) (upIns x) = up (nOf rev x) := by
  unfold nF
  rw [gramF_up, zeroM_up]
  refine (congrArg (select _ · _) (slice_up _ 0 0 (by norm_num) (by norm_num) _)).trans ((select_up _ _ _ _ (strict_at rev)).trans (congrArg up ?_))
  funext r l
  simp only [stk_lo]
  rfl
theorem akF_up : akF (masks rev) (upIns x) = up (trig rev 0 (ms (atOf rev x)) (ms (ktOf rev x))) := by
  unfold akF
  rw [gramF_up, zeroM_up]
  refine (congrArg (select _ · _) (slice_up _ 0 128 (by norm_num) (by norm_num) _)).trans ((select_up _ _ _ _ (strict_at rev)).trans (congrArg up ?_))
  funext r l
  simp only [stk_lo, stk_hi]
  rfl
theorem rbF_up : rbF (masks rev) (upIns x) = up (trig rev 1 (ms (rtOf rev x)) (ms (btOf rev x))) := by
  unfold rbF
  rw [gramF_up, zeroM_up]
  refine (congrArg (select _ · _) (slice_up _ 128 0 (by norm_num) (by norm_num) _)).trans ((select_up _ _ _ _ (incl_at rev)).trans (congrArg up ?_))
  funext r l
  simp only [stk_lo, stk_hi]
  rfl
theorem rkF_up : rkF (masks rev) (upIns x) = up (trig rev 1 (ms (rtOf rev x)) (ms (ktOf rev x))) := by
  unfold rkF
  rw [gramF_up, zeroM_up]
  refine (congrArg (select _ · _) (slice_up _ 128 128 (by norm_num) (by norm_num) _)).trans ((select_up _ _ _ _ (incl_at rev)).trans (congrArg up ?_))
  funext r l
  simp only [stk_hi]
  rfl
end

section
variable (N m t p : Mat)

theorem ndF_up : ndF (up N : MatF Ideal) = up (inBlock N) := by
  unfold ndF
  rw [zeroM_up]
  exact select_up _ _ _ _ same_at
theorem noF_up : noF (up N : MatF Ideal) = up (offBlock N) := by
  unfold noF
  rw [zeroM_up]
  exact select_up _ _ _ _ same_at
theorem growF_up : growF (up t : MatF Ideal) (up p) = up (t + p + t * p) := by
  unfold growF
  rw [mmF_up, addM_up, addM_up]
theorem inv16F_up : inv16F (up m : MatF Ideal) = up (doubled m) := by
  unfold inv16F
  simp only [mmF_up, growF_up]
  rfl
theorem acrossF_up : acrossF (up N : MatF Ideal) = up (across N) := by
  unfold acrossF
  rw [noF_up, ndF_up, inv16F_up, mmF_up, addM_up]
  rfl
theorem powF_up : powF (up m : MatF Ideal) = up (powers m) := by
  unfold powF
  rw [mmF_up, growF_up]
  rfl
theorem solveF_up : solveF (up N : MatF Ideal) = up (solver N) := by
  unfold solveF
  rw [ndF_up, inv16F_up, acrossF_up, powF_up, addM_up, mmF_up, addM_up]
  rfl
end

section
variable (rev : Bool) (x : Ins) (S : Mat)

theorem topF_up : topF (lhsF (masks rev) (upIns x)) = up (ms (atOf rev x)) := by
  rw [lhsF_up]
  refine (slice_up _ 0 0 (by norm_num) (by norm_num) _).trans (congrArg up ?_)
  funext r l
  rw [stk_lo]
  congr 1
  exact Fin.ext (Nat.zero_add _)
theorem botF_up : botF (lhsF (masks rev) (upIns x)) = up (ms (rtOf rev x)) := by
  rw [lhsF_up]
  refine (slice_up _ 128 0 (by norm_num) (by norm_num) _).trans (congrArg up ?_)
  funext r l
  rw [stk_hi]
  congr 1
  exact Fin.ext (Nat.zero_add _)

theorem rzF_up : rzF (masks rev) (upIns x) (up S) = up (rhsOf rev x S) := by
  unfold rzF
  rw [topF_up, shortM_up, mtF_up, akF_up]
  refine (congrArg (addf _) ((congrArg (mmF _) (msF_up x.v)).trans (mmF_up _ _))).trans (addM_up _ _)
theorem zF_up : zF (masks rev) (upIns x) (up S) = up (zzOf rev x S) := by
  unfold zF
  rw [rzF_up, nF_up, solveF_up, mmF_up, addM_up]
  rfl
theorem ymF_up : ymF (masks rev) (upIns x) (up S) = up (ymsOf rev x S) := by
  unfold ymF
  rw [botF_up, shortM_up, mtF_up, rbF_up, zF_up, mmF_up, addM_up, rkF_up]
  refine (congrArg (addf _) ((congrArg (mmF _) (msF_up x.v)).trans (mmF_up _ _))).trans (addM_up _ _)

theorem yF_up : yF (masks rev) (upIns x) (up S) = up (yOf rev x S) := by
  unfold yF
  rw [ymF_up]
  refine (congrArg₂ addf (slice_up _ 0 0 (by norm_num) (by norm_num) _) (slice_up _ 64 0 (by norm_num) (by norm_num) _)).trans
    ((addf_up _ _).trans (congrArg up ?_))
  funext r l
  unfold yOf top bot
  congr 2 <;> apply Fin.ext <;> simp

theorem updF_up : updF (masks rev) (upIns x) (up S)
    = up (fun l k => (∑ i, zzOf rev x S i l * ms (bpOf rev x) i k) + ∑ i, ms x.v i l * ms (kpOf rev x) i k) := by
  unfold updF
  rw [zF_up, bpF_up, kpF_up, msF_up, msF_up]
  have hv : msF (upIns x).v = up (ms x.v) := msF_up x.v
  rw [hv, stackF_up, stackF_up, shortS_up]
  rw [show transpose S128x256 [1, 0] (up (stk (zzOf rev x S) (ms x.v)) : FVec Ideal S256x128 .f32) transposes_S256x128_p1_0_S128x256
    = up (fun r l => stk (zzOf rev x S) (ms x.v) l r) from flip_up _ _, truncf_up]
  refine (plain_up _ _ _).trans (congrArg up ?_)
  funext l k
  rw [show (∑ i, stk (zzOf rev x S) (ms x.v) i l * stk (ms (bpOf rev x)) (ms (kpOf rev x)) i k)
    = ∑ i : Fin (128 + 128), stk (zzOf rev x S) (ms x.v) i l * stk (ms (bpOf rev x)) (ms (kpOf rev x)) i k from rfl, Fin.sum_univ_add]
  exact congrArg₂ (· + ·)
    (Finset.sum_congr rfl fun i _ => congrArg₂ (· * ·) (stk_lo' _ _ i l _) (stk_lo' _ _ i k _))
    (Finset.sum_congr rfl fun i _ => congrArg₂ (· * ·) (stk_hi _ _ i l _) (stk_hi _ _ i k _))

theorem newF_up : newF (masks rev) (upIns x) (up S) = up (newOf rev x S) := by
  unfold newF
  rw [updF_up]
  have hp : pcF (masks rev) (upIns x).lw = up (fun _ k => pcOf rev x k) := pcF_up rev x.lw
  rw [hp, exp_up, spread_up _ (by norm_num)]
  exact (congrArg (addf · _) (mulf_up S _)).trans (addf_up _ _)
end

end Scan
-- ==== Proof.Scan.Body.lean ====
/- What one run of the kernel's body leaves, on finite inputs, in its outputs and its states. -/
module

public import proofs.«01_k».proof.Proof.Scan.PiecesA
public import proofs.«01_k».proof.Proof.Scan.PiecesB
public import proofs.«01_k».proof.Proof.Scan.LiftChunk
public import Idealize.ShloMosaic.Lib.WholeRead

@[expose] public section

set_option maxRecDepth 16384

noncomputable section

namespace Scan

open Idealize.ShloMosaic Idealize.ShloMosaic.TcCoe Idealize.SL.Sem Cert.KernelIdeal Cert.KernelIdeal.Gen

/-- One block of an input or output: 64 positions of two head pairs. -/
abbrev Blk := Fin 64 → Fin 256 → ℝ
/-- The states: by direction, by head pair. -/
abbrev States := Fin 2 → Fin 2 → Mat

def upB (X : Blk) : Vec Ideal S1x64x256 .f32 := fun i => ((X (i 1) (i 2) : ℝ) : EReal)
def upH (X : Tile) : Vec Ideal S1x64x128 .f32 := fun i => ((X (i 1) (i 2) : ℝ) : EReal)
def upK (X : Fin 256 → ℝ) : Vec Ideal S1x256 .f32 := fun i => ((X (i 1) : ℝ) : EReal)
def upQ (X : Fin 128 → ℝ) : Vec Ideal S1x128 .f32 := fun i => ((X (i 1) : ℝ) : EReal)
def upS (S : States) : Vec Ideal S2x2x128x128 .f32 := fun i => ((S (i 0) (i 1) (i 2) (i 3) : ℝ) : EReal)
def upS' (S : States) : Vec Ideal S1x2x2x128x128 .f32 := fun i => ((S (i 1) (i 2) (i 3) (i 4) : ℝ) : EReal)
def up4 (A : Mat) : Vec Ideal S1x1x128x128 .f32 := fun i => ((A (i 2) (i 3) : ℝ) : EReal)

/-- Lane `l` of head pair `p` in a block. -/
def lane (p : Fin 2) (l : Fin 128) : Fin 256 := ⟨128 * p.val + l.val, by have := p.isLt; have := l.isLt; omega⟩
def half (p : Fin 2) (X : Blk) : Tile := fun t l => X t (lane p l)

/-- A head pair's inputs of a chunk. -/
def insB (R K V Q C L : Blk) (KA : Fin 256 → ℝ) (p : Fin 2) : Ins where
  r := half p R
  kd := fun t l => K t (lane p l) * (1 + (C t (lane p l) - 1) * KA (lane p l))
  v := half p V
  lw := half p L
  kk := half p Q
  ic := half p C

theorem read0_up (a : Memref sig .tc .vmem S1x64x256 .f32) (h : a.IsWhole) (X : Blk) : read0 a h (upB X) = upH (half 0 X) := by
  funext i
  unfold read0
  rw [Memref.IsWhole.readAt_unread]
  simp only [upB, upH, half]
  congr 2
  · exact Fin.ext (by simp [LoadRect.idx, Rect.unit, lane])
  · exact Fin.ext (by simp [LoadRect.idx, Rect.unit, lane])
theorem read1_up (a : Memref sig .tc .vmem S1x64x256 .f32) (h : a.IsWhole) (X : Blk) : read1 a h (upB X) = upH (half 1 X) := by
  funext i
  unfold read1
  rw [Memref.IsWhole.readAt_unread]
  simp only [upB, upH, half]
  congr 2
  · exact Fin.ext (by simp [LoadRect.idx, Rect.unit, lane])
  · exact Fin.ext (by simp [LoadRect.idx, Rect.unit, lane])
theorem row0_up (a : Memref sig .tc .vmem S1x256 .f32) (h : a.IsWhole) (X : Fin 256 → ℝ) :
    row0 a h (upK X) = upQ (fun l => X (lane 0 l)) := by
  funext i
  unfold row0
  rw [Memref.IsWhole.readAt_unread]
  simp only [upK, upQ]
  congr 2
  exact Fin.ext (by simp [LoadRect.idx, Rect.unit, lane])
theorem row1_up (a : Memref sig .tc .vmem S1x256 .f32) (h : a.IsWhole) (X : Fin 256 → ℝ) :
    row1 a h (upK X) = upQ (fun l => X (lane 1 l)) := by
  funext i
  unfold row1
  rw [Memref.IsWhole.readAt_unread]
  simp only [upK, upQ]
  congr 2
  exact Fin.ext (by simp [LoadRect.idx, Rect.unit, lane])

theorem tileF_up (X : Tile) : tileF (upH X) = (up X : TileF Ideal) := by
  funext i
  exact shapeCast_dropUnit_apply (n := 2) ![64, 128] _ _ i

theorem upQ_up (X : Fin 128 → ℝ) : upQ X = (up (fun _ l => X l) : FVec Ideal S1x128 .f32) := rfl

theorem oneT_up : (oneT : TileF Ideal) = up (fun _ _ => 1) := one_up

theorem kdF_up (k ic : Tile) (ka : Fin 128 → ℝ) :
    kdF (up k : TileF Ideal) (up ic) (upQ ka) = up (fun t l => k t l * (1 + (ic t l - 1) * ka l)) := by
  unfold kdF
  rw [oneT_up, subf_up, upQ_up, spread_up _ (by norm_num), mulf_up, addf_up, mulf_up]

theorem insF_up (r k v kk ic lw : Tile) (ka : Fin 128 → ℝ) :
    insF (upH r) (upH k) (upH v) (upH kk) (upH ic) (upH lw) (upQ ka)
      = upIns ⟨r, fun t l => k t l * (1 + (ic t l - 1) * ka l), v, lw, kk, ic⟩ := by
  unfold insF upIns
  simp only [tileF_up, kdF_up]

section
variable (a0 : Memref sig .tc .vmem S1x64x256 .f32) (h0 : a0.IsWhole) (a1 : Memref sig .tc .vmem S1x64x256 .f32) (h1 : a1.IsWhole)
  (a2 : Memref sig .tc .vmem S1x64x256 .f32) (h2 : a2.IsWhole) (a3 : Memref sig .tc .vmem S1x64x256 .f32) (h3 : a3.IsWhole)
  (a4 : Memref sig .tc .vmem S1x64x256 .f32) (h4 : a4.IsWhole) (a5 : Memref sig .tc .vmem S1x64x256 .f32) (h5 : a5.IsWhole)
  (b : Memref sig .tc .vmem S1x256 .f32) (hb : b.IsWhole) (R K V Q C L : Blk) (KA : Fin 256 → ℝ)

theorem load0_up : load0 a0 h0 a1 h1 a2 h2 a3 h3 a4 h4 a5 h5 b hb (upB R) (upB K) (upB V) (upB Q) (upB C) (upB L) (upK KA)
    = upIns (insB R K V Q C L KA 0) := by
  unfold load0
  simp only [read0_up, row0_up, insF_up]
  rfl
theorem load1_up : load1 a0 h0 a1 h1 a2 h2 a3 h3 a4 h4 a5 h5 b hb (upB R) (upB K) (upB V) (upB Q) (upB C) (upB L) (upK KA)
    = upIns (insB R K V Q C L KA 1) := by
  unfold load1
  simp only [read1_up, row1_up, insF_up]
  rfl
end

theorem stF_up (A : Mat) : stF (up4 A) = (up A : MatF Ideal) := by
  refine eq_up fun r l => ?_
  unfold stF
  rw [shapeCast_apply _ _ _ (ix4 0 0 r l) (by rw [Shape.rowMajor_val_four, Shape.rowMajor_val_two]; simp)]
  rfl

theorem yOut_up (rev : Bool) (x : Ins) (A : Mat) : yOut (masks rev) (upIns x) (up4 A) = upH (yOf rev x A) := by
  unfold yOut
  rw [stF_up, yF_up]
  funext i
  exact shapeCast_addUnit_apply (n := 2) ![64, 128] _ _ i
theorem sOut_up (rev : Bool) (x : Ins) (A : Mat) : sOut (masks rev) (upIns x) (up4 A) = up4 (newOf rev x A) := by
  unfold sOut
  rw [stF_up, newF_up]
  funext i
  have h0 : (i 0).val = 0 := by have := (i 0).isLt; simp at this; omega
  have h1 : (i 1).val = 0 := by have := (i 1).isLt; simp at this; omega
  exact shapeCast_apply _ _ _ (ix2 (i 2) (i 3)) (by rw [Shape.rowMajor_val_four, Shape.rowMajor_val_two]; simp [h0, h1])

/-- Which head pair a lane of a block belongs to, and which lane of it. -/
def pair (l : Fin 256) : Fin 2 := ⟨l.val / 128, by have := l.isLt; omega⟩
def within (l : Fin 256) : Fin 128 := ⟨l.val % 128, by omega⟩

theorem lane_pair (l : Fin 256) : lane (pair l) (within l) = l := Fin.ext (Nat.div_add_mod l.val 128)

/-- The two head pairs' outputs side by side. -/
def both (Y : Fin 2 → Tile) : Blk := fun t l => Y (pair l) t (within l)

theorem hitY (o : ℕ) (inb) (A : Tile) (L) (y : S1x64x256.Idx) (l : Fin 128) (hl : (y 2).val = o + l.val) :
    View.canon (Val := Elt Ideal) (⟨Rect.unit (s := S1x64x256) ![0, 0, o] S1x64x128.size inb, upH A⟩ :: L) y = ((A (y 1) l : ℝ) : EReal) := by
  have h : y = (Rect.unit (s := S1x64x256) ![0, 0, o] S1x64x128.size inb).emb (ix3 0 (y 1) l) := by
    have h0 : (y 0).val = 0 := by have := (y 0).isLt; simp at this; omega
    funext a
    apply Fin.ext
    match a with
    | ⟨0, _⟩ => exact h0
    | ⟨1, _⟩ => show (y 1).val = 0 + 1 * (y 1).val; omega
    | ⟨2, _⟩ => show (y 2).val = o + 1 * l.val; omega
  conv_lhs => rw [h]
  exact View.canon_cons_emb _ _ _ _

theorem missY (o : ℕ) (inb) (w) (L) (y : S1x64x256.Idx) (h : (y 2).val < o) :
    View.canon (Val := Elt Ideal) (e := .f32) (⟨Rect.unit (s := S1x64x256) ![0, 0, o] S1x64x128.size inb, w⟩ :: L) y = View.canon L y := by
  refine View.canon_cons_of_not_mem _ _ fun hm => ?_
  have := ((Rect.mem_set_unit (inb := inb)).1 hm 2).1
  simp at this
  omega

theorem atY (Y : Fin 2 → Tile) {p p' : Fin 2} {t : Fin 64} {l l' : Fin 128} (hp : p.val = p'.val) (hl : l.val = l'.val) :
    ((Y p t l : ℝ) : EReal) = ((Y p' t l' : ℝ) : EReal) := by
  rw [Fin.ext hp, Fin.ext hl]

theorem canonY (Y : Fin 2 → Tile) :
    View.canon (Val := Elt Ideal) [⟨Rect.unit (s := S1x64x256) ![0, 0, 128] S1x64x128.size inb_S1x64x256_S1x64x128_0_0_128, upH (Y 1)⟩,
      ⟨Rect.unit (s := S1x64x256) ![0, 0, 0] S1x64x128.size inb_S1x64x256_S1x64x128_0_0_0, upH (Y 0)⟩] = upB (both Y) := by
  funext y
  have h2 : (y 2).val < 256 := (y 2).isLt
  by_cases h : (y 2).val < 128
  · refine (missY 128 _ _ _ _ h).trans ((hitY 0 _ _ _ _ ⟨(y 2).val, h⟩ (by simp)).trans ?_)
    exact atY Y (show (0 : ℕ) = (y 2).val / 128 by omega) (show (y 2).val = (y 2).val % 128 by omega)
  · refine (hitY 128 _ _ _ _ ⟨(y 2).val - 128, by omega⟩ (by show (y 2).val = 128 + ((y 2).val - 128); omega)).trans ?_
    exact atY Y (show (1 : ℕ) = (y 2).val / 128 by omega) (show (y 2).val - 128 = (y 2).val % 128 by omega)

theorem hitS (d p : ℕ) (inb) (A : Mat) (L) (y : S2x2x128x128.Idx) (hd : (y 0).val = d) (hp : (y 1).val = p) :
    View.canon (Val := Elt Ideal) (⟨Rect.unit (s := S2x2x128x128) ![d, p, 0, 0] S1x1x128x128.size inb, up4 A⟩ :: L) y
      = ((A (y 2) (y 3) : ℝ) : EReal) := by
  have h : y = (Rect.unit (s := S2x2x128x128) ![d, p, 0, 0] S1x1x128x128.size inb).emb (ix4 0 0 (y 2) (y 3)) := by
    funext a
    apply Fin.ext
    match a with
    | ⟨0, _⟩ => exact hd
    | ⟨1, _⟩ => exact hp
    | ⟨2, _⟩ => show (y 2).val = 0 + 1 * (y 2).val; omega
    | ⟨3, _⟩ => show (y 3).val = 0 + 1 * (y 3).val; omega
  conv_lhs => rw [h]
  exact View.canon_cons_emb _ _ _ _

theorem missS (d p : ℕ) (inb) (w) (L) (y : S2x2x128x128.Idx) (h : (y 0).val ≠ d ∨ (y 1).val ≠ p) :
    View.canon (Val := Elt Ideal) (e := .f32) (⟨Rect.unit (s := S2x2x128x128) ![d, p, 0, 0] S1x1x128x128.size inb, w⟩ :: L) y = View.canon L y := by
  refine View.canon_cons_of_not_mem _ _ fun hm => ?_
  have h0 := (Rect.mem_set_unit (inb := inb)).1 hm 0
  have h1 := (Rect.mem_set_unit (inb := inb)).1 hm 1
  simp at h0 h1
  omega

theorem canonS (S : States) (L) :
    View.canon (Val := Elt Ideal) (⟨(Rect.unit (s := S2x2x128x128) ![1, 1, 0, 0] S1x1x128x128.size inb_S2x2x128x128_S1x1x128x128_1_1_0_0), up4 (S 1 1)⟩ :: ⟨(Rect.unit (s := S2x2x128x128) ![1, 0, 0, 0] S1x1x128x128.size inb_S2x2x128x128_S1x1x128x128_1_0_0_0), up4 (S 1 0)⟩ :: ⟨(Rect.unit (s := S2x2x128x128) ![0, 1, 0, 0] S1x1x128x128.size inb_S2x2x128x128_S1x1x128x128_0_1_0_0), up4 (S 0 1)⟩ :: ⟨(Rect.unit (s := S2x2x128x128) ![0, 0, 0, 0] S1x1x128x128.size inb_S2x2x128x128_S1x1x128x128_0_0_0_0), up4 (S 0 0)⟩ :: L) = upS S := by
  funext y
  have h0 : (y 0).val < 2 := (y 0).isLt
  have h1 : (y 1).val < 2 := (y 1).isLt
  have key : ∀ d p : Fin 2, (y 0).val = d.val → (y 1).val = p.val → upS S y = ((S d p (y 2) (y 3) : ℝ) : EReal) := by
    intro d p hd hp
    unfold upS
    rw [show y 0 = d from Fin.ext hd, show y 1 = p from Fin.ext hp]
  by_cases a : (y 0).val = 0 <;> by_cases b : (y 1).val = 0
  · rw [missS 1 1 _ _ _ _ (by omega), missS 1 0 _ _ _ _ (by omega), missS 0 1 _ _ _ _ (by omega), hitS 0 0 _ _ _ _ a b, key 0 0 a b]
  · rw [missS 1 1 _ _ _ _ (by omega), missS 1 0 _ _ _ _ (by omega), hitS 0 1 _ _ _ _ a (by omega), key 0 1 a (show (y 1).val = 1 by omega)]
  · rw [missS 1 1 _ _ _ _ (by omega), hitS 1 0 _ _ _ _ (by omega) b, key 1 0 (show (y 0).val = 1 by omega) b]
  · rw [hitS 1 1 _ _ _ _ (by omega) (by omega), key 1 1 (show (y 0).val = 1 by omega) (show (y 1).val = 1 by omega)]

theorem at4 (S : States) {d d' p p' : Fin 2} {i i' j j' : Fin 128} (hd : d.val = d'.val) (hp : p.val = p'.val) (hi : i.val = i'.val)
    (hj : j.val = j'.val) : ((S d p i j : ℝ) : EReal) = ((S d' p' i' j' : ℝ) : EReal) := by
  rw [Fin.ext hd, Fin.ext hp, Fin.ext hi, Fin.ext hj]

theorem upS_idx (S : States) (d p : Fin 2) (inb) (x : S1x1x128x128.Idx) :
    upS S ((Rect.unit (s := S2x2x128x128) ![d.val, p.val, 0, 0] S1x1x128x128.size inb).toLoadRect.idx x) = up4 (S d p) x := by
  have h0 : (x 0).val = 0 := by have := (x 0).isLt; simp at this; omega
  have h1 : (x 1).val = 0 := by have := (x 1).isLt; simp at this; omega
  exact at4 S (show d.val + 1 * (x 0).val = d.val by omega) (show p.val + 1 * (x 1).val = p.val by omega)
    (show 0 + 1 * (x 2).val = (x 2).val by omega) (show 0 + 1 * (x 3).val = (x 3).val by omega)

theorem readS (a : Memref sig .tc .vmem S2x2x128x128 .f32) (h : a.IsWhole) (S : States) (d p : Fin 2) (inb) :
    View.readAt (Elt Ideal) a.view (Rect.unit (s := S2x2x128x128) ![d.val, p.val, 0, 0] S1x1x128x128.size inb).toLoadRect (h.unread (upS S))
      = up4 (S d p) := by
  funext x
  rw [Memref.IsWhole.readAt_unread]
  exact upS_idx S d p inb x

theorem first_up (a : Memref sig .tc .vmem S1x2x2x128x128 .f32) (h : a.IsWhole) (S : States) :
    View.canon (first a h (upS' S)) = upS S := by
  unfold first
  rw [View.canon_unit_zero (by funext a; match a with | ⟨0, _⟩ => rfl | ⟨1, _⟩ => rfl | ⟨2, _⟩ => rfl | ⟨3, _⟩ => rfl)]
  unfold k0_pay2
  dsimp only
  rw [shapeCast_self]
  funext i
  refine (shapeCast_dropUnit_apply (n := 4) ![2, 2, 128, 128] _ _ i).trans ?_
  refine (Memref.IsWhole.readAt_unread h _ _ _).trans ?_
  exact at4 S (show 0 + 1 * (i 0).val = (i 0).val by omega) (show 0 + 1 * (i 1).val = (i 1).val by omega)
    (show 0 + 1 * (i 2).val = (i 2).val by omega) (show 0 + 1 * (i 3).val = (i 3).val by omega)

theorem fwd_masks : fwdMasks = masks false := rfl
theorem bwd_masks : bwdMasks = masks true := rfl

/-- The states after one run over the states before it. -/
def newB (I0 I1 : Fin 2 → Ins) (S : States) : States := fun d p => if d = 0 then newOf false (I0 p) (S d p) else newOf true (I1 p) (S d p)

variable (c : Dev nD) (i : grid0.Coords) (arg3 : Memref sig .tc .vmem S1x64x256 .f32) (harg3 : arg3.IsWhole)
  (arg4 : Memref sig .tc .vmem S1x64x256 .f32) (harg4 : arg4.IsWhole)
  (arg5 : Memref sig .tc .vmem S1x64x256 .f32) (harg5 : arg5.IsWhole)
  (arg6 : Memref sig .tc .vmem S1x64x256 .f32) (harg6 : arg6.IsWhole)
  (arg7 : Memref sig .tc .vmem S1x64x256 .f32) (harg7 : arg7.IsWhole)
  (arg8 : Memref sig .tc .vmem S1x64x256 .f32) (harg8 : arg8.IsWhole)
  (arg9 : Memref sig .tc .vmem S1x64x256 .f32) (harg9 : arg9.IsWhole)
  (arg10 : Memref sig .tc .vmem S1x64x256 .f32) (harg10 : arg10.IsWhole)
  (arg11 : Memref sig .tc .vmem S1x64x256 .f32) (harg11 : arg11.IsWhole)
  (arg12 : Memref sig .tc .vmem S1x64x256 .f32) (harg12 : arg12.IsWhole)
  (arg13 : Memref sig .tc .vmem S1x64x256 .f32) (harg13 : arg13.IsWhole)
  (arg14 : Memref sig .tc .vmem S1x64x256 .f32) (harg14 : arg14.IsWhole)
  (arg15 : Memref sig .tc .vmem S1x256 .f32) (harg15 : arg15.IsWhole)
  (arg16 : Memref sig .tc .vmem S1x2x2x128x128 .f32) (harg16 : arg16.IsWhole)
  (arg17 : Memref sig .tc .vmem S1x64x256 .f32) (harg17 : arg17.IsWhole)
  (arg18 : Memref sig .tc .vmem S1x64x256 .f32) (harg18 : arg18.IsWhole)
  (arg19 : Memref sig .tc .vmem S2x2x128x128 .f32) (harg19 : arg19.IsWhole)
  (R0 K0 V0 Q0 C0 L0 R1 K1 V1 Q1 C1 L1 : Blk) (KA : Fin 256 → ℝ) (S : States)

theorem out14_B (S0 : States) (hc0 : ¬cond0_0 i) : out0_B_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (upB R0) (upB K0) (upB V0) (upB Q0) (upB C0) (upB L0) (upB R1) (upB K1) (upB V1) (upB Q1) (upB C1) (upB L1) (upK KA) (upS' S0) (upS S) = upB (both fun p => yOf false ((insB R0 K0 V0 Q0 C0 L0 KA) p) (S 0 p)) := by
  unfold out0_B_14
  rw [View.read_writes_junk_eq_canon, run14_B, load0_up, load1_up, fwd_masks]
  have e0 := readS arg19 harg19 S 0 0 inb_S2x2x128x128_S1x1x128x128_0_0_0_0
  have e1 := readS arg19 harg19 S 0 1 inb_S2x2x128x128_S1x1x128x128_0_1_0_0
  simp only [Fin.val_zero, Fin.val_one] at e0 e1
  rw [e0, e1, yOut_up, yOut_up]
  exact canonY fun p => yOf false ((insB R0 K0 V0 Q0 C0 L0 KA) p) (S 0 p)

theorem out15_B (S0 : States) (hc0 : ¬cond0_0 i) : out0_B_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (upB R0) (upB K0) (upB V0) (upB Q0) (upB C0) (upB L0) (upB R1) (upB K1) (upB V1) (upB Q1) (upB C1) (upB L1) (upK KA) (upS' S0) (upS S) = upB (both fun p => yOf true ((insB R1 K1 V1 Q1 C1 L1 KA) p) (S 1 p)) := by
  unfold out0_B_15
  rw [View.read_writes_junk_eq_canon, run15_B, load0_up, load1_up, bwd_masks]
  have e0 := readS arg19 harg19 S 1 0 inb_S2x2x128x128_S1x1x128x128_1_0_0_0
  have e1 := readS arg19 harg19 S 1 1 inb_S2x2x128x128_S1x1x128x128_1_1_0_0
  simp only [Fin.val_zero, Fin.val_one] at e0 e1
  rw [e0, e1, yOut_up, yOut_up]
  exact canonY fun p => yOf true ((insB R1 K1 V1 Q1 C1 L1 KA) p) (S 1 p)

theorem outS_B (S0 : States) (hc0 : ¬cond0_0 i) : sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (upB R0) (upB K0) (upB V0) (upB Q0) (upB C0) (upB L0) (upB R1) (upB K1) (upB V1) (upB Q1) (upB C1) (upB L1) (upK KA) (upS' S0) (upS S) = upS (newB (insB R0 K0 V0 Q0 C0 L0 KA) (insB R1 K1 V1 Q1 C1 L1 KA) S) := by
  unfold sout0_B_0
  rw [View.read_writes_junk_eq_canon, runS_B, load0_up, load1_up, load0_up, load1_up, fwd_masks, bwd_masks]
  have e00 := readS arg19 harg19 S 0 0 inb_S2x2x128x128_S1x1x128x128_0_0_0_0
  have e01 := readS arg19 harg19 S 0 1 inb_S2x2x128x128_S1x1x128x128_0_1_0_0
  have e10 := readS arg19 harg19 S 1 0 inb_S2x2x128x128_S1x1x128x128_1_0_0_0
  have e11 := readS arg19 harg19 S 1 1 inb_S2x2x128x128_S1x1x128x128_1_1_0_0
  simp only [Fin.val_zero, Fin.val_one] at e00 e01 e10 e11
  rw [e00, e01, e10, e11, sOut_up, sOut_up, sOut_up, sOut_up]
  exact canonS (newB (insB R0 K0 V0 Q0 C0 L0 KA) (insB R1 K1 V1 Q1 C1 L1 KA) S) []

theorem start_A (d p : Fin 2) (inb) :
    arg19.view.readCov (kernelRun0_A.sl.HS0_1 c arg16 harg16 (upS' S)) (Rect.unit (s := S2x2x128x128) ![d.val, p.val, 0, 0] S1x1x128x128.size inb).toLoadRect = up4 (S d p) := by
  funext x
  rw [View.readCov_eq_canon']
  show View.canon (first arg16 harg16 (upS' S)) _ = _
  rw [first_up]
  exact upS_idx S d p inb x

theorem v23_A : kernelRun0_A.sl.v23 (F := Ideal) c arg16 harg16 arg19 (upS' S) = up4 (S 0 0) :=
  start_A c arg16 harg16 arg19 S 0 0 _

theorem hist2_A : (kernelRun0_A.sl.HS0_2 (F := Ideal) c arg3 harg3 arg4 harg4 arg5 harg5 arg6 harg6 arg7 harg7 arg8 harg8 arg15 harg15 arg16 harg16 arg19 (upB R0) (upB K0) (upB V0) (upB Q0) (upB C0) (upB L0) (upK KA) (upS' S)) = ⟨(Rect.unit (s := S2x2x128x128) ![0, 0, 0, 0] S1x1x128x128.size inb_S2x2x128x128_S1x1x128x128_0_0_0_0), up4 (newOf false ((insB R0 K0 V0 Q0 C0 L0 KA) 0) (S 0 0))⟩ :: (kernelRun0_A.sl.HS0_1 c arg16 harg16 (upS' S)) := by
  rw [hist2, load0_up, fwd_masks, v23_A, sOut_up]

theorem v270_A : kernelRun0_A.sl.v270 (F := Ideal) c arg3 harg3 arg4 harg4 arg5 harg5 arg6 harg6 arg7 harg7 arg8 harg8 arg15 harg15 arg16 harg16 arg19 (upB R0) (upB K0) (upB V0) (upB Q0) (upB C0) (upB L0) (upK KA) (upS' S) = up4 (S 0 1) := by
  unfold kernelRun0_A.sl.v270
  rw [hist2_A]
  refine (View.readCov_cons_of_disjoint _ _ _ _ ?_).trans ?_
  · exact Rect.unit_disjoint (inb := inb_S2x2x128x128_S1x1x128x128_0_0_0_0) 1 (Or.inl (by decide))
  exact start_A c arg16 harg16 arg19 S 0 1 _

theorem hist3_A : (kernelRun0_A.sl.HS0_3 (F := Ideal) c arg3 harg3 arg4 harg4 arg5 harg5 arg6 harg6 arg7 harg7 arg8 harg8 arg15 harg15 arg16 harg16 arg19 (upB R0) (upB K0) (upB V0) (upB Q0) (upB C0) (upB L0) (upK KA) (upS' S)) = ⟨(Rect.unit (s := S2x2x128x128) ![0, 1, 0, 0] S1x1x128x128.size inb_S2x2x128x128_S1x1x128x128_0_1_0_0), up4 (newOf false ((insB R0 K0 V0 Q0 C0 L0 KA) 1) (S 0 1))⟩ :: ⟨(Rect.unit (s := S2x2x128x128) ![0, 0, 0, 0] S1x1x128x128.size inb_S2x2x128x128_S1x1x128x128_0_0_0_0), up4 (newOf false ((insB R0 K0 V0 Q0 C0 L0 KA) 0) (S 0 0))⟩ :: (kernelRun0_A.sl.HS0_1 c arg16 harg16 (upS' S)) := by
  rw [hist3, load1_up, fwd_masks, v270_A, sOut_up, hist2_A]

theorem v517_A : kernelRun0_A.sl.v517 (F := Ideal) c arg3 harg3 arg4 harg4 arg5 harg5 arg6 harg6 arg7 harg7 arg8 harg8 arg15 harg15 arg16 harg16 arg19 (upB R0) (upB K0) (upB V0) (upB Q0) (upB C0) (upB L0) (upK KA) (upS' S) = up4 (S 1 0) := by
  unfold kernelRun0_A.sl.v517
  rw [hist3_A]
  refine (View.readCov_cons_of_disjoint _ _ _ _ ?_).trans ?_
  · exact Rect.unit_disjoint (inb := inb_S2x2x128x128_S1x1x128x128_0_1_0_0) 0 (Or.inl (by decide))
  refine (View.readCov_cons_of_disjoint _ _ _ _ ?_).trans ?_
  · exact Rect.unit_disjoint (inb := inb_S2x2x128x128_S1x1x128x128_0_0_0_0) 0 (Or.inl (by decide))
  exact start_A c arg16 harg16 arg19 S 1 0 _

theorem hist4_A : (kernelRun0_A.sl.HS0_4 (F := Ideal) c arg3 harg3 arg4 harg4 arg5 harg5 arg6 harg6 arg7 harg7 arg8 harg8 arg9 harg9 arg10 harg10 arg11 harg11 arg12 harg12 arg13 harg13 arg14 harg14 arg15 harg15 arg16 harg16 arg19 (upB R0) (upB K0) (upB V0) (upB Q0) (upB C0) (upB L0) (upB R1) (upB K1) (upB V1) (upB Q1) (upB C1) (upB L1) (upK KA) (upS' S)) = ⟨(Rect.unit (s := S2x2x128x128) ![1, 0, 0, 0] S1x1x128x128.size inb_S2x2x128x128_S1x1x128x128_1_0_0_0), up4 (newOf true ((insB R1 K1 V1 Q1 C1 L1 KA) 0) (S 1 0))⟩ :: ⟨(Rect.unit (s := S2x2x128x128) ![0, 1, 0, 0] S1x1x128x128.size inb_S2x2x128x128_S1x1x128x128_0_1_0_0), up4 (newOf false ((insB R0 K0 V0 Q0 C0 L0 KA) 1) (S 0 1))⟩ :: ⟨(Rect.unit (s := S2x2x128x128) ![0, 0, 0, 0] S1x1x128x128.size inb_S2x2x128x128_S1x1x128x128_0_0_0_0), up4 (newOf false ((insB R0 K0 V0 Q0 C0 L0 KA) 0) (S 0 0))⟩ :: (kernelRun0_A.sl.HS0_1 c arg16 harg16 (upS' S)) := by
  rw [hist4, load0_up, bwd_masks, v517_A, sOut_up, hist3_A]

theorem v764_A : kernelRun0_A.sl.v764 (F := Ideal) c arg3 harg3 arg4 harg4 arg5 harg5 arg6 harg6 arg7 harg7 arg8 harg8 arg9 harg9 arg10 harg10 arg11 harg11 arg12 harg12 arg13 harg13 arg14 harg14 arg15 harg15 arg16 harg16 arg19 (upB R0) (upB K0) (upB V0) (upB Q0) (upB C0) (upB L0) (upB R1) (upB K1) (upB V1) (upB Q1) (upB C1) (upB L1) (upK KA) (upS' S) = up4 (S 1 1) := by
  unfold kernelRun0_A.sl.v764
  rw [hist4_A]
  refine (View.readCov_cons_of_disjoint _ _ _ _ ?_).trans ?_
  · exact Rect.unit_disjoint (inb := inb_S2x2x128x128_S1x1x128x128_1_0_0_0) 1 (Or.inl (by decide))
  refine (View.readCov_cons_of_disjoint _ _ _ _ ?_).trans ?_
  · exact Rect.unit_disjoint (inb := inb_S2x2x128x128_S1x1x128x128_0_1_0_0) 0 (Or.inl (by decide))
  refine (View.readCov_cons_of_disjoint _ _ _ _ ?_).trans ?_
  · exact Rect.unit_disjoint (inb := inb_S2x2x128x128_S1x1x128x128_0_0_0_0) 0 (Or.inl (by decide))
  exact start_A c arg16 harg16 arg19 S 1 1 _

theorem out14_A (hc0 : cond0_0 i) : out0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (upB R0) (upB K0) (upB V0) (upB Q0) (upB C0) (upB L0) (upB R1) (upB K1) (upB V1) (upB Q1) (upB C1) (upB L1) (upK KA) (upS' S) = upB (both fun p => yOf false ((insB R0 K0 V0 Q0 C0 L0 KA) p) (S 0 p)) := by
  unfold out0_A_14
  rw [View.read_writes_junk_eq_canon, run14_A, load0_up, load1_up, fwd_masks, v23_A, v270_A, yOut_up, yOut_up]
  exact canonY fun p => yOf false ((insB R0 K0 V0 Q0 C0 L0 KA) p) (S 0 p)

theorem out15_A (hc0 : cond0_0 i) : out0_A_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (upB R0) (upB K0) (upB V0) (upB Q0) (upB C0) (upB L0) (upB R1) (upB K1) (upB V1) (upB Q1) (upB C1) (upB L1) (upK KA) (upS' S) = upB (both fun p => yOf true ((insB R1 K1 V1 Q1 C1 L1 KA) p) (S 1 p)) := by
  unfold out0_A_15
  rw [View.read_writes_junk_eq_canon, run15_A, load0_up, load1_up, bwd_masks, v517_A, v764_A, yOut_up, yOut_up]
  exact canonY fun p => yOf true ((insB R1 K1 V1 Q1 C1 L1 KA) p) (S 1 p)

theorem outS_A (hc0 : cond0_0 i) : sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (upB R0) (upB K0) (upB V0) (upB Q0) (upB C0) (upB L0) (upB R1) (upB K1) (upB V1) (upB Q1) (upB C1) (upB L1) (upK KA) (upS' S) = upS (newB (insB R0 K0 V0 Q0 C0 L0 KA) (insB R1 K1 V1 Q1 C1 L1 KA) S) := by
  unfold sout0_A_0
  rw [View.read_writes_junk_eq_canon, runS_A, load1_up, bwd_masks, v764_A, sOut_up, hist4_A]
  exact canonS (newB (insB R0 K0 V0 Q0 C0 L0 KA) (insB R1 K1 V1 Q1 C1 L1 KA) S) (kernelRun0_A.sl.HS0_1 c arg16 harg16 (upS' S))

end Scan
-- ==== Proof.Scan.Points.lean ====
/- The kernel's input blocks at a grid point, on finite arguments. -/
module

public import proofs.«01_k».proof.Proof.Scan.Body
public import Idealize.ShloMosaic.Lib.Pipeline.Value
public import Idealize.ShloMosaic.Lib.Pipeline.ValueKit

@[expose] public section

set_option maxRecDepth 16384

noncomputable section

namespace Scan

open Idealize.ShloMosaic Idealize.ShloMosaic.TcCoe Idealize.SL.Sem Cert.KernelIdeal Cert.KernelIdeal.Gen

/-- The values over a sequence: by batch, position and lane. -/
abbrev Seq := Fin 8 → Fin 2048 → Fin 1024 → ℝ

/-- The arguments as real arrays. -/
structure Inp where
  r : Seq
  k : Seq
  v : Seq
  kk : Seq
  ic : Fin 2 → Seq
  lw : Fin 2 → Seq
  ka : Fin 1024 → ℝ
  s0 : Fin 8 → Fin 2 → Fin 8 → Mat

def upA (X : Seq) : S8x2048x1024.Idx → Elt Ideal .f32 := fun i => ((X (i 0) (i 1) (i 2) : ℝ) : EReal)
def upKA (X : Fin 1024 → ℝ) : S1x1024.Idx → Elt Ideal .f32 := fun i => ((X (i 1) : ℝ) : EReal)
def upSA (X : Fin 8 → Fin 2 → Fin 8 → Mat) : S8x2x8x128x128.Idx → Elt Ideal .f32 :=
  fun i => ((X (i 0) (i 1) (i 2) (i 3) (i 4) : ℝ) : EReal)

variable (m : (ℓ : Loc nD τ sig) → Buf (Elt Ideal) ℓ) (c : Dev nD)

/-- The arguments hold the real arrays. -/
structure Holds (a : Inp) : Prop where
  h0 : m ((c : Thread nD τ).loc main_arg0) = upA a.r
  h1 : m ((c : Thread nD τ).loc main_arg1) = upA a.k
  h2 : m ((c : Thread nD τ).loc main_arg2) = upA a.v
  h3 : m ((c : Thread nD τ).loc main_arg3) = upA a.kk
  h4 : m ((c : Thread nD τ).loc main_arg4) = upA (a.ic 0)
  h5 : m ((c : Thread nD τ).loc main_arg5) = upA (a.ic 1)
  h6 : m ((c : Thread nD τ).loc main_arg6) = upA (a.lw 0)
  h7 : m ((c : Thread nD τ).loc main_arg7) = upA (a.lw 1)
  h8 : m ((c : Thread nD τ).loc main_arg8) = upKA a.ka
  h9 : m ((c : Thread nD τ).loc main_arg9) = upSA a.s0

/-- The grid point's batch, pair of head pairs, and chunk. -/
def bt (t : Fin cfg0.N) : Fin 8 := ⟨t.val / 128 % 8, Nat.mod_lt _ (by norm_num)⟩
def ht (t : Fin cfg0.N) : Fin 4 := ⟨t.val / 32 % 4, Nat.mod_lt _ (by norm_num)⟩
def ct (t : Fin cfg0.N) : Fin 32 := ⟨t.val % 32, Nat.mod_lt _ (by norm_num)⟩

theorem coord0 (t : Fin cfg0.N) : (grid0.coords t 0).val = (bt t).val := Pipeline.Grid.coords_val t 0 (by decide) rfl
theorem coord1 (t : Fin cfg0.N) : (grid0.coords t 1).val = (ht t).val := Pipeline.Grid.coords_val t 1 (by decide) rfl
theorem coord2 (t : Fin cfg0.N) : (grid0.coords t 2).val = (ct t).val :=
  (Pipeline.Grid.coords_val (S := 1) t 2 (by decide) rfl).trans (by simp [ct])

/-- The other end's chunk. -/
def opp (q : Fin 32) : Fin 32 := ⟨31 - q.val, by omega⟩

/-- Chunk `q`'s rows and pair `h`'s lanes of a sequence. -/
def seqRow (q : Fin 32) (t : Fin 64) : Fin 2048 := ⟨64 * q.val + t.val, by have := q.isLt; have := t.isLt; omega⟩
def seqLane (h : Fin 4) (l : Fin 256) : Fin 1024 := ⟨256 * h.val + l.val, by have := h.isLt; have := l.isLt; omega⟩
def cut (X : Seq) (b : Fin 8) (h : Fin 4) (q : Fin 32) : Blk := fun t l => X b (seqRow q t) (seqLane h l)

theorem atA (X : Seq) {b b' : Fin 8} {t t' : Fin 2048} {l l' : Fin 1024} (hb : b.val = b'.val) (ht : t.val = t'.val) (hl : l.val = l'.val) :
    ((X b t l : ℝ) : EReal) = ((X b' t' l' : ℝ) : EReal) := by
  rw [Fin.ext hb, Fin.ext ht, Fin.ext hl]

theorem word (n : ℕ) (h : n < 4096) : (BitVec.ofNat 32 n).toNat = n := by
  rw [BitVec.toNat_ofNat]
  exact Nat.mod_eq_of_lt (by omega)
theorem word31 (n : ℕ) (h : n < 32) : (Scalar.subi 31#32 (BitVec.ofNat 32 n)).toNat = 31 - n := by
  show (31#32 - BitVec.ofNat 32 n).toNat = _
  rw [BitVec.toNat_sub, word n (by omega)]
  simp only [BitVec.toNat_ofNat]
  omega

theorem fwdIdx (t : Fin cfg0.N) (x : S1x64x256.Idx) :
    (BitVec.ofNat 32 (grid0.coords t 0).val).toNat * 1 + 1 * (x 0).val = (bt t).val
    ∧ (BitVec.ofNat 32 (grid0.coords t 2).val).toNat * 64 + 1 * (x 1).val = (seqRow (ct t) (x 1)).val
    ∧ (BitVec.ofNat 32 (grid0.coords t 1).val).toNat * 256 + 1 * (x 2).val = (seqLane (ht t) (x 2)).val := by
  have h0 : (x 0).val = 0 := Nat.lt_one_iff.1 (show (x 0).val < 1 from (x 0).isLt)
  have h1 := (bt t).isLt
  have h2 := (ht t).isLt
  have h3 := (ct t).isLt
  rw [coord0, coord1, coord2, word _ (by omega), word _ (by omega), word _ (by omega)]
  refine ⟨by omega, ?_, ?_⟩
  · unfold seqRow; dsimp only; omega
  · unfold seqLane; dsimp only; omega
theorem bwdIdx (t : Fin cfg0.N) (x : S1x64x256.Idx) :
    (Scalar.subi 31#32 (BitVec.ofNat 32 (grid0.coords t 2).val)).toNat * 64 + 1 * (x 1).val = (seqRow (opp (ct t)) (x 1)).val := by
  have h3 := (ct t).isLt
  rw [coord2, word31 _ h3]
  unfold seqRow opp; dsimp only; omega

section
variable {m c} {a : Inp} (hm : Holds m c a) (t : Fin cfg0.N)

include hm

theorem blk0 : iblk m c 0 t = upB (cut a.r (bt t) (ht t) (ct t)) := by
  funext x
  unfold iblk
  rw [View.read_apply]
  show V m c main_arg0 _ = _
  rw [V_main_arg0, hm.h0]
  exact atA a.r (fwdIdx t x).1 ((fwdIdx t x).2.1) (fwdIdx t x).2.2
theorem blk1 : iblk m c 1 t = upB (cut a.k (bt t) (ht t) (ct t)) := by
  funext x
  unfold iblk
  rw [View.read_apply]
  show V m c main_arg1 _ = _
  rw [V_main_arg1, hm.h1]
  exact atA a.k (fwdIdx t x).1 ((fwdIdx t x).2.1) (fwdIdx t x).2.2
theorem blk2 : iblk m c 2 t = upB (cut a.v (bt t) (ht t) (ct t)) := by
  funext x
  unfold iblk
  rw [View.read_apply]
  show V m c main_arg2 _ = _
  rw [V_main_arg2, hm.h2]
  exact atA a.v (fwdIdx t x).1 ((fwdIdx t x).2.1) (fwdIdx t x).2.2
theorem blk3 : iblk m c 3 t = upB (cut a.kk (bt t) (ht t) (ct t)) := by
  funext x
  unfold iblk
  rw [View.read_apply]
  show V m c main_arg3 _ = _
  rw [V_main_arg3, hm.h3]
  exact atA a.kk (fwdIdx t x).1 ((fwdIdx t x).2.1) (fwdIdx t x).2.2
theorem blk4 : iblk m c 4 t = upB (cut (a.ic 0) (bt t) (ht t) (ct t)) := by
  funext x
  unfold iblk
  rw [View.read_apply]
  show V m c main_arg4 _ = _
  rw [V_main_arg4, hm.h4]
  exact atA (a.ic 0) (fwdIdx t x).1 ((fwdIdx t x).2.1) (fwdIdx t x).2.2
theorem blk5 : iblk m c 5 t = upB (cut (a.lw 0) (bt t) (ht t) (ct t)) := by
  funext x
  unfold iblk
  rw [View.read_apply]
  show V m c main_arg6 _ = _
  rw [V_main_arg6, hm.h6]
  exact atA (a.lw 0) (fwdIdx t x).1 ((fwdIdx t x).2.1) (fwdIdx t x).2.2
theorem blk6 : iblk m c 6 t = upB (cut a.r (bt t) (ht t) (opp (ct t))) := by
  funext x
  unfold iblk
  rw [View.read_apply]
  show V m c main_arg0 _ = _
  rw [V_main_arg0, hm.h0]
  exact atA a.r (fwdIdx t x).1 (bwdIdx t x) (fwdIdx t x).2.2
theorem blk7 : iblk m c 7 t = upB (cut a.k (bt t) (ht t) (opp (ct t))) := by
  funext x
  unfold iblk
  rw [View.read_apply]
  show V m c main_arg1 _ = _
  rw [V_main_arg1, hm.h1]
  exact atA a.k (fwdIdx t x).1 (bwdIdx t x) (fwdIdx t x).2.2
theorem blk8 : iblk m c 8 t = upB (cut a.v (bt t) (ht t) (opp (ct t))) := by
  funext x
  unfold iblk
  rw [View.read_apply]
  show V m c main_arg2 _ = _
  rw [V_main_arg2, hm.h2]
  exact atA a.v (fwdIdx t x).1 (bwdIdx t x) (fwdIdx t x).2.2
theorem blk9 : iblk m c 9 t = upB (cut a.kk (bt t) (ht t) (opp (ct t))) := by
  funext x
  unfold iblk
  rw [View.read_apply]
  show V m c main_arg3 _ = _
  rw [V_main_arg3, hm.h3]
  exact atA a.kk (fwdIdx t x).1 (bwdIdx t x) (fwdIdx t x).2.2
theorem blk10 : iblk m c 10 t = upB (cut (a.ic 1) (bt t) (ht t) (opp (ct t))) := by
  funext x
  unfold iblk
  rw [View.read_apply]
  show V m c main_arg5 _ = _
  rw [V_main_arg5, hm.h5]
  exact atA (a.ic 1) (fwdIdx t x).1 (bwdIdx t x) (fwdIdx t x).2.2
theorem blk11 : iblk m c 11 t = upB (cut (a.lw 1) (bt t) (ht t) (opp (ct t))) := by
  funext x
  unfold iblk
  rw [View.read_apply]
  show V m c main_arg7 _ = _
  rw [V_main_arg7, hm.h7]
  exact atA (a.lw 1) (fwdIdx t x).1 (bwdIdx t x) (fwdIdx t x).2.2

theorem blk12 : iblk m c 12 t = upK (fun l => a.ka (seqLane (ht t) l)) := by
  funext x
  unfold iblk
  rw [View.read_apply]
  show V m c main_arg8 _ = _
  rw [V_main_arg8, hm.h8]
  unfold upKA upK
  refine congrArg (fun i => ((a.ka i : ℝ) : EReal)) (Fin.ext ?_)
  show (BitVec.ofNat 32 (grid0.coords t 1).val).toNat * 256 + 1 * (x 1).val = (seqLane (ht t) (x 1)).val
  have h2 := (ht t).isLt
  rw [coord1, word _ (by omega)]
  unfold seqLane; dsimp only; omega

/-- The head pair of all eight that is pair `p` of block `h`. -/
def pairOf (h : Fin 4) (p : Fin 2) : Fin 8 := ⟨2 * h.val + p.val, by have := h.isLt; have := p.isLt; omega⟩

theorem blk13 : iblk m c 13 t = upS' (fun d p => a.s0 (bt t) d (pairOf (ht t) p)) := by
  funext x
  unfold iblk
  rw [View.read_apply]
  show V m c main_arg9 _ = _
  rw [V_main_arg9, hm.h9]
  have h0 : (x 0).val = 0 := Nat.lt_one_iff.1 (show (x 0).val < 1 from (x 0).isLt)
  have h1 := (bt t).isLt
  have h2 := (ht t).isLt
  have e0 : ∀ {b b' : Fin 8} {d d' : Fin 2} {p p' : Fin 8} {i i' j j' : Fin 128}, b.val = b'.val → d.val = d'.val → p.val = p'.val →
      i.val = i'.val → j.val = j'.val → ((a.s0 b d p i j : ℝ) : EReal) = ((a.s0 b' d' p' i' j' : ℝ) : EReal) := by
    intro _ _ _ _ _ _ _ _ _ _ h1 h2 h3 h4 h5
    rw [Fin.ext h1, Fin.ext h2, Fin.ext h3, Fin.ext h4, Fin.ext h5]
  refine e0 ?_ (show 0 * 2 + 1 * (x 1).val = (x 1).val by omega) ?_ (show 0 * 128 + 1 * (x 3).val = (x 3).val by omega)
    (show 0 * 128 + 1 * (x 4).val = (x 4).val by omega)
  · show (BitVec.ofNat 32 (grid0.coords t 0).val).toNat * 1 + 1 * (x 0).val = (bt t).val
    rw [coord0, word _ (by omega)]
    omega
  · show (BitVec.ofNat 32 (grid0.coords t 1).val).toNat * 2 + 1 * (x 2).val = (pairOf (ht t) (x 2)).val
    rw [coord1, word _ (by omega)]
    unfold pairOf; dsimp only; omega
end

/-! ## Every point's outputs and states -/

/-- A head pair's inputs of the chunk met at step `q` of a row of the grid, in direction `d`. -/
def ins (a : Inp) (d : Fin 2) (b : Fin 8) (h : Fin 4) (q : Fin 32) (p : Fin 2) : Ins :=
  let q' := if d = 0 then q else opp q
  insB (cut a.r b h q') (cut a.k b h q') (cut a.v b h q') (cut a.kk b h q') (cut (a.ic d) b h q') (cut (a.lw d) b h q')
    (fun l => a.ka (seqLane h l)) p

/-- The states before step `n` of a row of the grid. -/
def stB (a : Inp) (b : Fin 8) (h : Fin 4) : ℕ → States
  | 0 => fun d p => a.s0 b d (pairOf h p)
  | n + 1 => if hn : n < 32 then newB (ins a 0 b h ⟨n, hn⟩) (ins a 1 b h ⟨n, hn⟩) (stB a b h n) else stB a b h n

theorem stB_succ (a : Inp) (b : Fin 8) (h : Fin 4) (n : ℕ) (hn : n < 32) :
    stB a b h (n + 1) = newB (ins a 0 b h ⟨n, hn⟩) (ins a 1 b h ⟨n, hn⟩) (stB a b h n) := dif_pos hn

def yF0 (a : Inp) (b : Fin 8) (h : Fin 4) (q : Fin 32) : Blk := both fun p => yOf false (ins a 0 b h q p) (stB a b h q.val 0 p)
def yF1 (a : Inp) (b : Fin 8) (h : Fin 4) (q : Fin 32) : Blk := both fun p => yOf true (ins a 1 b h q p) (stB a b h q.val 1 p)

theorem point {a : Inp} (hm : Holds m c a) : ∀ (n : ℕ) (hn : n < cfg0.N),
    outsAt0 m c n hn = (upB (yF0 a (bt ⟨n, hn⟩) (ht ⟨n, hn⟩) (ct ⟨n, hn⟩)), upB (yF1 a (bt ⟨n, hn⟩) (ht ⟨n, hn⟩) (ct ⟨n, hn⟩)),
      upS (stB a (bt ⟨n, hn⟩) (ht ⟨n, hn⟩) ((ct ⟨n, hn⟩).val + 1))) := by
  intro n
  induction n with
  | zero =>
    intro hn
    refine (outsAt0_A m c ⟨0, hn⟩ (Nat.zero_mod _)).trans ?_
    rw [blk0 hm, blk1 hm, blk2 hm, blk3 hm, blk4 hm, blk5 hm, blk6 hm, blk7 hm, blk8 hm, blk9 hm, blk10 hm, blk11 hm, blk12 hm, blk13 hm,
      out14_A, out15_A, outS_A]
    rfl
  | succ n ih =>
    intro hn
    by_cases h0 : (n + 1) % 32 = 0
    · refine (outsAt0_A m c ⟨n + 1, hn⟩ h0).trans ?_
      rw [blk0 hm, blk1 hm, blk2 hm, blk3 hm, blk4 hm, blk5 hm, blk6 hm, blk7 hm, blk8 hm, blk9 hm, blk10 hm, blk11 hm, blk12 hm, blk13 hm,
        out14_A, out15_A, outS_A]
      have hc : ct ⟨n + 1, hn⟩ = 0 := Fin.ext h0
      rw [hc]
      rfl
    · refine (outsAt0_B m c ⟨n + 1, hn⟩ h0).trans ?_
      have hn' : n < cfg0.N := by omega
      have hs : (outsAt0 m c (n + 1 - 1) (by omega)).2.2
          = upS (stB a (bt ⟨n + 1, hn⟩) (ht ⟨n + 1, hn⟩) (ct ⟨n + 1, hn⟩).val) := by
        have e := congrArg (fun z => z.2.2) (ih hn')
        refine Eq.trans e ?_
        have e1 : bt ⟨n, hn'⟩ = bt ⟨n + 1, hn⟩ := Fin.ext (by simp only [bt]; omega)
        have e2 : ht ⟨n, hn'⟩ = ht ⟨n + 1, hn⟩ := Fin.ext (by simp only [ht]; omega)
        have e3 : (ct ⟨n, hn'⟩).val + 1 = (ct ⟨n + 1, hn⟩).val := by simp only [ct]; omega
        show upS _ = _
        rw [e1, e2, e3]
      rw [blk0 hm, blk1 hm, blk2 hm, blk3 hm, blk4 hm, blk5 hm, blk6 hm, blk7 hm, blk8 hm, blk9 hm, blk10 hm, blk11 hm, blk12 hm, blk13 hm]
      dsimp only
      rw [hs, out14_B, out15_B, outS_B]
      refine congrArg₂ Prod.mk rfl (congrArg₂ Prod.mk rfl ?_)
      exact congrArg upS (stB_succ a _ _ _ (ct ⟨n + 1, hn⟩).isLt).symm

/-! ## The two result arrays -/

/-- Where a position and a lane of a result array lie: chunk and row, block and lane. -/
def rowQ (i : Fin 2048) : Fin 32 := ⟨i.val / 64, by have := i.isLt; omega⟩
def rowT (i : Fin 2048) : Fin 64 := ⟨i.val % 64, by omega⟩
def laneH (l : Fin 1024) : Fin 4 := ⟨l.val / 256, by have := l.isLt; omega⟩
def laneL (l : Fin 1024) : Fin 256 := ⟨l.val % 256, by omega⟩

/-- The two results. -/
def res0 (a : Inp) : Seq := fun b i l => yF0 a b (laneH l) (rowQ i) (rowT i) (laneL l)
def res1 (a : Inp) : Seq := fun b i l => yF1 a b (laneH l) (opp (rowQ i)) (rowT i) (laneL l)

theorem rowQ_seqRow (q : Fin 32) (t : Fin 64) : rowQ (seqRow q t) = q := Fin.ext (by have := t.isLt; simp only [rowQ, seqRow]; omega)
theorem rowT_seqRow (q : Fin 32) (t : Fin 64) : rowT (seqRow q t) = t := Fin.ext (by have := t.isLt; simp only [rowT, seqRow]; omega)
theorem laneH_seqLane (h : Fin 4) (l : Fin 256) : laneH (seqLane h l) = h := Fin.ext (by have := l.isLt; simp only [laneH, seqLane]; omega)
theorem laneL_seqLane (h : Fin 4) (l : Fin 256) : laneL (seqLane h l) = l := Fin.ext (by have := l.isLt; simp only [laneL, seqLane]; omega)
theorem opp_opp (q : Fin 32) : opp (opp q) = q := Fin.ext (by have := q.isLt; simp only [opp]; omega)

theorem res0_at (a : Inp) (b : Fin 8) (h : Fin 4) (q : Fin 32) (t : Fin 64) (l : Fin 256) :
    res0 a b (seqRow q t) (seqLane h l) = yF0 a b h q t l := by
  unfold res0
  rw [rowQ_seqRow, rowT_seqRow, laneH_seqLane, laneL_seqLane]
theorem res1_at (a : Inp) (b : Fin 8) (h : Fin 4) (q : Fin 32) (t : Fin 64) (l : Fin 256) :
    res1 a b (seqRow (opp q) t) (seqLane h l) = yF1 a b h q t l := by
  unfold res1
  rw [rowQ_seqRow, rowT_seqRow, laneH_seqLane, laneL_seqLane, opp_opp]

theorem flush0 {a : Inp} (hm : Holds m c a) (t : Fin cfg0.N) :
    (dats m 0 c).flushed 14 t = ((cfg0.win 14).blk t).view.read (Elt Ideal) (upA (res0 a)) := by
  rw [Cert.KernelIdeal.Value.flushed14, point m c hm]
  funext x
  rw [View.read_apply]
  show upB _ x = upA (res0 a) _
  unfold upB
  exact (congrArg Real.toEReal (res0_at a _ _ _ _ _).symm).trans (atA (res0 a) (fwdIdx t x).1 (fwdIdx t x).2.1 (fwdIdx t x).2.2).symm
theorem flush1 {a : Inp} (hm : Holds m c a) (t : Fin cfg0.N) :
    (dats m 0 c).flushed 15 t = ((cfg0.win 15).blk t).view.read (Elt Ideal) (upA (res1 a)) := by
  rw [Cert.KernelIdeal.Value.flushed15, point m c hm]
  funext x
  rw [View.read_apply]
  show upB _ x = upA (res1 a) _
  unfold upB
  exact (congrArg Real.toEReal (res1_at a _ _ _ _ _).symm).trans (atA (res1 a) (fwdIdx t x).1 (bwdIdx t x) (fwdIdx t x).2.2).symm

theorem fin0 {a : Inp} (hm : Holds m c a) : (dats m 0 c).arrAt 14 cfg0.N = upA (res0 a) := by
  refine (dats m 0 c).arrAt_eq_of_cover 14 _ (fun t _ => flush0 m c hm t) fun (i : S8x2048x1024.Idx) => ?_
  have h0 : (i 0).val < 8 := (i 0).isLt
  have h1 : (i 1).val < 2048 := (i 1).isLt
  have h2 : (i 2).val < 1024 := (i 2).isLt
  let t : Fin cfg0.N := ⟨(i 0).val * 128 + (i 2).val / 256 * 32 + (i 1).val / 64, lt_of_lt_of_eq (by omega) N_0.symm⟩
  refine ⟨t, flush0_14 t, ?_⟩
  show i ∈ ((View.whole main_v0_0).slice ((cfg0.win 14).rect t)).set
  erw [View.set_slice_whole]
  refine (Pipeline.Window.mem_rect_iff (cfg0.win 14) t i (by rfl)).mpr fun a => ?_
  have e1 : (bt t).val = (i 0).val := by simp only [bt, t]; omega
  have e2 : (ht t).val = (i 2).val / 256 := by simp only [ht, t]; omega
  have e3 : (ct t).val = (i 1).val / 64 := by simp only [ct, t]; omega
  match a with
  | ⟨0, _⟩ =>
    show (BitVec.ofNat 32 (grid0.coords t 0).val).toNat * 1 ≤ (i 0).val ∧ (i 0).val < (BitVec.ofNat 32 (grid0.coords t 0).val).toNat * 1 + 1
    rw [coord0, word _ (by omega)]
    omega
  | ⟨1, _⟩ =>
    show (BitVec.ofNat 32 (grid0.coords t 2).val).toNat * 64 ≤ (i 1).val ∧ (i 1).val < (BitVec.ofNat 32 (grid0.coords t 2).val).toNat * 64 + 64
    rw [coord2, word _ (by omega)]
    omega
  | ⟨2, _⟩ =>
    show (BitVec.ofNat 32 (grid0.coords t 1).val).toNat * 256 ≤ (i 2).val ∧ (i 2).val < (BitVec.ofNat 32 (grid0.coords t 1).val).toNat * 256 + 256
    rw [coord1, word _ (by omega)]
    omega

theorem fin1 {a : Inp} (hm : Holds m c a) : (dats m 0 c).arrAt 15 cfg0.N = upA (res1 a) := by
  refine (dats m 0 c).arrAt_eq_of_cover 15 _ (fun t _ => flush1 m c hm t) fun (i : S8x2048x1024.Idx) => ?_
  have h0 : (i 0).val < 8 := (i 0).isLt
  have h1 : (i 1).val < 2048 := (i 1).isLt
  have h2 : (i 2).val < 1024 := (i 2).isLt
  let t : Fin cfg0.N := ⟨(i 0).val * 128 + (i 2).val / 256 * 32 + (31 - (i 1).val / 64), lt_of_lt_of_eq (by omega) N_0.symm⟩
  refine ⟨t, flush0_15 t, ?_⟩
  show i ∈ ((View.whole main_v0_1).slice ((cfg0.win 15).rect t)).set
  erw [View.set_slice_whole]
  refine (Pipeline.Window.mem_rect_iff (cfg0.win 15) t i (by rfl)).mpr fun a => ?_
  have e1 : (bt t).val = (i 0).val := by simp only [bt, t]; omega
  have e2 : (ht t).val = (i 2).val / 256 := by simp only [ht, t]; omega
  have e3 : (ct t).val = 31 - (i 1).val / 64 := by simp only [ct, t]; omega
  match a with
  | ⟨0, _⟩ =>
    show (BitVec.ofNat 32 (grid0.coords t 0).val).toNat * 1 ≤ (i 0).val ∧ (i 0).val < (BitVec.ofNat 32 (grid0.coords t 0).val).toNat * 1 + 1
    rw [coord0, word _ (by omega)]
    omega
  | ⟨1, _⟩ =>
    show (Scalar.subi 31#32 (BitVec.ofNat 32 (grid0.coords t 2).val)).toNat * 64 ≤ (i 1).val
      ∧ (i 1).val < (Scalar.subi 31#32 (BitVec.ofNat 32 (grid0.coords t 2).val)).toNat * 64 + 64
    rw [coord2, word31 _ (by omega)]
    omega
  | ⟨2, _⟩ =>
    show (BitVec.ofNat 32 (grid0.coords t 1).val).toNat * 256 ≤ (i 2).val ∧ (i 2).val < (BitVec.ofNat 32 (grid0.coords t 1).val).toNat * 256 + 256
    rw [coord1, word _ (by omega)]
    omega

end Scan
-- ==== Proof.Scan.Heads.lean ====
/- The recurrence of one head over the whole sequence, and the kernel's results as its outputs. -/
module

public import proofs.«01_k».proof.Proof.Scan.Points

@[expose] public section

noncomputable section

namespace Scan

/-! ## The recurrence, head by head -/

/-- The row a direction reads at a step. -/
def timeRow (d : Fin 2) (τ : Fin 2048) : Fin 2048 := if d = 0 then τ else ⟨2047 - τ.val, by omega⟩

/-- Lane `j` of head `n`. -/
def hLane (n : Fin 16) (j : Fin 64) : Fin 1024 := ⟨64 * n.val + j.val, by have := n.isLt; have := j.isLt; omega⟩

/-- The place of head `n`'s lane `i` in the pair it is stored in. -/
def sub (n : Fin 16) (i : Fin 64) : Fin 128 := ⟨64 * (n.val % 2) + i.val, by have := i.isLt; omega⟩
def duo (n : Fin 16) : Fin 8 := ⟨n.val / 2, by have := n.isLt; omega⟩

abbrev Head := Fin 64 → Fin 64 → ℝ

/-- One step of the recurrence. -/
def stepH (a : Inp) (d : Fin 2) (b : Fin 8) (n : Fin 16) (s : Fin 2048) (S : Head) : Head := fun i j =>
  S i j * Real.exp (a.lw d b s (hLane n j))
    + (∑ c, S i c * -(a.kk b s (hLane n c))) * (a.kk b s (hLane n j) * a.ic d b s (hLane n j))
    + a.v b s (hLane n i) * (a.k b s (hLane n j) * (1 + (a.ic d b s (hLane n j) - 1) * a.ka (hLane n j)))

/-- The state of a head after `τ` steps. -/
def headS (a : Inp) (d : Fin 2) (b : Fin 8) (n : Fin 16) : ℕ → Head
  | 0 => fun i j => a.s0 b d (duo n) (sub n i) (sub n j)
  | τ + 1 => if h : τ < 2048 then stepH a d b n (timeRow d ⟨τ, h⟩) (headS a d b n τ) else headS a d b n τ

theorem headS_succ (a : Inp) (d : Fin 2) (b : Fin 8) (n : Fin 16) (τ : ℕ) (h : τ < 2048) :
    headS a d b n (τ + 1) = stepH a d b n (timeRow d ⟨τ, h⟩) (headS a d b n τ) := dif_pos h

/-- What a head puts out after the step at row `s`. -/
def outH (a : Inp) (b : Fin 8) (n : Fin 16) (s : Fin 2048) (S : Head) (i : Fin 64) : ℝ := ∑ j, S i j * a.r b s (hLane n j)

/-- The specified results of direction `d`. -/
def spec (a : Inp) (d : Fin 2) : Seq := fun b s l =>
  outH a b ⟨l.val / 64, by have := l.isLt; omega⟩ s
    (headS a d b ⟨l.val / 64, by have := l.isLt; omega⟩ ((timeRow d s).val + 1)) ⟨l.val % 64, by omega⟩

/-- The stored pairs of heads are block diagonal. -/
def Apart (a : Inp) : Prop := ∀ b d p, BlockDiag (a.s0 b d p)

/-! ## A stored pair of heads -/

/-- Lane `i` of half `g` of a pair. -/
def hl (g : Fin 2) (i : Fin 64) : Fin 128 := ⟨64 * g.val + i.val, by have := g.isLt; have := i.isLt; omega⟩

def headOf (h : Fin 4) (p g : Fin 2) : Fin 16 := ⟨4 * h.val + 2 * p.val + g.val, by have := h.isLt; have := p.isLt; have := g.isLt; omega⟩

theorem hl_div (g : Fin 2) (i : Fin 64) : (hl g i).val / 64 = g.val := by have := i.isLt; simp only [hl]; omega

theorem sum_hl (g : Fin 2) (f : Fin 128 → ℝ) (h0 : ∀ k : Fin 128, g.val ≠ k.val / 64 → f k = 0) : ∑ k, f k = ∑ j, f (hl g j) := by
  rw [sum_two]
  match g with
  | 0 =>
    rw [Finset.sum_eq_zero (s := Finset.univ) (f := fun t => f (bot t)) fun t _ => h0 _ (by rw [head_bot]; decide), add_zero]
    exact Finset.sum_congr rfl fun j _ => congrArg f (Fin.ext (by simp only [top, hl]; simp))
  | 1 =>
    rw [Finset.sum_eq_zero (s := Finset.univ) (f := fun t => f (top t)) fun t _ => h0 _ (by rw [head_top]; decide), zero_add]
    exact Finset.sum_congr rfl fun j _ => congrArg f (Fin.ext (by simp only [bot, hl]; simp))

theorem zOf_hl (S : Mat) (hS : BlockDiag S) (q : Fin 128 → ℝ) (g : Fin 2) (i : Fin 64) :
    zOf S q (hl g i) = ∑ j, S (hl g i) (hl g j) * q (hl g j) :=
  sum_hl g _ fun k hk => by rw [hS _ _ (by rw [hl_div]; exact hk), zero_mul]

theorem lane_head (h : Fin 4) (p g : Fin 2) (j : Fin 64) : seqLane h (lane p (hl g j)) = hLane (headOf h p g) j :=
  Fin.ext (by simp only [seqLane, lane, hl, hLane, headOf]; omega)

theorem sub_head (h : Fin 4) (p g : Fin 2) (i : Fin 64) : sub (headOf h p g) i = hl g i :=
  Fin.ext (by have := g.isLt; simp only [sub, hl, headOf]; omega)

theorem duo_head (h : Fin 4) (p g : Fin 2) : duo (headOf h p g) = pairOf h p :=
  Fin.ext (by have := g.isLt; simp only [duo, pairOf, headOf]; omega)

/-- Whether a direction runs backwards. -/
def back (d : Fin 2) : Bool := if d = 0 then false else true

/-- The chunk a direction reads at a step of the grid. -/
def chunk (d : Fin 2) (q : Fin 32) : Fin 32 := if d = 0 then q else opp q

/-- The step of the recurrence at row `t` of chunk `q`. -/
def stepAt (d : Fin 2) (q : Fin 32) (t : Fin 64) : ℕ := 64 * q.val + pos (back d) t

theorem stepAt_lt (d : Fin 2) (q : Fin 32) (t : Fin 64) : stepAt d q t < 2048 := by
  have := pos_lt (back d) t; have := q.isLt; unfold stepAt; omega

theorem row_time (d : Fin 2) (q : Fin 32) (t : Fin 64) : seqRow (chunk d q) t = timeRow d ⟨stepAt d q t, stepAt_lt d q t⟩ := by
  have := q.isLt
  have := t.isLt
  match d with
  | 0 => exact Fin.ext (by simp [seqRow, chunk, timeRow, stepAt, pos, back])
  | 1 => exact Fin.ext (by simp [seqRow, chunk, timeRow, stepAt, pos, back, opp]; omega)

variable (a : Inp) (d : Fin 2) (b : Fin 8) (h : Fin 4) (p : Fin 2)

/-- A pair's state and the states of its two heads. -/
def Agrees (S : Mat) (τ : ℕ) : Prop := ∀ g i j, S (hl g i) (hl g j) = headS a d b (headOf h p g) τ i j

theorem step_agrees (q : Fin 32) (t : Fin 64) (S : Mat) (hS : BlockDiag S) (hA : Agrees a d b h p S (stepAt d q t)) :
    Agrees a d b h p (stepS (ins a d b h q p) t S) (stepAt d q t + 1) := by
  intro g i j
  rw [headS_succ _ _ _ _ _ (stepAt_lt d q t), ← row_time]
  unfold stepS stepH
  rw [if_pos (by rw [hl_div, hl_div]), zOf_hl S hS]
  have e : ∀ j, seqLane h (lane p (hl g j)) = hLane (headOf h p g) j := lane_head h p g
  simp only [← e, ← hA g]
  rfl

theorem seq_agrees (q : Fin 32) (S : Mat) (hS : BlockDiag S) (hA : Agrees a d b h p S (64 * q.val)) :
    ∀ τ, τ ≤ 64 → Agrees a d b h p (seqS (back d) (ins a d b h q p) S τ) (64 * q.val + τ)
  | 0, _ => hA
  | τ + 1, hτ => by
    have ih := seq_agrees q S hS hA τ (by omega)
    have e : stepAt d q (rowAt (back d) ⟨τ, by omega⟩) = 64 * q.val + τ := by unfold stepAt; rw [pos_rowAt]
    rw [seqS_succ _ _ _ _ (by omega), ← Nat.add_assoc, ← e]
    exact step_agrees a d b h p q _ _ (seqS_blockDiag _ _ _ hS _) (by rw [e]; exact ih)

theorem stB_next (n : ℕ) (hn : n < 32) :
    stB a b h (n + 1) d p = newOf (back d) (ins a d b h ⟨n, hn⟩ p) (stB a b h n d p) := by
  rw [stB_succ _ _ _ _ hn]
  match d with
  | 0 => rfl
  | 1 => rfl

theorem stB_agrees (hap : Apart a) : ∀ n, n ≤ 32 → BlockDiag (stB a b h n d p) ∧ Agrees a d b h p (stB a b h n d p) (64 * n)
  | 0, _ => ⟨hap b d _, fun g i j => by
      show a.s0 b d (pairOf h p) (hl g i) (hl g j) = a.s0 b d (duo (headOf h p g)) (sub (headOf h p g) i) (sub (headOf h p g) j)
      rw [duo_head, sub_head, sub_head]⟩
  | n + 1, hn => by
    have ih := stB_agrees hap n (by omega)
    rw [stB_next a d b h p n (by omega), new_eq _ _ _ ih.1]
    exact ⟨seqS_blockDiag _ _ _ ih.1 _, seq_agrees a d b h p ⟨n, by omega⟩ _ ih.1 ih.2 64 le_rfl⟩

theorem y_out (hap : Apart a) (q : Fin 32) (t : Fin 64) (g : Fin 2) (i : Fin 64) :
    yOf (back d) (ins a d b h q p) (stB a b h q.val d p) t (hl g i)
      = outH a b (headOf h p g) (seqRow (chunk d q) t) (headS a d b (headOf h p g) (stepAt d q t + 1)) i := by
  have hs := stB_agrees a d b h p hap q.val (le_of_lt q.isLt)
  have hb := seqS_blockDiag (back d) (ins a d b h q p) _ hs.1 (pos (back d) t + 1)
  have hq := seq_agrees a d b h p q _ hs.1 hs.2 (pos (back d) t + 1) (pos_lt _ _)
  rw [y_eq _ _ _ hs.1, zOf_hl _ hb]
  refine Finset.sum_congr rfl fun j _ => ?_
  rw [hq g i j]
  show _ * a.r b _ (seqLane h (lane p (hl g j))) = _
  rw [lane_head]
  rfl

theorem both_out (hap : Apart a) (q : Fin 32) (t : Fin 64) (l : Fin 256) :
    both (fun p => yOf (back d) (ins a d b h q p) (stB a b h q.val d p)) t l
      = spec a d b (seqRow (chunk d q) t) (seqLane h l) := by
  have hl' := l.isLt
  have hh := h.isLt
  obtain ⟨p, g, i, rfl⟩ : ∃ p g i, l = lane p (hl g i) := ⟨⟨l.val / 128, by omega⟩, ⟨l.val % 128 / 64, by omega⟩, ⟨l.val % 64, by omega⟩,
    Fin.ext (by simp only [lane, hl]; omega)⟩
  have e1 : pair (lane p (hl g i)) = p := Fin.ext (by have := g.isLt; simp only [pair, lane, hl]; omega)
  have e2 : within (lane p (hl g i)) = hl g i := Fin.ext (by have := g.isLt; simp only [within, lane, hl]; omega)
  unfold both
  rw [e1, e2]
  refine (y_out a d b h p hap q t g i).trans ?_
  unfold spec
  have f1 : ∀ x, (⟨(seqLane h (lane p (hl g i))).val / 64, x⟩ : Fin 16) = headOf h p g := fun _ =>
    Fin.ext (by simp only [seqLane, lane, hl, headOf]; omega)
  have f2 : ∀ x, (⟨(seqLane h (lane p (hl g i))).val % 64, x⟩ : Fin 64) = i := fun _ =>
    Fin.ext (by have := i.isLt; simp only [seqLane, lane, hl]; omega)
  have f3 : (timeRow d (seqRow (chunk d q) t)).val = stepAt d q t := by
    rw [row_time]
    have := stepAt_lt d q t
    match d with
    | 0 => simp [timeRow]
    | 1 => simp only [timeRow]; simp; omega
  rw [f1, f2, f3]

/-- The kernel's results are the specified ones. -/
theorem res0_spec (hap : Apart a) : res0 a = spec a 0 := by
  funext b s l
  have e1 : seqRow (chunk 0 (rowQ s)) (rowT s) = s := Fin.ext (by simp only [seqRow, chunk, rowQ, rowT, if_pos]; omega)
  have e2 : seqLane (laneH l) (laneL l) = l := Fin.ext (by simp only [seqLane, laneH, laneL]; omega)
  exact (both_out a 0 b (laneH l) hap (rowQ s) (rowT s) (laneL l)).trans (by rw [e1, e2])

theorem res1_spec (hap : Apart a) : res1 a = spec a 1 := by
  funext b s l
  have e1 : seqRow (chunk 1 (opp (rowQ s))) (rowT s) = s := by
    show seqRow (opp (opp (rowQ s))) (rowT s) = s
    rw [opp_opp]
    exact Fin.ext (by simp only [seqRow, rowQ, rowT]; omega)
  have e2 : seqLane (laneH l) (laneL l) = l := Fin.ext (by simp only [seqLane, laneH, laneL]; omega)
  exact (both_out a 1 b (laneH l) hap (opp (rowQ s)) (rowT s) (laneL l)).trans (by rw [e1, e2])

end Scan
-- ==== Proof.Scan.Tame.lean ====
/- What the precondition gives: real arrays behind the arguments, and states with no entries across heads. -/
module

public import proofs.«01_k».proof.Proof.Scan.Heads
public import proofs.«01_k».proof.Proof.Gen.Pre_tame
public import Idealize.ShloMosaic.Lib.ReduceAll
public import Idealize.ShloMosaic.Lib.KernelVsHost

@[expose] public section

set_option maxRecDepth 16384

noncomputable section

namespace Scan

open Idealize.ShloMosaic Cert.Pre_tame

/-- An array is finite where the test of its absolute values says so everywhere. -/
theorem finite_of {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j
      = 1#1) (i : s.Idx) : ((EReal.toReal (x i) : ℝ) : EReal) = x i := by
  haveI : Subsingleton S_.Idx := ⟨fun a b => funext fun k => k.elim0⟩
  have h1 := Host.reduce_andi_all _ _ h hu j e i
  have h2 : Ideal.cmp .olt (max (x i : EReal) (-(x i : EReal))) (Ideal.ofBits .f32 0x7F800000#32) = 1#1 := h1
  have htop : Ideal.ofBits .f32 0x7F800000#32 = ⊤ := by simp [Ideal.ofBits, Ideal.ieee]
  rw [htop] at h2
  have h3 : max (x i : EReal) (-(x i : EReal)) < ⊤ := by
    by_contra hn
    unfold Ideal.cmp at h2
    simp [hn] at h2
  refine EReal.coe_toReal (fun ht => ?_) (fun hbt => ?_)
  · rw [ht] at h3; exact absurd h3 (by simp)
  · rw [hbt] at h3; exact absurd h3 (by simp)

theorem zero_of {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .oeq x (broadcastInDim s ![] hb (constant S_ .f32 0x00000000#32))) (constantI S_ 1 1#1) h hu j = 1#1)
    (i : s.Idx) : x i = (0 : EReal) := by
  haveI : Subsingleton S_.Idx := ⟨fun a b => funext fun k => k.elim0⟩
  have h1 := Host.reduce_andi_all _ _ h hu j e i
  have h2 : Ideal.cmp .oeq (x i : EReal) (Ideal.ofBits .f32 0x00000000#32) = 1#1 := h1
  rw [Ideal.ofBits_zero_f32] at h2
  by_contra hn
  unfold Ideal.cmp at h2
  simp [hn] at h2

variable (x0 x1 x2 x3 x4 x5 x6 x7 : FVec Ideal S8x2048x1024 .f32) (x8 : FVec Ideal S1x1024 .f32) (x9 : FVec Ideal S8x2x8x128x128 .f32)

/-- The real arrays behind the arguments. -/
def reals : Inp where
  r b s l := EReal.toReal (x0 (ValueIdx.ix3 b s l))
  k b s l := EReal.toReal (x1 (ValueIdx.ix3 b s l))
  v b s l := EReal.toReal (x2 (ValueIdx.ix3 b s l))
  kk b s l := EReal.toReal (x3 (ValueIdx.ix3 b s l))
  ic d b s l := if d = 0 then EReal.toReal (x4 (ValueIdx.ix3 b s l)) else EReal.toReal (x5 (ValueIdx.ix3 b s l))
  lw d b s l := if d = 0 then EReal.toReal (x6 (ValueIdx.ix3 b s l)) else EReal.toReal (x7 (ValueIdx.ix3 b s l))
  ka l := EReal.toReal (x8 (ValueIdx.ix2 0 l))
  s0 b d p i j := EReal.toReal (x9 (ValueIdx.ix5 b d p i j))

theorem seq_up (x : FVec Ideal S8x2048x1024 .f32) (h : ∀ i, ((EReal.toReal (x i) : ℝ) : EReal) = x i) :
    x = upA fun b s l => EReal.toReal (x (ValueIdx.ix3 b s l)) := by
  funext i
  rw [← h i]
  exact congrArg (fun i => ((EReal.toReal (x i) : ℝ) : EReal)) (ValueIdx.eq_ix3 i)

/-- What the precondition says of the arguments. -/
structure Fine (a : Inp) : Prop where
  h0 : x0 = upA a.r
  h1 : x1 = upA a.k
  h2 : x2 = upA a.v
  h3 : x3 = upA a.kk
  h4 : x4 = upA (a.ic 0)
  h5 : x5 = upA (a.ic 1)
  h6 : x6 = upA (a.lw 0)
  h7 : x7 = upA (a.lw 1)
  h8 : x8 = upKA a.ka
  h9 : x9 = upSA a.s0
  ap : Apart a

theorem and_one {a b : IVec S_ 1} {j : S_.Idx} (h : andi a b j = 1#1) : a j = 1#1 ∧ b j = 1#1 := by
  have h' : (a j) &&& (b j) = 1#1 := h
  revert h'
  generalize a j = p, b j = q
  revert p q
  decide

theorem tame_fine (h : fn (F := Ideal) x0 x1 x2 x3 x4 x5 x6 x7 x8 x9 = fun _ => 1#1) :
    Fine x0 x1 x2 x3 x4 x5 x6 x7 x8 x9 (reals x0 x1 x2 x3 x4 x5 x6 x7 x8 x9) := by
  have hj := congrFun h (Shape.Idx.first Facts.h_S_)
  unfold fn fn_part1 fn_part2 fn_part3 at hj
  obtain ⟨hj, e11⟩ := and_one hj
  obtain ⟨hj, e10⟩ := and_one hj
  obtain ⟨hj, e9⟩ := and_one hj
  obtain ⟨hj, e8⟩ := and_one hj
  obtain ⟨hj, e7⟩ := and_one hj
  obtain ⟨hj, e6⟩ := and_one hj
  obtain ⟨hj, e5⟩ := and_one hj
  obtain ⟨hj, e4⟩ := and_one hj
  obtain ⟨hj, e3⟩ := and_one hj
  obtain ⟨hj, e2⟩ := and_one hj
  obtain ⟨e0, e1⟩ := and_one hj
  have z0 := zero_of _ _ _ _ _ e10
  have z1 := zero_of _ _ _ _ _ e11
  refine ⟨seq_up _ (finite_of _ _ _ _ _ e0), seq_up _ (finite_of _ _ _ _ _ e1), seq_up _ (finite_of _ _ _ _ _ e2),
    seq_up _ (finite_of _ _ _ _ _ e3), seq_up _ (finite_of _ _ _ _ _ e4), seq_up _ (finite_of _ _ _ _ _ e5),
    seq_up _ (finite_of _ _ _ _ _ e6), seq_up _ (finite_of _ _ _ _ _ e7), ?_, ?_, ?_⟩
  · funext i
    rw [← finite_of _ _ _ _ _ e8 i]
    refine congrArg (fun i => ((EReal.toReal (x8 i) : ℝ) : EReal)) ((ValueIdx.eq_ix2 i).trans ?_)
    exact congrArg (fun k : Fin 1 => ValueIdx.ix2 k (i 1)) (Fin.ext (Nat.lt_one_iff.1 (show (i 0).val < 1 from (i 0).isLt)) : (i 0 : Fin 1) = (0 : Fin 1))
  · funext i
    rw [← finite_of _ _ _ _ _ e9 i]
    exact congrArg (fun i => ((EReal.toReal (x9 i) : ℝ) : EReal)) (ValueIdx.eq_ix5 i)
  · intro b d p l k hlk
    show EReal.toReal (x9 (ValueIdx.ix5 b d p l k)) = 0
    have hl := l.isLt
    have hk := k.isLt
    have key : x9 (ValueIdx.ix5 b d p l k) = (0 : EReal) := by
      by_cases h0 : l.val < 64
      · refine (congrArg x9 (funext fun a => Fin.ext ?_)).trans (z0 (ValueIdx.ix5 b d p (⟨l.val, h0⟩ : Fin 64) (⟨k.val - 64, by omega⟩ : Fin 64)))
        match a with
        | 0 => exact (show b.val = 0 + b.val by omega)
        | 1 => exact (show d.val = 0 + d.val by omega)
        | 2 => exact (show p.val = 0 + p.val by omega)
        | 3 => exact (show l.val = 0 + l.val by omega)
        | 4 => exact (show k.val = 64 + (k.val - 64) by omega)
      · refine (congrArg x9 (funext fun a => Fin.ext ?_)).trans (z1 (ValueIdx.ix5 b d p (⟨l.val - 64, by omega⟩ : Fin 64) (⟨k.val, by omega⟩ : Fin 64)))
        match a with
        | 0 => exact (show b.val = 0 + b.val by omega)
        | 1 => exact (show d.val = 0 + d.val by omega)
        | 2 => exact (show p.val = 0 + p.val by omega)
        | 3 => exact (show l.val = 64 + (l.val - 64) by omega)
        | 4 => exact (show k.val = 0 + k.val by omega)
    rw [key]
    rfl

end Scan
-- ==== Proof.Scan.RefOps.lean ====
/- The reference's array operations on arrays of finite numbers. -/
module

public import proofs.«01_k».proof.Proof.Scan.Heads
public import proofs.«01_k».proof.Proof.Gen.ReferenceIdeal.Run
public import Idealize.ShloMosaic.Lib.ValueIdxRank6
public import Idealize.ShloMosaic.Lib.DynamicIndex

@[expose] public section

set_option maxRecDepth 16384

noncomputable section

namespace Scan

open Idealize.ShloMosaic Idealize.ShloMosaic.TcCoe Cert.ReferenceIdeal Cert.ReferenceIdeal.Gen Cert.ReferenceIdeal.Value

/-- Real arrays: every step's rows, one step's row, the states of all heads. -/
abbrev Steps := Fin 2048 → Fin 2 → Fin 8 → Fin 16 → Fin 64 → ℝ
abbrev Row := Fin 2 → Fin 8 → Fin 16 → Fin 64 → ℝ
abbrev Heads := Fin 2 → Fin 8 → Fin 16 → Head

def up5 (V : Steps) : FVec Ideal S2048x2x8x16x64 .f32 := fun i => ((V (i 0) (i 1) (i 2) (i 3) (i 4) : ℝ) : EReal)
def upR (v : Row) : FVec Ideal S2x8x16x64 .f32 := fun i => ((v (i 0) (i 1) (i 2) (i 3) : ℝ) : EReal)
def upG (S : Heads) : FVec Ideal S2x8x16x64x64 .f32 := fun i => ((S (i 0) (i 1) (i 2) (i 3) (i 4) : ℝ) : EReal)

theorem at5 (V : Steps) {s s' : Fin 2048} {d d' : Fin 2} {b b' : Fin 8} {g g' : Fin 16} {i i' : Fin 64} (h1 : s.val = s'.val) (h2 : d.val = d'.val)
    (h3 : b.val = b'.val) (h4 : g.val = g'.val) (h5 : i.val = i'.val) : ((V s d b g i : ℝ) : EReal) = ((V s' d' b' g' i' : ℝ) : EReal) := by
  rw [Fin.ext h1, Fin.ext h2, Fin.ext h3, Fin.ext h4, Fin.ext h5]

/-- The counter at step `n`. -/
def tick (n : ℕ) : IVec S_ 32 := fun _ => BitVec.ofNat 32 n

theorem tick_int (n : ℕ) (h : n < 2048) : (BitVec.ofNat 32 n).toInt = n := by
  rw [BitVec.toInt_eq_toNat_of_lt (by rw [BitVec.toNat_ofNat]; omega), BitVec.toNat_ofNat]
  omega

theorem start_at (n : ℕ) (h : n < 2048) (k : Fin 5) :
    ((((![tick n, constantI S_ 32 0#32, constantI S_ 32 0#32, constantI S_ 32 0#32, constantI S_ 32 0#32] :
      Fin 5 → IVec S_ 32)) k (Shape.Idx.first h_S_)).toInt) = ((![n, 0, 0, 0, 0] : Fin 5 → ℕ) k : ℤ) := by
  match k with
  | 0 => exact tick_int n h
  | 1 => rfl
  | 2 => rfl
  | 3 => rfl
  | 4 => rfl

theorem drop0 (Z : S1x2x8x16x64.Idx → EReal) (d : Fin 2) (b : Fin 8) (n : Fin 16) (j : Fin 64) :
    shapeCast S2x8x16x64 Z shapeCasts_S1x2x8x16x64_S2x8x16x64 (ix4 d b n j) = Z (ix5 0 d b n j) :=
  shapeCast_apply _ _ _ _ (by
    rw [Shape.rowMajor_val_five, Shape.rowMajor_val_four]
    show (((0 * 2 + d.val) * 8 + b.val) * 16 + n.val) * 64 + j.val = ((d.val * 8 + b.val) * 16 + n.val) * 64 + j.val
    omega)

theorem read_row (V : Steps) (n : ℕ) (h : n < 2048) :
    shapeCast S2x8x16x64 (Host.dynamicSlice S1x2x8x16x64 (up5 V) (fun k => (((![tick n, constantI S_ 32 0#32, constantI S_ 32 0#32,
      constantI S_ 32 0#32, constantI S_ 32 0#32] : Fin 5 → IVec S_ 32)) k (Shape.Idx.first h_S_)).toInt)
      sliceFits_S2048x2x8x16x64_S1x2x8x16x64) shapeCasts_S1x2x8x16x64_S2x8x16x64 = upR (V ⟨n, h⟩) := by
  have hoff : S2048x2x8x16x64.Slices ![n, 0, 0, 0, 0] S1x2x8x16x64 := ⟨rfl, fun a => by
    match a with
    | 0 => show n + 1 ≤ 2048; omega
    | 1 => exact (show 0 + 2 ≤ 2 by omega)
    | 2 => exact (show 0 + 8 ≤ 8 by omega)
    | 3 => exact (show 0 + 16 ≤ 16 by omega)
    | 4 => exact (show 0 + 64 ≤ 64 by omega)⟩
  rw [Host.dynamicSlice_eq_extractStridedSlice _ _ _ ![n, 0, 0, 0, 0] _ hoff (start_at n h)]
  funext j
  rw [eq_ix4 j]
  refine (drop0 _ (j 0) (j 1) (j 2) (j 3)).trans ?_
  exact at5 V (show n + 0 = n by omega) (show 0 + (j 0).val = (j 0).val by omega) (show 0 + (j 1).val = (j 1).val by omega)
    (show 0 + (j 2).val = (j 2).val by omega) (show 0 + (j 3).val = (j 3).val by omega)

/-- A row spread over the columns' side and over the rows' side of the states. -/
theorem along (v : Row) : broadcastInDim S2x8x16x64x64 ![0, 1, 2, 3, 4] bcast_S2x8x16x1x64_S2x8x16x64x64_0_1_2_3_4
    (broadcastInDim S2x8x16x1x64 ![0, 1, 2, 4] bcast_S2x8x16x64_S2x8x16x1x64_0_1_2_4 (upR v)) = upG (fun d b n i j => v d b n j) := by
  funext i
  rfl
theorem down (v : Row) : broadcastInDim S2x8x16x64x64 ![0, 1, 2, 3, 4] bcast_S2x8x16x64x1_S2x8x16x64x64_0_1_2_3_4
    (broadcastInDim S2x8x16x64x1 ![0, 1, 2, 3] bcast_S2x8x16x64_S2x8x16x64x1_0_1_2_3 (upR v)) = upG (fun d b n i j => v d b n i) := by
  funext i
  rfl

theorem addG (S T : Heads) : addf (upG S) (upG T) = upG (fun d b n i j => S d b n i j + T d b n i j) :=
  funext fun _ => (EReal.coe_add _ _).symm
theorem mulG (S T : Heads) : mulf (upG S) (upG T) = upG (fun d b n i j => S d b n i j * T d b n i j) :=
  funext fun _ => (EReal.coe_mul _ _).symm

theorem dotG (S : Heads) (v : Row) : Host.dotGeneral dot_S2x8x16x64x64_S2x8x16x64_S2x8x16x64_4_3_3_n_012_012 none (upG S) (upR v)
    = upR (fun d b n i => ∑ j, S d b n i j * v d b n j) := by
  funext j
  show FloatOps.dotGeneral _ none _ (upG S) (upR v) j = _
  rw [Ideal.dotGeneral_apply, ← Equiv.sum_comp (ValueIdx.contrEquiv1 dot_S2x8x16x64x64_S2x8x16x64_S2x8x16x64_4_3_3_n_012_012 64 rfl rfl).symm]
  unfold upR
  rw [coe_sum]
  refine Finset.sum_congr rfl fun c _ => ?_
  rw [EReal.coe_mul]
  have c3 := ValueIdx.contrEquiv1_symm_val dot_S2x8x16x64x64_S2x8x16x64_S2x8x16x64_4_3_3_n_012_012 64 rfl rfl c
  have hl : ∀ a : Fin 5, (dot_S2x8x16x64x64_S2x8x16x64_S2x8x16x64_4_3_3_n_012_012.lhsIdx j ((ValueIdx.contrEquiv1 _ 64 rfl rfl).symm c) a).val
      = (ix5 (j 0) (j 1) (j 2) (j 3) c a).val := fun a => by
    match a with
    | 0 => rfl
    | 1 => rfl
    | 2 => rfl
    | 3 => rfl
    | 4 => exact c3
  have hr : ∀ a : Fin 4, (dot_S2x8x16x64x64_S2x8x16x64_S2x8x16x64_4_3_3_n_012_012.rhsIdx j ((ValueIdx.contrEquiv1 _ 64 rfl rfl).symm c) a).val
      = (ix4 (j 0) (j 1) (j 2) c a).val := fun a => by
    match a with
    | 0 => rfl
    | 1 => rfl
    | 2 => rfl
    | 3 => exact c3
  exact congrArg₂ (· * ·) (congrArg (upG S) (funext fun a => Fin.ext (hl a))) (congrArg (fun i => upR v i) (funext fun a => Fin.ext (hr a)))

/-- One step's output row written in its place. -/
theorem write_row (Y : Steps) (v : Row) (n : ℕ) (h : n < 2048) :
    Host.dynamicUpdateSlice (up5 Y) (broadcastInDim S1x2x8x16x64 ![1, 2, 3, 4] bcast_S2x8x16x64_S1x2x8x16x64_1_2_3_4 (upR v))
      (fun k => (((![tick n, constantI S_ 32 0#32, constantI S_ 32 0#32, constantI S_ 32 0#32, constantI S_ 32 0#32] :
        Fin 5 → IVec S_ 32)) k (Shape.Idx.first h_S_)).toInt) updateFits_S2048x2x8x16x64_S1x2x8x16x64
      = up5 (fun s d b g i => if s.val = n then v d b g i else Y s d b g i) := by
  have hoff : S2048x2x8x16x64.Slices ![n, 0, 0, 0, 0] S1x2x8x16x64 := ⟨rfl, fun a => by
    match a with
    | 0 => show n + 1 ≤ 2048; omega
    | 1 => exact (show 0 + 2 ≤ 2 by omega)
    | 2 => exact (show 0 + 8 ≤ 8 by omega)
    | 3 => exact (show 0 + 16 ≤ 16 by omega)
    | 4 => exact (show 0 + 64 ≤ 64 by omega)⟩
  rw [Host.dynamicUpdateSlice_eq_updateSlice _ _ _ _ ![n, 0, 0, 0, 0] (fun a => by have := hoff.2 a; rw [start_at n h a]; omega) hoff]
  funext i
  have i1 : (i 1).val < 2 := (i 1).isLt
  have i2 : (i 2).val < 8 := (i 2).isLt
  have i3 : (i 3).val < 16 := (i 3).isLt
  have i4 : (i 4).val < 64 := (i 4).isLt
  unfold updateSlice
  by_cases hs : (i 0).val = n
  · rw [dif_pos (fun a => by
      match a with
      | 0 => exact ⟨le_of_eq hs.symm, show (i 0).val < n + 1 by omega⟩
      | 1 => exact ⟨Nat.zero_le _, show (i 1).val < 0 + 2 by omega⟩
      | 2 => exact ⟨Nat.zero_le _, show (i 2).val < 0 + 8 by omega⟩
      | 3 => exact ⟨Nat.zero_le _, show (i 3).val < 0 + 16 by omega⟩
      | 4 => exact ⟨Nat.zero_le _, show (i 4).val < 0 + 64 by omega⟩)]
    exact congrArg Real.toEReal (if_pos hs).symm
  · rw [dif_neg (fun hh => by
      have h0 := hh 0
      exact hs (by have h1 : n ≤ (i 0).val := h0.1; have h2 : (i 0).val < n + 1 := h0.2; omega))]
    exact congrArg Real.toEReal (if_neg hs).symm

/-! ## Before and after the loop -/

/-- The rows of both directions, each in the order its own scan reads them. -/
def steps (X : Fin 2 → Seq) : Steps := fun τ d b n j => X d b (timeRow d τ) (hLane n j)

/-- Heads and lanes of a row, apart and together. -/
theorem part (Z : Seq) (b : Fin 8) (s : Fin 2048) (n : Fin 16) (j : Fin 64) :
    shapeCast S8x2048x16x64 (upA Z) shapeCasts_S8x2048x1024_S8x2048x16x64 (ix4 b s n j) = ((Z b s (hLane n j) : ℝ) : EReal) := by
  rw [shapeCast_apply _ _ (ix4 b s n j) (ix3 b s (hLane n j)) (by
    rw [Shape.rowMajor_val_three, Shape.rowMajor_val_four]
    show (b.val * 2048 + s.val) * 1024 + (64 * n.val + j.val) = ((b.val * 2048 + s.val) * 16 + n.val) * 64 + j.val
    omega)]
  rfl

def headIx (l : Fin 1024) : Fin 16 := ⟨l.val / 64, by have := l.isLt; omega⟩
def laneIx (l : Fin 1024) : Fin 64 := ⟨l.val % 64, by omega⟩

theorem join (Z : S8x2048x16x64.Idx → EReal) (b : Fin 8) (s : Fin 2048) (l : Fin 1024) :
    shapeCast S8x2048x1024 Z shapeCasts_S8x2048x16x64_S8x2048x1024 (ix3 b s l) = Z (ix4 b s (headIx l) (laneIx l)) :=
  shapeCast_apply _ _ _ _ (by
    rw [Shape.rowMajor_val_three, Shape.rowMajor_val_four]
    show ((b.val * 2048 + s.val) * 16 + l.val / 64) * 64 + l.val % 64 = (b.val * 2048 + s.val) * 1024 + l.val
    omega)

theorem drop1 (Z : S2048x1x8x16x64.Idx → EReal) (s : Fin 2048) (b : Fin 8) (n : Fin 16) (j : Fin 64) :
    shapeCast S2048x8x16x64 Z shapeCasts_S2048x1x8x16x64_S2048x8x16x64 (ix4 s b n j) = Z (ix5 s 0 b n j) :=
  shapeCast_apply _ _ _ _ (by
    rw [Shape.rowMajor_val_five, Shape.rowMajor_val_four]
    show (((s.val * 1 + 0) * 8 + b.val) * 16 + n.val) * 64 + j.val = ((s.val * 8 + b.val) * 16 + n.val) * 64 + j.val
    omega)

theorem merge (Z : S8x2x8x2x64x64.Idx → EReal) (b : Fin 8) (d : Fin 2) (n : Fin 16) (i j : Fin 64) :
    shapeCast S8x2x16x64x64 Z shapeCasts_S8x2x8x2x64x64_S8x2x16x64x64 (ix5 b d n i j)
      = Z (ix6 b d (duo n) (⟨n.val % 2, by omega⟩ : Fin 2) i j) :=
  shapeCast_apply _ _ _ _ (by
    rw [Shape.rowMajor_val_five, Shape.rowMajor_val_six]
    show ((((b.val * 2 + d.val) * 8 + n.val / 2) * 2 + n.val % 2) * 64 + i.val) * 64 + j.val
        = (((b.val * 2 + d.val) * 16 + n.val) * 64 + i.val) * 64 + j.val
    omega)

/-- The array of a sequence, time first and heads apart. -/
abbrev timed (X : Seq) : FVec Ideal S2048x8x16x64 .f32 :=
  transpose S2048x8x16x64 [1, 0, 2, 3] (shapeCast S8x2048x16x64 (upA X) shapeCasts_S8x2048x1024_S8x2048x16x64)
    transposes_S8x2048x16x64_S2048x8x16x64_1_0_2_3

theorem front_at {α : Type} (Z : S8x2048x16x64.Idx → α) (s : Fin 2048) (b : Fin 8) (n : Fin 16) (j : Fin 64) :
    transpose S2048x8x16x64 [1, 0, 2, 3] Z transposes_S8x2048x16x64_S2048x8x16x64_1_0_2_3 (ix4 s b n j) = Z (ix4 b s n j) := by
  refine congrArg Z (funext fun a => ?_)
  match a with
  | 0 => rfl
  | 1 => rfl
  | 2 => rfl
  | 3 => rfl

theorem timed_at (X : Seq) (s : Fin 2048) (b : Fin 8) (n : Fin 16) (j : Fin 64) :
    timed X (ix4 s b n j) = ((X b s (hLane n j) : ℝ) : EReal) := by
  exact (front_at _ s b n j).trans (part X b s n j)

theorem flip_at {α : Type} (Z : S2048x8x16x64.Idx → α) (s : Fin 2048) (b : Fin 8) (n : Fin 16) (j : Fin 64) :
    Host.reverse [0] Z (ix4 s b n j) = Z (ix4 (timeRow 1 s) b n j) := by
  refine congrArg Z (funext fun a => Fin.ext ?_)
  match a with
  | 0 => show 2048 - (s.val + 1) = 2047 - s.val; omega
  | 1 => rfl
  | 2 => rfl
  | 3 => rfl

theorem pair5 (A B : S2048x1x8x16x64.Idx → EReal) (s : Fin 2048) (d : Fin 2) (b : Fin 8) (n : Fin 16) (j : Fin 64) :
    concatenate S2048x2x8x16x64 1 [⟨S2048x1x8x16x64, A⟩, ⟨S2048x1x8x16x64, B⟩]
      concatenates_S2048x1x8x16x64_S2048x1x8x16x64_S2048x2x8x16x64_d1 (ix5 s d b n j)
      = if d = 0 then A (ix5 s 0 b n j) else B (ix5 s 0 b n j) := by
  rw [concatenate_pair_apply]
  match d with
  | 0 =>
    refine (dif_pos (show 0 < 1 by omega)).trans (congrArg A (funext fun a => ?_))
    match a with
    | 0 => rfl
    | 1 => rfl
    | 2 => rfl
    | 3 => rfl
    | 4 => rfl
  | 1 =>
    refine (dif_neg (show ¬ 1 < 1 by omega)).trans (congrArg B (funext fun a => ?_))
    match a with
    | 0 => rfl
    | 1 => rfl
    | 2 => rfl
    | 3 => rfl
    | 4 => rfl

theorem pair6 (A B : S8x2x8x1x64x64.Idx → EReal) (b : Fin 8) (d : Fin 2) (p : Fin 8) (g : Fin 2) (i j : Fin 64) :
    concatenate S8x2x8x2x64x64 3 [⟨S8x2x8x1x64x64, A⟩, ⟨S8x2x8x1x64x64, B⟩]
      concatenates_S8x2x8x1x64x64_S8x2x8x1x64x64_S8x2x8x2x64x64_d3 (ix6 b d p g i j)
      = if g = 0 then A (ix6 b d p 0 i j) else B (ix6 b d p 0 i j) := by
  rw [concatenate_pair_apply]
  match g with
  | 0 =>
    refine (dif_pos (show 0 < 1 by omega)).trans (congrArg A (funext fun a => ?_))
    match a with
    | 0 => rfl
    | 1 => rfl
    | 2 => rfl
    | 3 => rfl
    | 4 => rfl
    | 5 => rfl
  | 1 =>
    refine (dif_neg (show ¬ 1 < 1 by omega)).trans (congrArg B (funext fun a => ?_))
    match a with
    | 0 => rfl
    | 1 => rfl
    | 2 => rfl
    | 3 => rfl
    | 4 => rfl
    | 5 => rfl

theorem stack (X Y : Seq) :
    concatenate S2048x2x8x16x64 1
      [⟨S2048x1x8x16x64, broadcastInDim S2048x1x8x16x64 ![0, 2, 3, 4] bcast_S2048x8x16x64_S2048x1x8x16x64_0_2_3_4 (timed X)⟩,
       ⟨S2048x1x8x16x64, broadcastInDim S2048x1x8x16x64 ![0, 2, 3, 4] bcast_S2048x8x16x64_S2048x1x8x16x64_0_2_3_4
          (Host.reverse [0] (timed Y))⟩]
      concatenates_S2048x1x8x16x64_S2048x1x8x16x64_S2048x2x8x16x64_d1
    = up5 (steps fun d => if d = 0 then X else Y) := by
  have e4 : ∀ (s : Fin 2048) (d : Fin 1) (b : Fin 8) (n : Fin 16) (j : Fin 64) (Z : S2048x8x16x64.Idx → EReal),
      broadcastInDim S2048x1x8x16x64 ![0, 2, 3, 4] bcast_S2048x8x16x64_S2048x1x8x16x64_0_2_3_4 Z (ix5 s d b n j) = Z (ix4 s b n j) := by
    intro s d b n j Z
    refine congrArg Z (funext fun a => ?_)
    match a with
    | 0 => rfl
    | 1 => rfl
    | 2 => rfl
    | 3 => rfl
  have all : ∀ (s : Fin 2048) (d : Fin 2) (b : Fin 8) (n : Fin 16) (j : Fin 64), (if d = 0 then
      broadcastInDim S2048x1x8x16x64 ![0, 2, 3, 4] bcast_S2048x8x16x64_S2048x1x8x16x64_0_2_3_4 (timed X) (ix5 s 0 b n j) else
      broadcastInDim S2048x1x8x16x64 ![0, 2, 3, 4] bcast_S2048x8x16x64_S2048x1x8x16x64_0_2_3_4 (Host.reverse [0] (timed Y)) (ix5 s 0 b n j))
      = ((steps (fun d => if d = 0 then X else Y) s d b n j : ℝ) : EReal) := by
    intro s d b n j
    match d with
    | 0 => exact (e4 s 0 b n j _).trans (timed_at X s b n j)
    | 1 => exact (e4 s 0 b n j _).trans ((flip_at _ s b n j).trans (timed_at Y _ b n j))
  funext i
  rw [eq_ix5 i]
  exact (pair5 _ _ (i 0) (i 1) (i 2) (i 3) (i 4)).trans (all (i 0) (i 1) (i 2) (i 3) (i 4))

/-- The heads' states out of the pairs they are stored in. -/
theorem unpair (s0 : Fin 8 → Fin 2 → Fin 8 → Mat) :
    transpose S2x8x16x64x64 [1, 0, 2, 3, 4]
      (shapeCast S8x2x16x64x64 (concatenate S8x2x8x2x64x64 3
        [⟨S8x2x8x1x64x64, broadcastInDim S8x2x8x1x64x64 ![0, 1, 2, 4, 5] bcast_S8x2x8x64x64_S8x2x8x1x64x64_0_1_2_4_5
            (extractStridedSlice S8x2x8x64x64 ![0, 0, 0, 0, 0] (upSA s0) slices_S8x2x8x128x128_S8x2x8x64x64_0_0_0_0_0)⟩,
         ⟨S8x2x8x1x64x64, broadcastInDim S8x2x8x1x64x64 ![0, 1, 2, 4, 5] bcast_S8x2x8x64x64_S8x2x8x1x64x64_0_1_2_4_5
            (extractStridedSlice S8x2x8x64x64 ![0, 0, 0, 64, 64] (upSA s0) slices_S8x2x8x128x128_S8x2x8x64x64_0_0_0_64_64)⟩]
        concatenates_S8x2x8x1x64x64_S8x2x8x1x64x64_S8x2x8x2x64x64_d3) shapeCasts_S8x2x8x2x64x64_S8x2x16x64x64)
      transposes_S8x2x16x64x64_S2x8x16x64x64_1_0_2_3_4
    = upG (fun d b n i j => s0 b d (duo n) (sub n i) (sub n j)) := by
  have e0 : ∀ {b b' : Fin 8} {d d' : Fin 2} {p p' : Fin 8} {i i' j j' : Fin 128}, b.val = b'.val → d.val = d'.val → p.val = p'.val →
      i.val = i'.val → j.val = j'.val → ((s0 b d p i j : ℝ) : EReal) = ((s0 b' d' p' i' j' : ℝ) : EReal) := by
    intro _ _ _ _ _ _ _ _ _ _ h1 h2 h3 h4 h5
    rw [Fin.ext h1, Fin.ext h2, Fin.ext h3, Fin.ext h4, Fin.ext h5]
  have et : ∀ (Z : S8x2x16x64x64.Idx → EReal) (d : Fin 2) (b : Fin 8) (n : Fin 16) (i j : Fin 64),
      transpose S2x8x16x64x64 [1, 0, 2, 3, 4] Z transposes_S8x2x16x64x64_S2x8x16x64x64_1_0_2_3_4 (ix5 d b n i j) = Z (ix5 b d n i j) := by
    intro Z d b n i j
    refine congrArg Z (funext fun a => ?_)
    match a with
    | 0 => rfl
    | 1 => rfl
    | 2 => rfl
    | 3 => rfl
    | 4 => rfl
  funext x
  rw [eq_ix5 x]
  generalize (x 0 : Fin 2) = d, (x 1 : Fin 8) = b, (x 2 : Fin 16) = n, (x 3 : Fin 64) = i, (x 4 : Fin 64) = j
  refine (et _ d b n i j).trans ((merge _ b d n i j).trans ((pair6 _ _ b d (duo n) _ i j).trans ?_))
  by_cases h : n.val % 2 = 0
  · refine (if_pos (show (⟨n.val % 2, by omega⟩ : Fin 2) = 0 from Fin.ext h)).trans ?_
    exact e0 (show 0 + b.val = b.val by omega) (show 0 + d.val = d.val by omega) (show 0 + n.val / 2 = n.val / 2 by omega)
      (show 0 + i.val = 64 * (n.val % 2) + i.val by omega) (show 0 + j.val = 64 * (n.val % 2) + j.val by omega)
  · refine (if_neg (show ¬ (⟨n.val % 2, by omega⟩ : Fin 2) = 0 from fun e => h (congrArg Fin.val e))).trans ?_
    exact e0 (show 0 + b.val = b.val by omega) (show 0 + d.val = d.val by omega) (show 0 + n.val / 2 = n.val / 2 by omega)
      (show 64 + i.val = 64 * (n.val % 2) + i.val by omega) (show 64 + j.val = 64 * (n.val % 2) + j.val by omega)

theorem back_at (Z : S2048x8x16x64.Idx → EReal) (b : Fin 8) (s : Fin 2048) (n : Fin 16) (j : Fin 64) :
    transpose S8x2048x16x64 [1, 0, 2, 3] Z transposes_S2048x8x16x64_S8x2048x16x64_1_0_2_3 (ix4 b s n j) = Z (ix4 s b n j) := by
  refine congrArg Z (funext fun a => ?_)
  match a with
  | 0 => rfl
  | 1 => rfl
  | 2 => rfl
  | 3 => rfl

theorem pick0 (Y : Steps) :
    shapeCast S8x2048x1024 (transpose S8x2048x16x64 [1, 0, 2, 3] (shapeCast S2048x8x16x64
      (extractStridedSlice S2048x1x8x16x64 ![0, 0, 0, 0, 0] (up5 Y) slices_S2048x2x8x16x64_S2048x1x8x16x64_0_0_0_0_0)
      shapeCasts_S2048x1x8x16x64_S2048x8x16x64) transposes_S2048x8x16x64_S8x2048x16x64_1_0_2_3) shapeCasts_S8x2048x16x64_S8x2048x1024
    = upA (fun b s l => Y s 0 b (headIx l) (laneIx l)) := by
  funext x
  rw [eq_ix3 x]
  generalize (x 0 : Fin 8) = b, (x 1 : Fin 2048) = s, (x 2 : Fin 1024) = l
  refine (join _ b s l).trans ((back_at _ b s _ _).trans ((drop1 _ s b _ _).trans ?_))
  exact at5 Y (show 0 + s.val = s.val by omega) rfl (show 0 + b.val = b.val by omega)
    (show 0 + l.val / 64 = l.val / 64 by omega) (show 0 + l.val % 64 = l.val % 64 by omega)

theorem pick1 (Y : Steps) :
    shapeCast S8x2048x1024 (transpose S8x2048x16x64 [1, 0, 2, 3] (Host.reverse [0] (shapeCast S2048x8x16x64
      (extractStridedSlice S2048x1x8x16x64 ![0, 1, 0, 0, 0] (up5 Y) slices_S2048x2x8x16x64_S2048x1x8x16x64_0_1_0_0_0)
      shapeCasts_S2048x1x8x16x64_S2048x8x16x64)) transposes_S2048x8x16x64_S8x2048x16x64_1_0_2_3) shapeCasts_S8x2048x16x64_S8x2048x1024
    = upA (fun b s l => Y (timeRow 1 s) 1 b (headIx l) (laneIx l)) := by
  funext x
  rw [eq_ix3 x]
  generalize (x 0 : Fin 8) = b, (x 1 : Fin 2048) = s, (x 2 : Fin 1024) = l
  refine (join _ b s l).trans ((back_at _ b s _ _).trans ((flip_at _ s b _ _).trans ((drop1 _ _ b _ _).trans ?_)))
  exact at5 Y (show 0 + (2047 - s.val) = 2047 - s.val by omega) rfl (show 0 + b.val = b.val by omega)
    (show 0 + l.val / 64 = l.val / 64 by omega) (show 0 + l.val % 64 = l.val % 64 by omega)

end Scan
-- ==== Proof.Scan.RefLoop.lean ====
/- The reference's loop: before trip `k` the carried states are the recurrence's states after `k` steps. -/
module

public import proofs.«01_k».proof.Proof.Scan.RefOps

@[expose] public section

set_option maxRecDepth 16384

noncomputable section

namespace Scan

open Idealize.ShloMosaic Idealize.ShloMosaic.TcCoe Cert.ReferenceIdeal Cert.ReferenceIdeal.Gen Cert.ReferenceIdeal.Value

/-- The output rows written before trip `k`, each direction in its own order. -/
def rows (a : Inp) (k : ℕ) : Steps := fun s d b n i =>
  if s.val < k then outH a b n (timeRow d s) (headS a d b n (s.val + 1)) i else 0

/-- What the loop carries before trip `k`. -/
structure At (a : Inp) (k : ℕ) (V : Valuation τ sig (Elt Ideal)) : Prop where
  r : V (Proc.devRef .tc main_v78_0) = up5 (steps fun _ => a.r)
  w : V (Proc.devRef .tc main_v78_1) = up5 (steps fun d b s l => Real.exp (a.lw d b s l))
  k2 : V (Proc.devRef .tc main_v78_2) = up5 (steps fun d b s l => a.k b s l * (1 + (a.ic d b s l - 1) * a.ka l))
  v : V (Proc.devRef .tc main_v78_3) = up5 (steps fun _ => a.v)
  nk : V (Proc.devRef .tc main_v78_4) = up5 (steps fun _ b s l => -(a.kk b s l))
  ki : V (Proc.devRef .tc main_v78_5) = up5 (steps fun d b s l => a.kk b s l * a.ic d b s l)
  n : V (Proc.devRef .tc main_v78_6) = tick k
  s : V (Proc.devRef .tc main_v78_7) = upG fun d b n => headS a d b n k
  y : V (Proc.devRef .tc main_v78_8) = up5 (rows a k)

theorem tick_succ (k : ℕ) : addi (tick k) (constantI S_ 32 1#32) = tick (k + 1) :=
  funext fun _ => (BitVec.ofNat_add k 1).symm

theorem state_next {a : Inp} {k : ℕ} {V : Valuation τ sig (Elt Ideal)} (h : At a k V) (hk : k < 2048) :
    res_main_while0b_v109 V = upG fun d b n => headS a d b n (k + 1) := by
  unfold res_main_while0b_v109
  rw [h.s, h.w, h.k2, h.v, h.nk, h.ki, h.n]
  erw [read_row _ k hk, read_row _ k hk, read_row _ k hk, read_row _ k hk, read_row _ k hk, dotG, along, along, along, down, down,
    mulG, mulG, mulG, addG, addG]
  refine congrArg upG ?_
  funext d b n i j
  rw [headS_succ a d b n k hk]
  rfl

theorem rows_next (a : Inp) (k : ℕ) (hk : k < 2048) :
    (fun (s : Fin 2048) (d : Fin 2) (b : Fin 8) (g : Fin 16) (i : Fin 64) => if s.val = k then
      ∑ j, headS a d b g (k + 1) i j * steps (fun _ => a.r) ⟨k, hk⟩ d b g j else rows a k s d b g i) = rows a (k + 1) := by
  funext s d b g i
  unfold rows
  by_cases hs : s.val = k
  · have e : s = ⟨k, hk⟩ := Fin.ext hs
    subst e
    rw [if_pos rfl, if_pos (Nat.lt_succ_self k)]
    rfl
  · rw [if_neg hs]
    by_cases hl : s.val < k
    · rw [if_pos hl, if_pos (by omega)]
    · rw [if_neg hl, if_neg (by omega)]

theorem At.next {a : Inp} {k : ℕ} {V : Valuation τ sig (Elt Ideal)} (h : At a k V) (hk : k < 2048) : At a (k + 1) (STEP V) where
  r := (STEP_main_v78_0 V).trans h.r
  w := (STEP_main_v78_1 V).trans h.w
  k2 := (STEP_main_v78_2 V).trans h.k2
  v := (STEP_main_v78_3 V).trans h.v
  nk := (STEP_main_v78_4 V).trans h.nk
  ki := (STEP_main_v78_5 V).trans h.ki
  n := by
    rw [STEP_main_v78_6]
    unfold step_main_v78_6
    rw [h.n]
    exact tick_succ k
  s := (STEP_main_v78_7 V).trans (state_next h hk)
  y := by
    rw [STEP_main_v78_8]
    unfold step_main_v78_8
    rw [state_next h hk, h.y, h.r, h.n, ← rows_next a k hk]
    erw [read_row _ k hk, dotG, write_row _ _ k hk]
    rfl

theorem At.iter {a : Inp} {V : Valuation τ sig (Elt Ideal)} (h : At a 0 V) : ∀ k, k ≤ 2048 → At a k (STEP^[k] V)
  | 0, _ => h
  | k + 1, hk => by
    rw [Function.iterate_succ_apply']
    exact (At.iter h k (by omega)).next (by omega)

theorem back_back (s : Fin 2048) : timeRow 1 (timeRow 1 s) = s := Fin.ext (by
  show 2047 - (2047 - s.val) = s.val
  have := s.isLt
  omega)

theorem At.out0 {a : Inp} {V : Valuation τ sig (Elt Ideal)} (h : At a 2048 V) : out_main_v85 V = upA (spec a 0) := by
  unfold out_main_v85
  rw [h.y]
  refine (pick0 _).trans (congrArg upA ?_)
  funext b s l
  exact if_pos s.isLt

theorem At.out1 {a : Inp} {V : Valuation τ sig (Elt Ideal)} (h : At a 2048 V) : out_main_v87 V = upA (spec a 1) := by
  unfold out_main_v87
  rw [h.y]
  refine (pick1 _).trans (congrArg upA ?_)
  funext b s l
  refine (if_pos (timeRow 1 s).isLt).trans ?_
  rw [back_back]
  rfl

end Scan
-- ==== Proof.Scan.RefEntry.lean ====
/- The reference's operations before the loop, on arguments that hold real arrays. -/
module

public import proofs.«01_k».proof.Proof.Scan.RefLoop

@[expose] public section

set_option maxRecDepth 16384

noncomputable section

namespace Scan

open Idealize.ShloMosaic Idealize.ShloMosaic.TcCoe Cert.ReferenceIdeal Cert.ReferenceIdeal.Gen Cert.ReferenceIdeal.Value Idealize.SL.Sem
open Idealize.ShloMosaic.StableHlo (entryContents afterL_cons afterL_nil)

/-- An argument array, time first and heads apart. -/
def front (A : FVec Ideal S8x2048x1024 .f32) : FVec Ideal S2048x8x16x64 .f32 :=
  transpose S2048x8x16x64 [1, 0, 2, 3] (shapeCast S8x2048x16x64 A shapeCasts_S8x2048x1024_S8x2048x16x64)
    transposes_S8x2048x16x64_S2048x8x16x64_1_0_2_3

/-- Two arrays over each other, the second backwards in time. -/
def pile (A B : FVec Ideal S8x2048x1024 .f32) : FVec Ideal S2048x2x8x16x64 .f32 :=
  concatenate S2048x2x8x16x64 1
    [⟨S2048x1x8x16x64, broadcastInDim S2048x1x8x16x64 ![0, 2, 3, 4] bcast_S2048x8x16x64_S2048x1x8x16x64_0_2_3_4 (front A)⟩,
     ⟨S2048x1x8x16x64, broadcastInDim S2048x1x8x16x64 ![0, 2, 3, 4] bcast_S2048x8x16x64_S2048x1x8x16x64_0_2_3_4
        (Host.reverse [0] (front B))⟩]
    concatenates_S2048x1x8x16x64_S2048x1x8x16x64_S2048x2x8x16x64_d1

theorem pile_up (X Y : Seq) : pile (upA X) (upA Y) = up5 (steps fun d => if d = 0 then X else Y) := stack X Y

/-- The key with its gate. -/
def gated (K A : FVec Ideal S8x2048x1024 .f32) (G : FVec Ideal S1x1024 .f32) : FVec Ideal S8x2048x1024 .f32 :=
  mulf K (addf (broadcastInDim S8x2048x1024 ![] bcast_S_S8x2048x1024 (constant S_ .f32 0x3F800000#32))
    (mulf (subf A (broadcastInDim S8x2048x1024 ![] bcast_S_S8x2048x1024 (constant S_ .f32 0x3F800000#32)))
      (broadcastInDim S8x2048x1024 ![0, 1, 2] bcast_S1x1x1024_S8x2048x1024_0_1_2
        (broadcastInDim S1x1x1024 ![1, 2] bcast_S1x1024_S1x1x1024_1_2 G))))

theorem gated_up (K A : Seq) (G : Fin 1024 → ℝ) :
    gated (upA K) (upA A) (upKA G) = upA fun b s l => K b s l * (1 + (A b s l - 1) * G l) := by
  funext i
  show ((K (i 0) (i 1) (i 2) : ℝ) : EReal) * (Ideal.ofBits .f32 0x3F800000#32
    + (((A (i 0) (i 1) (i 2) : ℝ) : EReal) - Ideal.ofBits .f32 0x3F800000#32) * ((G (i 2) : ℝ) : EReal)) = _
  rw [Ideal.ofBits_one_f32, ← EReal.coe_one, ← EReal.coe_sub, ← EReal.coe_mul, ← EReal.coe_add, ← EReal.coe_mul]
  rfl

variable (m : (ℓ : Loc nD τ sig) → Buf (Elt Ideal) ℓ) (c : Dev nD)

theorem entry_r : entryContents preI m c (Proc.devRef .tc main_v78_0)
    = pile (m ((c.tc : Thread nD τ).loc main_arg0)) (m ((c.tc : Thread nD τ).loc main_arg0)) := by
  simp only [entryContents, afterL_cons, afterL_nil]
  after_reads_simp
  rfl
theorem entry_w : entryContents preI m c (Proc.devRef .tc main_v78_1)
    = pile (Host.exp (m ((c.tc : Thread nD τ).loc main_arg6))) (Host.exp (m ((c.tc : Thread nD τ).loc main_arg7))) := by
  simp only [entryContents, afterL_cons, afterL_nil]
  after_reads_simp
  rfl
theorem entry_k2 : entryContents preI m c (Proc.devRef .tc main_v78_2)
    = pile (gated (m ((c.tc : Thread nD τ).loc main_arg1)) (m ((c.tc : Thread nD τ).loc main_arg4)) (m ((c.tc : Thread nD τ).loc main_arg8)))
        (gated (m ((c.tc : Thread nD τ).loc main_arg1)) (m ((c.tc : Thread nD τ).loc main_arg5)) (m ((c.tc : Thread nD τ).loc main_arg8))) := by
  simp only [entryContents, afterL_cons, afterL_nil]
  after_reads_simp
  rfl
theorem entry_v : entryContents preI m c (Proc.devRef .tc main_v78_3)
    = pile (m ((c.tc : Thread nD τ).loc main_arg2)) (m ((c.tc : Thread nD τ).loc main_arg2)) := by
  simp only [entryContents, afterL_cons, afterL_nil]
  after_reads_simp
  rfl
theorem entry_nk : entryContents preI m c (Proc.devRef .tc main_v78_4)
    = pile (Host.negf (m ((c.tc : Thread nD τ).loc main_arg3))) (Host.negf (m ((c.tc : Thread nD τ).loc main_arg3))) := by
  simp only [entryContents, afterL_cons, afterL_nil]
  after_reads_simp
  rfl
theorem entry_ki : entryContents preI m c (Proc.devRef .tc main_v78_5)
    = pile (mulf (m ((c.tc : Thread nD τ).loc main_arg3)) (m ((c.tc : Thread nD τ).loc main_arg4)))
        (mulf (m ((c.tc : Thread nD τ).loc main_arg3)) (m ((c.tc : Thread nD τ).loc main_arg5))) := by
  simp only [entryContents, afterL_cons, afterL_nil]
  after_reads_simp
  rfl

/-- The heads' states out of the pairs' states. -/
def apart (S : FVec Ideal S8x2x8x128x128 .f32) : FVec Ideal S2x8x16x64x64 .f32 :=
  transpose S2x8x16x64x64 [1, 0, 2, 3, 4]
    (shapeCast S8x2x16x64x64 (concatenate S8x2x8x2x64x64 3
      [⟨S8x2x8x1x64x64, broadcastInDim S8x2x8x1x64x64 ![0, 1, 2, 4, 5] bcast_S8x2x8x64x64_S8x2x8x1x64x64_0_1_2_4_5
          (extractStridedSlice S8x2x8x64x64 ![0, 0, 0, 0, 0] S slices_S8x2x8x128x128_S8x2x8x64x64_0_0_0_0_0)⟩,
       ⟨S8x2x8x1x64x64, broadcastInDim S8x2x8x1x64x64 ![0, 1, 2, 4, 5] bcast_S8x2x8x64x64_S8x2x8x1x64x64_0_1_2_4_5
          (extractStridedSlice S8x2x8x64x64 ![0, 0, 0, 64, 64] S slices_S8x2x8x128x128_S8x2x8x64x64_0_0_0_64_64)⟩]
      concatenates_S8x2x8x1x64x64_S8x2x8x1x64x64_S8x2x8x2x64x64_d3) shapeCasts_S8x2x8x2x64x64_S8x2x16x64x64)
    transposes_S8x2x16x64x64_S2x8x16x64x64_1_0_2_3_4

theorem entry_s : entryContents preI m c (Proc.devRef .tc main_v78_7) = apart (m ((c.tc : Thread nD τ).loc main_arg9)) := by
  simp only [entryContents, afterL_cons, afterL_nil]
  after_reads_simp
  rfl
theorem entry_y : entryContents preI m c (Proc.devRef .tc main_v78_8)
    = broadcastInDim S2048x2x8x16x64 ![] bcast_S_S2048x2x8x16x64 (constant (F := Ideal) S_ .f32 0x00000000#32) := by
  simp only [entryContents, afterL_cons, afterL_nil]
  after_reads_simp
  rfl

/-- The reference's arguments hold the real arrays. -/
structure Given (a : Inp) : Prop where
  h0 : m ((c.tc : Thread nD τ).loc main_arg0) = upA a.r
  h1 : m ((c.tc : Thread nD τ).loc main_arg1) = upA a.k
  h2 : m ((c.tc : Thread nD τ).loc main_arg2) = upA a.v
  h3 : m ((c.tc : Thread nD τ).loc main_arg3) = upA a.kk
  h4 : m ((c.tc : Thread nD τ).loc main_arg4) = upA (a.ic 0)
  h5 : m ((c.tc : Thread nD τ).loc main_arg5) = upA (a.ic 1)
  h6 : m ((c.tc : Thread nD τ).loc main_arg6) = upA (a.lw 0)
  h7 : m ((c.tc : Thread nD τ).loc main_arg7) = upA (a.lw 1)
  h8 : m ((c.tc : Thread nD τ).loc main_arg8) = upKA a.ka
  h9 : m ((c.tc : Thread nD τ).loc main_arg9) = upSA a.s0

theorem expA (X : Seq) : (Host.exp (upA X : FVec Ideal S8x2048x1024 .f32) : FVec Ideal S8x2048x1024 .f32) = upA fun b s l => Real.exp (X b s l) := by
  funext i
  rfl
theorem negA (X : Seq) : Host.negf (F := Ideal) (s := S8x2048x1024) (φ := .f32) (upA X) = upA fun b s l => -(X b s l) :=
  funext fun i => (EReal.coe_neg _).symm
theorem mulA (X Y : Seq) : mulf (F := Ideal) (s := S8x2048x1024) (φ := .f32) (upA X) (upA Y) = upA fun b s l => X b s l * Y b s l :=
  funext fun i => (EReal.coe_mul _ _).symm

theorem two (X Y : Seq) (Z : Fin 2 → Seq) (h0 : Z 0 = X) (h1 : Z 1 = Y) : pile (upA X) (upA Y) = up5 (steps Z) := by
  rw [pile_up]
  refine congrArg (fun Z => up5 (steps Z)) ?_
  funext d
  match d with
  | 0 => exact h0.symm
  | 1 => exact h1.symm

variable {m c}

theorem at_entry {a : Inp} (h : Given m c a) : At a 0 (entryContents preI m c) where
  r := by rw [entry_r, h.h0]; exact two _ _ _ rfl rfl
  w := by rw [entry_w, h.h6, h.h7]; erw [expA, expA]; exact two _ _ _ rfl rfl
  k2 := by rw [entry_k2, h.h1, h.h4, h.h5, h.h8]; erw [gated_up, gated_up]; exact two _ _ _ rfl rfl
  v := by rw [entry_v, h.h2]; exact two _ _ _ rfl rfl
  nk := by rw [entry_nk, h.h3]; erw [negA]; exact two _ _ _ rfl rfl
  ki := by rw [entry_ki, h.h3, h.h4, h.h5]; erw [mulA, mulA]; exact two _ _ _ rfl rfl
  n := ctr_entry m c
  s := by rw [entry_s, h.h9]; exact unpair a.s0
  y := by
    rw [entry_y]
    funext i
    exact Ideal.ofBits_zero_f32

/-- The reference's results. -/
theorem ref0 {a : Inp} (h : Given m c a) : out_main_v85 (STEP^[2048] (entryContents preI m c)) = upA (spec a 0) :=
  ((at_entry h).iter 2048 le_rfl).out0
theorem ref1 {a : Inp} (h : Given m c a) : out_main_v87 (STEP^[2048] (entryContents preI m c)) = upA (spec a 1) :=
  ((at_entry h).iter 2048 le_rfl).out1

end Scan
-- ==== Proof.Scan.Claims.lean ====
/- The scan's two claims: the reference's frame, and the value claim under the precondition. -/
module

public import proofs.«01_k».proof.Defs
public import proofs.«01_k».proof.Proof.Scan.Tame
public import proofs.«01_k».proof.Proof.Scan.RefEntry
public import proofs.«01_k».proof.Proof.Gen.KernelIdeal.Value
public import Idealize.ShloMosaic.Lib.Quiescent

@[expose] public section

noncomputable section

namespace Scan

open Idealize.ShloMosaic Idealize.SL.Sem

theorem ref_frame : Cert.quiescent_ReferenceIdeal :=
  fun m ρ _ => (θ_run _ _ _).mono (fun r h => ⟨fun c => (h c).2.2, sem_eq_zero_of_no_sems (by decide) _⟩)
    (Cert.ReferenceIdeal.Value.run m ρ)

/-- The real arrays in the kernel's arguments. -/
def inp (m : (ℓ : Loc Cert.KernelIdeal.nD Cert.KernelIdeal.τ Cert.KernelIdeal.sig) → Buf (Elt Ideal) ℓ) (c : Dev Cert.KernelIdeal.nD) : Inp :=
  reals (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))

theorem value : Cert.algebraic_KernelIdeal_ReferenceIdeal_pre_tame := by
  intro m g m' g' hp he
  have hf := fun c => tame_fine _ _ _ _ _ _ _ _ _ _ (hp c)
  have ap : ∀ c, Apart (inp m c) := fun c => (hf c).ap
  have hk : ∀ c, Holds m c (inp m c) := fun c =>
    ⟨(hf c).h0, (hf c).h1, (hf c).h2, (hf c).h3, (hf c).h4, (hf c).h5, (hf c).h6, (hf c).h7, (hf c).h8, (hf c).h9⟩
  have hg : ∀ c, Given m' c (inp m c) := fun c => by
    obtain ⟨e0, e1, e2, e3, e4, e5, e6, e7, e8, e9⟩ := he c
    exact ⟨e0.trans (hk c).h0, e1.trans (hk c).h1, e2.trans (hk c).h2, e3.trans (hk c).h3, e4.trans (hk c).h4, e5.trans (hk c).h5,
      e6.trans (hk c).h6, e7.trans (hk c).h7, e8.trans (hk c).h8, e9.trans (hk c).h9⟩
  exact ⟨fun c => upA (spec (inp m c) 0), fun c => upA (spec (inp m c) 1),
    (θ_run _ _ _).mono (fun r h c => ⟨(h c).1.trans ((fin0 m c (hk c)).trans (congrArg upA (res0_spec _ (ap c)))),
      (h c).2.1.trans ((fin1 m c (hk c)).trans (congrArg upA (res1_spec _ (ap c)))), (h c).2.2⟩) (Cert.KernelIdeal.Value.run_blocks m g),
    (θ_run _ _ _).mono (fun r h c => ⟨(h c).1.trans (ref0 (hg c)), (h c).2.1.trans (ref1 (hg c)), (h c).2.2⟩)
      (Cert.ReferenceIdeal.Value.run m' g')⟩

end Scan
-- ==== Proof.Ffn.Spec.lean ====
/- The gated feed-forward layer with its two normalisations, over the extended reals: what both programs compute. -/
module

public import Idealize.ShloMosaic.PureOps.Ideal
public import Idealize.ShloMosaic.Lib.Pointwise
public import Mathlib.Algebra.BigOperators.Fin
public import Mathlib.Logic.Equiv.Fin.Basic

@[expose] public section

noncomputable section

namespace Ffn

open Idealize.ShloMosaic

/-- A matrix of extended reals, by row and column. -/
abbrev Mx (n m : ℕ) := Fin n → Fin m → EReal

/-- The row length 1024 and the small constant the normalisation adds, as the two programs write them. -/
def len : EReal := Ideal.ofBits .f32 0x44800000#32
def eps : EReal := Ideal.ofBits .f32 0x358637BD#32

/-- The reciprocal root mean square of a row, and the row normalised and scaled. -/
def inv (x : Fin 1024 → EReal) : EReal := Ideal.rsqrt (Ideal.div (∑ k, x k * x k) len + eps)
def nrm (x g : Fin 1024 → EReal) (l : Fin 1024) : EReal := x l * inv x * g l

/-- One hidden unit: the gate's product with the row through `x · logistic x`, times the other product. -/
def unit (h wg wu : Fin 1024 → EReal) : EReal :=
  (∑ k, h k * wg k) * Ideal.logistic (∑ k, h k * wg k) * ∑ k, h k * wu k

/-- The row added to, and the row after the second normalisation, scaled and shifted. -/
def mix (x gate y g : Fin 1024 → EReal) (l : Fin 1024) : EReal := x l + gate l * nrm y g l
def modu (x g shift scale : Fin 1024 → EReal) (l : Fin 1024) : EReal := nrm x g l * (1 + scale l) + shift l

/-- The call's arguments. -/
structure Inp where
  h : Mx 16384 1024
  w : Mx 1024 7168
  d : Mx 3584 1024
  x : Mx 16384 1024
  md : Mx 8 6144
  g3 : Fin 1024 → EReal
  gn : Fin 1024 → EReal
  md2 : Mx 8 6144

/-- Unit `j`'s gate column and its other column of the joint weight. -/
def colG (j : Fin 3584) : Fin 7168 := ⟨j.val, by have := j.isLt; omega⟩
def colU (j : Fin 3584) : Fin 7168 := ⟨3584 + j.val, by have := j.isLt; omega⟩
/-- Lane `l` of part `q` of a modulation row. -/
def part (q : Fin 6) (l : Fin 1024) : Fin 6144 := ⟨1024 * q.val + l.val, by have := q.isLt; have := l.isLt; omega⟩
/-- The batch a row belongs to. -/
def bat (r : Fin 16384) : Fin 8 := ⟨r.val / 2048, by have := r.isLt; omega⟩

variable (a : Inp)

def Inp.hid (r : Fin 16384) (j : Fin 3584) : EReal := unit (a.h r) (fun k => a.w k (colG j)) (fun k => a.w k (colU j))
def Inp.down (r : Fin 16384) (l : Fin 1024) : EReal := ∑ j, a.hid r j * a.d j l
/-- The two results. -/
def Inp.res (r : Fin 16384) : Fin 1024 → EReal := mix (a.x r) (fun l => a.md (bat r) (part 5 l)) (a.down r) a.g3
def Inp.nxt (r : Fin 16384) : Fin 1024 → EReal :=
  modu (a.res r) a.gn (fun l => a.md2 (bat r) (part 0 l)) (fun l => a.md2 (bat r) (part 1 l))

/-- Hidden unit `j` of band `f`. -/
def band (f : Fin 7) (j : Fin 512) : Fin 3584 := ⟨512 * f.val + j.val, by have := f.isLt; have := j.isLt; omega⟩

/-- One band's share of the second product, and the sum of the shares of the first `n` bands. -/
def Inp.share (r : Fin 16384) (l : Fin 1024) (f : Fin 7) : EReal := ∑ j : Fin 512, a.hid r (band f j) * a.d (band f j) l
def Inp.upto (r : Fin 16384) (l : Fin 1024) : ℕ → EReal
  | 0 => 0
  | n + 1 => Inp.upto r l n + if h : n < 7 then a.share r l ⟨n, h⟩ else 0

theorem band_sum (g : Fin 3584 → EReal) : ∑ f : Fin 7, ∑ j : Fin 512, g (band f j) = ∑ j, g j := by
  rw [← Fintype.sum_prod_type' (f := fun f j => g (band f j))]
  refine Fintype.sum_equiv (finProdFinEquiv (m := 7) (n := 512)) _ _ fun p => congrArg g (Fin.ext ?_)
  show 512 * p.1.val + p.2.val = p.2.val + 512 * p.1.val
  omega

/-- All seven bands together are the second product. -/
theorem upto_seven (r : Fin 16384) (l : Fin 1024) : a.upto r l 7 = a.down r l := by
  unfold Inp.down
  rw [← band_sum, Fin.sum_univ_seven]
  simp only [Inp.upto, zero_add]
  rfl

end Ffn
-- ==== Proof.Ffn.Body.lean ====
/- What the kernel's body computes from the blocks it loads, element by element. -/
module

public import proofs.«01_k».proof.Proof.Ffn.Spec
public import proofs.«01_k».proof.Proof.Gen.FfnIdeal.Skeleton
public import Idealize.ShloMosaic.Lib.MatmulPlain
public import Idealize.ShloMosaic.Lib.ValueLayoutCasts
public import Idealize.ShloMosaic.Lib.Pipeline.Value

@[expose] public section

set_option maxRecDepth 16384

noncomputable section

namespace Ffn

open Idealize.ShloMosaic Idealize.ShloMosaic.TcCoe Cert.FfnIdeal Cert.FfnIdeal.Gen

/-- A product of two matrices into zeros, at an element. -/
theorem mm_at {M K N : ℕ} {φ₁ φ₂ : FTy} (x : FVec Ideal ⟨2, ![M, K]⟩ φ₁) (y : FVec Ideal ⟨2, ![K, N]⟩ φ₂) (r : Fin M) (c : Fin N) :
    matmul (DotDims.plain M K N) none x y (constant ⟨2, ![M, N]⟩ .f32 0x00000000#32) (ix2 r c) = ∑ k, x (ix2 r k) * y (ix2 k c) := by
  show FloatOps.matmul _ _ _ _ _ _ = _
  rw [ix2_eq_valueIdx, Ideal.matmul_plain_apply]
  show Ideal.ofBits .f32 0x00000000#32 + _ = _
  rw [Ideal.ofBits_zero_f32, zero_add]
  simp only [← ix2_eq_valueIdx]

/-- A row, or a column, copied along the other axis. -/
theorem row_at {n m : ℕ} (x : FVec Ideal ⟨2, ![1, m]⟩ .f32) (h) (r : Fin n) (l : Fin m) :
    broadcastTo (⟨2, ![n, m]⟩ : Shape) x h (ix2 r l) = x (ix2 0 l) := by
  refine broadcastTo_apply _ _ _ _ fun a => ?_
  match a with
  | ⟨0, _⟩ => rfl
  | ⟨1, _⟩ =>
    show l.val = if m = 1 then 0 else l.val
    split
    · have := l.isLt; omega
    · rfl
theorem col_at {n m : ℕ} (x : FVec Ideal ⟨2, ![n, 1]⟩ .f32) (h) (r : Fin n) (l : Fin m) :
    broadcastTo (⟨2, ![n, m]⟩ : Shape) x h (ix2 r l) = x (ix2 r 0) := by
  refine broadcastTo_apply _ _ _ _ fun a => ?_
  match a with
  | ⟨1, _⟩ => rfl
  | ⟨0, _⟩ =>
    show r.val = if n = 1 then 0 else r.val
    split
    · have := r.isLt; omega
    · rfl

/-- A vector laid as a column, and a row with a leading unit axis removed. -/
theorem toCol_at {n : ℕ} (x : FVec Ideal ⟨1, ![n]⟩ .f32) (h) (r : Fin n) : shapeCast (⟨2, ![n, 1]⟩ : Shape) x h (ix2 r 0) = x (ix1 r) := by
  rw [ix2_eq_valueIdx, ix1_eq_valueIdx]
  exact ValueIdx.shapeCast_a_a1_apply _ _ _ _
theorem dropUnit_at {m : ℕ} (x : FVec Ideal ⟨3, ![1, 1, m]⟩ .f32) (h) (l : Fin m) :
    shapeCast (⟨2, ![1, m]⟩ : Shape) x h (ix2 0 l) = x (ix3 0 0 l) := by
  refine shapeCast_apply _ _ _ _ ?_
  rw [Shape.rowMajor_val_three, Shape.rowMajor_val_two]
  show (0 * 1 + 0) * m + l.val = 0 * m + l.val
  omega

/-- A row's sum. -/
theorem rowSum_at {n m : ℕ} (x : FVec Ideal ⟨2, ![n, m]⟩ .f32) (acc : BitVec 32) (h : Shape.Reduces ⟨2, ![n, m]⟩ [1] ⟨1, ![n]⟩) (hφ) (hacc) (r : Fin n) :
    multiReduction (F := Ideal) (φ := .f32) .add [1] ⟨1, ![n]⟩ x acc h hφ hacc (ix1 r) = ∑ k : Fin m, x (ix2 r k) := by
  rw [multiReduction_add_apply, Ideal.reduceAdd_def, Ideal.reduceAdd_r2_a1]
  rfl

/-- The kernel's reciprocal root mean square, as a column. -/
theorem inv_at (y : FVec Ideal S1024x1024 .f32) (r : Fin 1024) :
    rsqrt (addf (divf (shapeCast S1024x1 (multiReduction .add [1] S1024 (mulf y y) 0x00000000#32 reduces_S1024x1024_S1024 (.inl rfl) rfl) shapeCasts_S1024_S1024x1)
      (broadcast S1024x1 (Scalar.ofBits .f32 0x44800000#32))) (broadcast S1024x1 (Scalar.ofBits .f32 0x358637BD#32))) (ix2 r 0)
      = inv fun k => y (ix2 r k) := by
  refine congrArg (fun z => Ideal.rsqrt (Ideal.div z len + eps)) ?_
  exact (toCol_at _ _ r).trans (rowSum_at _ _ _ _ _ r)

theorem pay1_at (r l : Fin 1024) : (k0_pay1 (F := Ideal)) (ix2 r l) = 0 := by
  unfold k0_pay1
  refine (shapeCast_apply _ _ _ (ix2 r l) rfl).trans ?_
  exact Ideal.ofBits_zero_f32

theorem pay2_at (x0 : Vec Ideal S1024x1024 .bf16) (x1 x2 : Vec Ideal S1024x512 .bf16) (v : Vec Ideal S1024x1024 .f32) (x3 : Vec Ideal S512x1024 .bf16)
    (r l : Fin 1024) :
    k0_pay2 x0 x1 x2 v x3 (ix2 r l) = v (ix2 r l)
      + ∑ j : Fin 512, unit (fun k => x0 (ix2 r k)) (fun k => x1 (ix2 k j)) (fun k => x2 (ix2 k j)) * x3 (ix2 j l) := by
  unfold k0_pay2
  refine (shapeCast_apply _ _ _ (ix2 r l) rfl).trans ?_
  refine congrArg (v (ix2 r l) + ·) ?_
  refine (mm_at (M := 1024) (K := 512) (N := 1024) (φ₁ := .bf16) (φ₂ := .bf16) _ _ r l).trans ?_
  refine Finset.sum_congr rfl fun j _ => congrArg (· * x3 (ix2 j l)) ?_
  have e1 := mm_at (M := 1024) (K := 1024) (N := 512) (φ₁ := .bf16) (φ₂ := .bf16) x0 x1 r j
  have e2 := mm_at (M := 1024) (K := 1024) (N := 512) (φ₁ := .bf16) (φ₂ := .bf16) x0 x2 r j
  unfold unit
  rw [← e1, ← e2]
  rfl

theorem pay4_at (v22 : Vec Ideal S1x1x1024 .f32) (v24 v25 : Vec Ideal S1024x1024 .f32) (v26 : Vec Ideal S1x1024 .f32) (r l : Fin 1024) :
    k0_pay4 v22 v24 v25 v26 (ix2 r l)
      = mix (fun l => v24 (ix2 r l)) (fun l => v22 (ix3 0 0 l)) (fun l => v25 (ix2 r l)) (fun l => v26 (ix2 0 l)) l := by
  unfold k0_pay4 mix nrm
  refine congrArg (v24 (ix2 r l) + ·) ?_
  refine congrArg₂ (· * ·) ?_ (congrArg₂ (· * ·) (congrArg (v25 (ix2 r l) * ·) ?_) ?_)
  · exact (row_at _ _ r l).trans (dropUnit_at _ _ l)
  · exact (col_at _ _ r l).trans (inv_at v25 r)
  · exact row_at _ _ r l

theorem pay7_at (v22 : Vec Ideal S1x1x1024 .f32) (v24 v25 : Vec Ideal S1024x1024 .f32) (v26 : Vec Ideal S1x1024 .f32) (r : Fin 1024) :
    k0_pay7 v22 v24 v25 v26 (ix2 r 0) = inv fun k => k0_pay4 v22 v24 v25 v26 (ix2 r k) := inv_at _ r

theorem pay3_at (y : FVec Ideal S1024x1024 .f32) (sh sc : Vec Ideal S1x1x1024 .f32) (g : Vec Ideal S1x1024 .f32) (q : FVec Ideal S1024x1 .f32)
    (hq : ∀ r, q (ix2 r 0) = inv fun k => y (ix2 r k)) (r l : Fin 1024) :
    k0_pay3 y (k0_pay5 sh) (k0_pay6 sc) g q (ix2 r l)
      = modu (fun l => y (ix2 r l)) (fun l => g (ix2 0 l)) (fun l => sh (ix3 0 0 l)) (fun l => sc (ix3 0 0 l)) l := by
  unfold k0_pay3 modu nrm
  refine congrArg₂ (· + ·) (congrArg₂ (· * ·) (congrArg₂ (· * ·) (congrArg (y (ix2 r l) * ·) ?_) ?_) ?_) ?_
  · exact (col_at _ _ r l).trans (hq r)
  · exact row_at _ _ r l
  · refine (row_at _ _ r l).trans ?_
    exact congrArg₂ (· + ·) Ideal.ofBits_one_f32 (dropUnit_at _ _ l)
  · exact (row_at _ _ r l).trans (dropUnit_at _ _ l)

end Ffn
-- ==== Proof.Ffn.Pieces.lean ====
/- What one run of the kernel's body leaves, at each of its three kinds of grid point: the stored vectors as
   the body's own computations of the loaded blocks. -/
module

public import proofs.«01_k».proof.Proof.Ffn.Body
public import proofs.«01_k».proof.Proof.Gen.FfnIdeal.Value
public import Idealize.ShloMosaic.Lib.WholeRead

@[expose] public section

set_option maxRecDepth 16384

noncomputable section

namespace Ffn

open Idealize.ShloMosaic Idealize.ShloMosaic.TcCoe Idealize.SL.Sem Cert.FfnIdeal Cert.FfnIdeal.Gen

variable {F : FTy → Type} [FloatOps F]

/-- A load of a whole buffer reads what the buffer holds. -/
theorem readWhole {S : Shape} {e : EltTy} (a : Memref sig .tc .vmem S e) (h : a.IsWhole) {off : Fin S.rank → ℕ} (ho : off = fun _ => 0)
    (inb : ∀ k, off k + S.size k ≤ S.size k) (x : Vec F S e) :
    View.readAt (Elt F) a.view (Rect.unit (s := S) off S.size inb).toLoadRect (h.unread x) = x := by
  subst ho
  funext i
  rw [Memref.IsWhole.readAt_unread]
  refine congrArg x (funext fun k => Fin.ext ?_)
  simp [LoadRect.idx, Rect.unit]

theorem two_zero : (![0, 0] : Fin 2 → ℕ) = fun _ => 0 := by
  funext k; match k with | ⟨0, _⟩ => rfl | ⟨1, _⟩ => rfl

variable (c : Dev nD) (i : grid0.Coords)
  (arg2 : Memref sig .tc .vmem S1024x1024 .bf16) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S512x1024 .bf16) (harg5 : arg5.IsWhole)
  (arg6 : Memref sig .tc .vmem S1024x1024 .f32) (harg6 : arg6.IsWhole)
  (arg7 : Memref sig .tc .vmem S1x1x6144 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1x6144 .f32) (harg10 : arg10.IsWhole)
  (arg11 : Memref sig .tc .vmem S1024x1024 .f32) (harg11 : arg11.IsWhole)
  (arg12 : Memref sig .tc .vmem S1024x1024 .bf16) (harg12 : arg12.IsWhole)
  (arg13 : Memref sig .tc .vmem S1024x1024 .f32) (harg13 : arg13.IsWhole)
  (x0 : Vec F S1024x1024 .bf16) (x1 x2 : Vec F S1024x512 .bf16) (x3 : Vec F S512x1024 .bf16) (x4 : Vec F S1024x1024 .f32)
  (x5 : Vec F S1x1x6144 .f32) (x6 x7 : Vec F S1x1024 .f32) (x8 : Vec F S1x1x6144 .f32) (xs0 : Vec F S1024x1024 .f32)

/-- Parts 5 of one modulation row, and parts 0 and 1 of the other, as the body loads them. -/
def gateRow : Vec F S1x1x1024 .f32 := (View.readAt (Elt F) arg7.view (Rect.unit (s := S1x1x6144) ![0, 0, 5120] S1x1x1024.size inb_S1x1x6144_S1x1x1024_0_0_5120).toLoadRect (harg7.unread x5))
def shiftRow : Vec F S1x1x1024 .f32 := (View.readAt (Elt F) arg10.view (Rect.unit (s := S1x1x6144) ![0, 0, 0] S1x1x1024.size inb_S1x1x6144_S1x1x1024_0_0_0).toLoadRect (harg10.unread x8))
def scaleRow : Vec F S1x1x1024 .f32 := (View.readAt (Elt F) arg10.view (Rect.unit (s := S1x1x6144) ![0, 0, 1024] S1x1x1024.size inb_S1x1x6144_S1x1x1024_0_0_1024).toLoadRect (harg10.unread x8))

set_option maxHeartbeats 0 in
theorem pieceA (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1
    = [⟨(Rect.unit (s := S1024x1024) ![0, 0] S1024x1024.size inb_S1024x1024_S1024x1024_0_0), k0_pay2 (View.readAt (Elt F) arg2.view (Rect.unit (s := S1024x1024) ![0, 0] S1024x1024.size inb_S1024x1024_S1024x1024_0_0).toLoadRect (harg2.unread x0)) (View.readAt (Elt F) arg3.view (Rect.unit (s := S1024x512) ![0, 0] S1024x512.size inb_S1024x512_S1024x512_0_0).toLoadRect (harg3.unread x1)) (View.readAt (Elt F) arg4.view (Rect.unit (s := S1024x512) ![0, 0] S1024x512.size inb_S1024x512_S1024x512_0_0).toLoadRect (harg4.unread x2)) (arg13.view.readCov [⟨(Rect.unit (s := S1024x1024) ![0, 0] S1024x1024.size inb_S1024x1024_S1024x1024_0_0), k0_pay1⟩] (Rect.unit (s := S1024x1024) ![0, 0] S1024x1024.size inb_S1024x1024_S1024x1024_0_0).toLoadRect) (View.readAt (Elt F) arg5.view (Rect.unit (s := S512x1024) ![0, 0] S512x1024.size inb_S512x1024_S512x1024_0_0).toLoadRect (harg5.unread x3))⟩, ⟨(Rect.unit (s := S1024x1024) ![0, 0] S1024x1024.size inb_S1024x1024_S1024x1024_0_0), k0_pay1⟩] := by exact rfl
set_option maxHeartbeats 0 in
theorem pieceB (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1
    = [⟨(Rect.unit (s := S1024x1024) ![0, 0] S1024x1024.size inb_S1024x1024_S1024x1024_0_0), k0_pay2 (View.readAt (Elt F) arg2.view (Rect.unit (s := S1024x1024) ![0, 0] S1024x1024.size inb_S1024x1024_S1024x1024_0_0).toLoadRect (harg2.unread x0)) (View.readAt (Elt F) arg3.view (Rect.unit (s := S1024x512) ![0, 0] S1024x512.size inb_S1024x512_S1024x512_0_0).toLoadRect (harg3.unread x1)) (View.readAt (Elt F) arg4.view (Rect.unit (s := S1024x512) ![0, 0] S1024x512.size inb_S1024x512_S1024x512_0_0).toLoadRect (harg4.unread x2)) (View.readAt (Elt F) arg13.view (Rect.unit (s := S1024x1024) ![0, 0] S1024x1024.size inb_S1024x1024_S1024x1024_0_0).toLoadRect (harg13.unread xs0)) (View.readAt (Elt F) arg5.view (Rect.unit (s := S512x1024) ![0, 0] S512x1024.size inb_S512x1024_S512x1024_0_0).toLoadRect (harg5.unread x3))⟩] := by exact rfl
set_option maxHeartbeats 0 in
theorem pieceC (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1
    = [⟨(Rect.unit (s := S1024x1024) ![0, 0] S1024x1024.size inb_S1024x1024_S1024x1024_0_0), k0_pay2 (View.readAt (Elt F) arg2.view (Rect.unit (s := S1024x1024) ![0, 0] S1024x1024.size inb_S1024x1024_S1024x1024_0_0).toLoadRect (harg2.unread x0)) (View.readAt (Elt F) arg3.view (Rect.unit (s := S1024x512) ![0, 0] S1024x512.size inb_S1024x512_S1024x512_0_0).toLoadRect (harg3.unread x1)) (View.readAt (Elt F) arg4.view (Rect.unit (s := S1024x512) ![0, 0] S1024x512.size inb_S1024x512_S1024x512_0_0).toLoadRect (harg4.unread x2)) (View.readAt (Elt F) arg13.view (Rect.unit (s := S1024x1024) ![0, 0] S1024x1024.size inb_S1024x1024_S1024x1024_0_0).toLoadRect (harg13.unread xs0)) (View.readAt (Elt F) arg5.view (Rect.unit (s := S512x1024) ![0, 0] S512x1024.size inb_S512x1024_S512x1024_0_0).toLoadRect (harg5.unread x3))⟩] := by exact rfl

/-- The accumulator as the last point of a row of blocks reads it back. -/
theorem back : kernelRun0_C.sl.v25 c arg2 harg2 arg3 harg3 arg4 harg4 arg5 harg5 arg13 harg13 x0 x1 x2 x3 xs0 = k0_pay2 x0 x1 x2 xs0 x3 := by
  have e : kernelRun0_C.sl.v25 c arg2 harg2 arg3 harg3 arg4 harg4 arg5 harg5 arg13 harg13 x0 x1 x2 x3 xs0
      = arg13.view.readCov [⟨(Rect.unit (s := S1024x1024) ![0, 0] S1024x1024.size inb_S1024x1024_S1024x1024_0_0), k0_pay2 (View.readAt (Elt F) arg2.view (Rect.unit (s := S1024x1024) ![0, 0] S1024x1024.size inb_S1024x1024_S1024x1024_0_0).toLoadRect (harg2.unread x0)) (View.readAt (Elt F) arg3.view (Rect.unit (s := S1024x512) ![0, 0] S1024x512.size inb_S1024x512_S1024x512_0_0).toLoadRect (harg3.unread x1)) (View.readAt (Elt F) arg4.view (Rect.unit (s := S1024x512) ![0, 0] S1024x512.size inb_S1024x512_S1024x512_0_0).toLoadRect (harg4.unread x2)) (View.readAt (Elt F) arg13.view (Rect.unit (s := S1024x1024) ![0, 0] S1024x1024.size inb_S1024x1024_S1024x1024_0_0).toLoadRect (harg13.unread xs0)) (View.readAt (Elt F) arg5.view (Rect.unit (s := S512x1024) ![0, 0] S512x1024.size inb_S512x1024_S512x1024_0_0).toLoadRect (harg5.unread x3))⟩] (Rect.unit (s := S1024x1024) ![0, 0] S1024x1024.size inb_S1024x1024_S1024x1024_0_0).toLoadRect := by exact rfl
  rw [e, View.readCov_unit_zero _ two_zero]
  rw [readWhole (S := S1024x1024) arg2 harg2 two_zero, readWhole (S := S1024x512) arg3 harg3 two_zero, readWhole (S := S1024x512) arg4 harg4 two_zero, readWhole (S := S1024x1024) arg13 harg13 two_zero, readWhole (S := S512x1024) arg5 harg5 two_zero]

set_option maxHeartbeats 0 in
theorem piece9 (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1
    = [⟨(Rect.unit (s := S1024x1024) ![0, 0] S1024x1024.size inb_S1024x1024_S1024x1024_0_0), k0_pay4 (gateRow arg7 harg7 x5) (View.readAt (Elt F) arg6.view (Rect.unit (s := S1024x1024) ![0, 0] S1024x1024.size inb_S1024x1024_S1024x1024_0_0).toLoadRect (harg6.unread x4)) (kernelRun0_C.sl.v25 c arg2 harg2 arg3 harg3 arg4 harg4 arg5 harg5 arg13 harg13 x0 x1 x2 x3 xs0) (View.readAt (Elt F) arg8.view (Rect.unit (s := S1x1024) ![0, 0] S1x1024.size inb_S1x1024_S1x1024_0_0).toLoadRect (harg8.unread x6))⟩] := by exact rfl
set_option maxHeartbeats 0 in
theorem piece10 (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1
    = [⟨(Rect.unit (s := S1024x1024) ![0, 0] S1024x1024.size inb_S1024x1024_S1024x1024_0_0), k0_pay3 (k0_pay4 (gateRow arg7 harg7 x5) (View.readAt (Elt F) arg6.view (Rect.unit (s := S1024x1024) ![0, 0] S1024x1024.size inb_S1024x1024_S1024x1024_0_0).toLoadRect (harg6.unread x4)) (kernelRun0_C.sl.v25 c arg2 harg2 arg3 harg3 arg4 harg4 arg5 harg5 arg13 harg13 x0 x1 x2 x3 xs0) (View.readAt (Elt F) arg8.view (Rect.unit (s := S1x1024) ![0, 0] S1x1024.size inb_S1x1024_S1x1024_0_0).toLoadRect (harg8.unread x6)))
        (k0_pay5 (shiftRow arg10 harg10 x8)) (k0_pay6 (scaleRow arg10 harg10 x8)) (View.readAt (Elt F) arg9.view (Rect.unit (s := S1x1024) ![0, 0] S1x1024.size inb_S1x1024_S1x1024_0_0).toLoadRect (harg9.unread x7))
        (k0_pay7 (gateRow arg7 harg7 x5) (View.readAt (Elt F) arg6.view (Rect.unit (s := S1024x1024) ![0, 0] S1024x1024.size inb_S1024x1024_S1024x1024_0_0).toLoadRect (harg6.unread x4)) (kernelRun0_C.sl.v25 c arg2 harg2 arg3 harg3 arg4 harg4 arg5 harg5 arg13 harg13 x0 x1 x2 x3 xs0) (View.readAt (Elt F) arg8.view (Rect.unit (s := S1x1024) ![0, 0] S1x1024.size inb_S1x1024_S1x1024_0_0).toLoadRect (harg8.unread x6)))⟩] := by exact rfl

theorem scrA (hc0 : cond0_0 i) (hc1 : ¬cond0_1 i) : sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay2 x0 x1 x2 k0_pay1 x3 := by
  unfold sout0_A_0
  rw [View.read_writes_junk_eq_canon, pieceA, View.canon_cons_unit_zero two_zero, View.readCov_unit_zero _ two_zero]
  rw [readWhole (S := S1024x1024) arg2 harg2 two_zero, readWhole (S := S1024x512) arg3 harg3 two_zero, readWhole (S := S1024x512) arg4 harg4 two_zero, readWhole (S := S512x1024) arg5 harg5 two_zero]
theorem scrB (hc0 : ¬cond0_0 i) (hc1 : ¬cond0_1 i) : sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay2 x0 x1 x2 xs0 x3 := by
  unfold sout0_B_0
  rw [View.read_writes_junk_eq_canon, pieceB, View.canon_unit_zero two_zero]
  rw [readWhole (S := S1024x1024) arg2 harg2 two_zero, readWhole (S := S1024x512) arg3 harg3 two_zero, readWhole (S := S1024x512) arg4 harg4 two_zero, readWhole (S := S1024x1024) arg13 harg13 two_zero, readWhole (S := S512x1024) arg5 harg5 two_zero]
theorem outC9 (hc0 : ¬cond0_0 i) (hc1 : cond0_1 i) : out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
    = k0_pay4 (gateRow arg7 harg7 x5) x4 (k0_pay2 x0 x1 x2 xs0 x3) x6 := by
  unfold out0_C_9
  rw [View.read_writes_junk_eq_canon, piece9, View.canon_unit_zero two_zero, back]
  rw [readWhole (S := S1024x1024) arg6 harg6 two_zero, readWhole (S := S1x1024) arg8 harg8 two_zero]
theorem outC10 (hc0 : ¬cond0_0 i) (hc1 : cond0_1 i) : out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
    = k0_pay3 (k0_pay4 (gateRow arg7 harg7 x5) x4 (k0_pay2 x0 x1 x2 xs0 x3) x6) (k0_pay5 (shiftRow arg10 harg10 x8)) (k0_pay6 (scaleRow arg10 harg10 x8)) x7
        (k0_pay7 (gateRow arg7 harg7 x5) x4 (k0_pay2 x0 x1 x2 xs0 x3) x6) := by
  unfold out0_C_10
  rw [View.read_writes_junk_eq_canon, piece10, View.canon_unit_zero two_zero, back]
  rw [readWhole (S := S1024x1024) arg6 harg6 two_zero, readWhole (S := S1x1024) arg8 harg8 two_zero, readWhole (S := S1x1024) arg9 harg9 two_zero]

theorem gateRow_at (l : Fin 1024) : gateRow arg7 harg7 x5 (ix3 0 0 l) = x5 (ix3 0 0 (part 5 l)) := by
  unfold gateRow
  rw [Memref.IsWhole.readAt_unread]
  refine congrArg x5 (funext fun k => Fin.ext ?_)
  match k with
  | ⟨0, _⟩ => rfl
  | ⟨1, _⟩ => rfl
  | ⟨2, _⟩ => show 5120 + 1 * l.val = 1024 * 5 + l.val; omega
theorem shiftRow_at (l : Fin 1024) : shiftRow arg10 harg10 x8 (ix3 0 0 l) = x8 (ix3 0 0 (part 0 l)) := by
  unfold shiftRow
  rw [Memref.IsWhole.readAt_unread]
  refine congrArg x8 (funext fun k => Fin.ext ?_)
  match k with
  | ⟨0, _⟩ => rfl
  | ⟨1, _⟩ => rfl
  | ⟨2, _⟩ => show 0 + 1 * l.val = 1024 * 0 + l.val; omega
theorem scaleRow_at (l : Fin 1024) : scaleRow arg10 harg10 x8 (ix3 0 0 l) = x8 (ix3 0 0 (part 1 l)) := by
  unfold scaleRow
  rw [Memref.IsWhole.readAt_unread]
  refine congrArg x8 (funext fun k => Fin.ext ?_)
  match k with
  | ⟨0, _⟩ => rfl
  | ⟨1, _⟩ => rfl
  | ⟨2, _⟩ => show 1024 + 1 * l.val = 1024 * 1 + l.val; omega

end Ffn
-- ==== Proof.Ffn.Points.lean ====
/- The kernel's blocks at a grid point, what the points of one row of blocks leave in the accumulator, and the two
   result arrays. -/
module

public import proofs.«01_k».proof.Proof.Ffn.Pieces
public import Idealize.ShloMosaic.Lib.Pipeline.Value
public import Idealize.ShloMosaic.Lib.Pipeline.ValueKit

@[expose] public section

set_option maxRecDepth 16384

noncomputable section

namespace Ffn

open Idealize.ShloMosaic Idealize.ShloMosaic.TcCoe Idealize.SL.Sem Cert.FfnIdeal Cert.FfnIdeal.Gen

variable (m : (ℓ : Loc nD τ sig) → Buf (Elt Ideal) ℓ) (c : Dev nD)

/-- The arguments in the memory. -/
def inp : Inp where
  h := fun r k => (m ((c : Thread nD τ).loc main_arg0) : FVec Ideal S16384x1024 .bf16) (ix2 r k)
  w := fun k j => (m ((c : Thread nD τ).loc main_arg1) : FVec Ideal S1024x7168 .bf16) (ix2 k j)
  d := fun j l => (m ((c : Thread nD τ).loc main_arg2) : FVec Ideal S3584x1024 .bf16) (ix2 j l)
  x := fun r l => (m ((c : Thread nD τ).loc main_arg3) : FVec Ideal S16384x1024 .f32) (ix2 r l)
  md := fun b l => (m ((c : Thread nD τ).loc main_arg4) : FVec Ideal S8x1x6144 .f32) (ix3 b 0 l)
  g3 := fun l => (m ((c : Thread nD τ).loc main_arg5) : FVec Ideal S1x1024 .f32) (ix2 0 l)
  gn := fun l => (m ((c : Thread nD τ).loc main_arg6) : FVec Ideal S1x1024 .f32) (ix2 0 l)
  md2 := fun b l => (m ((c : Thread nD τ).loc main_arg7) : FVec Ideal S8x1x6144 .f32) (ix3 b 0 l)

theorem lt_pts (t : Fin cfg0.N) : t.val < 112 := lt_of_lt_of_eq t.isLt N_0

/-- Row `r` of the point's block of rows, and the point's band of hidden units. -/
def rowOf (t : Fin cfg0.N) (r : Fin 1024) : Fin 16384 := ⟨1024 * (t.val / 7) + r.val, by have := lt_pts t; have := r.isLt; omega⟩
def bandOf (t : Fin cfg0.N) : Fin 7 := ⟨t.val % 7, Nat.mod_lt _ (by norm_num)⟩

/-! ## Where the windows stand -/

theorem at0 : ∀ t : Fin cfg0.N, win0_0.index t (0 : Fin 2) = t.val / 7 ∧ win0_0.index t (1 : Fin 2) = 0 :=
  (by decide +kernel : ∀ t : Fin grid0.N, _)
theorem at1 : ∀ t : Fin cfg0.N, win0_1.index t (0 : Fin 2) = 0 ∧ win0_1.index t (1 : Fin 2) = t.val % 7 :=
  (by decide +kernel : ∀ t : Fin grid0.N, _)
theorem at2 : ∀ t : Fin cfg0.N, win0_2.index t (0 : Fin 2) = 0 ∧ win0_2.index t (1 : Fin 2) = 7 + t.val % 7 :=
  (by decide +kernel : ∀ t : Fin grid0.N, _)
theorem at3 : ∀ t : Fin cfg0.N, win0_3.index t (0 : Fin 2) = t.val % 7 ∧ win0_3.index t (1 : Fin 2) = 0 :=
  (by decide +kernel : ∀ t : Fin grid0.N, _)
theorem at4 : ∀ t : Fin cfg0.N, win0_4.index t (0 : Fin 2) = t.val / 7 ∧ win0_4.index t (1 : Fin 2) = 0 :=
  (by decide +kernel : ∀ t : Fin grid0.N, _)
theorem at5 : ∀ t : Fin cfg0.N, win0_5.index t (0 : Fin 3) = t.val / 14 ∧ win0_5.index t (1 : Fin 3) = 0 ∧ win0_5.index t (2 : Fin 3) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 3) = t.val / 14 ∧ win0_8.index t (1 : Fin 3) = 0 ∧ win0_8.index t (2 : Fin 3) = 0 :=
  (by decide +kernel : ∀ t : Fin grid0.N, _)

/-! ## The blocks -/

theorem blk0 (t : Fin cfg0.N) (r k : Fin 1024) : (iblk m c 0 t : Vec Ideal S1024x1024 .bf16) (ix2 r k) = (inp m c).h (rowOf t r) k := by
  unfold iblk
  rw [View.read_apply]
  refine congrArg (m ((c : Thread nD τ).loc main_arg0) : FVec Ideal S16384x1024 .bf16) (funext fun a => Fin.ext ?_)
  match a with
  | ⟨0, _⟩ => show win0_0.index t (0 : Fin 2) * 1024 + 1 * r.val = 1024 * (t.val / 7) + r.val; rw [(at0 t).1]; omega
  | ⟨1, _⟩ => show win0_0.index t (1 : Fin 2) * 1024 + 1 * k.val = k.val; rw [(at0 t).2]; omega
theorem blk1 (t : Fin cfg0.N) (k : Fin 1024) (j : Fin 512) :
    (iblk m c 1 t : Vec Ideal S1024x512 .bf16) (ix2 k j) = (inp m c).w k (colG (band (bandOf t) j)) := by
  unfold iblk
  rw [View.read_apply]
  refine congrArg (m ((c : Thread nD τ).loc main_arg1) : FVec Ideal S1024x7168 .bf16) (funext fun a => Fin.ext ?_)
  match a with
  | ⟨0, _⟩ => show win0_1.index t (0 : Fin 2) * 1024 + 1 * k.val = k.val; rw [(at1 t).1]; omega
  | ⟨1, _⟩ => show win0_1.index t (1 : Fin 2) * 512 + 1 * j.val = 512 * (t.val % 7) + j.val; rw [(at1 t).2]; omega
theorem blk2 (t : Fin cfg0.N) (k : Fin 1024) (j : Fin 512) :
    (iblk m c 2 t : Vec Ideal S1024x512 .bf16) (ix2 k j) = (inp m c).w k (colU (band (bandOf t) j)) := by
  unfold iblk
  rw [View.read_apply]
  refine congrArg (m ((c : Thread nD τ).loc main_arg1) : FVec Ideal S1024x7168 .bf16) (funext fun a => Fin.ext ?_)
  match a with
  | ⟨0, _⟩ => show win0_2.index t (0 : Fin 2) * 1024 + 1 * k.val = k.val; rw [(at2 t).1]; omega
  | ⟨1, _⟩ => show win0_2.index t (1 : Fin 2) * 512 + 1 * j.val = 3584 + (512 * (t.val % 7) + j.val); rw [(at2 t).2]; omega
theorem blk3 (t : Fin cfg0.N) (j : Fin 512) (l : Fin 1024) :
    (iblk m c 3 t : Vec Ideal S512x1024 .bf16) (ix2 j l) = (inp m c).d (band (bandOf t) j) l := by
  unfold iblk
  rw [View.read_apply]
  refine congrArg (m ((c : Thread nD τ).loc main_arg2) : FVec Ideal S3584x1024 .bf16) (funext fun a => Fin.ext ?_)
  match a with
  | ⟨0, _⟩ => show win0_3.index t (0 : Fin 2) * 512 + 1 * j.val = 512 * (t.val % 7) + j.val; rw [(at3 t).1]; omega
  | ⟨1, _⟩ => show win0_3.index t (1 : Fin 2) * 1024 + 1 * l.val = l.val; rw [(at3 t).2]; omega
theorem blk4 (t : Fin cfg0.N) (r l : Fin 1024) : (iblk m c 4 t : Vec Ideal S1024x1024 .f32) (ix2 r l) = (inp m c).x (rowOf t r) l := by
  unfold iblk
  rw [View.read_apply]
  refine congrArg (m ((c : Thread nD τ).loc main_arg3) : FVec Ideal S16384x1024 .f32) (funext fun a => Fin.ext ?_)
  match a with
  | ⟨0, _⟩ => show win0_4.index t (0 : Fin 2) * 1024 + 1 * r.val = 1024 * (t.val / 7) + r.val; rw [(at4 t).1]; omega
  | ⟨1, _⟩ => show win0_4.index t (1 : Fin 2) * 1024 + 1 * l.val = l.val; rw [(at4 t).2]; omega

theorem bat_rowOf (t : Fin cfg0.N) (r : Fin 1024) : (bat (rowOf t r)).val = t.val / 14 := by
  have := lt_pts t
  have := r.isLt
  show (1024 * (t.val / 7) + r.val) / 2048 = _
  omega

theorem blk5 (t : Fin cfg0.N) (r : Fin 1024) (l : Fin 6144) :
    (iblk m c 5 t : Vec Ideal S1x1x6144 .f32) (ix3 0 0 l) = (inp m c).md (bat (rowOf t r)) l := by
  unfold iblk
  rw [View.read_apply]
  refine congrArg (m ((c : Thread nD τ).loc main_arg4) : FVec Ideal S8x1x6144 .f32) (funext fun a => Fin.ext ?_)
  match a with
  | ⟨0, _⟩ => show win0_5.index t (0 : Fin 3) * 1 + 1 * 0 = (bat (rowOf t r)).val; rw [(at5 t).1, bat_rowOf]; omega
  | ⟨1, _⟩ => show win0_5.index t (1 : Fin 3) * 1 + 1 * 0 = 0; rw [(at5 t).2.1]
  | ⟨2, _⟩ => show win0_5.index t (2 : Fin 3) * 6144 + 1 * l.val = l.val; rw [(at5 t).2.2]; omega
theorem blk6 (t : Fin cfg0.N) (l : Fin 1024) : (iblk m c 6 t : Vec Ideal S1x1024 .f32) (ix2 0 l) = (inp m c).g3 l := by
  unfold iblk
  rw [View.read_apply]
  refine congrArg (m ((c : Thread nD τ).loc main_arg5) : FVec Ideal S1x1024 .f32) (funext fun a => Fin.ext ?_)
  match a with
  | ⟨0, _⟩ => show win0_6.index t (0 : Fin 2) * 1 + 1 * 0 = 0; rw [(at6 t).1]
  | ⟨1, _⟩ => show win0_6.index t (1 : Fin 2) * 1024 + 1 * l.val = l.val; rw [(at6 t).2]; omega
theorem blk7 (t : Fin cfg0.N) (l : Fin 1024) : (iblk m c 7 t : Vec Ideal S1x1024 .f32) (ix2 0 l) = (inp m c).gn l := by
  unfold iblk
  rw [View.read_apply]
  refine congrArg (m ((c : Thread nD τ).loc main_arg6) : FVec Ideal S1x1024 .f32) (funext fun a => Fin.ext ?_)
  match a with
  | ⟨0, _⟩ => show win0_7.index t (0 : Fin 2) * 1 + 1 * 0 = 0; rw [(at7 t).1]
  | ⟨1, _⟩ => show win0_7.index t (1 : Fin 2) * 1024 + 1 * l.val = l.val; rw [(at7 t).2]; omega
theorem blk8 (t : Fin cfg0.N) (r : Fin 1024) (l : Fin 6144) :
    (iblk m c 8 t : Vec Ideal S1x1x6144 .f32) (ix3 0 0 l) = (inp m c).md2 (bat (rowOf t r)) l := by
  unfold iblk
  rw [View.read_apply]
  refine congrArg (m ((c : Thread nD τ).loc main_arg7) : FVec Ideal S8x1x6144 .f32) (funext fun a => Fin.ext ?_)
  match a with
  | ⟨0, _⟩ => show win0_8.index t (0 : Fin 3) * 1 + 1 * 0 = (bat (rowOf t r)).val; rw [(at8 t).1, bat_rowOf]; omega
  | ⟨1, _⟩ => show win0_8.index t (1 : Fin 3) * 1 + 1 * 0 = 0; rw [(at8 t).2.1]
  | ⟨2, _⟩ => show win0_8.index t (2 : Fin 3) * 6144 + 1 * l.val = l.val; rw [(at8 t).2.2]; omega

/-! ## The accumulator -/

/-- One point adds its band's share. -/
theorem step_at (t : Fin cfg0.N) (v : Vec Ideal S1024x1024 .f32) (r l : Fin 1024) :
    k0_pay2 (iblk m c 0 t : Vec Ideal S1024x1024 .bf16) (iblk m c 1 t : Vec Ideal S1024x512 .bf16) (iblk m c 2 t : Vec Ideal S1024x512 .bf16) v
      (iblk m c 3 t : Vec Ideal S512x1024 .bf16) (ix2 r l) = v (ix2 r l) + (inp m c).share (rowOf t r) l (bandOf t) := by
  rw [pay2_at]
  refine congrArg (v (ix2 r l) + ·) (Finset.sum_congr rfl fun j _ => congrArg₂ (· * ·) ?_ (blk3 m c t j l))
  unfold Inp.hid
  rw [funext (blk0 m c t r), funext fun k => blk1 m c t k j, funext fun k => blk2 m c t k j]

theorem upto_succ (a : Inp) (r : Fin 16384) (l : Fin 1024) (f : Fin 7) : a.upto r l (f.val + 1) = a.upto r l f.val + a.share r l f := by
  show a.upto r l f.val + (if h : f.val < 7 then a.share r l ⟨f.val, h⟩ else 0) = _
  rw [dif_pos f.isLt]

/-- After a point the accumulator holds the shares of its band and of the bands before it. -/
theorem acc_at : ∀ (n : ℕ) (hn : n < cfg0.N) (r l : Fin 1024), n % 7 ≠ 6 →
    (outsAt0 m c n hn).2.2 (ix2 r l) = (inp m c).upto (rowOf ⟨n, hn⟩ r) l (n % 7 + 1) := by
  intro n
  induction n with
  | zero =>
    intro hn r l h6
    rw [outsAt0_A m c ⟨0, hn⟩ rfl h6]
    dsimp only
    rw [scrA, step_at, pay1_at]
    exact (upto_succ _ _ _ (bandOf ⟨0, hn⟩)).symm
  | succ n ih =>
    intro hn r l h6
    by_cases h0 : (n + 1) % 7 = 0
    · rw [outsAt0_A m c ⟨n + 1, hn⟩ h0 h6]
      dsimp only
      rw [scrA, step_at, pay1_at]
      have e := upto_succ (inp m c) (rowOf ⟨n + 1, hn⟩ r) l (bandOf ⟨n + 1, hn⟩)
      have e0 : (bandOf ⟨n + 1, hn⟩).val = 0 := h0
      rw [e0] at e
      rw [h0]
      exact e.symm
    · rw [outsAt0_B m c ⟨n + 1, hn⟩ h0 h6]
      dsimp only
      rw [scrB, step_at]
      have e1 : n % 7 + 1 = (n + 1) % 7 := by omega
      have hp := ih (Nat.lt_of_succ_lt hn) r l (by omega)
      have er : rowOf ⟨n, Nat.lt_of_succ_lt hn⟩ r = rowOf ⟨n + 1, hn⟩ r := Fin.ext (by show 1024 * (n / 7) + r.val = 1024 * ((n + 1) / 7) + r.val; omega)
      rw [er, e1] at hp
      refine (congrArg (· + _) hp).trans ?_
      exact (upto_succ _ _ _ (bandOf ⟨n + 1, hn⟩)).symm

/-- … so at the last point of a row of blocks the accumulator the body reads back is the whole second product. -/
theorem full_at (t : Fin cfg0.N) (h6 : t.val % 7 = 6) (hp : t.val - 1 < cfg0.N) (r l : Fin 1024) :
    k0_pay2 (iblk m c 0 t : Vec Ideal S1024x1024 .bf16) (iblk m c 1 t : Vec Ideal S1024x512 .bf16) (iblk m c 2 t : Vec Ideal S1024x512 .bf16)
      (outsAt0 m c (t.val - 1) hp).2.2 (iblk m c 3 t : Vec Ideal S512x1024 .bf16) (ix2 r l) = (inp m c).down (rowOf t r) l := by
  rw [step_at, acc_at m c _ hp r l (by omega), ← upto_seven]
  have er : rowOf ⟨t.val - 1, hp⟩ r = rowOf t r := Fin.ext (by show 1024 * ((t.val - 1) / 7) + r.val = 1024 * (t.val / 7) + r.val; omega)
  have e := upto_succ (inp m c) (rowOf t r) l (bandOf t)
  have e6 : (bandOf t).val = 6 := h6
  have e5 : (t.val - 1) % 7 + 1 = 6 := by omega
  rw [e6] at e
  rw [er, e5]
  exact e.symm

/-! ## The results -/

section
variable (t : Fin cfg0.N) (h6 : t.val % 7 = 6) (r l : Fin 1024)
include h6

theorem pay4_full (hp : t.val - 1 < cfg0.N) (arg7 : Memref sig .tc .vmem S1x1x6144 .f32) (harg7 : arg7.IsWhole) :
    k0_pay4 (gateRow arg7 harg7 (iblk m c 5 t : Vec Ideal S1x1x6144 .f32)) (iblk m c 4 t : Vec Ideal S1024x1024 .f32)
      (k0_pay2 (iblk m c 0 t : Vec Ideal S1024x1024 .bf16) (iblk m c 1 t : Vec Ideal S1024x512 .bf16) (iblk m c 2 t : Vec Ideal S1024x512 .bf16)
        (outsAt0 m c (t.val - 1) hp).2.2 (iblk m c 3 t : Vec Ideal S512x1024 .bf16)) (iblk m c 6 t : Vec Ideal S1x1024 .f32) (ix2 r l)
      = (inp m c).res (rowOf t r) l := by
  rw [pay4_at]
  unfold Inp.res
  have e1 := funext (blk4 m c t r)
  have e2 : (fun l => gateRow arg7 harg7 (iblk m c 5 t : Vec Ideal S1x1x6144 .f32) (ix3 0 0 l)) = fun l => (inp m c).md (bat (rowOf t r)) (part 5 l) :=
    funext fun l => (gateRow_at arg7 harg7 _ l).trans (blk5 m c t r _)
  have e3 := funext (full_at m c t h6 hp r)
  have e4 := funext (blk6 m c t)
  rw [e1, e2, e3, e4]

theorem res9 : (outsAt0 m c t.val t.isLt).1 (ix2 r l) = (inp m c).res (rowOf t r) l := by
  rw [outsAt0_C m c t (by omega) h6]
  dsimp only
  rw [outC9]
  exact pay4_full m c t h6 r l _ _ _

theorem res10 : (outsAt0 m c t.val t.isLt).2.1 (ix2 r l) = (inp m c).nxt (rowOf t r) l := by
  rw [outsAt0_C m c t (by omega) h6]
  dsimp only
  rw [outC10, pay3_at _ _ _ _ _ (pay7_at _ _ _ _)]
  unfold Inp.nxt
  have e1 := funext fun l => pay4_full m c t h6 r l (Nat.lt_of_le_of_lt (Nat.sub_le _ _) t.isLt) (ms0_5 t) (hs0_5 t)
  have e2 := funext (blk7 m c t)
  have e3 : (fun l => shiftRow (ms0_8 t) (hs0_8 t) (iblk m c 8 t : Vec Ideal S1x1x6144 .f32) (ix3 0 0 l)) = fun l => (inp m c).md2 (bat (rowOf t r)) (part 0 l) :=
    funext fun l => (shiftRow_at _ _ _ l).trans (blk8 m c t r _)
  have e4 : (fun l => scaleRow (ms0_8 t) (hs0_8 t) (iblk m c 8 t : Vec Ideal S1x1x6144 .f32) (ix3 0 0 l)) = fun l => (inp m c).md2 (bat (rowOf t r)) (part 1 l) :=
    funext fun l => (scaleRow_at _ _ _ l).trans (blk8 m c t r _)
  rw [e1, e2, e3, e4]

end

/-- The last point of the row of blocks that holds a row. -/
def lastPt (r : Fin 16384) : Fin cfg0.N := ⟨7 * (r.val / 1024) + 6, lt_of_lt_of_eq (by have := r.isLt; omega) N_0.symm⟩
def inBlk (r : Fin 16384) : Fin 1024 := ⟨r.val % 1024, Nat.mod_lt _ (by norm_num)⟩
theorem lastPt_mod (r : Fin 16384) : (lastPt r).val % 7 = 6 := by show (7 * (r.val / 1024) + 6) % 7 = 6; omega
theorem rowOf_lastPt (r : Fin 16384) : rowOf (lastPt r) (inBlk r) = r :=
  Fin.ext (by show 1024 * ((7 * (r.val / 1024) + 6) / 7) + r.val % 1024 = r.val; omega)

theorem point_eq {n n' : ℕ} (e : n = n') (h : n < cfg0.N) (h' : n' < cfg0.N) : outsAt0 m c n h = outsAt0 m c n' h' := by subst e; rfl

theorem fin9 (r : Fin 16384) (l : Fin 1024) : (Value.G9 m c : FVec Ideal S16384x1024 .f32) (ix2 r l) = (inp m c).res r l := by
  have hr := r.isLt
  have hl := l.isLt
  have e : Value.pt9Of (ix2 r l) = (lastPt r).val := by
    show 7 * (1 * (r.val / 1024 - 0) + 1 * (l.val / 1024 - 0)) + 6 = 7 * (r.val / 1024) + 6
    omega
  have e' : Value.loc9Of (ix2 r l) = ix2 (inBlk r) l := by
    funext a
    match a with
    | ⟨0, _⟩ => rfl
    | ⟨1, _⟩ => exact Fin.ext (Nat.mod_eq_of_lt hl)
  unfold Value.G9
  rw [dif_pos (by rw [e]; exact (lastPt r).isLt), ← Value.outsAt0_sweep m c _ (by rw [e]; exact (lastPt r).isLt), e']
  have h := res9 m c (lastPt r) (lastPt_mod r) (inBlk r) l
  rw [rowOf_lastPt] at h
  rw [← h, point_eq m c e _ (lastPt r).isLt]

theorem fin10 (r : Fin 16384) (l : Fin 1024) : (Value.G10 m c : FVec Ideal S16384x1024 .bf16) (ix2 r l) = (inp m c).nxt r l := by
  have hr := r.isLt
  have hl := l.isLt
  have e : Value.pt10Of (ix2 r l) = (lastPt r).val := by
    show 7 * (1 * (r.val / 1024 - 0) + 1 * (l.val / 1024 - 0)) + 6 = 7 * (r.val / 1024) + 6
    omega
  have e' : Value.loc10Of (ix2 r l) = ix2 (inBlk r) l := by
    funext a
    match a with
    | ⟨0, _⟩ => rfl
    | ⟨1, _⟩ => exact Fin.ext (Nat.mod_eq_of_lt hl)
  unfold Value.G10
  rw [dif_pos (by rw [e]; exact (lastPt r).isLt), ← Value.outsAt0_sweep m c _ (by rw [e]; exact (lastPt r).isLt), e']
  have h := res10 m c (lastPt r) (lastPt_mod r) (inBlk r) l
  rw [rowOf_lastPt] at h
  rw [← h, point_eq m c e _ (lastPt r).isLt]

end Ffn
-- ==== Proof.Ffn.Ref.lean ====
/- The reference's two results, element by element. -/
module

public import proofs.«01_k».proof.Proof.Ffn.Spec
public import proofs.«01_k».proof.Proof.Gen.FfnReferenceIdeal.Run
public import Idealize.ShloMosaic.Lib.StackMember
public import Idealize.ShloMosaic.Lib.Pipeline.Value

@[expose] public section

set_option maxRecDepth 16384

noncomputable section

namespace Ffn.Ref

open Idealize.ShloMosaic Idealize.ShloMosaic.TcCoe Cert.FfnReferenceIdeal Cert.FfnReferenceIdeal.Gen

/-! ## The operations, at an element -/

theorem dot_at {M K N : ℕ} {φ₁ φ₂ : FTy} (x : FVec Ideal ⟨2, ![M, K]⟩ φ₁) (y : FVec Ideal ⟨2, ![K, N]⟩ φ₂) (r : Fin M) (c : Fin N) :
    Host.dotGeneral (DotDims.plain M K N) none x y (ix2 r c) = ∑ k, x (ix2 r k) * y (ix2 k c) := by
  rw [ix2_eq_valueIdx, StackMember.dotGeneral_plain_apply]
  simp only [← ix2_eq_valueIdx]

/-- A one-element array copied everywhere. -/
theorem scalar_at {s : Shape} (h) (b : BitVec 32) (j : s.Idx) :
    broadcastInDim s ![] h (constant S_ .f32 b : FVec Ideal S_ .f32) j = Ideal.ofBits .f32 b := rfl

theorem col_at {m : ℕ} (x : FVec Ideal S16384x1 .f32) (h) (r : Fin 16384) (l : Fin m) :
    broadcastInDim (⟨2, ![16384, m]⟩ : Shape) ![0, 1] h x (ix2 r l) = x (ix2 r 0) := by
  refine broadcastInDim_apply _ _ _ _ _ fun a => ?_
  match a with
  | ⟨0, _⟩ => rfl
  | ⟨1, _⟩ => rfl
theorem row_at (x : FVec Ideal S1x1024 .f32) (h) (r : Fin 16384) (l : Fin 1024) :
    broadcastInDim S16384x1024 ![0, 1] h x (ix2 r l) = x (ix2 0 l) := by
  refine broadcastInDim_apply _ _ _ _ _ fun a => ?_
  match a with
  | ⟨0, _⟩ => rfl
  | ⟨1, _⟩ => rfl
theorem toCol_at (x : FVec Ideal S16384 .f32) (h) (r : Fin 16384) :
    broadcastInDim S16384x1 ![0] h x (ix2 r 0) = x (ix1 r) := by
  refine broadcastInDim_apply _ _ _ _ _ fun a => ?_
  match a with
  | ⟨0, _⟩ => rfl

theorem rowSum_at (x : FVec Ideal S16384x1024 .f32) (r : Fin 16384) :
    Host.reduceAdd x (constant S_ .f32 0x00000000#32) reducesTo_S16384x1024_S16384_d1 h_S_ (ix1 r) = ∑ k : Fin 1024, x (ix2 r k) := by
  rw [Host.reduceAdd_apply, Ideal.hostReduceAdd_def]
  refine (Ideal.hostReduceAdd_r2_a1 _ _ _ _).trans ?_
  refine (congrArg (· + _) Ideal.ofBits_zero_f32).trans ((zero_add _).trans ?_)
  rfl

/-- The reciprocal root mean square of every row, as a column. -/
theorem inv_at (y : FVec Ideal S16384x1024 .f32) (r : Fin 16384) :
    Host.rsqrt (addf (Host.divf (broadcastInDim S16384x1 ![0] bcast_S16384_S16384x1_0 (Host.reduceAdd (mulf y y) (constant S_ .f32 0x00000000#32) reducesTo_S16384x1024_S16384_d1 h_S_))
      (broadcastInDim S16384x1 ![] bcast_S_S16384x1 (constant S_ .f32 0x44800000#32))) (broadcastInDim S16384x1 ![] bcast_S_S16384x1 (constant S_ .f32 0x358637BD#32))) (ix2 r 0)
      = inv fun k => y (ix2 r k) := by
  refine congrArg (fun z => Ideal.rsqrt (Ideal.div z len + eps)) ?_
  exact (toCol_at _ _ r).trans (rowSum_at _ r)

/-- A modulation part, copied to the rows of its batch. -/
theorem mod_at (x : FVec Ideal S8x1x6144 .f32) (q : Fin 6) (o : Fin 3 → ℕ) (ho : o = ![0, 0, 1024 * q.val]) (h) (h') (h'') (r : Fin 16384) (l : Fin 1024) :
    shapeCast S16384x1024 (broadcastInDim S8x2048x1024 ![0, 1, 2] h (extractStridedSlice S8x1x1024 o x h')) h'' (ix2 r l)
      = x (ix3 (bat r) 0 (part q l)) := by
  subst ho
  have hr := r.isLt
  refine (shapeCast_apply _ _ _ (ix3 (bat r) (⟨r.val % 2048, Nat.mod_lt _ (by norm_num)⟩ : Fin 2048) l) ?_).trans ?_
  · rw [Shape.rowMajor_val_three, Shape.rowMajor_val_two]
    show (r.val / 2048 * 2048 + r.val % 2048) * 1024 + l.val = r.val * 1024 + l.val
    omega
  refine (broadcastInDim_apply _ _ _ _ (ix3 (bat r) (0 : Fin 1) l) fun a => ?_).trans ?_
  · match a with
    | ⟨0, _⟩ => rfl
    | ⟨1, _⟩ => rfl
    | ⟨2, _⟩ => rfl
  · refine congrArg x (funext fun a => Fin.ext ?_)
    match a with
    | ⟨0, _⟩ => show 0 + r.val / 2048 = _; exact Nat.zero_add _
    | ⟨1, _⟩ => rfl
    | ⟨2, _⟩ => rfl

/-! ## The first product's halves, the hidden units, the second product -/

abbrev P1 (h : FVec Ideal S16384x1024 .bf16) (w : FVec Ideal S1024x7168 .bf16) : FVec Ideal S16384x7168 .f32 :=
  Host.dotGeneral dot_S16384x1024_S1024x7168_S16384x7168_1_0_0_1_n_n none (extf .f32 h bitsLt_bf16_f32) (extf .f32 w bitsLt_bf16_f32)

abbrev Hid (y : FVec Ideal S16384x7168 .f32) : FVec Ideal S16384x3584 .f32 :=
  mulf (mulf (extractStridedSlice S16384x3584 ![0, 0] y slices_S16384x7168_S16384x3584_0_0)
    (Host.divf (broadcastInDim S16384x3584 ![] bcast_S_S16384x3584 (constant S_ .f32 0x3F800000#32))
      (addf (broadcastInDim S16384x3584 ![] bcast_S_S16384x3584 (constant S_ .f32 0x3F800000#32))
        (Host.exp (Host.negf (extractStridedSlice S16384x3584 ![0, 0] y slices_S16384x7168_S16384x3584_0_0))))))
    (extractStridedSlice S16384x3584 ![0, 3584] y slices_S16384x7168_S16384x3584_0_3584)

abbrev P2 (u : FVec Ideal S16384x3584 .f32) (d : FVec Ideal S3584x1024 .bf16) : FVec Ideal S16384x1024 .f32 :=
  Host.dotGeneral dot_S16384x3584_S3584x1024_S16384x1024_1_0_0_1_n_n none u (extf .f32 d bitsLt_bf16_f32)

theorem halfG_at (y : FVec Ideal S16384x7168 .f32) (r : Fin 16384) (j : Fin 3584) :
    extractStridedSlice S16384x3584 ![0, 0] y slices_S16384x7168_S16384x3584_0_0 (ix2 r j) = y (ix2 r (colG j)) := by
  refine congrArg y (funext fun a => Fin.ext ?_)
  match a with
  | ⟨0, _⟩ => exact Nat.zero_add _
  | ⟨1, _⟩ => exact Nat.zero_add _
theorem halfU_at (y : FVec Ideal S16384x7168 .f32) (r : Fin 16384) (j : Fin 3584) :
    extractStridedSlice S16384x3584 ![0, 3584] y slices_S16384x7168_S16384x3584_0_3584 (ix2 r j) = y (ix2 r (colU j)) := by
  refine congrArg y (funext fun a => Fin.ext ?_)
  match a with
  | ⟨0, _⟩ => exact Nat.zero_add _
  | ⟨1, _⟩ => rfl

theorem hid_at (y : FVec Ideal S16384x7168 .f32) (r : Fin 16384) (j : Fin 3584) :
    Hid y (ix2 r j) = y (ix2 r (colG j)) * Ideal.logistic (y (ix2 r (colG j))) * y (ix2 r (colU j)) := by
  refine congrArg₂ (· * ·) (congrArg₂ (· * ·) (halfG_at y r j) ?_) (halfU_at y r j)
  show Ideal.div (Ideal.ofBits .f32 0x3F800000#32) (Ideal.ofBits .f32 0x3F800000#32
    + Ideal.exp (-(extractStridedSlice S16384x3584 ![0, 0] y slices_S16384x7168_S16384x3584_0_0 (ix2 r j)))) = _
  rw [halfG_at, Ideal.ofBits_one_f32]
  rfl

abbrev Inv (y : FVec Ideal S16384x1024 .f32) : FVec Ideal S16384x1 .f32 :=
  Host.rsqrt (addf (Host.divf (broadcastInDim S16384x1 ![0] bcast_S16384_S16384x1_0 (Host.reduceAdd (mulf y y) (constant S_ .f32 0x00000000#32) reducesTo_S16384x1024_S16384_d1 h_S_))
      (broadcastInDim S16384x1 ![] bcast_S_S16384x1 (constant S_ .f32 0x44800000#32))) (broadcastInDim S16384x1 ![] bcast_S_S16384x1 (constant S_ .f32 0x358637BD#32)))

abbrev Nrm (y : FVec Ideal S16384x1024 .f32) (g : FVec Ideal S1x1024 .f32) : FVec Ideal S16384x1024 .f32 :=
  mulf (mulf y (broadcastInDim S16384x1024 ![0, 1] bcast_S16384x1_S16384x1024_0_1 (Inv y))) (broadcastInDim S16384x1024 ![0, 1] bcast_S1x1024_S16384x1024_0_1 g)

theorem nrm_at (y : FVec Ideal S16384x1024 .f32) (g : FVec Ideal S1x1024 .f32) (r : Fin 16384) (l : Fin 1024) :
    Nrm y g (ix2 r l) = nrm (fun k => y (ix2 r k)) (fun k => g (ix2 0 k)) l := by
  unfold nrm
  refine congrArg₂ (· * ·) (congrArg (y (ix2 r l) * ·) ?_) (row_at _ _ r l)
  exact (col_at _ _ r l).trans (inv_at y r)

/-! ## The results -/

/-- The arrays hold the arguments. -/
structure Given (m : (ℓ : Loc nD τ sig) → Buf (Elt Ideal) ℓ) (c : Dev nD) (a : Inp) : Prop where
  h : ∀ r k, (m ((c.tc : Thread nD τ).loc main_arg0) : FVec Ideal S16384x1024 .bf16) (ix2 r k) = a.h r k
  w : ∀ k j, (m ((c.tc : Thread nD τ).loc main_arg1) : FVec Ideal S1024x7168 .bf16) (ix2 k j) = a.w k j
  d : ∀ j l, (m ((c.tc : Thread nD τ).loc main_arg2) : FVec Ideal S3584x1024 .bf16) (ix2 j l) = a.d j l
  x : ∀ r l, (m ((c.tc : Thread nD τ).loc main_arg3) : FVec Ideal S16384x1024 .f32) (ix2 r l) = a.x r l
  md : ∀ b l, (m ((c.tc : Thread nD τ).loc main_arg4) : FVec Ideal S8x1x6144 .f32) (ix3 b 0 l) = a.md b l
  g3 : ∀ l, (m ((c.tc : Thread nD τ).loc main_arg5) : FVec Ideal S1x1024 .f32) (ix2 0 l) = a.g3 l
  gn : ∀ l, (m ((c.tc : Thread nD τ).loc main_arg6) : FVec Ideal S1x1024 .f32) (ix2 0 l) = a.gn l
  md2 : ∀ b l, (m ((c.tc : Thread nD τ).loc main_arg7) : FVec Ideal S8x1x6144 .f32) (ix3 b 0 l) = a.md2 b l

section
variable {m : (ℓ : Loc nD τ sig) → Buf (Elt Ideal) ℓ} {c : Dev nD} {a : Inp} (hm : Given m c a)
include hm

theorem down_at (r : Fin 16384) (l : Fin 1024) :
    P2 (Hid (P1 (m ((c.tc : Thread nD τ).loc main_arg0)) (m ((c.tc : Thread nD τ).loc main_arg1)))) (m ((c.tc : Thread nD τ).loc main_arg2)) (ix2 r l)
      = a.down r l := by
  refine (dot_at (M := 16384) (K := 3584) (N := 1024) (φ₁ := .f32) (φ₂ := .f32) _ _ r l).trans ?_
  have e : ∀ j, P1 (m ((c.tc : Thread nD τ).loc main_arg0)) (m ((c.tc : Thread nD τ).loc main_arg1)) (ix2 r j) = ∑ k, a.h r k * a.w k j := fun j => by
    refine (dot_at (M := 16384) (K := 1024) (N := 7168) (φ₁ := .f32) (φ₂ := .f32) _ _ r j).trans ?_
    exact Finset.sum_congr rfl fun k _ => congrArg₂ (· * ·) (hm.h r k) (hm.w k j)
  refine Finset.sum_congr rfl fun j _ => congrArg₂ (· * ·) ((hid_at _ r j).trans ?_) (hm.d j l)
  rw [e, e]
  rfl

theorem res_at (r : Fin 16384) (l : Fin 1024) : Value.res_out0 m c (ix2 r l) = a.res r l := by
  unfold Value.res_out0 Value.res_main_v30 Inp.res mix
  refine congrArg₂ (· + ·) (hm.x r l) (congrArg₂ (· * ·) ?_ ?_)
  · exact (mod_at _ 5 _ rfl _ _ _ r l).trans (hm.md _ _)
  · refine (nrm_at _ _ r l).trans ?_
    have e1 := funext (down_at hm r)
    have e2 := funext hm.g3
    exact congrArg₂ (fun u v => nrm u v l) e1 e2

theorem nxt_at (r : Fin 16384) (l : Fin 1024) : Value.res_out1 m c (ix2 r l) = a.nxt r l := by
  have e : Value.res_out1 m c = truncf .bf16 (addf (mulf (Nrm (Value.res_out0 m c) (m ((c.tc : Thread nD τ).loc main_arg6)))
      (addf (broadcastInDim S16384x1024 ![] bcast_S_S16384x1024 (constant S_ .f32 0x3F800000#32))
        (shapeCast S16384x1024 (broadcastInDim S8x2048x1024 ![0, 1, 2] bcast_S8x1x1024_S8x2048x1024_0_1_2 (extractStridedSlice S8x1x1024 ![0, 0, 1024] (m ((c.tc : Thread nD τ).loc main_arg7)) slices_S8x1x6144_S8x1x1024_0_0_1024)) shapeCasts_S8x2048x1024_S16384x1024)))
        (shapeCast S16384x1024 (broadcastInDim S8x2048x1024 ![0, 1, 2] bcast_S8x1x1024_S8x2048x1024_0_1_2 (extractStridedSlice S8x1x1024 ![0, 0, 0] (m ((c.tc : Thread nD τ).loc main_arg7)) slices_S8x1x6144_S8x1x1024_0_0_0)) shapeCasts_S8x2048x1024_S16384x1024)) bitsLt_bf16_f32 := by
    unfold Value.res_out1 Value.res_main_v63
    rfl
  rw [e]
  unfold Inp.nxt modu
  refine congrArg₂ (· + ·) (congrArg₂ (· * ·) ?_ (congrArg₂ (· + ·) Ideal.ofBits_one_f32 ?_)) ?_
  · refine (nrm_at _ _ r l).trans ?_
    exact congrArg₂ (fun u v => nrm u v l) (funext (res_at hm r)) (funext hm.gn)
  · exact (mod_at _ 1 _ rfl _ _ _ r l).trans (hm.md2 _ _)
  · exact (mod_at _ 0 _ rfl _ _ _ r l).trans (hm.md2 _ _)

end

end Ffn.Ref
-- ==== Proof.Ffn.Claims.lean ====
/- The feed-forward call's two claims: the reference's frame and the value claim. -/
module

public import proofs.«01_k».proof.Defs
public import proofs.«01_k».proof.Proof.Ffn.Points
public import proofs.«01_k».proof.Proof.Ffn.Ref
public import proofs.«01_k».proof.Proof.Gen.Ffn.Frame
public import proofs.«01_k».proof.Proof.Gen.FfnIdeal.Frame
public import Idealize.ShloMosaic.Lib.Quiescent

@[expose] public section

noncomputable section

namespace Ffn

open Idealize.ShloMosaic Idealize.SL.Sem

theorem ref_frame : Cert.quiescent_FfnReferenceIdeal :=
  fun m ρ _ => (θ_run _ _ _).mono (fun r h => ⟨fun c => (h c).2.2, sem_eq_zero_of_no_sems (by decide) _⟩)
    (Cert.FfnReferenceIdeal.Value.run m ρ)

/-- An array of 16384 rows of 1024, from its rows. -/
def table (f : Fin 16384 → Fin 1024 → EReal) : (⟨2, ![16384, 1024]⟩ : Shape).Idx → EReal := fun i => f (i 0) (i 1)

theorem table_eq {f : Fin 16384 → Fin 1024 → EReal} {y : (⟨2, ![16384, 1024]⟩ : Shape).Idx → EReal} (h : ∀ r l, y (ix2 r l) = f r l) : y = table f :=
  funext fun i => (congrArg y (ix2_eta i).symm).trans (h (i 0) (i 1))

theorem value : Cert.algebraic_FfnIdeal_FfnReferenceIdeal := by
  intro m g m' g' _ he
  have hg : ∀ c, Ref.Given m' c (inp m c) := fun c => by
    obtain ⟨e0, e1, e2, e3, e4, e5, e6, e7⟩ := he c
    exact ⟨fun r k => congrFun e0 _, fun k j => congrFun e1 _, fun j l => congrFun e2 _, fun r l => congrFun e3 _,
      fun b l => congrFun e4 _, fun l => congrFun e5 _, fun l => congrFun e6 _, fun b l => congrFun e7 _⟩
  exact ⟨fun c => table (inp m c).res, fun c => table (inp m c).nxt,
    (θ_run _ _ _).mono (fun r h c => ⟨(h c).1.trans (table_eq (fin9 m c)), (h c).2.1.trans (table_eq (fin10 m c)), (h c).2.2⟩)
      (Cert.FfnIdeal.Value.run m g),
    (θ_run _ _ _).mono (fun r h c => ⟨(h c).1.trans (table_eq (Ref.res_at (hg c))), (h c).2.1.trans (table_eq (Ref.nxt_at (hg c))), (h c).2.2⟩)
      (Cert.FfnReferenceIdeal.Value.run m' g')⟩

end Ffn
-- ==== Proof.Experts.Named.lean ====
/- What the precondition says: every block names one of the eight experts. -/
module

public import proofs.«01_k».proof.Pre_named
public import proofs.«01_k».proof.Proof.Gen.Pre_named
public import Idealize.ShloMosaic.Lib.ReduceAll
public import Idealize.ShloMosaic.Lib.WordCmp

@[expose] public section

noncomputable section

namespace Proofs.Experts

open Idealize.ShloMosaic Cert.Pre_named

theorem small_word (v : BitVec 32) (h : BitVec.ofBool (decide ((0#32).toInt ≤ v.toInt)) &&& BitVec.ofBool (decide (v.toInt < (8#32).toInt)) = 1#1) :
    v.toNat < 8 := by
  have e0 : (0#32).toInt = 0 := by decide
  have e8 : (8#32).toInt = 8 := by decide
  rw [e0, e8] at h
  by_cases h0 : 0 ≤ v.toInt
  · by_cases h8 : v.toInt < 8
    · have hv := v.isLt
      rw [BitVec.toInt_eq_toNat_cond] at h0 h8
      split at h8 <;> split at h0 <;> omega
    · simp [h0, h8] at h
  · simp [h0] at h

theorem named_range {F : FTy → Type} [FloatOps F] [Facts] (x0 : FVec F S40960x1024 .bf16) (x1 x2 : IVec S40 32) (x3 : FVec F S8x1024x7168 .bf16)
    (x4 : FVec F S8x3584x1024 .bf16) (h : fn (F := F) x0 x1 x2 x3 x4 = fun _ => 1#1) (b : S40.Idx) : (x1 b).toNat < 8 := by
  haveI : Subsingleton S_.Idx := ⟨fun a b => funext fun k => k.elim0⟩
  have hj := congrFun h (Shape.Idx.first Facts.h_S_)
  have h1 := Host.reduce_andi_all _ _ _ _ _ hj b
  exact small_word _ h1

end Proofs.Experts

end
-- ==== Proof.Experts.Spec.lean ====
/- The expert layer over the extended reals: what both programs compute. -/
module

public import proofs.«01_k».proof.Proof.Ffn.Spec

@[expose] public section

noncomputable section

namespace Experts

open Idealize.ShloMosaic
open Ffn (Mx unit colG colU band band_sum)

/-- The call's arguments: the sorted rows, each block's expert and count of live rows, and the experts' weights. -/
structure Inp where
  x : Mx 40960 1024
  e : Fin 40 → BitVec 32
  n : Fin 40 → BitVec 32
  w : Fin 8 → Mx 1024 7168
  d : Fin 8 → Mx 3584 1024

/-- The block a row belongs to, and the first row, within the block, of the row's chunk of 256. -/
def blk (r : Fin 40960) : Fin 40 := ⟨r.val / 1024, by have := r.isLt; omega⟩
def first (r : Fin 40960) : BitVec 32 := BitVec.ofNat 32 (256 * (r.val % 1024 / 256))

variable (a : Inp)

/-- The row's expert. -/
def Inp.own (r : Fin 40960) : Fin 8 := ⟨(a.e (blk r)).toNat % 8, Nat.mod_lt _ (by norm_num)⟩

/-- One hidden unit, and one lane, of a row under expert `q`. -/
def Inp.hid (q : Fin 8) (r : Fin 40960) (j : Fin 3584) : EReal := unit (a.x r) (fun k => a.w q k (colG j)) (fun k => a.w q k (colU j))
def Inp.ffn (q : Fin 8) (r : Fin 40960) (l : Fin 1024) : EReal := ∑ j, a.hid q r j * a.d q j l

/-- The result: a row of a live chunk under its own expert, zero elsewhere. -/
def Inp.res (r : Fin 40960) (l : Fin 1024) : EReal := if (first r).slt (a.n (blk r)) = true then a.ffn (a.own r) r l else 0

/-- One band's share of a lane, and the sum of the shares of the first `n` bands. -/
def Inp.share (q : Fin 8) (r : Fin 40960) (l : Fin 1024) (f : Fin 7) : EReal := ∑ j : Fin 512, a.hid q r (band f j) * a.d q (band f j) l
def Inp.upto (q : Fin 8) (r : Fin 40960) (l : Fin 1024) : ℕ → EReal
  | 0 => 0
  | n + 1 => Inp.upto q r l n + if h : n < 7 then a.share q r l ⟨n, h⟩ else 0

theorem upto_succ (q : Fin 8) (r : Fin 40960) (l : Fin 1024) (f : Fin 7) : a.upto q r l (f.val + 1) = a.upto q r l f.val + a.share q r l f := by
  rw [Inp.upto, dif_pos f.isLt]

theorem upto_seven (q : Fin 8) (r : Fin 40960) (l : Fin 1024) : a.upto q r l 7 = a.ffn q r l := by
  unfold Inp.ffn
  rw [← band_sum, Fin.sum_univ_seven]
  simp only [Inp.upto, zero_add]
  rfl

end Experts

end
-- ==== Proof.Experts.Rules.lean ====
/- Rules for a body that loads and stores rectangles of memrefs it owns. -/
module

public import Idealize.ShloMosaic.Lib.Pipeline.Frame
public import Idealize.ShloMosaic.Lib.Writes
public import Idealize.ShloMosaic.Lib.Tactic

@[expose] public section

noncomputable section

namespace Proofs.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

local notation "𝕄" => MT nD τ sig Ix Val Name U Lvl

/-- A load of a rectangle of an owned memref continues at the rectangle's part of its contents. -/
theorem load_owned {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k fun i => X (r.emb i)) Q)
        -∗ wp frame (wpE defs 𝒱 c bd) E (.op (.load m r hl) k) Q) := by
  iintro H Hk
  ihave H' := (show (owns c m q X : sProp 𝕄) ⊢ iprop(∃ f, ⌜m.view.read Val f = X⌝ ∗ (m.view.loc c ↦[m.view.set]{q} f)) from .rfl) $$ H
  icases H' with ⟨%f, %hf, H⟩
  iapply (wp_load_rect (m := m) (r := r) (hl := hl) 𝒱 c bd E (S := m.view.set) (q := q) (f := f) (m.view.set_slice_subset r)) $$ H
  iintro H
  rw [show (m.access r).read Val f = fun i => X (r.emb i) from by subst hf; rfl]
  iapply Hk
  unfold owns
  iexists f
  isplitr; · ipureintro; exact hf
  iexact H

/-- An unmasked store of a rectangle of an owned memref lays the stored values over its contents. -/
theorem store_owned {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  iintro H Hk
  ihave H' := (show (owns c m fullShare X : sProp 𝕄) ⊢ iprop(∃ f, ⌜m.view.read Val f = X⌝ ∗ (m.view.loc c ↦[m.view.set]{fullShare} f)) from .rfl) $$ H
  icases H' with ⟨%f, %hf, H⟩
  iapply (wp_store_writes₀ (m := m) (r := r) (w := w) 𝒱 c bd E (S := m.view.set) (f := f) (m.view.set_slice_subset r)) $$ H
  iintro H
  iapply Hk
  unfold owns
  iexists (m.view.writes Val f [⟨r, w⟩])
  isplitr
  · ipureintro
    funext y
    by_cases hy : y ∈ r.set
    · obtain ⟨x, rfl⟩ := r.exists_idx_of_mem hy
      change m.view.read Val _ (r.emb x) = r.overlay X w (r.emb x)
      rw [View.read_writes_cons_emb, Rect.overlay_emb]
    · rw [View.read_writes_cons_miss _ _ _ _ _ hy, Rect.overlay_of_not_mem _ _ _ hy, ← hf]; rfl
  iexact H

/-- A load of one word of a whole scalar memory buffer continues at that word. -/
theorem word_owned {m : Memref sig c.2.kind .smem s e} {r : Rect s} {h1 : r.shape.numel = 1} {hp : e.packing = 1}
    {k : Val e → Prog (TpuEff nD τ sig Val Λ c.2) α} {q : PosShare TreeShare} {X : s.Idx → Val e} :
    (owns c m q X : sProp 𝕄)
      ⊢ iprop((owns c m q X -∗ wp frame (wpE defs 𝒱 c bd) E (k (X (r.emb (Shape.Idx.first (h1.symm ▸ Nat.one_pos))))) Q)
        -∗ wp frame (wpE defs 𝒱 c bd) E (smemLoad m r h1 hp >>= k) Q) :=
  load_owned 𝒱 c bd E (k := fun f => k (f (Shape.Idx.first (h1.symm ▸ Nat.one_pos))))

end Proofs.Experts

end
-- ==== Proof.Experts.Body.lean ====
/- The expert body as four chunks of 256 rows, each multiplied, added and written out under its own conditions. -/
module

public import proofs.«01_k».proof.Proof.Experts.Rules
public import proofs.«01_k».proof.Proof.Gen.MoeIdeal.Skeleton

@[expose] public section

noncomputable section

namespace Proofs.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev Rows : Shape := ⟨2, ![1024, 1024]⟩
abbrev Chunk : Shape := ⟨2, ![256, 1024]⟩
abbrev Wide : Shape := ⟨3, ![1, 1024, 512]⟩
abbrev Tall : Shape := ⟨3, ![1, 512, 1024]⟩

variable {F : FTy → Type} [FloatOps F]
variable {nD : Nat} {τ : Topo} {sig : RefSig} {Λ : Labels}

/-- What a chunk's rows of tokens and the point's three weight blocks are turned into. -/
abbrev Part (F : FTy → Type) : Type :=
  Vec F Chunk .bf16 → Vec F Wide .bf16 → Vec F Wide .bf16 → Vec F Tall .bf16 → Vec F Chunk .f32

theorem chunk_pos : 0 < Chunk.numel := by decide
theorem wide_pos : 0 < Wide.numel := by decide
theorem tall_pos : 0 < Tall.numel := by decide
theorem wide_inb : ∀ a, (![0, 0, 0] : Fin 3 → Nat) a + Wide.size a ≤ Wide.size a := by decide
theorem tall_inb : ∀ a, (![0, 0, 0] : Fin 3 → Nat) a + Tall.size a ≤ Tall.size a := by decide

/-- The accumulator's rows set, where the condition asks it, continued by `k`. -/
def setRows (o : Fin 2 → Nat) (ho : ∀ a, o a + Chunk.size a ≤ Rows.size a) (b : BitVec 1) (w : Vec F Chunk .f32)
    (arg9 : Memref sig .tc .vmem Rows .f32) {β : Type}
    (k : Prog (TpuEff nD τ sig (Elt F) Λ .tc) β) : Prog (TpuEff nD τ sig (Elt F) Λ .tc) β := do
  if h2 : b = 1#1 then do
    let v57 : Vec F Chunk .f32 ← Prog.lift (.load arg9 (Rect.unit (s := Rows) o Chunk.size ho).toLoadRect (View.loadsAt_vmem chunk_pos))
    Prog.lift (.store arg9 (Rect.unit (s := Rows) o Chunk.size ho) w Finset.univ (View.stores_vmem_bits_univ chunk_pos rfl) (.inl rfl))
    pure ⟨⟩
  else do
    pure ⟨⟩
  k

/-- The accumulator's rows added to, where the condition asks it, continued by `k`. -/
def addRows (o : Fin 2 → Nat) (ho : ∀ a, o a + Chunk.size a ≤ Rows.size a) (b : BitVec 1) (w : Vec F Chunk .f32 → Vec F Chunk .f32)
    (arg9 : Memref sig .tc .vmem Rows .f32) {β : Type}
    (k : Prog (TpuEff nD τ sig (Elt F) Λ .tc) β) : Prog (TpuEff nD τ sig (Elt F) Λ .tc) β := do
  if h3 : b = 1#1 then do
    let v57 : Vec F Chunk .f32 ← Prog.lift (.load arg9 (Rect.unit (s := Rows) o Chunk.size ho).toLoadRect (View.loadsAt_vmem chunk_pos))
    let v59 : Vec F Chunk .f32 ← Prog.lift (.load arg9 (Rect.unit (s := Rows) o Chunk.size ho).toLoadRect (View.loadsAt_vmem chunk_pos))
    Prog.lift (.store arg9 (Rect.unit (s := Rows) o Chunk.size ho) (w v57) Finset.univ (View.stores_vmem_bits_univ chunk_pos rfl) (.inl rfl))
    pure ⟨⟩
  else do
    pure ⟨⟩
  k

/-- The accumulator's rows copied to the output, where the condition asks it, continued by `k`. -/
def copyRows (o : Fin 2 → Nat) (ho : ∀ a, o a + Chunk.size a ≤ Rows.size a) (b : BitVec 1)
    (arg8 arg9 : Memref sig .tc .vmem Rows .f32) {β : Type}
    (k : Prog (TpuEff nD τ sig (Elt F) Λ .tc) β) : Prog (TpuEff nD τ sig (Elt F) Λ .tc) β := do
  if h4 : b = 1#1 then do
    let v57 : Vec F Chunk .f32 ← Prog.lift (.load arg9 (Rect.unit (s := Rows) o Chunk.size ho).toLoadRect (View.loadsAt_vmem chunk_pos))
    let v58 : Vec F Chunk .f32 ← Prog.lift (.load arg8 (Rect.unit (s := Rows) o Chunk.size ho).toLoadRect (View.loadsAt_vmem chunk_pos))
    Prog.lift (.store arg8 (Rect.unit (s := Rows) o Chunk.size ho) v57 Finset.univ (View.stores_vmem_bits_univ chunk_pos rfl) (.inl rfl))
    pure ⟨⟩
  else do
    pure ⟨⟩
  k

/-- The condition of a point's first piece, and of a later one. -/
def isFirst (arg1 : BitVec 32) : BitVec 1 := Scalar.cmpi .ne (Scalar.extui (Scalar.cmpi .eq arg1 0#32) : BitVec 32) 0#32
def isLater (arg1 : BitVec 32) : BitVec 1 := Scalar.cmpi .ne (Scalar.extui (Scalar.cmpi .sgt arg1 0#32) : BitVec 32) 0#32

/-- The condition of a point's last piece. -/
def isLast (arg1 : BitVec 32) : BitVec 1 := Scalar.cmpi .ne (Scalar.extui (Scalar.cmpi .eq arg1 6#32) : BitVec 32) 0#32
/-- A chunk is live when the count reaches past its first row; at the last piece a chunk that is not live is cleared. -/
def liveAt (n v1 : BitVec 32) : BitVec 1 := Scalar.cmpi .ne (Scalar.extui (Scalar.cmpi .sgt v1 n) : BitVec 32) 0#32
def goneAt (n arg1 v1 : BitVec 32) : BitVec 1 :=
  Scalar.cmpi .ne (Scalar.extui (Scalar.andi (Scalar.xori (Scalar.cmpi .sgt v1 n) 1#1) (Scalar.cmpi .eq arg1 6#32)) : BitVec 32) 0#32

/-- One chunk's work at a point where it is live, continued by `k`. -/
def chunk (o : Fin 2 → Nat) (ho : ∀ a, o a + Chunk.size a ≤ Rows.size a) (live last : BitVec 1) (arg1 : BitVec 32)
    (set : Part F) (add : Vec F Chunk .bf16 → Vec F Wide .bf16 → Vec F Wide .bf16 → Vec F Tall .bf16 → Vec F Chunk .f32 → Vec F Chunk .f32)
    (arg4 : Memref sig .tc .vmem Rows .bf16) (arg5 arg6 : Memref sig .tc .vmem Wide .bf16)
    (arg7 : Memref sig .tc .vmem Tall .bf16) (arg8 arg9 : Memref sig .tc .vmem Rows .f32) {β : Type}
    (k : Prog (TpuEff nD τ sig (Elt F) Λ .tc) β) : Prog (TpuEff nD τ sig (Elt F) Λ .tc) β := do
  if h1 : live = 1#1 then do
    let v34 : Vec F Chunk .bf16 ← Prog.lift (.load arg4 (Rect.unit (s := Rows) o Chunk.size ho).toLoadRect (View.loadsAt_vmem chunk_pos))
    let v35 : Vec F Wide .bf16 ← Prog.lift (.load arg5 (Rect.unit (s := Wide) ![0, 0, 0] Wide.size wide_inb).toLoadRect (View.loadsAt_vmem wide_pos))
    let v40 : Vec F Wide .bf16 ← Prog.lift (.load arg6 (Rect.unit (s := Wide) ![0, 0, 0] Wide.size wide_inb).toLoadRect (View.loadsAt_vmem wide_pos))
    let v45 : Vec F Tall .bf16 ← Prog.lift (.load arg7 (Rect.unit (s := Tall) ![0, 0, 0] Tall.size tall_inb).toLoadRect (View.loadsAt_vmem tall_pos))
    setRows o ho (isFirst arg1) (set v34 v35 v40 v45) arg9 <|
      addRows o ho (isLater arg1) (add v34 v35 v40 v45) arg9 <|
      copyRows o ho last arg8 arg9 <| pure ⟨⟩
  else do
    pure ⟨⟩
  k

/-- The same in one piece, as the kernel's text has it. -/
def chunkFlat (o : Fin 2 → Nat) (ho : ∀ a, o a + Chunk.size a ≤ Rows.size a) (live last : BitVec 1) (arg1 : BitVec 32)
    (set : Part F) (add : Vec F Chunk .bf16 → Vec F Wide .bf16 → Vec F Wide .bf16 → Vec F Tall .bf16 → Vec F Chunk .f32 → Vec F Chunk .f32)
    (arg4 : Memref sig .tc .vmem Rows .bf16) (arg5 arg6 : Memref sig .tc .vmem Wide .bf16)
    (arg7 : Memref sig .tc .vmem Tall .bf16) (arg8 arg9 : Memref sig .tc .vmem Rows .f32) {β : Type}
    (k : Prog (TpuEff nD τ sig (Elt F) Λ .tc) β) : Prog (TpuEff nD τ sig (Elt F) Λ .tc) β := do
  if h1 : live = 1#1 then do
    let v34 : Vec F Chunk .bf16 ← Prog.lift (.load arg4 (Rect.unit (s := Rows) o Chunk.size ho).toLoadRect (View.loadsAt_vmem chunk_pos))
    let v35 : Vec F Wide .bf16 ← Prog.lift (.load arg5 (Rect.unit (s := Wide) ![0, 0, 0] Wide.size wide_inb).toLoadRect (View.loadsAt_vmem wide_pos))
    let v40 : Vec F Wide .bf16 ← Prog.lift (.load arg6 (Rect.unit (s := Wide) ![0, 0, 0] Wide.size wide_inb).toLoadRect (View.loadsAt_vmem wide_pos))
    let v45 : Vec F Tall .bf16 ← Prog.lift (.load arg7 (Rect.unit (s := Tall) ![0, 0, 0] Tall.size tall_inb).toLoadRect (View.loadsAt_vmem tall_pos))
    let v48 : BitVec 1 := Scalar.cmpi .eq arg1 0#32
    let v49 : BitVec 32 := Scalar.extui v48
    let v50 : BitVec 1 := Scalar.cmpi .ne v49 0#32
    if h2 : v50 = 1#1 then do
      let v57 : Vec F Chunk .f32 ← Prog.lift (.load arg9 (Rect.unit (s := Rows) o Chunk.size ho).toLoadRect (View.loadsAt_vmem chunk_pos))
      Prog.lift (.store arg9 (Rect.unit (s := Rows) o Chunk.size ho) (set v34 v35 v40 v45) Finset.univ (View.stores_vmem_bits_univ chunk_pos rfl) (.inl rfl))
      pure ⟨⟩
    else do
      pure ⟨⟩
    let v51 : BitVec 1 := Scalar.cmpi .sgt arg1 0#32
    let v52 : BitVec 32 := Scalar.extui v51
    let v53 : BitVec 1 := Scalar.cmpi .ne v52 0#32
    if h3 : v53 = 1#1 then do
      let v57 : Vec F Chunk .f32 ← Prog.lift (.load arg9 (Rect.unit (s := Rows) o Chunk.size ho).toLoadRect (View.loadsAt_vmem chunk_pos))
      let v59 : Vec F Chunk .f32 ← Prog.lift (.load arg9 (Rect.unit (s := Rows) o Chunk.size ho).toLoadRect (View.loadsAt_vmem chunk_pos))
      Prog.lift (.store arg9 (Rect.unit (s := Rows) o Chunk.size ho) (add v34 v35 v40 v45 v57) Finset.univ (View.stores_vmem_bits_univ chunk_pos rfl) (.inl rfl))
      pure ⟨⟩
    else do
      pure ⟨⟩
    if h4 : last = 1#1 then do
      let v57 : Vec F Chunk .f32 ← Prog.lift (.load arg9 (Rect.unit (s := Rows) o Chunk.size ho).toLoadRect (View.loadsAt_vmem chunk_pos))
      let v58 : Vec F Chunk .f32 ← Prog.lift (.load arg8 (Rect.unit (s := Rows) o Chunk.size ho).toLoadRect (View.loadsAt_vmem chunk_pos))
      Prog.lift (.store arg8 (Rect.unit (s := Rows) o Chunk.size ho) v57 Finset.univ (View.stores_vmem_bits_univ chunk_pos rfl) (.inl rfl))
      pure ⟨⟩
    else do
      pure ⟨⟩
    pure ⟨⟩
  else do
    pure ⟨⟩
  k

theorem chunkFlat_eq (o : Fin 2 → Nat) (ho : ∀ a, o a + Chunk.size a ≤ Rows.size a) (live last : BitVec 1) (arg1 : BitVec 32)
    (set : Part F) (add : Vec F Chunk .bf16 → Vec F Wide .bf16 → Vec F Wide .bf16 → Vec F Tall .bf16 → Vec F Chunk .f32 → Vec F Chunk .f32)
    (arg4 : Memref sig .tc .vmem Rows .bf16) (arg5 arg6 : Memref sig .tc .vmem Wide .bf16)
    (arg7 : Memref sig .tc .vmem Tall .bf16) (arg8 arg9 : Memref sig .tc .vmem Rows .f32) {β : Type}
    (k : Prog (TpuEff nD τ sig (Elt F) Λ .tc) β) :
    chunkFlat o ho live last arg1 set add arg4 arg5 arg6 arg7 arg8 arg9 k = chunk o ho live last arg1 set add arg4 arg5 arg6 arg7 arg8 arg9 k := by
  unfold chunkFlat chunk setRows addRows copyRows isFirst isLater
  by_cases h1 : live = 1#1
  · simp only [dif_pos h1]
    generalize (Scalar.cmpi .ne (Scalar.extui (Scalar.cmpi .eq arg1 0#32) : BitVec 32) 0#32 : BitVec 1) = b2
    generalize (Scalar.cmpi .ne (Scalar.extui (Scalar.cmpi .sgt arg1 0#32) : BitVec 32) 0#32 : BitVec 1) = b3
    by_cases h2 : b2 = 1#1 <;> by_cases h3 : b3 = 1#1 <;> by_cases h4 : last = 1#1 <;>
      simp only [dif_pos, dif_neg, h2, h3, h4, not_false_eq_true] <;> rfl
  · simp only [dif_neg h1]

/-- A chunk's rows of the output cleared, where the condition asks it, continued by `k`. -/
def clear (o : Fin 2 → Nat) (ho : ∀ a, o a + Chunk.size a ≤ Rows.size a) (gone : BitVec 1) (zeros : Vec F Chunk .f32)
    (arg8 : Memref sig .tc .vmem Rows .f32) {β : Type}
    (k : Prog (TpuEff nD τ sig (Elt F) Λ .tc) β) : Prog (TpuEff nD τ sig (Elt F) Λ .tc) β := do
  if h5 : gone = 1#1 then do
    let v35 : Vec F Chunk .f32 ← Prog.lift (.load arg8 (Rect.unit (s := Rows) o Chunk.size ho).toLoadRect (View.loadsAt_vmem chunk_pos))
    Prog.lift (.store arg8 (Rect.unit (s := Rows) o Chunk.size ho) zeros Finset.univ (View.stores_vmem_bits_univ chunk_pos rfl) (.inl rfl))
    pure ⟨⟩
  else do
    pure ⟨⟩
  k

/-! ## What they do -/

variable {Ix : Type} [DecidableEq Ix] {Name : Type} [DecidableEq Name] {U : Type} [URA U] {Lvl : Type} [Preorder Lvl]
variable {defs : Defs nD τ sig (Elt F) Λ} (𝒱 : Variants) (c : Dev nD) (bd : Option 𝒱.V) (E : Set Name)
variable {α : Type} {Q : α → sProp (MT nD τ sig Ix (Elt F) Name U Lvl)}

local notation "𝕄" => MT nD τ sig Ix (Elt F) Name U Lvl

/-- The rectangle of a chunk's rows. -/
abbrev rows (o : Fin 2 → Nat) (ho : ∀ a, o a + Chunk.size a ≤ Rows.size a) : Rect Rows := Rect.unit (s := Rows) o Chunk.size ho

/-- A chunk's rows of a block. -/
def part (o : Fin 2 → Nat) (ho : ∀ a, o a + Chunk.size a ≤ Rows.size a) {e : EltTy} (X : Vec F Rows e) : Vec F Chunk e :=
  fun i => X ((rows o ho).emb i)

/-- A block with a chunk's rows replaced. -/
def put (o : Fin 2 → Nat) (ho : ∀ a, o a + Chunk.size a ≤ Rows.size a) {e : EltTy} (X : Vec F Rows e) (w : Vec F Chunk e) : Vec F Rows e :=
  (rows o ho).overlay X w

section Steps
variable {o : Fin 2 → Nat} {ho : ∀ a, o a + Chunk.size a ≤ Rows.size a} {b : BitVec 1}
variable {arg8 arg9 : Memref sig .tc .vmem Rows .f32} {k : Prog (TpuEff nD τ sig (Elt F) Λ .tc) α} {A O : Vec F Rows .f32}

theorem set_step {w : Vec F Chunk .f32} :
    (owns (c.tc : Thread nD τ) arg9 fullShare A : sProp 𝕄)
      ⊢ iprop((owns (c.tc : Thread nD τ) arg9 fullShare (if b = 1#1 then put o ho A w else A) -∗ wp frame (wpE defs 𝒱 (c.tc : Thread nD τ) bd) E k Q)
        -∗ wp frame (wpE defs 𝒱 (c.tc : Thread nD τ) bd) E (setRows o ho b w arg9 k) Q) := by
  unfold setRows
  iintro H Hk
  by_cases h : b = 1#1
  · simp only [dif_pos h, if_pos h, Prog.bind_lift, Prog.bind_op, pure_bind, bind_assoc]
    iapply (load_owned 𝒱 (c.tc : Thread nD τ) bd E) $$ H
    iintro H
    iapply (store_owned 𝒱 (c.tc : Thread nD τ) bd E) $$ H
    iexact Hk
  · simp only [dif_neg h, if_neg h, pure_bind]
    iapply Hk; iexact H

theorem add_step {w : Vec F Chunk .f32 → Vec F Chunk .f32} :
    (owns (c.tc : Thread nD τ) arg9 fullShare A : sProp 𝕄)
      ⊢ iprop((owns (c.tc : Thread nD τ) arg9 fullShare (if b = 1#1 then put o ho A (w (part o ho A)) else A) -∗ wp frame (wpE defs 𝒱 (c.tc : Thread nD τ) bd) E k Q)
        -∗ wp frame (wpE defs 𝒱 (c.tc : Thread nD τ) bd) E (addRows o ho b w arg9 k) Q) := by
  unfold addRows
  iintro H Hk
  by_cases h : b = 1#1
  · simp only [dif_pos h, if_pos h, Prog.bind_lift, Prog.bind_op, pure_bind, bind_assoc]
    iapply (load_owned 𝒱 (c.tc : Thread nD τ) bd E) $$ H
    iintro H
    iapply (load_owned 𝒱 (c.tc : Thread nD τ) bd E) $$ H
    iintro H
    iapply (store_owned 𝒱 (c.tc : Thread nD τ) bd E) $$ H
    iexact Hk
  · simp only [dif_neg h, if_neg h, pure_bind]
    iapply Hk; iexact H

theorem copy_step :
    (iprop(owns (c.tc : Thread nD τ) arg8 fullShare O ∗ owns (c.tc : Thread nD τ) arg9 fullShare A) : sProp 𝕄)
      ⊢ iprop(((owns (c.tc : Thread nD τ) arg8 fullShare (if b = 1#1 then put o ho O (part o ho A) else O) ∗ owns (c.tc : Thread nD τ) arg9 fullShare A) -∗ wp frame (wpE defs 𝒱 (c.tc : Thread nD τ) bd) E k Q)
        -∗ wp frame (wpE defs 𝒱 (c.tc : Thread nD τ) bd) E (copyRows o ho b arg8 arg9 k) Q) := by
  unfold copyRows
  iintro ⟨HO, HA⟩ Hk
  by_cases h : b = 1#1
  · simp only [dif_pos h, if_pos h, Prog.bind_lift, Prog.bind_op, pure_bind, bind_assoc]
    iapply (load_owned 𝒱 (c.tc : Thread nD τ) bd E) $$ HA
    iintro HA
    iapply (load_owned 𝒱 (c.tc : Thread nD τ) bd E) $$ HO
    iintro HO
    iapply (store_owned 𝒱 (c.tc : Thread nD τ) bd E) $$ HO
    iintro HO
    iapply Hk
    isplitl [HO]; · iexact HO
    iexact HA
  · simp only [dif_neg h, if_neg h, pure_bind]
    iapply Hk
    isplitl [HO]; · iexact HO
    iexact HA

theorem clear_step {w : Vec F Chunk .f32} :
    (owns (c.tc : Thread nD τ) arg8 fullShare O : sProp 𝕄)
      ⊢ iprop((owns (c.tc : Thread nD τ) arg8 fullShare (if b = 1#1 then put o ho O w else O) -∗ wp frame (wpE defs 𝒱 (c.tc : Thread nD τ) bd) E k Q)
        -∗ wp frame (wpE defs 𝒱 (c.tc : Thread nD τ) bd) E (clear o ho b w arg8 k) Q) := by
  unfold clear
  iintro H Hk
  by_cases h : b = 1#1
  · simp only [dif_pos h, if_pos h, Prog.bind_lift, Prog.bind_op, pure_bind, bind_assoc]
    iapply (load_owned 𝒱 (c.tc : Thread nD τ) bd E) $$ H
    iintro H
    iapply (store_owned 𝒱 (c.tc : Thread nD τ) bd E) $$ H
    iexact Hk
  · simp only [dif_neg h, if_neg h, pure_bind]
    iapply Hk; iexact H

end Steps

theorem wide_emb (i : Wide.Idx) : (Rect.unit (s := Wide) ![0, 0, 0] Wide.size wide_inb).emb i = i :=
  funext fun a => Fin.ext (by
    match a with
    | 0 => show 0 + 1 * (i 0).val = (i 0).val; omega
    | 1 => show 0 + 1 * (i 1).val = (i 1).val; omega
    | 2 => show 0 + 1 * (i 2).val = (i 2).val; omega)

theorem tall_emb (i : Tall.Idx) : (Rect.unit (s := Tall) ![0, 0, 0] Tall.size tall_inb).emb i = i :=
  funext fun a => Fin.ext (by
    match a with
    | 0 => show 0 + 1 * (i 0).val = (i 0).val; omega
    | 1 => show 0 + 1 * (i 1).val = (i 1).val; omega
    | 2 => show 0 + 1 * (i 2).val = (i 2).val; omega)

theorem part_put (o : Fin 2 → Nat) (ho : ∀ a, o a + Chunk.size a ≤ Rows.size a) {e : EltTy} (X : Vec F Rows e) (w : Vec F Chunk e) :
    part o ho (put o ho X w) = w := by
  unfold part put
  funext i
  exact Rect.overlay_emb (rows o ho) X w i

theorem part_put_of_ne (o o' : Fin 2 → Nat) (ho : ∀ a, o a + Chunk.size a ≤ Rows.size a) (ho' : ∀ a, o' a + Chunk.size a ≤ Rows.size a)
    (h : o 0 + 256 ≤ o' 0 ∨ o' 0 + 256 ≤ o 0) {e : EltTy} (X : Vec F Rows e) (w : Vec F Chunk e) :
    part o ho (put o' ho' X w) = part o ho X := by
  unfold part put
  funext i
  have hn : (rows o ho).emb i ∉ (rows o' ho').set :=
    (rows o' ho').not_mem_set_of_axis _ 0 (o' 0) 256 rfl rfl rfl (by
      have hi : (i 0).val < 256 := (i 0).isLt
      have he : ((rows o ho).emb i 0).val = o 0 + 1 * (i 0).val := rfl
      omega)
  exact Rect.overlay_of_not_mem (rows o' ho') X w hn

/-- Loads of a chunk's rows and of whole weight blocks. -/
theorem load_part {o : Fin 2 → Nat} {ho : ∀ a, o a + Chunk.size a ≤ Rows.size a} {e : EltTy} {m : Memref sig .tc .vmem Rows e} {X : Vec F Rows e}
    {hl : m.view.LoadsAt (Rect.unit (s := Rows) o Chunk.size ho).toLoadRect}
    {k : Vec F Chunk e → Prog (TpuEff nD τ sig (Elt F) Λ .tc) α} :
    (owns (c.tc : Thread nD τ) m fullShare X : sProp 𝕄)
      ⊢ iprop((owns (c.tc : Thread nD τ) m fullShare X -∗ wp frame (wpE defs 𝒱 (c.tc : Thread nD τ) bd) E (k (part o ho X)) Q)
        -∗ wp frame (wpE defs 𝒱 (c.tc : Thread nD τ) bd) E (.op (.load m (Rect.unit (s := Rows) o Chunk.size ho).toLoadRect hl) k) Q) := by
  have h := load_owned 𝒱 (c.tc : Thread nD τ) bd E (defs := defs) (Q := Q) (k := k) (hl := hl) (X := X) (q := fullShare)
  rw [show (fun i => X ((Rect.unit (s := Rows) o Chunk.size ho).emb i)) = part o ho X from rfl] at h
  exact h

theorem load_wide {e : EltTy} {m : Memref sig .tc .vmem Wide e} {X : Vec F Wide e}
    {hl : m.view.LoadsAt (Rect.unit (s := Wide) ![0, 0, 0] Wide.size wide_inb).toLoadRect}
    {k : Vec F Wide e → Prog (TpuEff nD τ sig (Elt F) Λ .tc) α} :
    (owns (c.tc : Thread nD τ) m fullShare X : sProp 𝕄)
      ⊢ iprop((owns (c.tc : Thread nD τ) m fullShare X -∗ wp frame (wpE defs 𝒱 (c.tc : Thread nD τ) bd) E (k X) Q)
        -∗ wp frame (wpE defs 𝒱 (c.tc : Thread nD τ) bd) E (.op (.load m (Rect.unit (s := Wide) ![0, 0, 0] Wide.size wide_inb).toLoadRect hl) k) Q) := by
  have h := load_owned 𝒱 (c.tc : Thread nD τ) bd E (defs := defs) (Q := Q) (k := k) (hl := hl) (X := X) (q := fullShare)
  rw [show (fun i => X ((Rect.unit (s := Wide) ![0, 0, 0] Wide.size wide_inb).emb i)) = X from funext fun i => congrArg X (wide_emb i)] at h
  exact h

theorem load_tall {e : EltTy} {m : Memref sig .tc .vmem Tall e} {X : Vec F Tall e}
    {hl : m.view.LoadsAt (Rect.unit (s := Tall) ![0, 0, 0] Tall.size tall_inb).toLoadRect}
    {k : Vec F Tall e → Prog (TpuEff nD τ sig (Elt F) Λ .tc) α} :
    (owns (c.tc : Thread nD τ) m fullShare X : sProp 𝕄)
      ⊢ iprop((owns (c.tc : Thread nD τ) m fullShare X -∗ wp frame (wpE defs 𝒱 (c.tc : Thread nD τ) bd) E (k X) Q)
        -∗ wp frame (wpE defs 𝒱 (c.tc : Thread nD τ) bd) E (.op (.load m (Rect.unit (s := Tall) ![0, 0, 0] Tall.size tall_inb).toLoadRect hl) k) Q) := by
  have h := load_owned 𝒱 (c.tc : Thread nD τ) bd E (defs := defs) (Q := Q) (k := k) (hl := hl) (X := X) (q := fullShare)
  rw [show (fun i => X ((Rect.unit (s := Tall) ![0, 0, 0] Tall.size tall_inb).emb i)) = X from funext fun i => congrArg X (tall_emb i)] at h
  exact h

/-- The accumulator after a chunk's work. -/
def stepA (o : Fin 2 → Nat) (ho : ∀ a, o a + Chunk.size a ≤ Rows.size a) (live : BitVec 1) (arg1 : BitVec 32)
    (set : Part F) (add : Vec F Chunk .bf16 → Vec F Wide .bf16 → Vec F Wide .bf16 → Vec F Tall .bf16 → Vec F Chunk .f32 → Vec F Chunk .f32)
    (X : Vec F Rows .bf16) (G U : Vec F Wide .bf16) (D : Vec F Tall .bf16) (A : Vec F Rows .f32) : Vec F Rows .f32 :=
  if live = 1#1 then
    let A₁ := if isFirst arg1 = 1#1 then put o ho A (set (part o ho X) G U D) else A
    if isLater arg1 = 1#1 then put o ho A₁ (add (part o ho X) G U D (part o ho A₁)) else A₁
  else A

/-- The output block after a chunk's work that leaves the accumulator at `A`. -/
def stepO (o : Fin 2 → Nat) (ho : ∀ a, o a + Chunk.size a ≤ Rows.size a) (live last : BitVec 1)
    (A O : Vec F Rows .f32) : Vec F Rows .f32 :=
  if live = 1#1 then if last = 1#1 then put o ho O (part o ho A) else O else O

/-- The body's buffers, each whole at its contents. -/
def held (arg4 : Memref sig .tc .vmem Rows .bf16) (arg5 arg6 : Memref sig .tc .vmem Wide .bf16)
    (arg7 : Memref sig .tc .vmem Tall .bf16) (arg8 arg9 : Memref sig .tc .vmem Rows .f32)
    (X : Vec F Rows .bf16) (G U : Vec F Wide .bf16) (D : Vec F Tall .bf16) (O A : Vec F Rows .f32) : sProp 𝕄 :=
  iprop(owns (c.tc : Thread nD τ) arg4 fullShare X ∗ owns (c.tc : Thread nD τ) arg5 fullShare G
    ∗ owns (c.tc : Thread nD τ) arg6 fullShare U ∗ owns (c.tc : Thread nD τ) arg7 fullShare D
    ∗ owns (c.tc : Thread nD τ) arg8 fullShare O ∗ owns (c.tc : Thread nD τ) arg9 fullShare A)

section Chunks
variable {o : Fin 2 → Nat} {ho : ∀ a, o a + Chunk.size a ≤ Rows.size a}
variable {arg4 : Memref sig .tc .vmem Rows .bf16} {arg5 arg6 : Memref sig .tc .vmem Wide .bf16}
    {arg7 : Memref sig .tc .vmem Tall .bf16} {arg8 arg9 : Memref sig .tc .vmem Rows .f32}
variable {X : Vec F Rows .bf16} {G U : Vec F Wide .bf16} {D : Vec F Tall .bf16} {O A : Vec F Rows .f32}
variable {k : Prog (TpuEff nD τ sig (Elt F) Λ .tc) α}

theorem chunk_live {live last : BitVec 1} {arg1 : BitVec 32} {set : Part F}
    {add : Vec F Chunk .bf16 → Vec F Wide .bf16 → Vec F Wide .bf16 → Vec F Tall .bf16 → Vec F Chunk .f32 → Vec F Chunk .f32}
    (h : live = 1#1) {A₁ A₂ O₂ : Vec F Rows .f32}
    (h₁ : (if isFirst arg1 = 1#1 then put o ho A (set (part o ho X) G U D) else A) = A₁)
    (h₂ : (if isLater arg1 = 1#1 then put o ho A₁ (add (part o ho X) G U D (part o ho A₁)) else A₁) = A₂)
    (h₃ : (if last = 1#1 then put o ho O (part o ho A₂) else O) = O₂) :
    (held c arg4 arg5 arg6 arg7 arg8 arg9 X G U D O A : sProp 𝕄)
      ⊢ iprop((held c arg4 arg5 arg6 arg7 arg8 arg9 X G U D O₂ A₂
          -∗ wp frame (wpE defs 𝒱 (c.tc : Thread nD τ) bd) E k Q)
        -∗ wp frame (wpE defs 𝒱 (c.tc : Thread nD τ) bd) E (chunk o ho live last arg1 set add arg4 arg5 arg6 arg7 arg8 arg9 k) Q) := by
  have hs := set_step 𝒱 c bd E (defs := defs) (o := o) (ho := ho) (b := isFirst arg1) (arg9 := arg9) (A := A) (w := set (part o ho X) G U D)
    (k := addRows o ho (isLater arg1) (add (part o ho X) G U D) arg9 (copyRows o ho last arg8 arg9 (pure ⟨⟩))) (Q := fun _ : PUnit => wp frame (wpE defs 𝒱 (c.tc : Thread nD τ) bd) E k Q)
  rw [h₁] at hs
  have ha := add_step 𝒱 c bd E (defs := defs) (o := o) (ho := ho) (b := isLater arg1) (arg9 := arg9) (A := A₁) (w := add (part o ho X) G U D)
    (k := copyRows o ho last arg8 arg9 (pure ⟨⟩)) (Q := fun _ : PUnit => wp frame (wpE defs 𝒱 (c.tc : Thread nD τ) bd) E k Q)
  rw [h₂] at ha
  have hc := copy_step 𝒱 c bd E (defs := defs) (o := o) (ho := ho) (b := last) (arg8 := arg8) (arg9 := arg9) (A := A₂) (O := O)
    (k := pure ⟨⟩) (Q := fun _ : PUnit => wp frame (wpE defs 𝒱 (c.tc : Thread nD τ) bd) E k Q)
  rw [h₃] at hc
  unfold chunk held
  clear h₁ h₂ h₃
  iintro ⟨HX, HG, HU, HD, HO, HA⟩ Hk
  simp only [dif_pos h, Prog.bind_lift, Prog.bind_op, bind_assoc]
  iapply (load_part 𝒱 c bd E) $$ HX
  iintro HX
  iapply (load_wide 𝒱 c bd E) $$ HG
  iintro HG
  iapply (load_wide 𝒱 c bd E) $$ HU
  iintro HU
  iapply (load_tall 𝒱 c bd E) $$ HD
  iintro HD
  rw [wp_bind]
  iapply hs $$ HA
  iintro HA
  iapply ha $$ HA
  iintro HA
  icombine HO HA as H
  iapply hc $$ H
  iintro ⟨HO, HA⟩
  rw [wp_pure]
  imodintro
  iapply Hk
  isplitl [HX]; · iexact HX
  isplitl [HG]; · iexact HG
  isplitl [HU]; · iexact HU
  isplitl [HD]; · iexact HD
  isplitl [HO]; · iexact HO
  iexact HA

theorem chunk_step {live last : BitVec 1} {arg1 : BitVec 32} {set : Part F}
    {add : Vec F Chunk .bf16 → Vec F Wide .bf16 → Vec F Wide .bf16 → Vec F Tall .bf16 → Vec F Chunk .f32 → Vec F Chunk .f32} :
    (held c arg4 arg5 arg6 arg7 arg8 arg9 X G U D O A : sProp 𝕄)
      ⊢ iprop((held c arg4 arg5 arg6 arg7 arg8 arg9 X G U D
            (stepO o ho live last (stepA o ho live arg1 set add X G U D A) O) (stepA o ho live arg1 set add X G U D A)
          -∗ wp frame (wpE defs 𝒱 (c.tc : Thread nD τ) bd) E k Q)
        -∗ wp frame (wpE defs 𝒱 (c.tc : Thread nD τ) bd) E (chunk o ho live last arg1 set add arg4 arg5 arg6 arg7 arg8 arg9 k) Q) := by
  by_cases h : live = 1#1
  · refine chunk_live 𝒱 c bd E h (A₁ := if isFirst arg1 = 1#1 then put o ho A (set (part o ho X) G U D) else A) rfl ?_ ?_
    · unfold stepA; rw [if_pos h]
    · unfold stepO; rw [if_pos h]
  · rw [show stepA o ho live arg1 set add X G U D A = A from by unfold stepA; rw [if_neg h],
      show stepO o ho live last A O = O from by unfold stepO; rw [if_neg h]]
    unfold chunk
    simp only [dif_neg h, pure_bind]
    iintro H Hk
    iapply Hk; iexact H

theorem clear_chunk {gone : BitVec 1} {w : Vec F Chunk .f32} :
    (held c arg4 arg5 arg6 arg7 arg8 arg9 X G U D O A : sProp 𝕄)
      ⊢ iprop((held c arg4 arg5 arg6 arg7 arg8 arg9 X G U D (if gone = 1#1 then put o ho O w else O) A
          -∗ wp frame (wpE defs 𝒱 (c.tc : Thread nD τ) bd) E k Q)
        -∗ wp frame (wpE defs 𝒱 (c.tc : Thread nD τ) bd) E (clear o ho gone w arg8 k) Q) := by
  unfold held
  iintro ⟨HX, HG, HU, HD, HO, HA⟩ Hk
  iapply (clear_step 𝒱 c bd E) $$ HO
  iintro HO
  iapply Hk
  isplitl [HX]; · iexact HX
  isplitl [HG]; · iexact HG
  isplitl [HU]; · iexact HU
  isplitl [HD]; · iexact HD
  isplitl [HO]; · iexact HO
  iexact HA

end Chunks

end Proofs.Experts

namespace Cert.MoeIdeal.Gen

open Idealize.ShloMosaic Idealize.SL.Sem Proofs.Experts

variable {F : FTy → Type} [FloatOps F]

set_option maxRecDepth 65536 in
theorem part1_flat (i : grid0.Coords) (arg2 : Memref sig .tc .smem S40 .i32) (harg2 : arg2.IsWhole) (arg3 : Memref sig .tc .smem S40 .i32) (harg3 : arg3.IsWhole) (arg4 : Memref sig .tc .vmem S1024x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1024x1024 .f32) (harg8 : arg8.IsWhole) (arg9 : Memref sig .tc .vmem S1024x1024 .f32) (harg9 : arg9.IsWhole) :
    k0_part1_skel (F := F) i arg2 harg2 arg3 harg3 arg4 harg4 arg5 harg5 arg6 harg6 arg7 harg7 arg8 harg8 arg9 harg9 =
      smemLoad arg3 (Rect.unit (s := S40) (k0_off1 i) S1.size (k0_off1_inb i)) numel1_S1 rfl >>= fun v1 =>
      chunkFlat ![0, 0] inb_S1024x1024_S256x1024_0_0 (liveAt 0#32 v1) (isLast (BitVec.ofNat 32 (i 1).val)) (BitVec.ofNat 32 (i 1).val) k0_pay3 k0_pay4 arg4 arg5 arg6 arg7 arg8 arg9 <|
      clear ![0, 0] inb_S1024x1024_S256x1024_0_0 (goneAt 0#32 (BitVec.ofNat 32 (i 1).val) v1) k0_pay5 arg8 <|
      chunkFlat ![256, 0] inb_S1024x1024_S256x1024_256_0 (liveAt 256#32 v1) (isLast (BitVec.ofNat 32 (i 1).val)) (BitVec.ofNat 32 (i 1).val) k0_pay3 k0_pay4 arg4 arg5 arg6 arg7 arg8 arg9 <|
      clear ![256, 0] inb_S1024x1024_S256x1024_256_0 (goneAt 256#32 (BitVec.ofNat 32 (i 1).val) v1) k0_pay5 arg8 <|
      chunkFlat ![512, 0] inb_S1024x1024_S256x1024_512_0 (liveAt 512#32 v1) (isLast (BitVec.ofNat 32 (i 1).val)) (BitVec.ofNat 32 (i 1).val) k0_pay3 k0_pay4 arg4 arg5 arg6 arg7 arg8 arg9 <|
      clear ![512, 0] inb_S1024x1024_S256x1024_512_0 (goneAt 512#32 (BitVec.ofNat 32 (i 1).val) v1) k0_pay5 arg8 <|
      chunkFlat ![768, 0] inb_S1024x1024_S256x1024_768_0 (liveAt 768#32 v1) (isLast (BitVec.ofNat 32 (i 1).val)) (BitVec.ofNat 32 (i 1).val) k0_pay3 k0_pay4 arg4 arg5 arg6 arg7 arg8 arg9 <|
      pure ⟨v1, Scalar.andi (Scalar.xori (Scalar.cmpi .sgt v1 768#32) 1#1) (Scalar.cmpi .eq (BitVec.ofNat 32 (i 1).val) 6#32)⟩ := rfl

theorem part1_chunks (i : grid0.Coords) (arg2 : Memref sig .tc .smem S40 .i32) (harg2 : arg2.IsWhole) (arg3 : Memref sig .tc .smem S40 .i32) (harg3 : arg3.IsWhole) (arg4 : Memref sig .tc .vmem S1024x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1024x1024 .f32) (harg8 : arg8.IsWhole) (arg9 : Memref sig .tc .vmem S1024x1024 .f32) (harg9 : arg9.IsWhole) :
    k0_part1_skel (F := F) i arg2 harg2 arg3 harg3 arg4 harg4 arg5 harg5 arg6 harg6 arg7 harg7 arg8 harg8 arg9 harg9 =
      smemLoad arg3 (Rect.unit (s := S40) (k0_off1 i) S1.size (k0_off1_inb i)) numel1_S1 rfl >>= fun v1 =>
      chunk ![0, 0] inb_S1024x1024_S256x1024_0_0 (liveAt 0#32 v1) (isLast (BitVec.ofNat 32 (i 1).val)) (BitVec.ofNat 32 (i 1).val) k0_pay3 k0_pay4 arg4 arg5 arg6 arg7 arg8 arg9 <|
      clear ![0, 0] inb_S1024x1024_S256x1024_0_0 (goneAt 0#32 (BitVec.ofNat 32 (i 1).val) v1) k0_pay5 arg8 <|
      chunk ![256, 0] inb_S1024x1024_S256x1024_256_0 (liveAt 256#32 v1) (isLast (BitVec.ofNat 32 (i 1).val)) (BitVec.ofNat 32 (i 1).val) k0_pay3 k0_pay4 arg4 arg5 arg6 arg7 arg8 arg9 <|
      clear ![256, 0] inb_S1024x1024_S256x1024_256_0 (goneAt 256#32 (BitVec.ofNat 32 (i 1).val) v1) k0_pay5 arg8 <|
      chunk ![512, 0] inb_S1024x1024_S256x1024_512_0 (liveAt 512#32 v1) (isLast (BitVec.ofNat 32 (i 1).val)) (BitVec.ofNat 32 (i 1).val) k0_pay3 k0_pay4 arg4 arg5 arg6 arg7 arg8 arg9 <|
      clear ![512, 0] inb_S1024x1024_S256x1024_512_0 (goneAt 512#32 (BitVec.ofNat 32 (i 1).val) v1) k0_pay5 arg8 <|
      chunk ![768, 0] inb_S1024x1024_S256x1024_768_0 (liveAt 768#32 v1) (isLast (BitVec.ofNat 32 (i 1).val)) (BitVec.ofNat 32 (i 1).val) k0_pay3 k0_pay4 arg4 arg5 arg6 arg7 arg8 arg9 <|
      pure ⟨v1, Scalar.andi (Scalar.xori (Scalar.cmpi .sgt v1 768#32) 1#1) (Scalar.cmpi .eq (BitVec.ofNat 32 (i 1).val) 6#32)⟩ := by
  rw [part1_flat]
  simp only [chunkFlat_eq]

end Cert.MoeIdeal.Gen

end
-- ==== Proof.Experts.Steps.lean ====
/- What a point's four chunks leave in the accumulator and in the output block, chunk by chunk. -/
module

public import proofs.«01_k».proof.Proof.Experts.Body

@[expose] public section

noncomputable section

namespace Proofs.Experts

open Idealize.ShloMosaic

variable {F : FTy → Type} [FloatOps F]

/-- A part added to what the accumulator held. -/
abbrev More (F : FTy → Type) : Type :=
  Vec F Chunk .bf16 → Vec F Wide .bf16 → Vec F Wide .bf16 → Vec F Tall .bf16 → Vec F Chunk .f32 → Vec F Chunk .f32

/-- The accumulator, and the output block, after a chunk's work and its clearing. -/
def workA (o : Fin 2 → Nat) (ho : ∀ a, o a + Chunk.size a ≤ Rows.size a) (n v arg1 : BitVec 32) (set : Part F) (add : More F)
    (X : Vec F Rows .bf16) (G U : Vec F Wide .bf16) (D : Vec F Tall .bf16) (A : Vec F Rows .f32) : Vec F Rows .f32 :=
  stepA o ho (liveAt n v) arg1 set add X G U D A

def workO (o : Fin 2 → Nat) (ho : ∀ a, o a + Chunk.size a ≤ Rows.size a) (n v arg1 : BitVec 32) (zeros : Vec F Chunk .f32)
    (A O : Vec F Rows .f32) : Vec F Rows .f32 :=
  if goneAt n arg1 v = 1#1 then put o ho (stepO o ho (liveAt n v) (isLast arg1) A O) zeros
  else stepO o ho (liveAt n v) (isLast arg1) A O

theorem isFirst_iff : ∀ f : Fin 7, isFirst (BitVec.ofNat 32 f.val) = 1#1 ↔ f.val = 0 := by decide
theorem isLater_iff : ∀ f : Fin 7, isLater (BitVec.ofNat 32 f.val) = 1#1 ↔ f.val ≠ 0 := by decide
theorem isLast_iff : ∀ f : Fin 7, isLast (BitVec.ofNat 32 f.val) = 1#1 ↔ f.val = 6 := by decide

theorem gone_bits : ∀ b : BitVec 1, Scalar.cmpi .ne (Scalar.extui (Scalar.andi (Scalar.xori b 1#1) 1#1) : BitVec 32) 0#32 = 1#1
    ↔ ¬ Scalar.cmpi .ne (Scalar.extui b : BitVec 32) 0#32 = 1#1 := by decide

theorem goneAt_iff (n v : BitVec 32) : goneAt n 6#32 v = 1#1 ↔ ¬ liveAt n v = 1#1 := gone_bits (Scalar.cmpi .sgt v n)

section
variable (o o' : Fin 2 → Nat) (ho : ∀ a, o a + Chunk.size a ≤ Rows.size a) (ho' : ∀ a, o' a + Chunk.size a ≤ Rows.size a)
  (n v : BitVec 32) (f : Fin 7) (set : Part F) (add : More F) (zeros : Vec F Chunk .f32)
  (X : Vec F Rows .bf16) (G U : Vec F Wide .bf16) (D : Vec F Tall .bf16) (A O : Vec F Rows .f32)

theorem part_workA (h : liveAt n v = 1#1) :
    part o ho (workA o ho n v (BitVec.ofNat 32 f.val) set add X G U D A) =
      if f.val = 0 then set (part o ho X) G U D else add (part o ho X) G U D (part o ho A) := by
  unfold workA stepA
  rw [if_pos h]
  by_cases h0 : f.val = 0
  · rw [if_pos ((isFirst_iff f).mpr h0), if_neg (fun e => (isLater_iff f).mp e h0), if_pos h0, part_put]
  · rw [if_neg (fun e => h0 ((isFirst_iff f).mp e)), if_pos ((isLater_iff f).mpr h0), if_neg h0, part_put]

theorem part_workA_of_ne (h : o' 0 + 256 ≤ o 0 ∨ o 0 + 256 ≤ o' 0) (arg1 : BitVec 32) :
    part o' ho' (workA o ho n v arg1 set add X G U D A) = part o' ho' A := by
  unfold workA stepA
  split
  · dsimp only
    split <;> split <;> simp only [part_put_of_ne o' o ho' ho h]
  · rfl

theorem part_workO (hf : f.val = 6) :
    part o ho (workO o ho n v (BitVec.ofNat 32 f.val) zeros A O) = if liveAt n v = 1#1 then part o ho A else zeros := by
  unfold workO stepO
  rw [if_pos ((isLast_iff f).mpr hf), hf]
  by_cases h : liveAt n v = 1#1
  · rw [if_neg (fun e => (goneAt_iff n v).mp e h), if_pos h, if_pos h, part_put]
  · rw [if_pos ((goneAt_iff n v).mpr h), if_neg h, part_put, if_neg h]

theorem part_workO_of_ne (h : o' 0 + 256 ≤ o 0 ∨ o 0 + 256 ≤ o' 0) (arg1 : BitVec 32) :
    part o' ho' (workO o ho n v arg1 zeros A O) = part o' ho' O := by
  have hs : part o' ho' (stepO o ho (liveAt n v) (isLast arg1) A O) = part o' ho' O := by
    unfold stepO
    split
    · split
      · exact part_put_of_ne o' o ho' ho h _ _
      · rfl
    · rfl
  unfold workO
  split
  · rw [part_put_of_ne o' o ho' ho h, hs]
  · exact hs

end

/-- The four chunks: where one starts, and that it fits. -/
def off (j : Fin 4) : Fin 2 → Nat := ![256 * j.val, 0]
theorem off_inb (j : Fin 4) : ∀ a, off j a + Chunk.size a ≤ Rows.size a := by revert j; decide
def mark (j : Fin 4) : BitVec 32 := BitVec.ofNat 32 (256 * j.val)

theorem off_apart {i j : Fin 4} (h : i ≠ j) : off i 0 + 256 ≤ off j 0 ∨ off j 0 + 256 ≤ off i 0 := by
  revert i j; decide

abbrev chunkA (j : Fin 4) := workA (F := F) (off j) (off_inb j) (mark j)
abbrev chunkO (j : Fin 4) := workO (F := F) (off j) (off_inb j) (mark j)
abbrev piece (j : Fin 4) {e : EltTy} (X : Vec F Rows e) : Vec F Chunk e := part (off j) (off_inb j) X

section
variable (v arg1 : BitVec 32) (set : Part F) (add : More F) (zeros : Vec F Chunk .f32)
  (X : Vec F Rows .bf16) (G U : Vec F Wide .bf16) (D : Vec F Tall .bf16) (A O : Vec F Rows .f32)

/-- The accumulator after the chunks below the `k`th. -/
def accTo : Nat → Vec F Rows .f32
  | 0 => A
  | k + 1 => if h : k < 4 then chunkA ⟨k, h⟩ v arg1 set add X G U D (accTo k) else accTo k

/-- The output block after the chunks below the `k`th. -/
def outTo : Nat → Vec F Rows .f32
  | 0 => O
  | k + 1 => if h : k < 4 then chunkO ⟨k, h⟩ v arg1 zeros (accTo v arg1 set add X G U D A (k + 1)) (outTo k) else outTo k

theorem piece_accTo_le (j : Fin 4) : ∀ k, k ≤ j.val → piece j (accTo v arg1 set add X G U D A k) = piece j A
  | 0, _ => rfl
  | k + 1, h => by
    have hk : k < 4 := by omega
    rw [accTo, dif_pos hk]
    refine (part_workA_of_ne (off ⟨k, hk⟩) (off j) (off_inb ⟨k, hk⟩) (off_inb j)
      (h := off_apart (fun e => by have := congrArg Fin.val e; simp only at this; omega)) ..).trans ?_
    exact piece_accTo_le j k (by omega)

theorem piece_accTo_gt (j : Fin 4) : ∀ k, j.val < k → piece j (accTo v arg1 set add X G U D A k)
    = piece j (accTo v arg1 set add X G U D A (j.val + 1))
  | 0, h => by omega
  | k + 1, h => by
    by_cases hj : j.val = k
    · rw [hj]
    · by_cases hk : k < 4
      · rw [accTo, dif_pos hk]
        refine (part_workA_of_ne (off ⟨k, hk⟩) (off j) (off_inb ⟨k, hk⟩) (off_inb j)
          (h := off_apart (fun e => by have := congrArg Fin.val e; simp only at this; omega)) ..).trans ?_
        exact piece_accTo_gt j k (by omega)
      · rw [accTo, dif_neg hk]
        exact piece_accTo_gt j k (by omega)

theorem piece_outTo_gt (j : Fin 4) : ∀ k, j.val < k → piece j (outTo v arg1 set add zeros X G U D A O k)
    = piece j (outTo v arg1 set add zeros X G U D A O (j.val + 1))
  | 0, h => by omega
  | k + 1, h => by
    by_cases hj : j.val = k
    · rw [hj]
    · by_cases hk : k < 4
      · rw [outTo, dif_pos hk]
        refine (part_workO_of_ne (off ⟨k, hk⟩) (off j) (off_inb ⟨k, hk⟩) (off_inb j)
          (h := off_apart (fun e => by have := congrArg Fin.val e; simp only at this; omega)) ..).trans ?_
        exact piece_outTo_gt j k (by omega)
      · rw [outTo, dif_neg hk]
        exact piece_outTo_gt j k (by omega)

end

section
variable (v : BitVec 32) (f : Fin 7) (set : Part F) (add : More F) (zeros : Vec F Chunk .f32)
  (X : Vec F Rows .bf16) (G U : Vec F Wide .bf16) (D : Vec F Tall .bf16) (A O : Vec F Rows .f32)

/-- A live chunk's rows of the accumulator after the point. -/
theorem piece_acc (j : Fin 4) (h : liveAt (mark j) v = 1#1) :
    piece j (accTo v (BitVec.ofNat 32 f.val) set add X G U D A 4)
      = if f.val = 0 then set (piece j X) G U D else add (piece j X) G U D (piece j A) := by
  rw [piece_accTo_gt _ _ _ _ _ _ _ _ _ j 4 j.isLt, accTo, dif_pos j.isLt]
  refine (part_workA (h := h) ..).trans ?_
  have e := piece_accTo_le v (BitVec.ofNat 32 f.val) set add X G U D A j j.val le_rfl
  unfold piece at e ⊢
  rw [e]

/-- A chunk's rows of the output block after a block's last point. -/
theorem piece_out (j : Fin 4) (hf : f.val = 6) :
    piece j (outTo v (BitVec.ofNat 32 f.val) set add zeros X G U D A O 4)
      = if liveAt (mark j) v = 1#1 then add (piece j X) G U D (piece j A) else zeros := by
  rw [piece_outTo_gt _ _ _ _ _ _ _ _ _ _ _ j 4 j.isLt, outTo, dif_pos j.isLt]
  refine (part_workO (hf := hf) ..).trans ?_
  by_cases h : liveAt (mark j) v = 1#1
  · rw [if_pos h, if_pos h]
    refine (piece_accTo_gt _ _ _ _ _ _ _ _ _ j 4 j.isLt).symm.trans ?_
    rw [piece_acc (h := h), if_neg (by omega)]
  · rw [if_neg h, if_neg h]

end

end Proofs.Experts

end
-- ==== Proof.Experts.Triple.lean ====
/- The expert body's triple: from its buffers whole at some contents, to the same with the accumulator and the output block
   at what the four chunks leave. -/
module

public import proofs.«01_k».proof.Proof.Experts.Steps
public import Idealize.ShloMosaic.Lib.Pipeline.Frame
public import Idealize.ShloMosaic.Lib.Pipeline.FrameBody
public import Idealize.ShloMosaic.Lib.Pipeline.ArrRel

@[expose] public section

noncomputable section

namespace Cert.MoeIdeal.Gen

open Cert.MoeIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Proofs.Experts

variable {F : FTy → Type} [FloatOps F]

local notation "𝕄" => MT nD τ sig Unit (Elt F) ℕ (UR sig nD τ) ℕ

/-- The count the point reads from the second table. -/
def countAt (T : Vec F S40 .i32) (i : grid0.Coords) : BitVec 32 :=
  T ((Rect.unit (s := S40) (k0_off1 i) S1.size (k0_off1_inb i)).emb (Shape.Idx.first (numel1_S1.symm ▸ Nat.one_pos)))

theorem last_clear (i : grid0.Coords) (v1 : BitVec 32) :
    k0_cond20 i v1 = goneAt 768#32 (BitVec.ofNat 32 (i 1).val) v1 := rfl

abbrev after (T : Vec F S40 .i32) (i : grid0.Coords) (X : Vec F Rows .bf16) (G U : Vec F Wide .bf16) (D : Vec F Tall .bf16)
    (A : Vec F Rows .f32) (k : Nat) : Vec F Rows .f32 :=
  accTo (countAt T i) (BitVec.ofNat 32 (i 1).val) k0_pay3 k0_pay4 X G U D A k

abbrev outAfter (T : Vec F S40 .i32) (i : grid0.Coords) (X : Vec F Rows .bf16) (G U : Vec F Wide .bf16) (D : Vec F Tall .bf16)
    (A O : Vec F Rows .f32) (k : Nat) : Vec F Rows .f32 :=
  outTo (countAt T i) (BitVec.ofNat 32 (i 1).val) k0_pay3 k0_pay4 k0_pay5 X G U D A O k

set_option maxHeartbeats 1000000 in
theorem body_triple (c : Dev nD) (i : grid0.Coords) (arg2 : Memref sig .tc .smem S40 .i32) (harg2 : arg2.IsWhole) (arg3 : Memref sig .tc .smem S40 .i32) (harg3 : arg3.IsWhole) (arg4 : Memref sig .tc .vmem S1024x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1024x1024 .f32) (harg8 : arg8.IsWhole) (arg9 : Memref sig .tc .vmem S1024x1024 .f32) (harg9 : arg9.IsWhole)
    (q : PosShare TreeShare) (T : Vec F S40 .i32) (X : Vec F Rows .bf16) (G U : Vec F Wide .bf16) (D : Vec F Tall .bf16) (O A : Vec F Rows .f32) (K : PUnit → sProp 𝕄) :
    (iprop(owns (c.tc : Thread nD τ) arg3 q T ∗ held c arg4 arg5 arg6 arg7 arg8 arg9 X G U D O A) : sProp 𝕄)
      ⊢ iprop(((owns (c.tc : Thread nD τ) arg3 q T ∗ held c arg4 arg5 arg6 arg7 arg8 arg9 X G U D
              (outAfter T i X G U D A O 4) (after T i X G U D A 4)) -∗ K ⟨⟩)
        -∗ wp frame (wpE (defs₀ (F := F)) Variants.none (c.tc : Thread nD τ) none) Set.univ
            (cc0_moe_experts i arg2 harg2 arg3 harg3 arg4 harg4 arg5 harg5 arg6 harg6 arg7 harg7 arg8 harg8 arg9 harg9) K) := by
  rw [cc0_moe_experts_eq_skeleton]
  unfold cc0_moe_experts_skel
  rw [k0_part1_eq_skeleton, part1_chunks, wp_bind]
  iintro ⟨HT, H⟩ Hk
  iapply (word_owned Variants.none (c.tc : Thread nD τ) none Set.univ) $$ HT
  iintro HT
  iapply (chunk_step Variants.none c none Set.univ) $$ H
  iintro H
  iapply (clear_chunk Variants.none c none Set.univ) $$ H
  iintro H
  iapply (chunk_step Variants.none c none Set.univ) $$ H
  iintro H
  iapply (clear_chunk Variants.none c none Set.univ) $$ H
  iintro H
  iapply (chunk_step Variants.none c none Set.univ) $$ H
  iintro H
  iapply (clear_chunk Variants.none c none Set.univ) $$ H
  iintro H
  iapply (chunk_step Variants.none c none Set.univ) $$ H
  iintro H
  rw [wp_pure]
  imodintro
  dsimp only
  by_cases hg : goneAt 768#32 (BitVec.ofNat 32 (i 1).val) (countAt T i) = 1#1
  · have hO : outAfter T i X G U D A O 4 = put ![768, 0] inb_S1024x1024_S256x1024_768_0 (stepO ![768, 0] inb_S1024x1024_S256x1024_768_0 (liveAt 768#32 (countAt T i)) (isLast (BitVec.ofNat 32 (i 1).val)) (after T i X G U D A 4) (outAfter T i X G U D A O 3)) k0_pay5 := if_pos hg
    rw [hO]
    rw [dif_pos (show k0_cond20 i (T ((Rect.unit (s := S40) (k0_off1 i) S1.size (k0_off1_inb i)).emb (Shape.Idx.first (numel1_S1.symm ▸ Nat.one_pos)))) = 1#1 from hg)]
    simp only [Prog.bind_lift, Prog.bind_op, pure_bind, bind_assoc]
    unfold held
    icases H with ⟨HX, HG, HU, HD, HO, HA⟩
    iapply (load_owned Variants.none (c.tc : Thread nD τ) none Set.univ) $$ HO
    iintro HO
    iapply (store_owned Variants.none (c.tc : Thread nD τ) none Set.univ) $$ HO
    iintro HO
    rw [wp_pure]
    imodintro
    iapply Hk
    isplitl [HT]; · iexact HT
    isplitl [HX]; · iexact HX
    isplitl [HG]; · iexact HG
    isplitl [HU]; · iexact HU
    isplitl [HD]; · iexact HD
    isplitl [HO]; · iexact HO
    iexact HA
  · have hO : outAfter T i X G U D A O 4 = stepO ![768, 0] inb_S1024x1024_S256x1024_768_0 (liveAt 768#32 (countAt T i)) (isLast (BitVec.ofNat 32 (i 1).val)) (after T i X G U D A 4) (outAfter T i X G U D A O 3) := if_neg hg
    rw [hO]
    rw [dif_neg (show ¬ k0_cond20 i (T ((Rect.unit (s := S40) (k0_off1 i) S1.size (k0_off1_inb i)).emb (Shape.Idx.first (numel1_S1.symm ▸ Nat.one_pos)))) = 1#1 from hg)]
    rw [wp_pure]
    imodintro
    iapply Hk
    isplitl [HT]; · iexact HT
    iexact H

end Cert.MoeIdeal.Gen

end
-- ==== Proof.Experts.Frame.lean ====
/- The expert call's run: what the accumulator holds after each point, the body obligation, and the launch. -/
module

public import proofs.«01_k».proof.Proof.Experts.Triple
public import proofs.«01_k».proof.Proof.Gen.MoeIdeal.Launch

@[expose] public section

noncomputable section

namespace Cert.MoeIdeal.Gen

open Cert.MoeIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Proofs.Experts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coord0 : ∀ t : Fin grid0.N, ((grid0.coords t) 0).val = t.val / 7 := by decide +kernel
theorem coord1 : ∀ t : Fin grid0.N, ((grid0.coords t) 1).val = t.val % 7 := by decide +kernel

/-- The point's piece of the hidden columns. -/
def pieceOf (t : Fin grid0.N) : Fin 7 := ⟨((grid0.coords t) 1).val, ((grid0.coords t) 1).isLt⟩
theorem pieceOf_val (t : Fin grid0.N) : (pieceOf t).val = t.val % 7 := coord1 t

/-- The point's block of rows. -/
def blockOf (t : Fin grid0.N) : Fin 40 := ⟨((grid0.coords t) 0).val, ((grid0.coords t) 0).isLt⟩
theorem blockOf_val (t : Fin grid0.N) : (blockOf t).val = t.val / 7 := coord0 t

/-- A block's place in a table. -/
def at40 (b : Fin 40) : S40.Idx := fun a => match a with | 0 => b

theorem countAt_eq (T : Vec F S40 .i32) (t : Fin grid0.N) : countAt T (grid0.coords t) = T (at40 (blockOf t)) := by
  unfold countAt
  refine congrArg T (funext fun a => Fin.ext ?_)
  match a with
  | 0 =>
    show (BitVec.ofNat 32 ((grid0.coords t) 0).val).toNat + 1 * 0 = ((grid0.coords t) 0).val
    have h : ((grid0.coords t) 0).val < 40 := ((grid0.coords t) 0).isLt
    rw [BitVec.toNat_ofNat, Nat.mod_eq_of_lt (by omega)]
    omega

/-! ## What the accumulator holds -/

section Acc
variable (a : (pcfg0 (F := F)).Adm)

/-- The two tables: a block's expert, and a block's live rows. -/
def names : Vec F S40 .i32 := a.1 0
def counts : Vec F S40 .i32 := a.1 1

/-- A window's block at a point, read off its array. -/
def iblk (c : Dev nD) (w : Fin 5) (t : Fin grid0.N) : (((cfg0 a).win w).xblock (grid0.coords t)).Idx → Elt F ((cfg0 a).win w).elt :=
  (((cfg0 a).win w).blk t).view.read (Elt F) (m ((c.tc : Thread nD τ).loc (Pipeline.arrRef spec0 w)))

abbrev blkX (c : Dev nD) (t : Fin grid0.N) : Vec F Rows .bf16 := iblk m a c 0 t
abbrev blkG (c : Dev nD) (t : Fin grid0.N) : Vec F Wide .bf16 := iblk m a c 1 t
abbrev blkU (c : Dev nD) (t : Fin grid0.N) : Vec F Wide .bf16 := iblk m a c 2 t
abbrev blkD (c : Dev nD) (t : Fin grid0.N) : Vec F Tall .bf16 := iblk m a c 3 t

/-- The `j`th chunk's accumulator after the point `n`, had the chunk been live all along its block. -/
def accAt (c : Dev nD) (j : Fin 4) : (n : ℕ) → n < grid0.N → Vec F Chunk .f32
  | 0, h => k0_pay3 (piece j (blkX m a c ⟨0, h⟩)) (blkG m a c ⟨0, h⟩) (blkU m a c ⟨0, h⟩) (blkD m a c ⟨0, h⟩)
  | n + 1, h =>
    if (n + 1) % 7 = 0 then k0_pay3 (piece j (blkX m a c ⟨n + 1, h⟩)) (blkG m a c ⟨n + 1, h⟩) (blkU m a c ⟨n + 1, h⟩) (blkD m a c ⟨n + 1, h⟩)
    else k0_pay4 (piece j (blkX m a c ⟨n + 1, h⟩)) (blkG m a c ⟨n + 1, h⟩) (blkU m a c ⟨n + 1, h⟩) (blkD m a c ⟨n + 1, h⟩) (accAt c j n (by omega))

theorem accAt_first (c : Dev nD) (j : Fin 4) (t : Fin grid0.N) (h : t.val % 7 = 0) :
    accAt m a c j t.val t.isLt = k0_pay3 (piece j (blkX m a c t)) (blkG m a c t) (blkU m a c t) (blkD m a c t) := by
  obtain ⟨n, hn⟩ := t
  cases n with
  | zero => rfl
  | succ n => rw [accAt, if_pos h]

theorem accAt_later (c : Dev nD) (j : Fin 4) (t : Fin grid0.N) (h : t.val % 7 ≠ 0) (n : ℕ) (hn : t.val = n + 1) (hn' : n < grid0.N) :
    accAt m a c j t.val t.isLt = k0_pay4 (piece j (blkX m a c t)) (blkG m a c t) (blkU m a c t) (blkD m a c t) (accAt m a c j n hn') := by
  obtain ⟨k, hk⟩ := t
  simp only at hn h
  subst hn
  rw [accAt, if_neg h]

def live (j : Fin 4) (t : Fin grid0.N) : Prop := liveAt (mark j) (countAt (counts a) (grid0.coords t)) = 1#1

theorem live_succ (j : Fin 4) (t : Fin grid0.N) (h : t.val % 7 ≠ 0) (n : ℕ) (hn : t.val = n + 1) (hn' : n < grid0.N) :
    live a j t ↔ live a j ⟨n, hn'⟩ := by
  unfold live
  rw [countAt_eq, countAt_eq, show blockOf t = blockOf ⟨n, hn'⟩ from Fin.ext (by rw [blockOf_val, blockOf_val]; simp only; omega)]

/-- What is known of the accumulator after a point: each live chunk's rows. -/
def AccOk (c : Dev nD) (n : ℕ) (A : Vec F Rows .f32) : Prop :=
  ∀ (h : n < grid0.N) (j : Fin 4), live a j ⟨n, h⟩ → piece j A = accAt m a c j n h

/-- What is known of the output block after a block's last point. -/
def OutOk (c : Dev nD) (t : Fin grid0.N) (O : Vec F Rows .f32) : Prop :=
  t.val % 7 = 6 → ∀ j : Fin 4, (live a j t → piece j O = accAt m a c j t.val t.isLt) ∧ (¬ live a j t → piece j O = k0_pay5)

theorem accOk_step (c : Dev nD) (t : Fin grid0.N) (A : Vec F Rows .f32) (hA : ∀ n, t.val = n + 1 → AccOk m a c n A) :
    AccOk m a c t.val (after (counts a) (grid0.coords t) (blkX m a c t) (blkG m a c t) (blkU m a c t) (blkD m a c t) A 4) := by
  intro h j hl
  refine (piece_acc _ (pieceOf t) _ _ _ _ _ _ _ j hl).trans ?_
  rw [pieceOf_val]
  by_cases h0 : t.val % 7 = 0
  · rw [if_pos h0, accAt_first m a c j t h0]
  · rw [if_neg h0]
    obtain ⟨n, hn⟩ : ∃ n, t.val = n + 1 := ⟨t.val - 1, by omega⟩
    have hn' : n < grid0.N := by omega
    rw [accAt_later m a c j t h0 n hn hn', hA n hn hn' j ((live_succ a j t h0 n hn hn').mp hl)]

theorem outOk_step (c : Dev nD) (t : Fin grid0.N) (A O : Vec F Rows .f32) (hA : ∀ n, t.val = n + 1 → AccOk m a c n A) :
    OutOk m a c t (outAfter (counts a) (grid0.coords t) (blkX m a c t) (blkG m a c t) (blkU m a c t) (blkD m a c t) A O 4) := by
  intro h6 j
  have e := piece_out (countAt (counts a) (grid0.coords t)) (pieceOf t) k0_pay3 k0_pay4 k0_pay5 (blkX m a c t) (blkG m a c t) (blkU m a c t) (blkD m a c t) A O j
    ((pieceOf_val t).trans h6)
  refine ⟨fun hl => ?_, fun hl => e.trans (if_neg hl)⟩
  rw [if_pos (show liveAt (mark j) (countAt (counts a) (grid0.coords t)) = 1#1 from hl)] at e
  obtain ⟨n, hn⟩ : ∃ n, t.val = n + 1 := ⟨t.val - 1, by omega⟩
  have hn' : n < grid0.N := by omega
  rw [accAt_later m a c j t (by omega) n hn hn', ← hA n hn hn' j ((live_succ a j t (by omega) n hn hn').mp hl)]
  exact e

end Acc

/-! ## The proof data -/

section Data
variable (a : (p : Fin 1) → (pcfgs (F := F) p).Adm)

abbrev theCfg : Pipeline.Cfg sig Λ₀ := Pipeline.pin (pcfgs (F := F)) a 0

/-- The tables' halves, the accumulator and the generator register. -/
def Inv (c : Dev nD) (n : ℕ) : sProp 𝕄 :=
  iprop(∃ A : Vec F Rows .f32, ⌜∀ k, n = k + 1 → AccOk m (a 0) c k A⌝ ∗ owns (c.tc : Thread nD τ) (Memref.whole cc0_scratch0) fullShare A
    ∗ (∃ r, prngReg c r) ∗ owns (c.tc : Thread nD τ) (Memref.whole main_arg1) fullShare.right (names (a 0))
    ∗ owns (c.tc : Thread nD τ) (Memref.whole main_arg2) fullShare.right (counts (a 0)))

def rdat (c : Dev nD) : RDat τ (Elt F) Unit ℕ (UR sig nD τ) ℕ (theCfg a) c where
  A w := m ((c.tc : Thread nD τ).loc (Pipeline.arrRef spec0 w))
  after := fun
    | 0, _, Y, X => X = Y
    | 1, _, Y, X => X = Y
    | 2, _, Y, X => X = Y
    | 3, _, Y, X => X = Y
    | 4, t, _, X => OutOk m (a 0) c t X
    | ⟨_ + 5, h⟩, _, _, _ => absurd h (Nat.not_lt.2 (Nat.le_add_left _ _))
  Φ t := Inv m a c t.val
  q w := Pipeline.shareOf spec0 w
  owed _ := 0

theorem finds_blk (c : Dev nD) (t : Fin grid0.N) :
    (∀ Y, (rdat m a c).Finds (0 : Fin 5) t Y → Y = blkX m (a 0) c t) ∧ (∀ Y, (rdat m a c).Finds (1 : Fin 5) t Y → Y = blkG m (a 0) c t)
      ∧ (∀ Y, (rdat m a c).Finds (2 : Fin 5) t Y → Y = blkU m (a 0) c t) ∧ (∀ Y, (rdat m a c).Finds (3 : Fin 5) t Y → Y = blkD m (a 0) c t) := by
  refine ⟨fun Y h => ?_, fun Y h => ?_, fun Y h => ?_, fun Y h => ?_⟩
  · obtain ⟨d, e⟩ := (rdat m a c).finds_in_eq_fetched (0 : Fin 5) rfl (fun _ _ _ => rfl) (fun _ _ _ h => h) t Y h
    exact e.trans rfl
  · obtain ⟨d, e⟩ := (rdat m a c).finds_in_eq_fetched (1 : Fin 5) rfl (fun _ _ _ => rfl) (fun _ _ _ h => h) t Y h
    exact e.trans rfl
  · obtain ⟨d, e⟩ := (rdat m a c).finds_in_eq_fetched (2 : Fin 5) rfl (fun _ _ _ => rfl) (fun _ _ _ h => h) t Y h
    exact e.trans rfl
  · obtain ⟨d, e⟩ := (rdat m a c).finds_in_eq_fetched (3 : Fin 5) rfl (fun _ _ _ => rfl) (fun _ _ _ h => h) t Y h
    exact e.trans rfl

theorem defs₀_row (t : Fin grid0.N) :
    defs₀ (F := F) .tc (theCfg a).body ((theCfg a).bodyArgs t ((theCfg a).slots t))
      = cc0_moe_experts (grid0.coords t) (Memref.whole main_arg1) (Memref.isWhole_whole _) (Memref.whole main_arg2) (Memref.isWhole_whole _)
          (spec0_0.stage ((theCfg a).slots t (0 : Fin 5))) (hstage0_0 (((theCfg a).slots t (0 : Fin 5)).cast nbuf0_0))
          (spec0_1.stage ((theCfg a).slots t (1 : Fin 5))) (hstage0_1 (((theCfg a).slots t (1 : Fin 5)).cast nbuf0_1))
          (spec0_2.stage ((theCfg a).slots t (2 : Fin 5))) (hstage0_2 (((theCfg a).slots t (2 : Fin 5)).cast nbuf0_2))
          (spec0_3.stage ((theCfg a).slots t (3 : Fin 5))) (hstage0_3 (((theCfg a).slots t (3 : Fin 5)).cast nbuf0_3))
          (spec0_4.stage ((theCfg a).slots t (4 : Fin 5))) (hstage0_4 (((theCfg a).slots t (4 : Fin 5)).cast nbuf0_4))
          (Memref.whole cc0_scratch0) (Memref.isWhole_whole _) := by
  unfold defs₀; rw [Defs.onTc_tc]

theorem body_point (c : Dev nD) (t : Fin grid0.N) (O : Vec F Rows .f32) :
    (iprop(Inv m a c t.val ∗ (rdat m a c).owesAt () (Fin.castSucc (n := (theCfg a).N) t)
      ∗ owns (c.tc : Thread nD τ) (spec0_0.stage ((theCfg a).slots t (0 : Fin 5))) fullShare (blkX m (a 0) c t)
      ∗ owns (c.tc : Thread nD τ) (spec0_1.stage ((theCfg a).slots t (1 : Fin 5))) fullShare (blkG m (a 0) c t)
      ∗ owns (c.tc : Thread nD τ) (spec0_2.stage ((theCfg a).slots t (2 : Fin 5))) fullShare (blkU m (a 0) c t)
      ∗ owns (c.tc : Thread nD τ) (spec0_3.stage ((theCfg a).slots t (3 : Fin 5))) fullShare (blkD m (a 0) c t)
      ∗ owns (c.tc : Thread nD τ) (spec0_4.stage ((theCfg a).slots t (4 : Fin 5))) fullShare O) : sProp 𝕄)
    ⊢ wp frame (wpE (defs₀ (F := F)) Variants.none (c.tc : Thread nD τ) none) Set.univ
        (defs₀ (F := F) .tc (theCfg a).body ((theCfg a).bodyArgs t ((theCfg a).slots t))) (fun _ =>
      iprop(Inv m a c (t.val + 1) ∗ (rdat m a c).owesAt () (Fin.succ (n := (theCfg a).N) t)
        ∗ (∃ X, ⌜X = blkX m (a 0) c t⌝ ∗ owns (c.tc : Thread nD τ) (spec0_0.stage ((theCfg a).slots t (0 : Fin 5))) fullShare X)
        ∗ (∃ X, ⌜X = blkG m (a 0) c t⌝ ∗ owns (c.tc : Thread nD τ) (spec0_1.stage ((theCfg a).slots t (1 : Fin 5))) fullShare X)
        ∗ (∃ X, ⌜X = blkU m (a 0) c t⌝ ∗ owns (c.tc : Thread nD τ) (spec0_2.stage ((theCfg a).slots t (2 : Fin 5))) fullShare X)
        ∗ (∃ X, ⌜X = blkD m (a 0) c t⌝ ∗ owns (c.tc : Thread nD τ) (spec0_3.stage ((theCfg a).slots t (3 : Fin 5))) fullShare X)
        ∗ (∃ X, ⌜OutOk m (a 0) c t X⌝ ∗ owns (c.tc : Thread nD τ) (spec0_4.stage ((theCfg a).slots t (4 : Fin 5))) fullShare X))) := by
  rw [defs₀_row]
  have hT := fun A K => (body_triple c (grid0.coords t) (Memref.whole main_arg1) (Memref.isWhole_whole _) (Memref.whole main_arg2) (Memref.isWhole_whole _)
          (spec0_0.stage ((theCfg a).slots t (0 : Fin 5))) (hstage0_0 (((theCfg a).slots t (0 : Fin 5)).cast nbuf0_0))
          (spec0_1.stage ((theCfg a).slots t (1 : Fin 5))) (hstage0_1 (((theCfg a).slots t (1 : Fin 5)).cast nbuf0_1))
          (spec0_2.stage ((theCfg a).slots t (2 : Fin 5))) (hstage0_2 (((theCfg a).slots t (2 : Fin 5)).cast nbuf0_2))
          (spec0_3.stage ((theCfg a).slots t (3 : Fin 5))) (hstage0_3 (((theCfg a).slots t (3 : Fin 5)).cast nbuf0_3))
          (spec0_4.stage ((theCfg a).slots t (4 : Fin 5))) (hstage0_4 (((theCfg a).slots t (4 : Fin 5)).cast nbuf0_4))
          (Memref.whole cc0_scratch0) (Memref.isWhole_whole _) fullShare.right (counts (a 0)) (blkX m (a 0) c t) (blkG m (a 0) c t) (blkU m (a 0) c t) (blkD m (a 0) c t) O A K)
  unfold held at hT
  unfold Inv
  iintro ⟨⟨%A, %hA, HA, Hr, H1, H2⟩, HW, HX, HG, HU, HD, HO⟩
  icombine H2 HX HG HU HD HO HA as H
  iapply (hT _ _) $$ H
  iintro ⟨H2, HX, HG, HU, HD, HO, HA⟩
  isplitl [HA Hr H1 H2]
  · iexists _
    isplitr
    swap
    · isplitl [HA]; · iexact HA
      isplitl [Hr]; · iexact Hr
      isplitl [H1]; · iexact H1
      iexact H2
    ipureintro
    intro k hk
    obtain rfl : t.val = k := by omega
    exact accOk_step m (a 0) c t A hA
  isplitl [HW]; · iexact HW
  isplitl [HX]
  · iexists _; isplitr; swap; · iexact HX
    ipureintro; rfl
  isplitl [HG]
  · iexists _; isplitr; swap; · iexact HG
    ipureintro; rfl
  isplitl [HU]
  · iexists _; isplitr; swap; · iexact HU
    ipureintro; rfl
  isplitl [HD]
  · iexists _; isplitr; swap; · iexact HD
    ipureintro; rfl
  iexists _; isplitr; swap; · iexact HO
  ipureintro
  exact outOk_step m (a 0) c t A O hA

theorem body_obligation (c : Dev nD) : (rdat m a c).BodyObligation (defs₀ (F := F)) Variants.none () Set.univ := fun t Y hY => by
  obtain ⟨h0, h1, h2, h3⟩ := finds_blk m a c t
  have e0 := h0 _ (hY (0 : Fin 5))
  have e1 := h1 _ (hY (1 : Fin 5))
  have e2 := h2 _ (hY (2 : Fin 5))
  have e3 := h3 _ (hY (3 : Fin 5))
  have h := body_point m a c t (Y (4 : Fin 5))
  rw [← e0, ← e1, ← e2, ← e3] at h
  rw [bigSep_W0, bigSep_W0]
  exact h

end Data

end Cert.MoeIdeal.Gen

end
-- ==== Proof.Experts.Launch.lean ====
/- The expert call's launch: the tables are admissible, and the run leaves the arguments and the output's rows as said. -/
module

public import proofs.«01_k».proof.Proof.Experts.Frame
public import Idealize.ShloMosaic.Lib.Pipeline.Value
public import Idealize.ShloMosaic.Lib.Claim

@[expose] public section

noncomputable section

namespace Cert.MoeIdeal.Gen

open Cert.MoeIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Proofs.Experts

variable {F : FTy → Type} [FloatOps F]

local notation "𝕄" => MT nD τ sig Unit (Elt F) ℕ (UR sig nD τ) ℕ

/-! ## The tables -/

/-- The piece of the hidden columns a point reads: its own, or the last where its block has no rows. -/
def pick (v : BitVec 32) (j : ℕ) : ℕ := if (0#32).slt v then j else 6

theorem pick_lt (v : BitVec 32) {j : ℕ} (h : j < 7) : pick v j < 7 := by unfold pick; split <;> omega

theorem pick_word (v : BitVec 32) {j : ℕ} (hj : j < 7) :
    (Scalar.select (Scalar.cmpi .sgt v 0#32) (BitVec.ofNat 32 j) 6#32 : BitVec 32).toNat = pick v j := by
  unfold pick
  by_cases h : (0#32).slt v = true
  · rw [if_pos h, show Scalar.cmpi .sgt v 0#32 = 1#1 from by simp [Scalar.cmpi, IntOp.cmpi, h]]
    show (BitVec.ofNat 32 j).toNat = j
    rw [BitVec.toNat_ofNat, Nat.mod_eq_of_lt (by omega)]
  · rw [if_neg h, show Scalar.cmpi .sgt v 0#32 = 0#1 from by simp [Scalar.cmpi, IntOp.cmpi, h]]
    rfl

section Tables
variable (pf : pre0.Contents (Elt F))

def tabNames : Vec F S40 .i32 := pf 0
def tabRows : Vec F S40 .i32 := pf 1
def nameAt (i : grid0.Coords) : BitVec 32 := tabNames pf (at40 (i 0))
def rowsAt (i : grid0.Coords) : BitVec 32 := tabRows pf (at40 (i 0))

theorem word_at (T : Vec F S40 .i32) (i : grid0.Coords) :
    T ((Rect.unit (s := S40) (k0_off1 i) S1.size (k0_off1_inb i)).emb (Shape.Idx.first (numel1_S1.symm ▸ Nat.one_pos))) = T (at40 (i 0)) := by
  refine congrArg T (funext fun a => Fin.ext ?_)
  match a with
  | 0 =>
    show (BitVec.ofNat 32 (i 0).val).toNat + 1 * 0 = (i 0).val
    have h : (i 0).val < 40 := (i 0).isLt
    rw [BitVec.toNat_ofNat, Nat.mod_eq_of_lt (by omega)]
    omega

/-- The piece the point reads. -/
def pickAt (i : grid0.Coords) : ℕ := pick (rowsAt pf i) (i 1).val
theorem pickAt_lt (i : grid0.Coords) : pickAt pf i < 7 := pick_lt _ (i 1).isLt
theorem pickAt_word (i : grid0.Coords) :
    (Scalar.select (Scalar.cmpi .sgt (tabRows pf ((Rect.unit (s := S40) (k0_off1 i) S1.size (k0_off1_inb i)).emb (Shape.Idx.first (numel1_S1.symm ▸ Nat.one_pos)))) 0#32)
      (BitVec.ofNat 32 (i 1).val) 6#32 : BitVec 32).toNat = pickAt pf i := by
  rw [word_at (tabRows pf) i]
  exact pick_word _ (i 1).isLt

theorem map1 (i : grid0.Coords) : cc0_transform_1 k0_off1_inb numel1_S1 pf i = ![(nameAt pf i).toNat, 0, pickAt pf i] := by
  funext a
  match a with
  | 0 => exact congrArg BitVec.toNat (word_at (tabNames pf) i)
  | 1 => rfl
  | 2 => exact pickAt_word pf i
theorem map2 (i : grid0.Coords) : cc0_transform_2 k0_off1_inb numel1_S1 pf i = ![(nameAt pf i).toNat, 0, 7 + pickAt pf i] := by
  funext a
  match a with
  | 0 => exact congrArg BitVec.toNat (word_at (tabNames pf) i)
  | 1 => rfl
  | 2 =>
    refine (BitVec.toNat_add 7#32 _).trans ?_
    refine (congrArg (fun n => (7 + n) % 2 ^ 32) (pickAt_word pf i)).trans ?_
    have := pickAt_lt pf i
    exact Nat.mod_eq_of_lt (by omega)
theorem map3 (i : grid0.Coords) : cc0_transform_3 k0_off1_inb numel1_S1 pf i = ![(nameAt pf i).toNat, pickAt pf i, 0] := by
  funext a
  match a with
  | 0 => exact congrArg BitVec.toNat (word_at (tabNames pf) i)
  | 1 => exact pickAt_word pf i
  | 2 => rfl

/-- Tables naming one of the eight experts in every block keep every block inside its array. -/
theorem ok_of (h : ∀ i, (nameAt pf i).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [map1]
    have h0 := h i
    have h1 := pickAt_lt pf i
    match a with
    | 0 => show ((nameAt pf i).toNat + 1) * 1 ≤ 8; omega
    | 1 => show (0 + 1) * 1024 ≤ 1024; omega
    | 2 => show (pickAt pf i + 1) * 512 ≤ 7168; omega
  · rw [map2]
    have h0 := h i
    have h1 := pickAt_lt pf i
    match a with
    | 0 => show ((nameAt pf i).toNat + 1) * 1 ≤ 8; omega
    | 1 => show (0 + 1) * 1024 ≤ 1024; omega
    | 2 => show (7 + pickAt pf i + 1) * 512 ≤ 7168; omega
  · rw [map3]
    have h0 := h i
    have h1 := pickAt_lt pf i
    match a with
    | 0 => show ((nameAt pf i).toNat + 1) * 1 ≤ 8; omega
    | 1 => show (pickAt pf i + 1) * 512 ≤ 3584; omega
    | 2 => show (0 + 1) * 1024 ≤ 1024; omega

end Tables

/-! ## The launch -/

variable (m : (ℓ : Loc nD τ sig) → Buf (Elt F) ℓ) (g : Dev nD → PrngReg)

/-- The tables the launch holds. -/
def tabs : pre0.Contents (Elt F) := fun k => m ((((0 : Dev nD)).tc : Thread nD τ).loc (pre0.ref k))

/-- Every block's expert is one of the eight. -/
def Ranged : Prop := ∀ i, (nameAt (tabs m) i).toNat < 8

variable (hr : Ranged m)

def adm : (p : Fin 1) → (pcfgs (F := F) p).Adm := fun _ => ⟨tabs m, ok_of (tabs m) hr⟩

theorem one_dev (c : Dev nD) : c = 0 := Subsingleton.elim _ _

theorem two_tables {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

theorem enter (c : Dev nD) : iprop(Pipeline.ΦA (theCfg (adm m hr)).spec c ∗ Pipeline.ΦT (pcfgs (F := F) 0).pre (adm m hr 0).1 c)
    ⊢ (Inv m (adm m hr) c 0 : sProp 𝕄) := by
  unfold Pipeline.ΦA Pipeline.ΦT Pipeline.prefHeld Inv
  rw [show (Finset.univ : Finset (Fin (pcfgs (F := F) 0).pre.K)) = (Finset.univ : Finset (Fin 2)) from rfl]
  rw [show (Pipeline.scopedRest (Ix := Unit) (Name := ℕ) (U := UR sig nD τ) (Lvl := ℕ) (Val := Elt F) (theCfg (adm m hr)).spec c : sProp 𝕄) = _ from scopedRest0_eq c]
  rw [two_tables]
  iintro ⟨⟨⟨%f, Hs⟩, Hp⟩, H1, H2⟩
  iexists f
  isplitr
  · ipureintro; intro k hk; exact absurd hk (by omega)
  isplitl [Hs]
  · rw [owns_whole]; iexact Hs
  isplitl [Hp]; · iexact Hp
  isplitl [H1]
  · rw [owns_whole]; iexact H1
  rw [owns_whole]; iexact H2

theorem leave (c : Dev nD) (n : ℕ) : (Inv m (adm m hr) c n : sProp 𝕄) ⊢ Pipeline.ΦA (theCfg (adm m hr)).spec c := by
  unfold Pipeline.ΦA Inv
  rw [show (Pipeline.scopedRest (Ix := Unit) (Name := ℕ) (U := UR sig nD τ) (Lvl := ℕ) (Val := Elt F) (theCfg (adm m hr)).spec c : sProp 𝕄) = _ from scopedRest0_eq c]
  iintro ⟨%A, -, Hs, Hp, -, -⟩
  isplitl [Hs]
  · iexists A
    iapply (show (owns (c.tc : Thread nD τ) (Memref.whole cc0_scratch0) fullShare A : sProp 𝕄) ⊢ ((c.tc : Thread nD τ).loc cc0_scratch0) ↦{fullShare} A from by rw [owns_whole])
    iexact Hs
  iexact Hp

abbrev ent (c : Dev nD) (b : Ref sig .tc) : Buf (Elt F) ((c.tc : Thread nD τ).loc b) := m ((c.tc : Thread nD τ).loc b)

abbrev Ran (r : PUnit × MemSt nD τ sig (Elt F)) : Prop :=
  RDat.FramePost (theCfg (adm m hr)) (rdat m (adm m hr)) (ent m) r ∧ r.2.sem = fun _ => 0

set_option backward.isDefEq.respectTransparency.types false in
theorem ran : θ_run (defs (F := F)) (onTc (τ := τ) (main (F := F))) ⟨m, fun _ => 0, g⟩ (Ran m hr) :=
  RDat.θ_run_frameP_track_shared (pcfgs (F := F)) (adm m hr) 0 launch₀0 defs₀ Variants.none (rdat m (adm m hr)) m g main
    (body_obligation m (adm m hr)) (fun _ _ _ => rfl) (fun _ _ => rfl) (ent m)
    (Pipeline.hmainP_region pcfgs 0 defs₀ Variants.none m main (fun c => (main_chain c).trans rfl))
    (fun _ _ => rfl) (fun c k => by rw [one_dev c]; rfl) (enter m hr) (fun c => leave m hr c _) (Ran m hr) (fun _ h => h)

end Cert.MoeIdeal.Gen

end
-- ==== Proof.Experts.Kept.lean ====
/- The expert call's frame: it ends, and leaves its arguments and the counters as they were. -/
module

public import proofs.«01_k».proof.Proof.Experts.Launch

@[expose] public section

noncomputable section

namespace Cert.MoeIdeal.Gen

open Cert.MoeIdeal
open Idealize.ShloMosaic Idealize.ShloMosaic.TcCoe Idealize.SL.Sem
open Idealize.ShloMosaic.Pipeline (RDat)
open Proofs.Experts

variable {F : FTy → Type} [FloatOps F]
variable (m : (ℓ : Loc nD τ sig) → Buf (Elt F) ℓ) (g : Dev nD → PrngReg)

/-- Every block names one of the eight experts, in the argument. -/
def NamesOk : Prop := ∀ (c : Dev nD) (b : S40.Idx), ((m ((c.tc : Thread nD τ).loc main_arg1) : IVec S40 32) b).toNat < 8

theorem ranged (h : NamesOk m) : Ranged m := fun i => h 0 (at40 (i 0))

abbrev Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

theorem kept (hr : Ranged m) (r : PUnit × MemSt nD τ sig (Elt F)) (h : Ran m hr r) (c : Dev nD) : Kept m r c :=
  ⟨RDat.FramePost.arr_in h.1 c (0 : Fin 5) rfl,
    (h.1 c).2 main_arg1 (Pipeline.mem_restRefs_of main_arg1 (by decide) (by decide : ∀ w : Fin 5, (spec0 w).arr.view.ref ≠ main_arg1)),
    (h.1 c).2 main_arg2 (Pipeline.mem_restRefs_of main_arg2 (by decide) (by decide : ∀ w : Fin 5, (spec0 w).arr.view.ref ≠ main_arg2)),
    RDat.FramePost.arr_in h.1 c (1 : Fin 5) rfl,
    RDat.FramePost.arr_in h.1 c (3 : Fin 5) rfl⟩

theorem frame (h : NamesOk m) :
    θ_run (defs (F := F)) (onTc (τ := τ) (main (F := F))) ⟨m, fun _ => 0, g⟩ (fun r => (∀ c : Dev nD, Kept m r c) ∧ r.2.sem = fun _ => 0) :=
  (θ_run _ _ _).mono (fun r hR => ⟨kept m (ranged m h) r hR, hR.2⟩) (ran m g (ranged m h))

end Cert.MoeIdeal.Gen

end
-- ==== Proof.Experts.Value.lean ====
/- The expert call's output, element by element. -/
module

public import proofs.«01_k».proof.Proof.Experts.Spec
public import proofs.«01_k».proof.Proof.Experts.Kept
public import proofs.«01_k».proof.Proof.Ffn.Body
public import Idealize.ShloMosaic.Lib.Pipeline.ValueKit

@[expose] public section

set_option maxRecDepth 16384

noncomputable section

namespace Experts

open Idealize.ShloMosaic Idealize.ShloMosaic.TcCoe Idealize.SL.Sem Cert.MoeIdeal Cert.MoeIdeal.Gen Proofs.Experts
open Ffn (unit colG colU band mm_at)
open Idealize.ShloMosaic.Pipeline (RDat Dat)

/-! ## The body's product, at an element -/

theorem drop_at {n k : ℕ} {φ : FTy} (x : FVec Ideal ⟨3, ![1, n, k]⟩ φ) (h) (r : Fin n) (c : Fin k) :
    shapeCast (⟨2, ![n, k]⟩ : Shape) x h (ix2 r c) = x (ix3 (0 : Fin 1) r c) := by
  refine shapeCast_apply _ _ _ _ ?_
  rw [Shape.rowMajor_val_three, Shape.rowMajor_val_two]
  show (0 * n + r.val) * k + c.val = r.val * k + c.val
  rw [Nat.zero_mul, Nat.zero_add]

theorem pay2_at (x : Vec Ideal Chunk .bf16) (wg wu : Vec Ideal Wide .bf16) (d : Vec Ideal Tall .bf16) (p : Fin 256) (l : Fin 1024) :
    k0_pay2 x wg wu d (ix2 p l)
      = ∑ j : Fin 512, unit (fun k => x (ix2 p k)) (fun k => wg (ix3 (0 : Fin 1) k j)) (fun k => wu (ix3 (0 : Fin 1) k j)) * d (ix3 (0 : Fin 1) j l) := by
  unfold k0_pay2
  refine (mm_at (M := 256) (K := 512) (N := 1024) (φ₁ := .bf16) (φ₂ := .bf16) _ _ p l).trans ?_
  refine Finset.sum_congr rfl fun j _ => congrArg₂ (· * ·) ?_ (drop_at (n := 512) (k := 1024) (φ := .bf16) d _ j l)
  have e1 := (mm_at (M := 256) (K := 1024) (N := 512) (φ₁ := .bf16) (φ₂ := .bf16) x (shapeCast S1024x512 wg shapeCasts_S1x1024x512_S1024x512) p j).trans
    (Finset.sum_congr rfl fun k _ => congrArg (x (ix2 p k) * ·) (drop_at (n := 1024) (k := 512) (φ := .bf16) wg _ k j))
  have e2 := (mm_at (M := 256) (K := 1024) (N := 512) (φ₁ := .bf16) (φ₂ := .bf16) x (shapeCast S1024x512 wu shapeCasts_S1x1024x512_S1024x512) p j).trans
    (Finset.sum_congr rfl fun k _ => congrArg (x (ix2 p k) * ·) (drop_at (n := 1024) (k := 512) (φ := .bf16) wu _ k j))
  unfold unit
  rw [← e1, ← e2]
  rfl

theorem pay3_at (x : Vec Ideal Chunk .bf16) (wg wu : Vec Ideal Wide .bf16) (d : Vec Ideal Tall .bf16) (p : Fin 256) (l : Fin 1024) :
    k0_pay3 x wg wu d (ix2 p l) = k0_pay2 x wg wu d (ix2 p l) := by
  unfold k0_pay3
  exact shapeCast_apply _ _ _ (ix2 p l) rfl
theorem pay4_at (x : Vec Ideal Chunk .bf16) (wg wu : Vec Ideal Wide .bf16) (d : Vec Ideal Tall .bf16) (v : Vec Ideal Chunk .f32) (p : Fin 256) (l : Fin 1024) :
    k0_pay4 x wg wu d v (ix2 p l) = v (ix2 p l) + k0_pay2 x wg wu d (ix2 p l) := by
  unfold k0_pay4
  exact (shapeCast_apply _ _ _ (ix2 p l) rfl).trans rfl
theorem pay5_at (p : Fin 256) (l : Fin 1024) : (k0_pay5 (F := Ideal)) (ix2 p l) = 0 := Ideal.ofBits_zero_f32

theorem live_word (j : Fin 4) (v : BitVec 32) : liveAt (mark j) v = 1#1 ↔ (mark j).slt v = true := by
  unfold liveAt
  by_cases h : (mark j).slt v = true
  · rw [show Scalar.cmpi .sgt v (mark j) = 1#1 from by simp [Scalar.cmpi, IntOp.cmpi, h]]
    exact ⟨fun _ => h, fun _ => rfl⟩
  · rw [show Scalar.cmpi .sgt v (mark j) = 0#1 from by simp [Scalar.cmpi, IntOp.cmpi, h]]
    exact ⟨fun h' => absurd h' (by decide), fun h' => absurd h' h⟩

/-- A block with a live chunk has rows. -/
theorem some_rows (j : Fin 4) (v : BitVec 32) (h : (mark j).slt v = true) : (0#32).slt v = true := by
  rw [BitVec.slt_iff_toInt_lt] at h ⊢
  have e : ∀ j : Fin 4, (0#32).toInt ≤ (mark j).toInt := by decide
  have := e j
  omega

/-! ## The blocks -/

variable (m : (ℓ : Loc nD τ sig) → Buf (Elt Ideal) ℓ) (c : Dev nD)

/-- The arguments in the memory. -/
def inp : Inp where
  x := fun r k => (m ((c : Thread nD τ).loc main_arg0) : FVec Ideal S40960x1024 .bf16) (ix2 r k)
  e := fun b => (m ((c : Thread nD τ).loc main_arg1) : IVec S40 32) (at40 b)
  n := fun b => (m ((c : Thread nD τ).loc main_arg2) : IVec S40 32) (at40 b)
  w := fun q k j => (m ((c : Thread nD τ).loc main_arg3) : FVec Ideal S8x1024x7168 .bf16) (ix3 q k j)
  d := fun q j l => (m ((c : Thread nD τ).loc main_arg4) : FVec Ideal S8x3584x1024 .bf16) (ix3 q j l)

theorem lt_pts (t : Fin grid0.N) : t.val < 280 := lt_of_lt_of_eq t.isLt N_0

/-- Row `r` of the point's block of rows, the point's band of hidden units, and row `p` of chunk `j`. -/
def rowOf (t : Fin grid0.N) (r : Fin 1024) : Fin 40960 := ⟨1024 * (t.val / 7) + r.val, by have := lt_pts t; have := r.isLt; omega⟩
def bandOf (t : Fin grid0.N) : Fin 7 := ⟨t.val % 7, Nat.mod_lt _ (by norm_num)⟩
def inChunk (j : Fin 4) (p : Fin 256) : Fin 1024 := ⟨256 * j.val + p.val, by have := j.isLt; have := p.isLt; omega⟩

theorem piece_at {e : EltTy} (j : Fin 4) (X : Vec Ideal Rows e) (p : Fin 256) (l : Fin 1024) : piece j X (ix2 p l) = X (ix2 (inChunk j p) l) := by
  refine congrArg X (funext fun a => Fin.ext ?_)
  match a with
  | ⟨0, _⟩ => show 256 * j.val + 1 * p.val = 256 * j.val + p.val; omega
  | ⟨1, _⟩ => show 0 + 1 * l.val = l.val; omega

theorem at_row (t : Fin grid0.N) : (BitVec.ofNat 32 ((grid0.coords t) 0).val).toNat = t.val / 7 := by
  have := lt_pts t
  rw [coord0, BitVec.toNat_ofNat, Nat.mod_eq_of_lt (by omega)]

section Points
variable (a : (pcfg0 (F := Ideal)).Adm)

theorem blkX_at (t : Fin grid0.N) (r k : Fin 1024) : blkX m a c t (ix2 r k) = (inp m c).x (rowOf t r) k := by
  unfold blkX iblk
  rw [View.read_apply]
  refine congrArg (m ((c : Thread nD τ).loc main_arg0) : FVec Ideal S40960x1024 .bf16) (funext fun b => Fin.ext ?_)
  match b with
  | ⟨0, _⟩ =>
    show (BitVec.ofNat 32 ((grid0.coords t) 0).val).toNat * 1024 + 1 * r.val = 1024 * (t.val / 7) + r.val
    rw [at_row]; omega
  | ⟨1, _⟩ => show 0 * 1024 + 1 * k.val = k.val; omega

variable (t : Fin grid0.N) (q : Fin 8) (hq : (names a (at40 (blockOf t))).toNat = q.val)
include hq

theorem name_q : (nameAt a.1 (grid0.coords t)).toNat = q.val := hq

variable (hl : (0#32).slt (counts a (at40 (blockOf t))) = true)
include hl

omit hq in
theorem pick_t : pickAt a.1 (grid0.coords t) = t.val % 7 := by
  unfold pickAt pick
  exact (if_pos hl).trans (coord1 t)

theorem blkG_at (k : Fin 1024) (j : Fin 512) : blkG m a c t (ix3 (0 : Fin 1) k j) = (inp m c).w q k (colG (band (bandOf t) j)) := by
  unfold blkG iblk
  rw [View.read_apply]
  refine congrArg (m ((c : Thread nD τ).loc main_arg3) : FVec Ideal S8x1024x7168 .bf16) (funext fun b => Fin.ext ?_)
  match b with
  | ⟨0, _⟩ =>
    show cc0_transform_1 k0_off1_inb numel1_S1 a.1 (grid0.coords t) (0 : Fin 3) * 1 + 1 * 0 = q.val
    rw [map1]
    show (nameAt a.1 (grid0.coords t)).toNat * 1 + 1 * 0 = q.val
    rw [name_q a t q hq]; omega
  | ⟨1, _⟩ =>
    show cc0_transform_1 k0_off1_inb numel1_S1 a.1 (grid0.coords t) (1 : Fin 3) * 1024 + 1 * k.val = k.val
    rw [map1]
    show 0 * 1024 + 1 * k.val = k.val
    omega
  | ⟨2, _⟩ =>
    show cc0_transform_1 k0_off1_inb numel1_S1 a.1 (grid0.coords t) (2 : Fin 3) * 512 + 1 * j.val = 512 * (t.val % 7) + j.val
    rw [map1]
    show pickAt a.1 (grid0.coords t) * 512 + 1 * j.val = 512 * (t.val % 7) + j.val
    rw [pick_t a t hl]; omega

theorem blkU_at (k : Fin 1024) (j : Fin 512) : blkU m a c t (ix3 (0 : Fin 1) k j) = (inp m c).w q k (colU (band (bandOf t) j)) := by
  unfold blkU iblk
  rw [View.read_apply]
  refine congrArg (m ((c : Thread nD τ).loc main_arg3) : FVec Ideal S8x1024x7168 .bf16) (funext fun b => Fin.ext ?_)
  match b with
  | ⟨0, _⟩ =>
    show cc0_transform_2 k0_off1_inb numel1_S1 a.1 (grid0.coords t) (0 : Fin 3) * 1 + 1 * 0 = q.val
    rw [map2]
    show (nameAt a.1 (grid0.coords t)).toNat * 1 + 1 * 0 = q.val
    rw [name_q a t q hq]; omega
  | ⟨1, _⟩ =>
    show cc0_transform_2 k0_off1_inb numel1_S1 a.1 (grid0.coords t) (1 : Fin 3) * 1024 + 1 * k.val = k.val
    rw [map2]
    show 0 * 1024 + 1 * k.val = k.val
    omega
  | ⟨2, _⟩ =>
    show cc0_transform_2 k0_off1_inb numel1_S1 a.1 (grid0.coords t) (2 : Fin 3) * 512 + 1 * j.val = 3584 + (512 * (t.val % 7) + j.val)
    rw [map2]
    show (7 + pickAt a.1 (grid0.coords t)) * 512 + 1 * j.val = 3584 + (512 * (t.val % 7) + j.val)
    rw [pick_t a t hl]; omega

theorem blkD_at (j : Fin 512) (l : Fin 1024) : blkD m a c t (ix3 (0 : Fin 1) j l) = (inp m c).d q (band (bandOf t) j) l := by
  unfold blkD iblk
  rw [View.read_apply]
  refine congrArg (m ((c : Thread nD τ).loc main_arg4) : FVec Ideal S8x3584x1024 .bf16) (funext fun b => Fin.ext ?_)
  match b with
  | ⟨0, _⟩ =>
    show cc0_transform_3 k0_off1_inb numel1_S1 a.1 (grid0.coords t) (0 : Fin 3) * 1 + 1 * 0 = q.val
    rw [map3]
    show (nameAt a.1 (grid0.coords t)).toNat * 1 + 1 * 0 = q.val
    rw [name_q a t q hq]; omega
  | ⟨1, _⟩ =>
    show cc0_transform_3 k0_off1_inb numel1_S1 a.1 (grid0.coords t) (1 : Fin 3) * 512 + 1 * j.val = 512 * (t.val % 7) + j.val
    rw [map3]
    show pickAt a.1 (grid0.coords t) * 512 + 1 * j.val = 512 * (t.val % 7) + j.val
    rw [pick_t a t hl]; omega
  | ⟨2, _⟩ =>
    show cc0_transform_3 k0_off1_inb numel1_S1 a.1 (grid0.coords t) (2 : Fin 3) * 1024 + 1 * l.val = l.val
    rw [map3]
    show 0 * 1024 + 1 * l.val = l.val
    omega

/-- A point's product is its band's share. -/
theorem share_at (j : Fin 4) (p : Fin 256) (l : Fin 1024) :
    k0_pay2 (piece j (blkX m a c t)) (blkG m a c t) (blkU m a c t) (blkD m a c t) (ix2 p l) = (inp m c).share q (rowOf t (inChunk j p)) l (bandOf t) := by
  refine (pay2_at _ _ _ _ p l).trans ?_
  unfold Inp.share Inp.hid
  refine Finset.sum_congr rfl fun i _ => congrArg₂ (· * ·) ?_ (blkD_at m c a t q hq hl i l)
  have e0 : (fun k => piece j (blkX m a c t) (ix2 p k)) = (inp m c).x (rowOf t (inChunk j p)) :=
    funext fun k => (piece_at j _ p k).trans (blkX_at m c a t _ k)
  have e1 : (fun k => blkG m a c t (ix3 (0 : Fin 1) k i)) = fun k => (inp m c).w q k (colG (band (bandOf t) i)) := funext fun k => blkG_at m c a t q hq hl k i
  have e2 : (fun k => blkU m a c t (ix3 (0 : Fin 1) k i)) = fun k => (inp m c).w q k (colU (band (bandOf t) i)) := funext fun k => blkU_at m c a t q hq hl k i
  rw [e0, e1, e2]

end Points

section Sums
variable (a : (pcfg0 (F := Ideal)).Adm)

/-- What a chunk's accumulator holds after a point: the shares so far. -/
theorem acc_at (j : Fin 4) (p : Fin 256) (l : Fin 1024) (q : Fin 8) : ∀ (k : ℕ) (t : Fin grid0.N), t.val % 7 = k →
    (names a (at40 (blockOf t))).toNat = q.val → (0#32).slt (counts a (at40 (blockOf t))) = true →
    accAt m a c j t.val t.isLt (ix2 p l) = (inp m c).upto q (rowOf t (inChunk j p)) l (k + 1)
  | 0, t, hk, hq, hl => by
    rw [accAt_first m a c j t hk]
    refine (pay3_at _ _ _ _ p l).trans ((share_at m c a t q hq hl j p l).trans ?_)
    have e := upto_succ (inp m c) q (rowOf t (inChunk j p)) l (bandOf t)
    rw [show (bandOf t).val = 0 from hk] at e
    rw [e, Inp.upto, zero_add]
  | k + 1, t, hk, hq, hl => by
    obtain ⟨n, hn⟩ : ∃ n, t.val = n + 1 := ⟨t.val - 1, by omega⟩
    have hn' : n < grid0.N := by have := t.isLt; omega
    have hb : blockOf t = blockOf ⟨n, hn'⟩ := Fin.ext (by rw [blockOf_val, blockOf_val]; simp only; omega)
    have hrow : rowOf t (inChunk j p) = rowOf ⟨n, hn'⟩ (inChunk j p) := Fin.ext (by
      show 1024 * (t.val / 7) + _ = 1024 * (n / 7) + _
      rw [show t.val / 7 = n / 7 by omega])
    have ih := acc_at j p l q k ⟨n, hn'⟩ (by show n % 7 = k; omega) (by rw [← hb]; exact hq) (by rw [← hb]; exact hl)
    rw [accAt_later m a c j t (by omega) n hn hn']
    refine (pay4_at _ _ _ _ _ p l).trans ?_
    have e := upto_succ (inp m c) q (rowOf t (inChunk j p)) l (bandOf t)
    rw [show (bandOf t).val = k + 1 from hk] at e
    rw [e]
    exact congrArg₂ (· + ·) (ih.trans (by rw [hrow])) (share_at m c a t q hq hl j p l)

end Sums

/-! ## The output array -/

/-- An array of 40960 rows of 1024, from its rows. -/
def table (f : Fin 40960 → Fin 1024 → EReal) : (⟨2, ![40960, 1024]⟩ : Shape).Idx → EReal := fun i => f (i 0) (i 1)

theorem table_eq {f : Fin 40960 → Fin 1024 → EReal} {y : (⟨2, ![40960, 1024]⟩ : Shape).Idx → EReal} (h : ∀ r l, y (ix2 r l) = f r l) : y = table f :=
  funext fun i => (congrArg y (ix2_eta i).symm).trans (h (i 0) (i 1))

section Final
variable (hr : Ranged m)

abbrev tb : (pcfg0 (F := Ideal)).Adm := adm m hr 0

theorem flush_at (t : Fin grid0.N) : ((cfg0 (tb m hr)).win 4).flush t = true ↔ t.val % 7 = 6 :=
  Pipeline.Window.flush_reads ((cfg0 (tb m hr)).win 4) rfl 0 (by decide : 1 < grid0.bound 0) (by decide : grid0.fixedAfter reads0_4 0 = true)
    (Pipeline.Window.sep_of_coord cc0_transform_4 0 0 (fun _ => rfl) (by decide)) (P := 7) (m := 6) (by decide : grid0.stride 0 = 7) rfl t

theorem out_at (t : Fin grid0.N) (h6 : t.val % 7 = 6) (O : Vec Ideal Rows .f32) (hO : OutOk m (tb m hr) c t O) (r l : Fin 1024) :
    O (ix2 r l) = (inp m c).res (rowOf t r) l := by
  have hrl := r.isLt
  have ht := lt_pts t
  have hrv : (rowOf t r).val = 1024 * (t.val / 7) + r.val := rfl
  obtain ⟨j, p, rfl⟩ : ∃ (j : Fin 4) (p : Fin 256), r = inChunk j p :=
    ⟨⟨r.val / 256, by omega⟩, ⟨r.val % 256, Nat.mod_lt _ (by norm_num)⟩, Fin.ext (by show r.val = 256 * (r.val / 256) + r.val % 256; omega)⟩
  have hp := p.isLt
  have hj := j.isLt
  have hv : (inChunk j p).val = 256 * j.val + p.val := rfl
  have hblk : blk (rowOf t (inChunk j p)) = blockOf t := Fin.ext (by
    rw [blockOf_val]; show (1024 * (t.val / 7) + (inChunk j p).val) / 1024 = t.val / 7; omega)
  have hfirst : first (rowOf t (inChunk j p)) = mark j := by
    unfold first mark
    rw [hrv, show 256 * ((1024 * (t.val / 7) + (inChunk j p).val) % 1024 / 256) = 256 * j.val by omega]
  have hn : (inp m c).n (blockOf t) = counts (tb m hr) (at40 (blockOf t)) := by rw [one_dev c]; rfl
  have he : (inp m c).e (blockOf t) = names (tb m hr) (at40 (blockOf t)) := by rw [one_dev c]; rfl
  rw [← piece_at j O p l]
  unfold Inp.res
  rw [hfirst, hblk, hn]
  by_cases hlive : (mark j).slt (counts (tb m hr) (at40 (blockOf t))) = true
  · rw [if_pos hlive]
    have hL : live (tb m hr) j t := by
      unfold live
      rw [countAt_eq]
      exact (live_word j _).mpr hlive
    have hown : (names (tb m hr) (at40 (blockOf t))).toNat = ((inp m c).own (rowOf t (inChunk j p))).val := by
      show _ = ((inp m c).e (blk (rowOf t (inChunk j p)))).toNat % 8
      rw [hblk, he]
      exact (Nat.mod_eq_of_lt (hr (grid0.coords t))).symm
    rw [((hO h6) j).1 hL, acc_at m c (tb m hr) j p l _ 6 t h6 hown (some_rows j _ hlive), upto_seven]
  · rw [if_neg hlive]
    have hL : ¬ live (tb m hr) j t := by
      unfold live
      rw [countAt_eq]
      exact fun h => hlive ((live_word j _).mp h)
    rw [((hO h6) j).2 hL]
    exact pay5_at p l

/-- The array index a block's place stands at. -/
theorem emb_at (t : Fin grid0.N) (r l : Fin 1024) :
    ((((cfg0 (tb m hr)).win 4).blk t).view.emb (ix2 r l) : S40960x1024.Idx) = ix2 (rowOf t r) l := by
  funext b
  refine Fin.ext ?_
  match b with
  | ⟨0, _⟩ =>
    show (BitVec.ofNat 32 ((grid0.coords t) 0).val).toNat * 1024 + 1 * r.val = 1024 * (t.val / 7) + r.val
    rw [at_row]; omega
  | ⟨1, _⟩ => show 0 * 1024 + 1 * l.val = l.val; omega

theorem emb_in (t : Fin grid0.N) (y : Rows.Idx) (i : S40960x1024.Idx) (h : ((((cfg0 (tb m hr)).win 4).blk t).view.emb y : S40960x1024.Idx) = i) :
    i ∈ (((cfg0 (tb m hr)).win 4).blk t).view.set := by
  subst h
  exact View.emb_mem_set _ _

theorem covered (i : S40960x1024.Idx) :
    ∃ t : Fin grid0.N, ((cfg0 (tb m hr)).win 4).flush t = true ∧ i ∈ (((cfg0 (tb m hr)).win 4).blk t).view.set := by
  have h0 : (i 0).val < 40960 := (i 0).isLt
  refine ⟨⟨7 * ((i 0).val / 1024) + 6, lt_of_lt_of_eq (by omega) N_0.symm⟩, (flush_at m hr _).mpr (by show (7 * ((i 0).val / 1024) + 6) % 7 = 6; omega), ?_⟩
  have e := emb_at m hr ⟨7 * ((i 0).val / 1024) + 6, lt_of_lt_of_eq (by omega) N_0.symm⟩ (⟨(i 0).val % 1024, Nat.mod_lt _ (by norm_num)⟩ : Fin 1024) (i 1 : Fin 1024)
  have e' : (ix2 (rowOf ⟨7 * ((i 0).val / 1024) + 6, lt_of_lt_of_eq (by omega) N_0.symm⟩ (⟨(i 0).val % 1024, Nat.mod_lt _ (by norm_num)⟩ : Fin 1024)) (i 1 : Fin 1024) : S40960x1024.Idx) = i := by
    refine Eq.trans ?_ (ix2_eta i)
    refine congrArg (fun z : Fin 40960 => (ix2 z (i 1 : Fin 1024) : S40960x1024.Idx)) (Fin.ext ?_)
    show 1024 * ((7 * ((i 0).val / 1024) + 6) / 7) + (i 0).val % 1024 = (i 0).val
    omega
  exact emb_in m hr _ _ i (e.trans e')

theorem final (r : PUnit × MemSt nD τ sig (Elt Ideal)) (h : Ran m hr r) :
    r.2.mem ((c.tc : Thread nD τ).loc main_v0) = table (inp m c).res := by
  obtain ⟨after, hL, hA⟩ := RDat.FramePost.exists_exact h.1 c
  refine (hA (4 : Fin 5)).trans ?_
  refine Dat.arrAt_eq_of_cover ((rdat m (adm m hr) c).withAfter after) (4 : Fin 5) (table (inp m c).res) (fun t hf => ?_) (covered m hr)
  have h6 : t.val % 7 = 6 := (flush_at m hr t).mp hf
  obtain ⟨Y, -, hY⟩ := hL (4 : Fin 5) t hf
  funext y
  have ey : (y : Rows.Idx) = ix2 (y 0 : Fin 1024) (y 1 : Fin 1024) := (ix2_eta y).symm
  have e1 := out_at m c hr t h6 (after (4 : Fin 5) t) hY (y 0 : Fin 1024) (y 1 : Fin 1024)
  rw [View.read_apply]
  refine Eq.trans (congrArg (after (4 : Fin 5) t) ey) (e1.trans ?_)
  have e2 : ((((cfg0 (tb m hr)).win 4).blk t).view.emb y : S40960x1024.Idx) = ix2 (rowOf t (y 0 : Fin 1024)) (y 1 : Fin 1024) :=
    (congrArg (fun z : Rows.Idx => ((((cfg0 (tb m hr)).win 4).blk t).view.emb z : S40960x1024.Idx)) ey).trans
      (emb_at m hr t (y 0 : Fin 1024) (y 1 : Fin 1024))
  exact (congrArg (fun z : S40960x1024.Idx => table (inp m c).res z) e2).symm

end Final

end Experts

end
-- ==== Proof.Experts.Ref.lean ====
/- The reference's result, element by element. -/
module

public import proofs.«01_k».proof.Proof.Experts.Spec
public import proofs.«01_k».proof.Proof.Gen.MoeReferenceIdeal.Run
public import Idealize.ShloMosaic.Lib.StackMember
public import Idealize.ShloMosaic.Lib.WordCmp
public import Idealize.ShloMosaic.Lib.Pipeline.Value

@[expose] public section

set_option maxRecDepth 16384

noncomputable section

namespace Experts.Ref

open Idealize.ShloMosaic Idealize.ShloMosaic.TcCoe Idealize.ShloMosaic.StableHlo Cert.MoeReferenceIdeal Cert.MoeReferenceIdeal.Gen
open Ffn (unit colG colU)

/-! ## The operations, at an element -/

theorem dot_at {M K N : ℕ} {φ₁ φ₂ : FTy} (x : FVec Ideal ⟨2, ![M, K]⟩ φ₁) (y : FVec Ideal ⟨2, ![K, N]⟩ φ₂) (r : Fin M) (c : Fin N) :
    Host.dotGeneral (DotDims.plain M K N) none x y (ix2 r c) = ∑ k, x (ix2 r k) * y (ix2 k c) := by
  rw [ix2_eq_valueIdx, StackMember.dotGeneral_plain_apply]
  simp only [← ix2_eq_valueIdx]

/-- A column copied to every lane, and a vector laid as a column. -/
theorem wide_at {α : Type} (x : S40960x1.Idx → α) (h) (r : Fin 40960) (l : Fin 1024) :
    broadcastInDim S40960x1024 ![0, 1] h x (ix2 r l) = x (ix2 r 0) := by
  refine broadcastInDim_apply _ _ _ _ _ fun a => ?_
  match a with
  | ⟨0, _⟩ => rfl
  | ⟨1, _⟩ => rfl
theorem col_at {α : Type} (x : S40960.Idx → α) (h) (r : Fin 40960) : broadcastInDim S40960x1 ![0] h x (ix2 r 0) = x (ix1 r) := by
  refine broadcastInDim_apply _ _ _ _ _ fun a => ?_
  match a with
  | ⟨0, _⟩ => rfl

/-- A row's place in its block. -/
def spot (r : Fin 40960) : Fin 1024 := ⟨r.val % 1024, Nat.mod_lt _ (by norm_num)⟩

theorem rows_at {α : Type} (x : S40x1024.Idx → α) (h) (r : Fin 40960) : shapeCast S40960 x h (ix1 r) = x (ix2 (blk r) (spot r)) := by
  refine shapeCast_apply _ _ _ _ ?_
  rw [Shape.rowMajor_val_two, Shape.rowMajor_val_one]
  show r.val / 1024 * 1024 + r.val % 1024 = r.val
  omega

/-- A table's word, repeated over its block's rows. -/
theorem table_at (x : IVec S40 32) (r : Fin 40960) :
    broadcastInDim S40960x1 ![0] bcast_S40960_S40960x1_0 (shapeCast _ (broadcastInDim S40x1024 ![0] bcast_S40_S40x1024_0 x) shapeCasts_S40x1024_S40960) (ix2 r 0)
      = x (ix1 (blk r)) := by
  refine (col_at _ _ r).trans ((rows_at _ _ r).trans ?_)
  refine broadcastInDim_apply _ _ _ _ _ fun a => ?_
  match a with
  | ⟨0, _⟩ => rfl

/-- The first row of a row's chunk. -/
theorem first_at (r : Fin 40960) :
    broadcastInDim S40960x1 ![0] bcast_S40960_S40960x1_0 (shapeCast _ (broadcastInDim S40x1024 ![0, 1] bcast_S1x1024_S40x1024_0_1 (shapeCast _ (shapeCast _
      (broadcastInDim S4x256 ![0] bcast_S4_S4x256_0 (muli (iotaInDim S4 32 0) (broadcastInDim S4 ![] bcast_S_S4 (constantI S_ 32 256#32)))) shapeCasts_S4x256_S1024)
      shapeCasts_S1024_S1x1024)) shapeCasts_S40x1024_S40960) (ix2 r 0) = first r := by
  refine (col_at _ _ r).trans ((rows_at _ _ r).trans ?_)
  have hs : r.val % 1024 < 1024 := Nat.mod_lt _ (by norm_num)
  refine (broadcastInDim_apply _ _ _ _ (ix2 (0 : Fin 1) (spot r)) fun a => ?_).trans ?_
  · match a with
    | ⟨0, _⟩ => rfl
    | ⟨1, _⟩ => rfl
  refine (shapeCast_apply _ _ _ (ix1 (spot r)) ?_).trans ?_
  · rw [Shape.rowMajor_val_two, Shape.rowMajor_val_one]
    show (spot r).val = 0 * 1024 + (spot r).val
    omega
  refine (shapeCast_apply _ _ _ (ix2 (⟨r.val % 1024 / 256, by omega⟩ : Fin 4) (⟨r.val % 1024 % 256, Nat.mod_lt _ (by norm_num)⟩ : Fin 256)) ?_).trans ?_
  · rw [Shape.rowMajor_val_two, Shape.rowMajor_val_one]
    show r.val % 1024 / 256 * 256 + r.val % 1024 % 256 = r.val % 1024
    omega
  refine (broadcastInDim_apply _ _ _ _ (ix1 (⟨r.val % 1024 / 256, by omega⟩ : Fin 4)) fun a => ?_).trans ?_
  · match a with
    | ⟨0, _⟩ => rfl
  show BitVec.ofNat 32 (r.val % 1024 / 256) * 256#32 = BitVec.ofNat 32 (256 * (r.val % 1024 / 256))
  rw [BitVec.mul_comm, show (256#32 : BitVec 32) = BitVec.ofNat 32 256 from rfl, BitVec.ofNat_mul]

/-! ## One expert -/

/-- An expert's matrix, sliced off the stack. -/
theorem pick_at {E n m : ℕ} (x : FVec Ideal ⟨3, ![E, n, m]⟩ .f32) (q : Fin E) (o : Fin 3 → ℕ) (ho : o = ![q.val, 0, 0]) (h) (h') (k : Fin n) (j : Fin m) :
    shapeCast (⟨2, ![n, m]⟩ : Shape) (extractStridedSlice (⟨3, ![1, n, m]⟩ : Shape) o x h) h' (ix2 k j) = x (ix3 q k j) := by
  subst ho
  refine (shapeCast_apply _ _ _ (ix3 (0 : Fin 1) k j) ?_).trans ?_
  · rw [Shape.rowMajor_val_three, Shape.rowMajor_val_two]
    show (0 * n + k.val) * m + j.val = k.val * m + j.val
    rw [Nat.zero_mul, Nat.zero_add]
  · refine congrArg x (funext fun a => Fin.ext ?_)
    match a with
    | ⟨0, _⟩ => rfl
    | ⟨1, _⟩ => exact Nat.zero_add _
    | ⟨2, _⟩ => exact Nat.zero_add _

theorem halfG_at (y : FVec Ideal S40960x7168 .f32) (r : Fin 40960) (j : Fin 3584) :
    extractStridedSlice S40960x3584 ![0, 0] y slices_S40960x7168_S40960x3584_0_0 (ix2 r j) = y (ix2 r (colG j)) := by
  refine congrArg y (funext fun a => Fin.ext ?_)
  match a with
  | ⟨0, _⟩ => exact Nat.zero_add _
  | ⟨1, _⟩ => exact Nat.zero_add _
theorem halfU_at (y : FVec Ideal S40960x7168 .f32) (r : Fin 40960) (j : Fin 3584) :
    extractStridedSlice S40960x3584 ![0, 3584] y slices_S40960x7168_S40960x3584_0_3584 (ix2 r j) = y (ix2 r (colU j)) := by
  refine congrArg y (funext fun a => Fin.ext ?_)
  match a with
  | ⟨0, _⟩ => exact Nat.zero_add _
  | ⟨1, _⟩ => rfl

abbrev Hid (y : FVec Ideal S40960x7168 .f32) : FVec Ideal S40960x3584 .f32 :=
  mulf (mulf (extractStridedSlice S40960x3584 ![0, 0] y slices_S40960x7168_S40960x3584_0_0)
    (Host.divf (broadcastInDim S40960x3584 ![] bcast_S_S40960x3584 (constant S_ .f32 0x3F800000#32))
      (addf (broadcastInDim S40960x3584 ![] bcast_S_S40960x3584 (constant S_ .f32 0x3F800000#32))
        (Host.exp (Host.negf (extractStridedSlice S40960x3584 ![0, 0] y slices_S40960x7168_S40960x3584_0_0))))))
    (extractStridedSlice S40960x3584 ![0, 3584] y slices_S40960x7168_S40960x3584_0_3584)

theorem hid_at (y : FVec Ideal S40960x7168 .f32) (r : Fin 40960) (j : Fin 3584) :
    Hid y (ix2 r j) = y (ix2 r (colG j)) * Ideal.logistic (y (ix2 r (colG j))) * y (ix2 r (colU j)) := by
  refine congrArg₂ (· * ·) (congrArg₂ (· * ·) (halfG_at y r j) ?_) (halfU_at y r j)
  show Ideal.div (Ideal.ofBits .f32 0x3F800000#32) (Ideal.ofBits .f32 0x3F800000#32
    + Ideal.exp (-(extractStridedSlice S40960x3584 ![0, 0] y slices_S40960x7168_S40960x3584_0_0 (ix2 r j)))) = _
  rw [halfG_at, Ideal.ofBits_one_f32]
  rfl

/-- The arrays hold the arguments. -/
structure Given (m : (ℓ : Loc nD τ sig) → Buf (Elt Ideal) ℓ) (c : Dev nD) (a : Inp) : Prop where
  x : ∀ r k, (m ((c.tc : Thread nD τ).loc main_arg0) : FVec Ideal S40960x1024 .bf16) (ix2 r k) = a.x r k
  e : ∀ b, (m ((c.tc : Thread nD τ).loc main_arg1) : IVec S40 32) (ix1 b) = a.e b
  n : ∀ b, (m ((c.tc : Thread nD τ).loc main_arg2) : IVec S40 32) (ix1 b) = a.n b
  w : ∀ q k j, (m ((c.tc : Thread nD τ).loc main_arg3) : FVec Ideal S8x1024x7168 .bf16) (ix3 q k j) = a.w q k j
  d : ∀ q j l, (m ((c.tc : Thread nD τ).loc main_arg4) : FVec Ideal S8x3584x1024 .bf16) (ix3 q j l) = a.d q j l

/-- One expert's layer applied to every row. -/
abbrev Wid (x : FVec Ideal S40960x1024 .f32) (w : FVec Ideal S8x1024x7168 .f32) (o : Fin 3 → ℕ) (h1 : S8x1024x7168.Slices o S1x1024x7168) :
    FVec Ideal S40960x7168 .f32 :=
  Host.dotGeneral (φ₁ := .f32) (φ₂ := .f32) dot_S40960x1024_S1024x7168_S40960x7168_1_0_0_1_n_n none x
      (shapeCast _ (extractStridedSlice S1x1024x7168 o w h1) shapeCasts_S1x1024x7168_S1024x7168)
abbrev One (x : FVec Ideal S40960x1024 .f32) (w : FVec Ideal S8x1024x7168 .f32) (d : FVec Ideal S8x3584x1024 .f32) (o : Fin 3 → ℕ)
    (h1 : S8x1024x7168.Slices o S1x1024x7168) (h2 : S8x3584x1024.Slices o S1x3584x1024) : FVec Ideal S40960x1024 .f32 :=
  Host.dotGeneral (φ₁ := .f32) (φ₂ := .f32) dot_S40960x3584_S3584x1024_S40960x1024_1_0_0_1_n_n none (Hid (Wid x w o h1))
    (shapeCast _ (extractStridedSlice S1x3584x1024 o d h2) shapeCasts_S1x3584x1024_S3584x1024)

/-- The layer kept where the row's expert is `v`. -/
abbrev Only (e : IVec S40960x1 32) (x : FVec Ideal S40960x1024 .f32) (w : FVec Ideal S8x1024x7168 .f32) (d : FVec Ideal S8x3584x1024 .f32) (v : BitVec 32)
    (o : Fin 3 → ℕ) (h1 : S8x1024x7168.Slices o S1x1024x7168) (h2 : S8x3584x1024.Slices o S1x3584x1024) : FVec Ideal S40960x1024 .f32 :=
  select (broadcastInDim S40960x1024 ![0, 1] bcast_S40960x1_S40960x1024_0_1 (cmpi .eq e (broadcastInDim S40960x1 ![] bcast_S_S40960x1 (constantI S_ 32 v))))
    (One x w d o h1 h2) (broadcastInDim S40960x1024 ![] bcast_S_S40960x1024 (id (constant S_ .f32 0x00000000#32)))

section
variable (m : (ℓ : Loc nD τ sig) → Buf (Elt Ideal) ℓ) (c : Dev nD)

abbrev argX : FVec Ideal S40960x1024 .f32 := Value.res_main_v0 (launchContents m c)
abbrev argW : FVec Ideal S8x1024x7168 .f32 := Value.res_main_v1 (launchContents m c)
abbrev argD : FVec Ideal S8x3584x1024 .f32 := Value.res_main_v2 (launchContents m c)
abbrev argE : IVec S40960x1 32 := Value.res_main_v5 (launchContents m c)

variable {m c} {a : Inp} (hm : Given m c a)
include hm

theorem one_at (q : Fin 8) (o : Fin 3 → ℕ) (ho : o = ![q.val, 0, 0]) (h1) (h2) (r : Fin 40960) (l : Fin 1024) :
    One (argX m c) (argW m c) (argD m c) o h1 h2 (ix2 r l) = a.ffn q r l := by
  refine (dot_at (M := 40960) (K := 3584) (N := 1024) (φ₁ := .f32) (φ₂ := .f32) _ _ r l).trans ?_
  have e : ∀ j, Wid (argX m c) (argW m c) o h1 (ix2 r j) = ∑ k, a.x r k * a.w q k j := fun j => by
    refine (dot_at (M := 40960) (K := 1024) (N := 7168) (φ₁ := .f32) (φ₂ := .f32) _ _ r j).trans ?_
    exact Finset.sum_congr rfl fun k _ => congrArg₂ (· * ·) (hm.x r k) ((pick_at (E := 8) _ q o ho h1 _ k j).trans (hm.w q k j))
  refine Finset.sum_congr rfl fun j _ => congrArg₂ (· * ·) ((hid_at _ r j).trans ?_) ((pick_at (E := 8) _ q o ho h2 _ j l).trans (hm.d q j l))
  rw [e, e]
  rfl

theorem only_at (q : Fin 8) (o : Fin 3 → ℕ) (ho : o = ![q.val, 0, 0]) (v : BitVec 32) (h1) (h2) (r : Fin 40960) (l : Fin 1024) :
    Only (argE m c) (argX m c) (argW m c) (argD m c) v o h1 h2 (ix2 r l) = if a.e (blk r) = v then a.ffn q r l else 0 := by
  have hc : broadcastInDim S40960x1024 ![0, 1] bcast_S40960x1_S40960x1024_0_1 (cmpi .eq (argE m c)
      (broadcastInDim S40960x1 ![] bcast_S_S40960x1 (constantI S_ 32 v))) (ix2 r l) = BitVec.ofBool (decide (a.e (blk r) = v)) := by
    refine (wide_at _ _ r l).trans ?_
    refine (WordCmp.cmpi_eq_eq _ _).trans ?_
    refine congrArg (fun z => BitVec.ofBool (decide (z = v))) ?_
    exact (table_at _ r).trans (hm.e _)
  have hs : Only (argE m c) (argX m c) (argW m c) (argD m c) v o h1 h2 (ix2 r l)
      = if BitVec.ofBool (decide (a.e (blk r) = v)) = 1#1 then a.ffn q r l else (0 : EReal) := by
    rw [← hc, ← one_at hm q o ho h1 h2, ← Ideal.ofBits_zero_f32]
    rfl
  rw [hs]
  by_cases h : a.e (blk r) = v <;> simp [h]

end

/-- Of eight terms, each kept where the word is its own number, the named one is left. -/
theorem eight (v : BitVec 32) (f : Fin 8 → EReal) (h : v.toNat < 8) :
    ((((((((0 + (if v = 0#32 then f 0 else 0)) + (if v = 1#32 then f 1 else 0)) + (if v = 2#32 then f 2 else 0)) + (if v = 3#32 then f 3 else 0))
      + (if v = 4#32 then f 4 else 0)) + (if v = 5#32 then f 5 else 0)) + (if v = 6#32 then f 6 else 0)) + (if v = 7#32 then f 7 else 0))
      = f ⟨v.toNat % 8, Nat.mod_lt _ (by norm_num)⟩ := by
  obtain ⟨q, rfl⟩ : ∃ q : Fin 8, v = BitVec.ofNat 32 q.val :=
    ⟨⟨v.toNat, h⟩, by simp⟩
  fin_cases q <;> simp <;> rfl

section
variable (m : (ℓ : Loc nD τ sig) → Buf (Elt Ideal) ℓ) (c : Dev nD)

/-- The eight experts' terms, summed. -/
abbrev Sum8 : FVec Ideal S40960x1024 .f32 :=
  addf (addf (addf (addf (addf (addf (addf (addf (broadcastInDim S40960x1024 ![] bcast_S_S40960x1024 (constant S_ .f32 0x00000000#32))
    (Only (argE m c) (argX m c) (argW m c) (argD m c) 0#32 ![0, 0, 0] slices_S8x1024x7168_S1x1024x7168_0_0_0 slices_S8x3584x1024_S1x3584x1024_0_0_0))
    (Only (argE m c) (argX m c) (argW m c) (argD m c) 1#32 ![1, 0, 0] slices_S8x1024x7168_S1x1024x7168_1_0_0 slices_S8x3584x1024_S1x3584x1024_1_0_0))
    (Only (argE m c) (argX m c) (argW m c) (argD m c) 2#32 ![2, 0, 0] slices_S8x1024x7168_S1x1024x7168_2_0_0 slices_S8x3584x1024_S1x3584x1024_2_0_0))
    (Only (argE m c) (argX m c) (argW m c) (argD m c) 3#32 ![3, 0, 0] slices_S8x1024x7168_S1x1024x7168_3_0_0 slices_S8x3584x1024_S1x3584x1024_3_0_0))
    (Only (argE m c) (argX m c) (argW m c) (argD m c) 4#32 ![4, 0, 0] slices_S8x1024x7168_S1x1024x7168_4_0_0 slices_S8x3584x1024_S1x3584x1024_4_0_0))
    (Only (argE m c) (argX m c) (argW m c) (argD m c) 5#32 ![5, 0, 0] slices_S8x1024x7168_S1x1024x7168_5_0_0 slices_S8x3584x1024_S1x3584x1024_5_0_0))
    (Only (argE m c) (argX m c) (argW m c) (argD m c) 6#32 ![6, 0, 0] slices_S8x1024x7168_S1x1024x7168_6_0_0 slices_S8x3584x1024_S1x3584x1024_6_0_0))
    (Only (argE m c) (argX m c) (argW m c) (argD m c) 7#32 ![7, 0, 0] slices_S8x1024x7168_S1x1024x7168_7_0_0 slices_S8x3584x1024_S1x3584x1024_7_0_0)

/-- The block's count repeated over its rows, and the first row of each row's chunk. -/
abbrev Cnt : IVec S40960x1 32 :=
  broadcastInDim S40960x1 ![0] bcast_S40960_S40960x1_0 (shapeCast _ (broadcastInDim S40x1024 ![0] bcast_S40_S40x1024_0
    ((launchContents m c) (Proc.devRef .tc main_arg2))) shapeCasts_S40x1024_S40960)
abbrev Fst : IVec S40960x1 32 :=
  broadcastInDim S40960x1 ![0] bcast_S40960_S40960x1_0 (shapeCast _ (broadcastInDim S40x1024 ![0, 1] bcast_S1x1024_S40x1024_0_1 (shapeCast _ (shapeCast _
      (broadcastInDim S4x256 ![0] bcast_S4_S4x256_0 (muli (iotaInDim S4 32 0) (broadcastInDim S4 ![] bcast_S_S4 (constantI S_ 32 256#32)))) shapeCasts_S4x256_S1024)
      shapeCasts_S1024_S1x1024)) shapeCasts_S40x1024_S40960)

/-- The result the reference's run names. -/
abbrev Out : FVec Ideal S40960x1024 .f32 :=
  select (broadcastInDim S40960x1024 ![0, 1] bcast_S40960x1_S40960x1024_0_1 (cmpi .sgt (Cnt m c) Fst)) (Sum8 m c)
    (broadcastInDim S40960x1024 ![] bcast_S_S40960x1024 (id (constant S_ .f32 0x00000000#32)))

variable {m c} {a : Inp} (hm : Given m c a)
include hm

theorem sum_at (h : ∀ b, (a.e b).toNat < 8) (r : Fin 40960) (l : Fin 1024) : Sum8 m c (ix2 r l) = a.ffn (a.own r) r l := by
  refine Eq.trans ?_ (eight (a.e (blk r)) (fun q => a.ffn q r l) (h _))
  refine congrArg₂ (· + ·) (congrArg₂ (· + ·) (congrArg₂ (· + ·) (congrArg₂ (· + ·) (congrArg₂ (· + ·) (congrArg₂ (· + ·) (congrArg₂ (· + ·)
    (congrArg₂ (· + ·) Ideal.ofBits_zero_f32 ?_) ?_) ?_) ?_) ?_) ?_) ?_) ?_
  · exact only_at hm 0 _ rfl _ _ _ r l
  · exact only_at hm 1 _ rfl _ _ _ r l
  · exact only_at hm 2 _ rfl _ _ _ r l
  · exact only_at hm 3 _ rfl _ _ _ r l
  · exact only_at hm 4 _ rfl _ _ _ r l
  · exact only_at hm 5 _ rfl _ _ _ r l
  · exact only_at hm 6 _ rfl _ _ _ r l
  · exact only_at hm 7 _ rfl _ _ _ r l

theorem res_at (h : ∀ b, (a.e b).toNat < 8) (r : Fin 40960) (l : Fin 1024) : Out m c (ix2 r l) = a.res r l := by
  have hc : broadcastInDim S40960x1024 ![0, 1] bcast_S40960x1_S40960x1024_0_1 (cmpi .sgt (Cnt m c) Fst) (ix2 r l)
      = BitVec.ofBool ((first r).slt (a.n (blk r))) := by
    refine (wide_at _ _ r l).trans ?_
    exact congrArg₂ (fun u v : BitVec 32 => BitVec.ofBool (v.slt u)) ((table_at _ r).trans (hm.n _)) (first_at r)
  have hs : Out m c (ix2 r l) = if BitVec.ofBool ((first r).slt (a.n (blk r))) = 1#1 then a.ffn (a.own r) r l else (0 : EReal) := by
    rw [← hc, ← sum_at hm h, ← Ideal.ofBits_zero_f32]
    rfl
  rw [hs]
  unfold Inp.res
  cases (first r).slt (a.n (blk r)) <;> simp

end

end Experts.Ref

end
-- ==== Proof.Experts.Claims.lean ====
/- The expert call's claims: the frames and the value claim. -/
module

public import proofs.«01_k».proof.Defs
public import proofs.«01_k».proof.Proof.Experts.Named
public import proofs.«01_k».proof.Proof.Experts.Value
public import proofs.«01_k».proof.Proof.Experts.Ref
public import proofs.«01_k».proof.Proof.Gen.Moe
public import Idealize.ShloMosaic.Lib.Quiescent

@[expose] public section

noncomputable section

namespace Experts

open Idealize.ShloMosaic Idealize.SL.Sem

theorem names_ideal (m : (ℓ : Loc Cert.MoeIdeal.nD Cert.MoeIdeal.τ Cert.MoeIdeal.sig) → Buf (Elt Ideal) ℓ) (h : Cert.Pre_MoeIdeal m) :
    Cert.MoeIdeal.Gen.NamesOk m := fun c b => Proofs.Experts.named_range _ _ _ _ _ (h c) b

theorem ideal_frame : Cert.quiescent_MoeIdeal := fun m g h => Cert.MoeIdeal.Gen.frame m g (names_ideal m h)

theorem ref_frame : Cert.quiescent_MoeReferenceIdeal :=
  fun m ρ _ => (θ_run _ _ _).mono (fun r h => ⟨fun c => (h c).2, sem_eq_zero_of_no_sems (by decide) _⟩)
    (Cert.MoeReferenceIdeal.Value.run m ρ)

theorem value : Cert.algebraic_MoeIdeal_MoeReferenceIdeal := by
  intro m g m' g' hp he
  have hn := names_ideal m hp
  have hr := Cert.MoeIdeal.Gen.ranged m hn
  have hg : ∀ c, Ref.Given m' c (inp m c) := fun c => by
    obtain ⟨e0, e1, e2, e3, e4⟩ := he c
    refine ⟨fun r k => congrFun e0 _, fun b => (congrFun e1 _).trans ?_, fun b => (congrFun e2 _).trans ?_, fun q k j => congrFun e3 _, fun q j l => congrFun e4 _⟩
    · exact congrArg (m ((c.tc : Thread Cert.MoeIdeal.nD Cert.MoeIdeal.τ).loc Cert.MoeIdeal.main_arg1) : IVec Cert.MoeIdeal.S40 32)
        (funext fun a => match a with | 0 => rfl)
    · exact congrArg (m ((c.tc : Thread Cert.MoeIdeal.nD Cert.MoeIdeal.τ).loc Cert.MoeIdeal.main_arg2) : IVec Cert.MoeIdeal.S40 32)
        (funext fun a => match a with | 0 => rfl)
  exact ⟨fun c => table (inp m c).res,
    (θ_run _ _ _).mono (fun r h c => ⟨final m c hr r h, Cert.MoeIdeal.Gen.kept m hr r h c⟩) (Cert.MoeIdeal.Gen.ran m g hr),
    (θ_run _ _ _).mono (fun r h c => ⟨(h c).1.trans (table_eq (y := Ref.Out m' c) (Ref.res_at (hg c) fun b => hn c _)), (h c).2⟩)
      (Cert.MoeReferenceIdeal.Value.run m' g')⟩

end Experts

end
-- ==== Proof.Experts.Twin.lean ====
/- The frame of the call as it is run, from the same proof. -/
module

public import proofs.«01_k».proof.Defs
public import proofs.«01_k».proof.Proof.Experts.Named
public import proofs.«01_k».proof.Proof.Experts.Kept
public import proofs.«01_k».proof.Proof.Gen.Moe

@[expose] public section

noncomputable section

namespace Experts

open Idealize.ShloMosaic Idealize.SL.Sem

/-- The two body tables are one. -/
theorem same_table : (Cert.Moe.defs₀ (F := Bits)) = Cert.MoeIdeal.defs₀ (F := Bits) := by
  unfold Cert.Moe.defs₀ Cert.MoeIdeal.defs₀
  refine congrArg Defs.onTc (funext fun l => funext fun x => ?_)
  match l, x with
  | ⟨0, _⟩, (t, s) => rfl
  | ⟨_ + 1, h⟩, _ => exact absurd h (Nat.not_lt.2 (Nat.le_add_left _ _))

theorem same_defs : (Cert.Moe.defs (F := Bits)) = Cert.MoeIdeal.defs (F := Bits) := by
  unfold Cert.Moe.defs Cert.MoeIdeal.defs
  exact congrArg (Pipeline.defs (Cert.MoeIdeal.pcfgs (F := Bits))) same_table

theorem same_main : (Cert.Moe.main (F := Bits)) = Cert.MoeIdeal.main (F := Bits) := rfl

theorem frame : Cert.quiescent_Moe := fun m g h => by
  have hf := Cert.MoeIdeal.Gen.frame (F := Bits) m g (fun c b => Proofs.Experts.named_range _ _ _ _ _ (h c) b)
  rw [← same_defs, ← same_main] at hf
  exact hf

end Experts

end
-- ==== Proof.Tail.Ops.lean ====
/- The operations of the short-convolution call and of the combining call, element by element: those of the kernels'
   bodies on a tile of rows, and those of the references on whole arrays of 8 by 2048 rows. -/
module

public import proofs.«01_k».proof.Proof.Ffn.Body
public import Idealize.ShloMosaic.Lib.StackMember
public import Idealize.ShloMosaic.Lib.KernelVsHost
public import Idealize.ShloMosaic.Lib.Pipeline.Value

@[expose] public section

set_option maxRecDepth 16384

noncomputable section

namespace Tail

open Idealize.ShloMosaic Idealize.ShloMosaic.TcCoe Ffn
open Idealize.ShloMosaic.ValueIdx (contrEquiv1 contrEquiv1_symm_val)

/-! ## The bodies' operations -/

/-- A leading unit axis dropped, or added. -/
theorem drop_at {n m : ℕ} {α : Type} (x : (⟨3, ![1, n, m]⟩ : Shape).Idx → α) (h) (r : Fin n) (l : Fin m) :
    shapeCast (⟨2, ![n, m]⟩ : Shape) x h (ix2 r l) = x (ix3 0 r l) := by
  refine shapeCast_apply _ _ _ _ ?_
  rw [Shape.rowMajor_val_three, Shape.rowMajor_val_two]
  show (0 * n + r.val) * m + l.val = r.val * m + l.val
  rw [Nat.zero_mul, Nat.zero_add]
theorem lift_at {n m : ℕ} {α : Type} (x : (⟨2, ![n, m]⟩ : Shape).Idx → α) (h) (r : Fin n) (l : Fin m) :
    shapeCast (⟨3, ![1, n, m]⟩ : Shape) x h (ix3 0 r l) = x (ix2 r l) := by
  refine shapeCast_apply _ _ _ _ ?_
  rw [Shape.rowMajor_val_three, Shape.rowMajor_val_two]
  show r.val * m + l.val = (0 * n + r.val) * m + l.val
  rw [Nat.zero_mul, Nat.zero_add]

/-- The reciprocal root mean square of every row of a tile, as a column. -/
theorem inv_at {n : ℕ} (y : FVec Ideal ⟨2, ![n, 1024]⟩ .f32) (h : Shape.Reduces ⟨2, ![n, 1024]⟩ [1] ⟨1, ![n]⟩) (h') (hφ) (hacc) (r : Fin n) :
    rsqrt (addf (divf (shapeCast (⟨2, ![n, 1]⟩ : Shape) (multiReduction (F := Ideal) (φ := .f32) .add [1] ⟨1, ![n]⟩ (mulf y y) 0x00000000#32 h hφ hacc) h')
      (broadcast (⟨2, ![n, 1]⟩ : Shape) (Scalar.ofBits .f32 0x44800000#32))) (broadcast (⟨2, ![n, 1]⟩ : Shape) (Scalar.ofBits .f32 0x358637BD#32))) (ix2 r 0)
      = inv fun k => y (ix2 r k) := by
  refine congrArg (fun z => Ideal.rsqrt (Ideal.div z len + eps)) ?_
  exact (toCol_at _ _ r).trans (rowSum_at _ _ _ _ _ r)

/-! ## The references' operations -/

/-- An array over the 8 by 2048 rows. -/
abbrev A3 (m : ℕ) : Shape := ⟨3, ![8, 2048, m]⟩

theorem cols_at {m : ℕ} (x : FVec Ideal (A3 1) .f32) (h) (b : Fin 8) (t : Fin 2048) (l : Fin m) :
    broadcastInDim (A3 m) ![0, 1, 2] h x (ix3 b t l) = x (ix3 b t 0) := by
  refine broadcastInDim_apply _ _ _ _ _ fun a => ?_
  match a with
  | ⟨0, _⟩ => rfl
  | ⟨1, _⟩ => rfl
  | ⟨2, _⟩ => rfl
theorem toCols_at (x : FVec Ideal ⟨2, ![8, 2048]⟩ .f32) (h) (b : Fin 8) (t : Fin 2048) :
    broadcastInDim (A3 1) ![0, 1] h x (ix3 b t 0) = x (ix2 b t) := by
  refine broadcastInDim_apply _ _ _ _ _ fun a => ?_
  match a with
  | ⟨0, _⟩ => rfl
  | ⟨1, _⟩ => rfl
theorem rows_at (x : FVec Ideal ⟨2, ![1, 1024]⟩ .f32) (h) (h') (b : Fin 8) (t : Fin 2048) (l : Fin 1024) :
    broadcastInDim (A3 1024) ![0, 1, 2] h (broadcastInDim (⟨3, ![1, 1, 1024]⟩ : Shape) ![1, 2] h' x) (ix3 b t l) = x (ix2 0 l) := by
  refine (broadcastInDim_apply _ _ _ _ (ix3 (0 : Fin 1) (0 : Fin 1) l) fun a => ?_).trans (broadcastInDim_apply _ _ _ _ _ fun a => ?_)
  · match a with
    | ⟨0, _⟩ => rfl
    | ⟨1, _⟩ => rfl
    | ⟨2, _⟩ => rfl
  · match a with
    | ⟨0, _⟩ => rfl
    | ⟨1, _⟩ => rfl

/-- A modulation part, copied to the rows of its batch. -/
theorem mod_at (x : FVec Ideal ⟨3, ![8, 1, 6144]⟩ .f32) (q : Fin 6) (o : Fin 3 → ℕ) (ho : o = ![0, 0, 1024 * q.val]) (h) (h')
    (b : Fin 8) (t : Fin 2048) (l : Fin 1024) :
    broadcastInDim (A3 1024) ![0, 1, 2] h (extractStridedSlice (⟨3, ![8, 1, 1024]⟩ : Shape) o x h') (ix3 b t l) = x (ix3 b 0 (part q l)) := by
  subst ho
  refine (broadcastInDim_apply _ _ _ _ (ix3 b (0 : Fin 1) l) fun a => ?_).trans ?_
  · match a with
    | ⟨0, _⟩ => rfl
    | ⟨1, _⟩ => rfl
    | ⟨2, _⟩ => rfl
  · refine congrArg x (funext fun a => Fin.ext ?_)
    match a with
    | ⟨0, _⟩ => exact Nat.zero_add _
    | ⟨1, _⟩ => rfl
    | ⟨2, _⟩ => rfl

theorem sums_at (x : FVec Ideal (A3 1024) .f32) (h : (A3 1024).ReducesTo [2] ⟨2, ![8, 2048]⟩) (hu) (b : Fin 8) (t : Fin 2048) :
    Host.reduceAdd x (constant (⟨0, ![]⟩ : Shape) .f32 0x00000000#32) h hu (ix2 b t) = ∑ k : Fin 1024, x (ix3 b t k) := by
  rw [Host.reduceAdd_apply, Ideal.hostReduceAdd_def]
  refine (Ideal.hostReduceAdd_r3_a2 _ _ _ _).trans ?_
  refine (congrArg (· + _) Ideal.ofBits_zero_f32).trans ((zero_add _).trans ?_)
  rfl

theorem invs_at (y : FVec Ideal (A3 1024) .f32) (h : (A3 1024).ReducesTo [2] ⟨2, ![8, 2048]⟩) (hu) (h1) (h2) (h3) (b : Fin 8) (t : Fin 2048) :
    Host.rsqrt (addf (Host.divf (broadcastInDim (A3 1) ![0, 1] h1 (Host.reduceAdd (mulf y y) (constant (⟨0, ![]⟩ : Shape) .f32 0x00000000#32) h hu))
      (broadcastInDim (A3 1) ![] h2 (constant (⟨0, ![]⟩ : Shape) .f32 0x44800000#32))) (broadcastInDim (A3 1) ![] h3 (constant (⟨0, ![]⟩ : Shape) .f32 0x358637BD#32))) (ix3 b t 0)
      = inv fun k => y (ix3 b t k) := by
  refine congrArg (fun z => Ideal.rsqrt (Ideal.div z len + eps)) ?_
  exact (toCols_at _ _ b t).trans (sums_at _ _ _ b t)

/-- The product of every row with a matrix. -/
theorem dots_at {K N : ℕ} {φ₁ φ₂ : FTy} (w : DotDims.WF (A3 K) ⟨2, ![K, N]⟩ (A3 N) [2] [0] [0, 1] [1] [] []) (prec : Option ContractPrecision)
    (x : FVec Ideal (A3 K) φ₁) (y : FVec Ideal ⟨2, ![K, N]⟩ φ₂) (b : Fin 8) (t : Fin 2048) (l : Fin N) :
    Host.dotGeneral (⟨[2], [0], [0, 1], [1], [], [], w⟩ : DotDims _ _ _) prec x y (ix3 b t l) = ∑ k : Fin K, x (ix3 b t k) * y (ix2 k l) := by
  show FloatOps.dotGeneral _ prec _ x y (ix3 b t l) = _
  rw [Ideal.dotGeneral_apply, ← Equiv.sum_comp (contrEquiv1 (⟨[2], [0], [0, 1], [1], [], [], w⟩ : DotDims _ _ _) K rfl rfl).symm]
  refine Finset.sum_congr rfl fun k _ => ?_
  have c3 := contrEquiv1_symm_val (⟨[2], [0], [0, 1], [1], [], [], w⟩ : DotDims (A3 K) ⟨2, ![K, N]⟩ (A3 N)) K rfl rfl k
  have l3 : (⟨[2], [0], [0, 1], [1], [], [], w⟩ : DotDims (A3 K) ⟨2, ![K, N]⟩ (A3 N)).lhsIdx (ix3 b t l) ((contrEquiv1 _ K rfl rfl).symm k) = ix3 b t k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims (A3 K) ⟨2, ![K, N]⟩ (A3 N)).rhsIdx (ix3 b t l) ((contrEquiv1 _ K rfl rfl).symm k) = ix2 k l := by
    funext ax; apply Fin.ext
    match ax with
    | ⟨0, _⟩ => simp [DotDims.rhsIdx]; exact c3
    | ⟨1, _⟩ => simp [DotDims.rhsIdx]; rfl
  rw [l3, r3]

/-- An array over the rows, from its entries. -/
def table {m : ℕ} (f : Fin 8 → Fin 2048 → Fin m → EReal) : (A3 m).Idx → EReal := fun i => f (i 0) (i 1) (i 2)

theorem table_eq {m : ℕ} {f : Fin 8 → Fin 2048 → Fin m → EReal} {y : (A3 m).Idx → EReal} (h : ∀ b t l, y (ix3 b t l) = f b t l) : y = table f :=
  funext fun i => (congrArg y (ix3_eta i).symm).trans (h (i 0) (i 1) (i 2))

end Tail
-- ==== Proof.Combine.Kernel.lean ====
/- The combining call over the extended reals, what the kernel's body computes from its blocks, and the result array. -/
module

public import proofs.«01_k».proof.Proof.Tail.Ops
public import proofs.«01_k».proof.Proof.Gen.CombineIdeal.Value
public import Idealize.ShloMosaic.Lib.Pipeline.Value
public import Idealize.ShloMosaic.Lib.Pipeline.ValueKit

@[expose] public section

set_option maxRecDepth 16384

noncomputable section

namespace Combine

open Idealize.ShloMosaic Idealize.ShloMosaic.TcCoe Idealize.SL.Sem Cert.CombineIdeal Cert.CombineIdeal.Gen

/-- The call's arguments: each token's two expert outputs, the gates, the rows added to, the modulation, the weights. -/
structure Inp where
  y0 : Fin 8 → Fin 2048 → Fin 1024 → EReal
  y1 : Fin 8 → Fin 2048 → Fin 1024 → EReal
  gt : Fin 8 → Fin 2048 → Fin 128 → EReal
  x : Fin 8 → Fin 2048 → Fin 1024 → EReal
  md : Fin 8 → Fin 6144 → EReal
  g : Fin 1024 → EReal

/-- The gated sum of two rows. -/
def both (y0 y1 : Fin 1024 → EReal) (gt : Fin 128 → EReal) (l : Fin 1024) : EReal := y0 l * gt 0 + y1 l * gt 1

/-- The result. -/
def Inp.res (a : Inp) (b : Fin 8) (t : Fin 2048) : Fin 1024 → EReal :=
  Ffn.mix (a.x b t) (fun l => a.md b (Ffn.part 5 l)) (both (a.y0 b t) (a.y1 b t) (a.gt b t)) a.g

/-! ## The body -/

theorem gate_at (v : Vec Ideal S1x256x128 .f32) (q : Fin 128) (o : Fin 2 → ℕ) (ho : o = ![0, q.val]) (h) (h') (h'') (r : Fin 256) (l : Fin 1024) :
    broadcastTo S256x1024 (extractStridedSlice S256x1 o (shapeCast S256x128 v h) h') h'' (ix2 r l) = v (ix3 0 r q) := by
  subst ho
  refine (Ffn.col_at _ _ r l).trans ?_
  refine Eq.trans ?_ (Tail.drop_at v h r q)
  refine congrArg (shapeCast S256x128 v h) (funext fun a => Fin.ext ?_)
  match a with
  | ⟨0, _⟩ => exact Nat.zero_add _
  | ⟨1, _⟩ => rfl

/-- The gated sum, as the body prints it. -/
abbrev Both (v0 : Vec Ideal S1x256x128 .f32) (v2 v7 : Vec Ideal S1x256x1024 .f32) : FVec Ideal S256x1024 .f32 :=
  addf (mulf (shapeCast S256x1024 v2 shapeCasts_S1x256x1024_S256x1024)
      (broadcastTo S256x1024 (extractStridedSlice S256x1 ![0, 0] (shapeCast S256x128 v0 shapeCasts_S1x256x128_S256x128) slices_S256x128_o0_0_S256x1) broadcasts_S256x1_S256x1024))
    (mulf (shapeCast S256x1024 v7 shapeCasts_S1x256x1024_S256x1024)
      (broadcastTo S256x1024 (extractStridedSlice S256x1 ![0, 1] (shapeCast S256x128 v0 shapeCasts_S1x256x128_S256x128) slices_S256x128_o0_1_S256x1) broadcasts_S256x1_S256x1024))

theorem both_at (v0 : Vec Ideal S1x256x128 .f32) (v2 v7 : Vec Ideal S1x256x1024 .f32) (r : Fin 256) (k : Fin 1024) :
    Both v0 v2 v7 (ix2 r k) = both (fun l => v2 (ix3 0 r l)) (fun l => v7 (ix3 0 r l)) (fun q => v0 (ix3 0 r q)) k :=
  congrArg₂ (· + ·) (congrArg₂ (· * ·) (Tail.drop_at v2 _ r k) (gate_at v0 0 _ rfl _ _ _ r k))
    (congrArg₂ (· * ·) (Tail.drop_at v7 _ r k) (gate_at v0 1 _ rfl _ _ _ r k))

theorem pay2_at (v0 : Vec Ideal S1x256x128 .f32) (v2 v7 : Vec Ideal S1x256x1024 .f32) (v13 : Vec Ideal S1x1x1024 .f32) (v15 : Vec Ideal S1x256x1024 .f32)
    (v17 : Vec Ideal S1x1024 .f32) (r : Fin 256) (l : Fin 1024) :
    k0_pay2 v0 v2 v7 v13 v15 v17 (ix2 r l)
      = Ffn.mix (fun l => v15 (ix3 0 r l)) (fun l => v13 (ix3 0 0 l))
          (both (fun l => v2 (ix3 0 r l)) (fun l => v7 (ix3 0 r l)) (fun q => v0 (ix3 0 r q))) (fun l => v17 (ix2 0 l)) l := by
  have e := both_at v0 v2 v7 r
  unfold k0_pay2 Ffn.mix Ffn.nrm
  refine congrArg₂ (· + ·) (Tail.drop_at v15 _ r l) (congrArg₂ (· * ·) ?_ (congrArg₂ (· * ·) (congrArg₂ (· * ·) (e l) ?_) ?_))
  · exact (Ffn.row_at _ _ r l).trans (Ffn.dropUnit_at _ _ l)
  · refine (Ffn.col_at _ _ r l).trans ((Tail.inv_at _ _ _ _ _ r).trans ?_)
    exact congrArg Ffn.inv (funext e)
  · exact Ffn.row_at _ _ r l

theorem zero3 : (![0, 0, 0] : Fin 3 → ℕ) = fun _ => 0 := by decide
theorem zero2 : (![0, 0] : Fin 2 → ℕ) = fun _ => 0 := by decide

theorem out_at (x0 x1 : Vec Ideal S1x256x1024 .f32) (x2 : Vec Ideal S1x256x128 .f32) (x3 : Vec Ideal S1x256x1024 .f32) (x4 : Vec Ideal S1x1x6144 .f32)
    (x5 : Vec Ideal S1x1024 .f32) (r : Fin 256) (l : Fin 1024) :
    out0_6 x0 x1 x2 x3 x4 x5 (ix3 0 r l)
      = Ffn.mix (fun l => x3 (ix3 0 r l)) (fun l => x4 (ix3 0 0 (Ffn.part 5 l)))
          (both (fun l => x0 (ix3 0 r l)) (fun l => x1 (ix3 0 r l)) (fun q => x2 (ix3 0 r q))) (fun l => x5 (ix2 0 l)) l := by
  unfold out0_6
  rw [View.canon_unit_zero zero3, View.ld_unit_zero zero3, View.ld_unit_zero zero3, View.ld_unit_zero zero3, View.ld_unit_zero zero3, View.ld_unit_zero zero2]
  unfold k0_pay1
  refine (Tail.lift_at _ _ r l).trans ((pay2_at _ _ _ _ _ _ r l).trans ?_)
  have e : ∀ l : Fin 1024, View.ld x4 r0_2 (ix3 0 0 l) = x4 (ix3 0 0 (Ffn.part 5 l)) := fun l => by
    refine congrArg x4 (funext fun a => Fin.ext ?_)
    match a with
    | ⟨0, _⟩ => rfl
    | ⟨1, _⟩ => rfl
    | ⟨2, _⟩ => show 5120 + 1 * l.val = 1024 * 5 + l.val; omega
  rw [funext e]

/-! ## The blocks and the array -/

variable (m : (ℓ : Loc nD τ sig) → Buf (Elt Ideal) ℓ) (c : Dev nD)

/-- The arguments in the memory. -/
def inp : Inp where
  y0 := fun b t l => (m ((c : Thread nD τ).loc main_arg0) : FVec Ideal S8x2048x1024 .f32) (ix3 b t l)
  y1 := fun b t l => (m ((c : Thread nD τ).loc main_arg1) : FVec Ideal S8x2048x1024 .f32) (ix3 b t l)
  gt := fun b t q => (m ((c : Thread nD τ).loc main_arg2) : FVec Ideal S8x2048x128 .f32) (ix3 b t q)
  x := fun b t l => (m ((c : Thread nD τ).loc main_arg3) : FVec Ideal S8x2048x1024 .f32) (ix3 b t l)
  md := fun b l => (m ((c : Thread nD τ).loc main_arg4) : FVec Ideal S8x1x6144 .f32) (ix3 b 0 l)
  g := fun l => (m ((c : Thread nD τ).loc main_arg5) : FVec Ideal S1x1024 .f32) (ix2 0 l)

theorem lt_pts (p : Fin cfg0.N) : p.val < 64 := lt_of_lt_of_eq p.isLt N_0

/-- The point's batch, and row `r` of its tile. -/
def batOf (p : Fin cfg0.N) : Fin 8 := ⟨p.val / 8, by have := lt_pts p; omega⟩
def rowOf (p : Fin cfg0.N) (r : Fin 256) : Fin 2048 := ⟨256 * (p.val % 8) + r.val, by have := r.isLt; omega⟩

/-- A window that stands on the point's tile. -/
def OnTile (f : Fin 3 → ℕ) (p : ℕ) : Prop := f 0 = p / 8 ∧ f 1 = p % 8 ∧ f 2 = 0
instance (f : Fin 3 → ℕ) (p : ℕ) : Decidable (OnTile f p) := inferInstanceAs (Decidable (_ ∧ _ ∧ _))

theorem at0 : ∀ p : Fin cfg0.N, OnTile (win0_0.index p) p.val := (by decide +kernel : ∀ p : Fin grid0.N, _)
theorem at1 : ∀ p : Fin cfg0.N, OnTile (win0_1.index p) p.val := (by decide +kernel : ∀ p : Fin grid0.N, _)
theorem at2 : ∀ p : Fin cfg0.N, OnTile (win0_2.index p) p.val := (by decide +kernel : ∀ p : Fin grid0.N, _)
theorem at3 : ∀ p : Fin cfg0.N, OnTile (win0_3.index p) p.val := (by decide +kernel : ∀ p : Fin grid0.N, _)
theorem at4 : ∀ p : Fin cfg0.N, win0_4.index p (0 : Fin 3) = p.val / 8 ∧ win0_4.index p (1 : Fin 3) = 0 ∧ win0_4.index p (2 : Fin 3) = 0 :=
  (by decide +kernel : ∀ p : Fin grid0.N, _)
theorem at5 : ∀ p : Fin cfg0.N, win0_5.index p (0 : Fin 2) = 0 ∧ win0_5.index p (1 : Fin 2) = 0 := (by decide +kernel : ∀ p : Fin grid0.N, _)
theorem at6 : ∀ p : Fin cfg0.N, OnTile (win0_6.index p) p.val := (by decide +kernel : ∀ p : Fin grid0.N, _)

section
variable (p : Fin cfg0.N) (r : Fin 256)

theorem blk0 (l : Fin 1024) : (iblk m c 0 p : Vec Ideal S1x256x1024 .f32) (ix3 0 r l) = (inp m c).y0 (batOf p) (rowOf p r) l := by
  unfold iblk
  rw [View.read_apply]
  refine congrArg (m ((c : Thread nD τ).loc main_arg0) : FVec Ideal S8x2048x1024 .f32) (funext fun a => Fin.ext ?_)
  match a with
  | ⟨0, _⟩ => show win0_0.index p (0 : Fin 3) * 1 + 1 * 0 = p.val / 8; rw [(at0 p).1]; omega
  | ⟨1, _⟩ => show win0_0.index p (1 : Fin 3) * 256 + 1 * r.val = 256 * (p.val % 8) + r.val; rw [(at0 p).2.1]; omega
  | ⟨2, _⟩ => show win0_0.index p (2 : Fin 3) * 1024 + 1 * l.val = l.val; rw [(at0 p).2.2]; omega
theorem blk1 (l : Fin 1024) : (iblk m c 1 p : Vec Ideal S1x256x1024 .f32) (ix3 0 r l) = (inp m c).y1 (batOf p) (rowOf p r) l := by
  unfold iblk
  rw [View.read_apply]
  refine congrArg (m ((c : Thread nD τ).loc main_arg1) : FVec Ideal S8x2048x1024 .f32) (funext fun a => Fin.ext ?_)
  match a with
  | ⟨0, _⟩ => show win0_1.index p (0 : Fin 3) * 1 + 1 * 0 = p.val / 8; rw [(at1 p).1]; omega
  | ⟨1, _⟩ => show win0_1.index p (1 : Fin 3) * 256 + 1 * r.val = 256 * (p.val % 8) + r.val; rw [(at1 p).2.1]; omega
  | ⟨2, _⟩ => show win0_1.index p (2 : Fin 3) * 1024 + 1 * l.val = l.val; rw [(at1 p).2.2]; omega
theorem blk2 (q : Fin 128) : (iblk m c 2 p : Vec Ideal S1x256x128 .f32) (ix3 0 r q) = (inp m c).gt (batOf p) (rowOf p r) q := by
  unfold iblk
  rw [View.read_apply]
  refine congrArg (m ((c : Thread nD τ).loc main_arg2) : FVec Ideal S8x2048x128 .f32) (funext fun a => Fin.ext ?_)
  match a with
  | ⟨0, _⟩ => show win0_2.index p (0 : Fin 3) * 1 + 1 * 0 = p.val / 8; rw [(at2 p).1]; omega
  | ⟨1, _⟩ => show win0_2.index p (1 : Fin 3) * 256 + 1 * r.val = 256 * (p.val % 8) + r.val; rw [(at2 p).2.1]; omega
  | ⟨2, _⟩ => show win0_2.index p (2 : Fin 3) * 128 + 1 * q.val = q.val; rw [(at2 p).2.2]; omega
theorem blk3 (l : Fin 1024) : (iblk m c 3 p : Vec Ideal S1x256x1024 .f32) (ix3 0 r l) = (inp m c).x (batOf p) (rowOf p r) l := by
  unfold iblk
  rw [View.read_apply]
  refine congrArg (m ((c : Thread nD τ).loc main_arg3) : FVec Ideal S8x2048x1024 .f32) (funext fun a => Fin.ext ?_)
  match a with
  | ⟨0, _⟩ => show win0_3.index p (0 : Fin 3) * 1 + 1 * 0 = p.val / 8; rw [(at3 p).1]; omega
  | ⟨1, _⟩ => show win0_3.index p (1 : Fin 3) * 256 + 1 * r.val = 256 * (p.val % 8) + r.val; rw [(at3 p).2.1]; omega
  | ⟨2, _⟩ => show win0_3.index p (2 : Fin 3) * 1024 + 1 * l.val = l.val; rw [(at3 p).2.2]; omega
theorem blk4 (l : Fin 6144) : (iblk m c 4 p : Vec Ideal S1x1x6144 .f32) (ix3 0 0 l) = (inp m c).md (batOf p) l := by
  unfold iblk
  rw [View.read_apply]
  refine congrArg (m ((c : Thread nD τ).loc main_arg4) : FVec Ideal S8x1x6144 .f32) (funext fun a => Fin.ext ?_)
  match a with
  | ⟨0, _⟩ => show win0_4.index p (0 : Fin 3) * 1 + 1 * 0 = p.val / 8; rw [(at4 p).1]; omega
  | ⟨1, _⟩ => show win0_4.index p (1 : Fin 3) * 1 + 1 * 0 = 0; rw [(at4 p).2.1]
  | ⟨2, _⟩ => show win0_4.index p (2 : Fin 3) * 6144 + 1 * l.val = l.val; rw [(at4 p).2.2]; omega
theorem blk5 (l : Fin 1024) : (iblk m c 5 p : Vec Ideal S1x1024 .f32) (ix2 0 l) = (inp m c).g l := by
  unfold iblk
  rw [View.read_apply]
  refine congrArg (m ((c : Thread nD τ).loc main_arg5) : FVec Ideal S1x1024 .f32) (funext fun a => Fin.ext ?_)
  match a with
  | ⟨0, _⟩ => show win0_5.index p (0 : Fin 2) * 1 + 1 * 0 = 0; rw [(at5 p).1]
  | ⟨1, _⟩ => show win0_5.index p (1 : Fin 2) * 1024 + 1 * l.val = l.val; rw [(at5 p).2]; omega

theorem tile_at (l : Fin 1024) :
    out0_6 (iblk m c 0 p) (iblk m c 1 p) (iblk m c 2 p) (iblk m c 3 p) (iblk m c 4 p) (iblk m c 5 p) (ix3 0 r l)
      = (inp m c).res (batOf p) (rowOf p r) l := by
  refine (out_at _ _ _ _ _ _ r l).trans ?_
  have e0 := funext (blk0 m c p r)
  have e1 := funext (blk1 m c p r)
  have e2 := funext (blk2 m c p r)
  have e3 := funext (blk3 m c p r)
  have e4 := funext fun l => blk4 m c p (Ffn.part 5 l)
  have e5 := funext (blk5 m c p)
  unfold Inp.res
  rw [e0, e1, e2, e3, e4, e5]

end

/-- The point whose tile holds a row, and the row inside it. -/
def ptOf (b : Fin 8) (t : Fin 2048) : Fin cfg0.N := ⟨8 * b.val + t.val / 256, lt_of_lt_of_eq (by have := b.isLt; have := t.isLt; omega) N_0.symm⟩
def inTile (t : Fin 2048) : Fin 256 := ⟨t.val % 256, Nat.mod_lt _ (by norm_num)⟩

theorem batOf_ptOf (b : Fin 8) (t : Fin 2048) : batOf (ptOf b t) = b :=
  Fin.ext (by have := t.isLt; show (8 * b.val + t.val / 256) / 8 = b.val; omega)
theorem rowOf_ptOf (b : Fin 8) (t : Fin 2048) : rowOf (ptOf b t) (inTile t) = t :=
  Fin.ext (by have := t.isLt; show 256 * ((8 * b.val + t.val / 256) % 8) + t.val % 256 = t.val; omega)

theorem fin6 (b : Fin 8) (t : Fin 2048) (l : Fin 1024) : ((dats m 0 c).arrAt 6 cfg0.N : FVec Ideal S8x2048x1024 .f32) (ix3 b t l) = (inp m c).res b t l := by
  have h := congrFun ((Value.blocks6 m c (ptOf b t) (flush0_6 _)).trans (Value.flushed6 m c (ptOf b t))) (ix3 0 (inTile t) l : S1x256x1024.Idx)
  rw [View.read_apply] at h
  refine Eq.trans ?_ (h.trans ((tile_at m c (ptOf b t) (inTile t) l).trans ?_))
  · refine congrArg ((dats m 0 c).arrAt 6 cfg0.N : FVec Ideal S8x2048x1024 .f32) (funext fun a => Fin.ext ?_)
    have ht := t.isLt
    have h6 := at6 (ptOf b t)
    match a with
    | ⟨0, _⟩ =>
      show b.val = win0_6.index (ptOf b t) (0 : Fin 3) * 1 + 1 * 0
      rw [h6.1]; show b.val = (8 * b.val + t.val / 256) / 8 * 1 + 1 * 0; omega
    | ⟨1, _⟩ =>
      show t.val = win0_6.index (ptOf b t) (1 : Fin 3) * 256 + 1 * (t.val % 256)
      rw [h6.2.1]; show t.val = (8 * b.val + t.val / 256) % 8 * 256 + 1 * (t.val % 256); omega
    | ⟨2, _⟩ =>
      show l.val = win0_6.index (ptOf b t) (2 : Fin 3) * 1024 + 1 * l.val
      rw [h6.2.2]; omega
  · rw [batOf_ptOf, rowOf_ptOf]

end Combine
-- ==== Proof.Combine.Claims.lean ====
/- The combining call's reference at an element, and the call's two claims: the reference's frame and the value claim. -/
module

public import proofs.«01_k».proof.Defs
public import proofs.«01_k».proof.Proof.Combine.Kernel
public import proofs.«01_k».proof.Proof.Gen.CombineReferenceIdeal.Run
public import proofs.«01_k».proof.Proof.Gen.Combine.Frame
public import proofs.«01_k».proof.Proof.Gen.CombineIdeal.Frame
public import Idealize.ShloMosaic.Lib.Quiescent

@[expose] public section

set_option maxRecDepth 16384

noncomputable section

namespace Combine

open Idealize.ShloMosaic Idealize.ShloMosaic.TcCoe Idealize.SL.Sem Tail

namespace Ref

open Cert.CombineReferenceIdeal Cert.CombineReferenceIdeal.Gen

theorem gate_at (v : FVec Ideal S8x2048x128 .f32) (q : Fin 128) (o : Fin 3 → ℕ) (ho : o = ![0, 0, q.val]) (h) (h') (b : Fin 8) (t : Fin 2048) (l : Fin 1024) :
    broadcastInDim S8x2048x1024 ![0, 1, 2] h (extractStridedSlice S8x2048x1 o v h') (ix3 b t l) = v (ix3 b t q) := by
  subst ho
  refine (cols_at _ _ b t l).trans (congrArg v (funext fun a => Fin.ext ?_))
  match a with
  | ⟨0, _⟩ => exact Nat.zero_add _
  | ⟨1, _⟩ => exact Nat.zero_add _
  | ⟨2, _⟩ => rfl

/-- The gated sum, as the reference prints it. -/
abbrev Both (y0 y1 : FVec Ideal S8x2048x1024 .f32) (gt : FVec Ideal S8x2048x128 .f32) : FVec Ideal S8x2048x1024 .f32 :=
  addf (mulf y0 (broadcastInDim S8x2048x1024 ![0, 1, 2] bcast_S8x2048x1_S8x2048x1024_0_1_2 (extractStridedSlice S8x2048x1 ![0, 0, 0] gt slices_S8x2048x128_S8x2048x1_0_0_0)))
    (mulf y1 (broadcastInDim S8x2048x1024 ![0, 1, 2] bcast_S8x2048x1_S8x2048x1024_0_1_2 (extractStridedSlice S8x2048x1 ![0, 0, 1] gt slices_S8x2048x128_S8x2048x1_0_0_1)))

theorem both_at (y0 y1 : FVec Ideal S8x2048x1024 .f32) (gt : FVec Ideal S8x2048x128 .f32) (b : Fin 8) (t : Fin 2048) (l : Fin 1024) :
    Both y0 y1 gt (ix3 b t l) = both (fun l => y0 (ix3 b t l)) (fun l => y1 (ix3 b t l)) (fun q => gt (ix3 b t q)) l :=
  congrArg₂ (· + ·) (congrArg (y0 (ix3 b t l) * ·) (gate_at gt 0 _ rfl _ _ b t l)) (congrArg (y1 (ix3 b t l) * ·) (gate_at gt 1 _ rfl _ _ b t l))

/-- The result, as the reference prints it. -/
abbrev Res (y0 y1 : FVec Ideal S8x2048x1024 .f32) (gt : FVec Ideal S8x2048x128 .f32) (x : FVec Ideal S8x2048x1024 .f32) (md : FVec Ideal S8x1x6144 .f32)
    (g : FVec Ideal S1x1024 .f32) : FVec Ideal S8x2048x1024 .f32 :=
  addf x (mulf (broadcastInDim S8x2048x1024 ![0, 1, 2] bcast_S8x1x1024_S8x2048x1024_0_1_2 (extractStridedSlice S8x1x1024 ![0, 0, 5120] md slices_S8x1x6144_S8x1x1024_0_0_5120))
    (mulf (mulf (Both y0 y1 gt) (broadcastInDim S8x2048x1024 ![0, 1, 2] bcast_S8x2048x1_S8x2048x1024_0_1_2 (Host.rsqrt (addf (Host.divf (broadcastInDim S8x2048x1 ![0, 1] bcast_S8x2048_S8x2048x1_0_1
        (Host.reduceAdd (mulf (Both y0 y1 gt) (Both y0 y1 gt)) (constant S_ .f32 0x00000000#32) reducesTo_S8x2048x1024_S8x2048_d2 h_S_))
        (broadcastInDim S8x2048x1 ![] bcast_S_S8x2048x1 (constant S_ .f32 0x44800000#32))) (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![1, 2] bcast_S1x1024_S1x1x1024_1_2 g))))

theorem res_at (y0 y1 : FVec Ideal S8x2048x1024 .f32) (gt : FVec Ideal S8x2048x128 .f32) (x : FVec Ideal S8x2048x1024 .f32) (md : FVec Ideal S8x1x6144 .f32)
    (g : FVec Ideal S1x1024 .f32) (b : Fin 8) (t : Fin 2048) (l : Fin 1024) :
    Res y0 y1 gt x md g (ix3 b t l) = Ffn.mix (fun l => x (ix3 b t l)) (fun l => md (ix3 b 0 (Ffn.part 5 l)))
      (both (fun l => y0 (ix3 b t l)) (fun l => y1 (ix3 b t l)) (fun q => gt (ix3 b t q))) (fun l => g (ix2 0 l)) l := by
  unfold Ffn.mix Ffn.nrm
  refine congrArg (x (ix3 b t l) + ·) (congrArg₂ (· * ·) (mod_at md 5 _ rfl _ _ b t l) (congrArg₂ (· * ·) (congrArg₂ (· * ·) (both_at _ _ _ b t l) ?_) (rows_at g _ _ b t l)))
  refine (cols_at _ _ b t l).trans ((invs_at _ _ _ _ _ _ b t).trans ?_)
  exact congrArg Ffn.inv (funext fun k => both_at _ _ _ b t k)

end Ref

theorem ref_frame : Cert.quiescent_CombineReferenceIdeal :=
  fun m ρ _ => (θ_run _ _ _).mono (fun r h => ⟨fun c => (h c).2, sem_eq_zero_of_no_sems (by decide) _⟩)
    (Cert.CombineReferenceIdeal.Value.run m ρ)

theorem value : Cert.algebraic_CombineIdeal_CombineReferenceIdeal := by
  intro m g m' g' _ he
  refine ⟨fun c => table (inp m c).res,
    (θ_run _ _ _).mono (fun r h c => ⟨(h c).1.trans (table_eq (fin6 m c)), (h c).2⟩) (Cert.CombineIdeal.Value.run_blocks m g),
    (θ_run _ _ _).mono (fun r h c => ⟨(h c).1.trans (table_eq fun b t l => ?_), (h c).2⟩) (Cert.CombineReferenceIdeal.Value.run m' g')⟩
  obtain ⟨e0, e1, e2, e3, e4, e5⟩ := he c
  refine (Ref.res_at _ _ _ _ _ _ b t l).trans ?_
  rw [e0, e1, e2, e3, e4, e5]
  rfl

end Combine
-- ==== Proof.Conv.Spec.lean ====
/- The short-convolution call over the extended reals: what both programs compute. -/
module

public import proofs.«01_k».proof.Proof.Ffn.Spec

@[expose] public section

noncomputable section

namespace Conv

open Idealize.ShloMosaic Ffn

/-- Lane `l` of part `q` of a row's first product. -/
def lane (q : Fin 3) (l : Fin 1024) : Fin 3072 := ⟨1024 * q.val + l.val, by have := q.isLt; have := l.isLt; omega⟩

/-- A row's first product, and the product of its second and third parts, which the convolution reads. -/
def proj (h : Fin 1024 → EReal) (w : Mx 1024 3072) (j : Fin 3072) : EReal := ∑ k, h k * w k j
def zed (h : Fin 1024 → EReal) (w : Mx 1024 3072) (l : Fin 1024) : EReal := proj h w (lane 1 l) * proj h w (lane 2 l)

/-- The three taps on a row, the one before and the one after; the gated result; the second product. -/
def taps (z₀ z₁ z₂ : Fin 1024 → EReal) (cw : Mx 3 1024) (l : Fin 1024) : EReal := z₀ l * cw 0 l + z₁ l * cw 1 l + z₂ l * cw 2 l
def gated (h : Fin 1024 → EReal) (w : Mx 1024 3072) (z₀ z₁ z₂ : Fin 1024 → EReal) (cw : Mx 3 1024) (l : Fin 1024) : EReal :=
  proj h w (lane 0 l) * taps z₀ z₁ z₂ cw l
def out (u : Fin 1024 → EReal) (w : Mx 1024 1024) (l : Fin 1024) : EReal := ∑ k, u k * w k l

/-- The call's arguments. -/
structure Inp where
  h : Fin 8 → Fin 2048 → Fin 1024 → EReal
  x : Fin 8 → Fin 2048 → Fin 1024 → EReal
  md : Mx 8 6144
  wi : Mx 1024 3072
  cw : Mx 3 1024
  wo : Mx 1024 1024
  g1 : Fin 1024 → EReal
  g2 : Fin 1024 → EReal
  wr : Mx 1024 128

variable (a : Inp)

/-- The convolution's operand at position `s` of the sequence padded with one zero row at either end. -/
def Inp.z (b : Fin 8) (s : ℕ) (l : Fin 1024) : EReal :=
  if hs : 1 ≤ s ∧ s ≤ 2048 then zed (a.h b ⟨s - 1, by omega⟩) a.wi l else 0

/-- The layer's row before the residual; then the three results. -/
def Inp.y (b : Fin 8) (t : Fin 2048) : Fin 1024 → EReal :=
  out (gated (a.h b t) a.wi (a.z b t.val) (a.z b (t.val + 1)) (a.z b (t.val + 2)) a.cw) a.wo
def Inp.res (b : Fin 8) (t : Fin 2048) : Fin 1024 → EReal := mix (a.x b t) (fun l => a.md b (part 2 l)) (a.y b t) a.g1
def Inp.nxt (b : Fin 8) (t : Fin 2048) : Fin 1024 → EReal :=
  modu (a.res b t) a.g2 (fun l => a.md b (part 3 l)) (fun l => a.md b (part 4 l))
def Inp.logits (b : Fin 8) (t : Fin 2048) (e : Fin 128) : EReal := ∑ k, a.nxt b t k * a.wr k e

end Conv
-- ==== Proof.Conv.Body.lean ====
/- What the short-convolution kernel's body computes from the blocks it loads, element by element. -/
module

public import proofs.«01_k».proof.Proof.Tail.Ops
public import proofs.«01_k».proof.Proof.Conv.Spec
public import proofs.«01_k».proof.Proof.Gen.ConvIdeal.Frame
public import Idealize.ShloMosaic.Lib.WordCmp

@[expose] public section

set_option maxRecDepth 16384

noncomputable section

namespace Conv

open Idealize.ShloMosaic Idealize.ShloMosaic.TcCoe Cert.ConvIdeal Cert.ConvIdeal.Gen

/-- The product of two matrices into zeros at an element, at any precision asked for. -/
theorem mm_at {M K N : ℕ} {φ₁ φ₂ : FTy} (prec : Option ContractPrecision) (x : FVec Ideal ⟨2, ![M, K]⟩ φ₁) (y : FVec Ideal ⟨2, ![K, N]⟩ φ₂) (r : Fin M) (c : Fin N) :
    matmul (DotDims.plain M K N) prec x y (constant ⟨2, ![M, N]⟩ .f32 0x00000000#32) (ix2 r c) = ∑ k, x (ix2 r k) * y (ix2 k c) := by
  show FloatOps.matmul _ _ _ _ _ _ = _
  rw [ix2_eq_valueIdx, Ideal.matmul_plain_apply]
  show Ideal.ofBits .f32 0x00000000#32 + _ = _
  rw [Ideal.ofBits_zero_f32, zero_add]
  simp only [← ix2_eq_valueIdx]

/-! ## The tile with its two borders -/

/-- Row `j` of the 288 rows: 16 before the tile, the tile's 256, 16 after it. -/
def rowAt (x1 : Vec Ideal S1x16x1024 .bf16) (x0 : Vec Ideal S1x256x1024 .bf16) (x2 : Vec Ideal S1x16x1024 .bf16) (j : Fin 288) (k : Fin 1024) : EReal :=
  if h : j.val < 16 then x1 (ix3 0 ⟨j.val, h⟩ k)
  else if h' : j.val < 272 then x0 (ix3 0 ⟨j.val - 16, by omega⟩ k)
  else x2 (ix3 0 ⟨j.val - 272, by have := j.isLt; omega⟩ k)

theorem cat_at (y1 : FVec Ideal S16x1024 .bf16) (y0 : FVec Ideal S256x1024 .bf16) (y2 : FVec Ideal S16x1024 .bf16)
    (h : Shape.Concatenates [S16x1024, S256x1024, S16x1024] S288x1024 0) (j : Fin 288) (k : Fin 1024) :
    concatenate S288x1024 0 [⟨S16x1024, y1⟩, ⟨S256x1024, y0⟩, ⟨S16x1024, y2⟩] h (ix2 j k)
      = if h : j.val < 16 then y1 (ix2 ⟨j.val, h⟩ k)
        else if h' : j.val < 272 then y0 (ix2 ⟨j.val - 16, by omega⟩ k)
        else y2 (ix2 ⟨j.val - 272, by have := j.isLt; omega⟩ k) := by
  have hj := j.isLt
  split
  · next h1 =>
    refine concatenate_apply_piece (t := S288x1024) (0 : Fin 2) [⟨S16x1024, y1⟩, ⟨S256x1024, y0⟩, ⟨S16x1024, y2⟩] h _ 0 (Nat.succ_pos 2) S16x1024 y1 rfl rfl 0 rfl _ (fun b hb => ?_) ?_
    · match b with
      | ⟨0, _⟩ => exact absurd rfl hb
      | ⟨1, _⟩ => rfl
    · exact Nat.zero_add _
  · next h1 =>
    split
    · next h2 =>
      refine concatenate_apply_piece (t := S288x1024) (0 : Fin 2) [⟨S16x1024, y1⟩, ⟨S256x1024, y0⟩, ⟨S16x1024, y2⟩] h _ 1 (Nat.succ_lt_succ (Nat.succ_pos 1)) S256x1024 y0 rfl rfl 16 rfl _ (fun b hb => ?_) ?_
      · match b with
        | ⟨0, _⟩ => exact absurd rfl hb
        | ⟨1, _⟩ => rfl
      · show 16 + (j.val - 16) = j.val; omega
    · next h2 =>
      refine concatenate_apply_piece (t := S288x1024) (0 : Fin 2) [⟨S16x1024, y1⟩, ⟨S256x1024, y0⟩, ⟨S16x1024, y2⟩] h _ 2 (Nat.lt_succ_self 2) S16x1024 y2 rfl rfl 272 rfl _ (fun b hb => ?_) ?_
      · match b with
        | ⟨0, _⟩ => exact absurd rfl hb
        | ⟨1, _⟩ => rfl
      · show 272 + (j.val - 272) = j.val; omega

section
variable (x1 : Vec Ideal S1x16x1024 .bf16) (x0 : Vec Ideal S1x256x1024 .bf16) (x2 : Vec Ideal S1x16x1024 .bf16) (w : Vec Ideal S1024x3072 .bf16)

theorem pay5_at (j : Fin 288) (q : Fin 3072) : k0_pay5 x1 x0 x2 w (ix2 j q) = proj (rowAt x1 x0 x2 j) (fun k q => w (ix2 k q)) q := by
  unfold k0_pay5 proj
  refine (mm_at (M := 288) (K := 1024) (N := 3072) (φ₁ := .bf16) (φ₂ := .bf16) none _ _ j q).trans ?_
  refine Finset.sum_congr rfl fun k _ => congrArg (· * w (ix2 k q)) ((cat_at _ _ _ _ j k).trans ?_)
  unfold rowAt
  split
  · exact Tail.drop_at _ _ _ k
  · split
    · exact Tail.drop_at _ _ _ k
    · exact Tail.drop_at _ _ _ k

/-- The bit that clears a border row outside the sequence. -/
def clears (j : ℕ) (i : ℕ) : BitVec 1 :=
  IntOp.ori (IntOp.andi (IntOp.cmpi .slt (BitVec.ofNat 32 j) 16#32) (IntOp.cmpi .eq (BitVec.ofNat 32 i) 0#32))
    (IntOp.andi (IntOp.cmpi .sge (BitVec.ofNat 32 j) 272#32) (IntOp.cmpi .eq (BitVec.ofNat 32 i) 7#32))

theorem clears_eq : ∀ (j : Fin 288) (i : Fin 8), clears j.val i.val = if (j.val < 16 ∧ i.val = 0) ∨ (272 ≤ j.val ∧ i.val = 7) then 1 else 0 := by
  decide +kernel

theorem part_at (v : FVec Ideal S288x3072 .f32) (q : Fin 3) (o : Fin 2 → ℕ) (ho : o = ![0, 1024 * q.val]) (h) (j : Fin 288) (l : Fin 1024) :
    extractStridedSlice S288x1024 o v h (ix2 j l) = v (ix2 j (lane q l)) := by
  subst ho
  refine congrArg v (funext fun a => Fin.ext ?_)
  match a with
  | ⟨0, _⟩ => exact Nat.zero_add _
  | ⟨1, _⟩ => rfl

variable (i : grid0.Coords)

theorem pay6_at (j : Fin 288) (l : Fin 1024) :
    k0_pay6 i x1 x0 x2 w (ix2 j l)
      = if (j.val < 16 ∧ (i 1).val = 0) ∨ (272 ≤ j.val ∧ (i 1).val = 7) then 0 else zed (rowAt x1 x0 x2 j) (fun k q => w (ix2 k q)) l := by
  have hz : mulf (extractStridedSlice S288x1024 ![0, 1024] (k0_pay5 x1 x0 x2 w) slices_S288x3072_o0_1024_S288x1024)
      (extractStridedSlice S288x1024 ![0, 2048] (k0_pay5 x1 x0 x2 w) slices_S288x3072_o0_2048_S288x1024) (ix2 j l)
      = zed (rowAt x1 x0 x2 j) (fun k q => w (ix2 k q)) l :=
    congrArg₂ (fun u v : EReal => u * v) ((part_at _ 1 _ rfl _ j l).trans (pay5_at x1 x0 x2 w j _)) ((part_at _ 2 _ rfl _ j l).trans (pay5_at x1 x0 x2 w j _))
  unfold k0_pay6
  have hi : (i 1).val < 8 := (i 1).isLt
  have hc := clears_eq j ⟨(i 1).val, hi⟩
  have hn : (List.foldl (fun n a => n * S288x1024.size a + ((ix2 j l : S288x1024.Idx) a).val) 0 [0]) = j.val := by
    show 0 * 288 + j.val = j.val
    omega
  have hb : ∀ bit : BitVec 1, bit = clears j.val (i 1).val → Scalar.select bit (Ideal.ofBits .f32 0x00000000#32) (zed (rowAt x1 x0 x2 j) (fun k q => w (ix2 k q)) l)
      = if (j.val < 16 ∧ (i 1).val = 0) ∨ (272 ≤ j.val ∧ (i 1).val = 7) then 0 else zed (rowAt x1 x0 x2 j) (fun k q => w (ix2 k q)) l := by
    intro bit e
    rw [e, hc, Ideal.ofBits_zero_f32]
    split
    · rfl
    · rfl
  refine (congrArg (Scalar.select _ _) hz).trans (hb _ ?_)
  unfold clears
  show IntOp.ori (IntOp.andi (IntOp.cmpi .slt (BitVec.ofNat 32 (List.foldl (fun n a => n * S288x1024.size a + ((ix2 j l : S288x1024.Idx) a).val) 0 [0])) 16#32) _)
    (IntOp.andi (IntOp.cmpi .sge (BitVec.ofNat 32 (List.foldl (fun n a => n * S288x1024.size a + ((ix2 j l : S288x1024.Idx) a).val) 0 [0])) 272#32) _) = _
  rw [hn]
  rfl

theorem turn_at (y : FVec Ideal S288x1024 .f32) (sb : BitVec 32) (s : ℕ) (hs : sb.toNat = s) (h) (j j' : Fin 288) (l : Fin 1024)
    (hj : j'.val = (j.val + 288 - s % 288) % 288) : dynamicRotate 0 sb none y h (ix2 j l) = y (ix2 j' l) := by
  refine dynamicRotate_apply _ _ _ _ _ _ fun b => ?_
  match b with
  | ⟨0, _⟩ =>
    refine hj.trans ?_
    rw [← hs]
    rfl
  | ⟨1, _⟩ => rfl

/-- Row `16 + r` of the 288, and the rows on its two sides. -/
def mid (r : Fin 256) : Fin 288 := ⟨16 + r.val, by have := r.isLt; omega⟩
def before (r : Fin 256) : Fin 288 := ⟨15 + r.val, by have := r.isLt; omega⟩
def after (r : Fin 256) : Fin 288 := ⟨17 + r.val, by have := r.isLt; omega⟩

theorem pay7_at (c0 c1 : Vec Ideal S1x1024 .f32) (r : Fin 256) (l : Fin 1024) :
    k0_pay7 i x1 x0 x2 w c0 c1 (ix2 (mid r) l)
      = k0_pay6 i x1 x0 x2 w (ix2 (before r) l) * c0 (ix2 0 l) + k0_pay6 i x1 x0 x2 w (ix2 (mid r) l) * c1 (ix2 0 l) := by
  unfold k0_pay7
  refine congrArg₂ (fun u v : EReal => u + v) (congrArg₂ (fun u v : EReal => u * v) (turn_at _ 1#32 1 rfl _ (mid r) (before r) l ?_) (Ffn.row_at _ _ _ l))
    (congrArg (fun v : EReal => k0_pay6 i x1 x0 x2 w (ix2 (mid r) l) * v) (Ffn.row_at _ _ _ l))
  have := r.isLt
  show 15 + r.val = (16 + r.val + 288 - 1 % 288) % 288
  omega

theorem pay8_at (r : Fin 256) (l : Fin 1024) : k0_pay8 i x1 x0 x2 w (ix2 (mid r) l) = k0_pay6 i x1 x0 x2 w (ix2 (after r) l) := by
  unfold k0_pay8
  refine turn_at _ 287#32 287 rfl _ (mid r) (after r) l ?_
  have := r.isLt
  show 17 + r.val = (16 + r.val + 288 - 287 % 288) % 288
  omega

end

/-! ## The second product and the residual row -/

theorem cut_at {m : ℕ} (v : FVec Ideal ⟨2, ![288, m]⟩ .f32) (hm : 1024 ≤ m) (h) (r : Fin 256) (l : Fin 1024) :
    extractStridedSlice S256x1024 ![16, 0] v h (ix2 r l) = v (ix2 (mid r) ⟨l.val, lt_of_lt_of_le l.isLt hm⟩) := by
  refine congrArg v (funext fun a => Fin.ext ?_)
  match a with
  | ⟨0, _⟩ => rfl
  | ⟨1, _⟩ => exact Nat.zero_add _

/-- The second product, as the body prints it. -/
abbrev Y (v8 : FVec Ideal S288x3072 .f32) (v33 v34 : FVec Ideal S288x1024 .f32) (v35 : Vec Ideal S1x1024 .f32) (v43 : Vec Ideal S1024x1024 .bf16) : FVec Ideal S256x1024 .f32 :=
  matmul (φ₁ := .bf16) (φ₂ := .bf16) dot_S256x1024_S1024x1024_S256x1024_1_0_0_1_n_n none
    (truncf .bf16 (mulf (extractStridedSlice S256x1024 ![16, 0] v8 slices_S288x3072_o16_0_S256x1024)
      (extractStridedSlice S256x1024 ![16, 0] (addf v33 (mulf v34 (broadcastTo S288x1024 v35 broadcasts_S1x1024_S288x1024))) slices_S288x1024_o16_0_S256x1024)) bitsLt_bf16_f32)
    v43 (constant S256x1024 .f32 0x00000000#32)

theorem Y_at (v8 : FVec Ideal S288x3072 .f32) (v33 v34 : FVec Ideal S288x1024 .f32) (v35 : Vec Ideal S1x1024 .f32) (v43 : Vec Ideal S1024x1024 .bf16) (r : Fin 256) (l : Fin 1024) :
    Y v8 v33 v34 v35 v43 (ix2 r l)
      = out (fun k => v8 (ix2 (mid r) (lane 0 k)) * (v33 (ix2 (mid r) k) + v34 (ix2 (mid r) k) * v35 (ix2 0 k))) (fun k l => v43 (ix2 k l)) l := by
  refine (mm_at (M := 256) (K := 1024) (N := 1024) (φ₁ := .bf16) (φ₂ := .bf16) none _ _ r l).trans ?_
  refine Finset.sum_congr rfl fun k _ => congrArg (fun u : EReal => u * v43 (ix2 k l)) (congrArg₂ (fun u v : EReal => u * v) ?_ ?_)
  · refine (cut_at (m := 3072) v8 (by norm_num) _ r k).trans (congrArg (fun q => v8 (ix2 (mid r) q)) (Fin.ext ?_))
    show k.val = 1024 * 0 + k.val
    omega
  · refine (cut_at (m := 1024) _ le_rfl _ r k).trans ?_
    exact congrArg (fun u : EReal => v33 (ix2 (mid r) k) + v34 (ix2 (mid r) k) * u) (Ffn.row_at _ _ _ k)

theorem pay11_at (v8 : FVec Ideal S288x3072 .f32) (v33 v34 : FVec Ideal S288x1024 .f32) (v35 : Vec Ideal S1x1024 .f32) (v43 : Vec Ideal S1024x1024 .bf16)
    (v45 : Vec Ideal S1x1x1024 .f32) (v51 : Vec Ideal S1x256x1024 .f32) (v53 : Vec Ideal S1x1024 .f32) (r : Fin 256) (l : Fin 1024) :
    k0_pay11 v8 v33 v34 v35 v43 v45 v51 v53 (ix2 r l)
      = Ffn.mix (fun l => v51 (ix3 0 r l)) (fun l => v45 (ix3 0 0 l)) (fun l => Y v8 v33 v34 v35 v43 (ix2 r l)) (fun l => v53 (ix2 0 l)) l := by
  unfold k0_pay11 Ffn.mix Ffn.nrm
  refine congrArg₂ (fun u v : EReal => u + v) (Tail.drop_at v51 _ r l) (congrArg₂ (fun u v : EReal => u * v) ?_
    (congrArg₂ (fun u v : EReal => u * v) (congrArg (fun u : EReal => Y v8 v33 v34 v35 v43 (ix2 r l) * u) ?_) ?_))
  · exact (Ffn.row_at _ _ r l).trans (Ffn.dropUnit_at _ _ l)
  · exact (Ffn.col_at _ _ r l).trans (Tail.inv_at _ _ _ _ _ r)
  · exact Ffn.row_at _ _ r l

theorem pay2_at (v48 v50 : FVec Ideal S1x1024 .f32) (v68 : FVec Ideal S256x1024 .f32) (v72 : Vec Ideal S1x1024 .f32) (r : Fin 256) (l : Fin 1024) :
    k0_pay2 v48 v50 v68 v72 (ix2 r l)
      = Ffn.modu (fun l => v68 (ix2 r l)) (fun l => v72 (ix2 0 l)) (fun l => v48 (ix2 0 l)) (fun l => v50 (ix2 0 l)) l := by
  unfold k0_pay2 Ffn.modu Ffn.nrm
  refine congrArg₂ (fun u v : EReal => u + v) (congrArg₂ (fun u v : EReal => u * v) (congrArg₂ (fun u v : EReal => u * v) (congrArg (fun u : EReal => v68 (ix2 r l) * u) ?_) ?_) ?_) ?_
  · exact (Ffn.col_at _ _ r l).trans (Tail.inv_at _ _ _ _ _ r)
  · exact Ffn.row_at _ _ r l
  · refine (Ffn.row_at _ _ r l).trans ?_
    exact congrArg (fun u : EReal => u + v50 (ix2 0 l)) Ideal.ofBits_one_f32
  · exact Ffn.row_at _ _ r l

theorem pay4_at (v48 v50 : FVec Ideal S1x1024 .f32) (v68 : FVec Ideal S256x1024 .f32) (v72 : Vec Ideal S1x1024 .f32) (v95 : Vec Ideal S1024x128 .f32)
    (r : Fin 256) (e : Fin 128) :
    k0_pay4 v48 v50 v68 v72 v95 (ix3 0 r e) = ∑ k, k0_pay2 v48 v50 v68 v72 (ix2 r k) * v95 (ix2 k e) := by
  unfold k0_pay4
  refine (Tail.lift_at _ _ r e).trans ?_
  exact mm_at (M := 256) (K := 1024) (N := 128) (φ₁ := .f32) (φ₂ := .f32) (some .fp32) _ _ r e

end Conv
-- ==== Proof.Conv.Points.lean ====
/- The short-convolution kernel at the points of its grid: its blocks as parts of the arguments, its three tiles, its three arrays. -/
module

public import proofs.«01_k».proof.Proof.Conv.Body
public import proofs.«01_k».proof.Proof.Gen.ConvIdeal.Value
public import Idealize.ShloMosaic.Lib.Pipeline.Value

@[expose] public section

set_option maxRecDepth 16384

noncomputable section

namespace Conv

open Idealize.ShloMosaic Idealize.ShloMosaic.TcCoe Cert.ConvIdeal Cert.ConvIdeal.Gen

theorem zero3 : (![0, 0, 0] : Fin 3 → ℕ) = fun _ => 0 := by decide
theorem zero2 : (![0, 0] : Fin 2 → ℕ) = fun _ => 0 := by decide

variable (m : (ℓ : Loc nD τ sig) → Buf (Elt Ideal) ℓ) (c : Dev nD)

/-- The arguments in the memory. -/
def inp : Inp where
  h := fun b t l => (m ((c : Thread nD τ).loc main_arg0) : FVec Ideal S8x2048x1024 .bf16) (ix3 b t l)
  x := fun b t l => (m ((c : Thread nD τ).loc main_arg1) : FVec Ideal S8x2048x1024 .f32) (ix3 b t l)
  md := fun b l => (m ((c : Thread nD τ).loc main_arg2) : FVec Ideal S8x1x6144 .f32) (ix3 b 0 l)
  wi := fun k l => (m ((c : Thread nD τ).loc main_arg3) : FVec Ideal S1024x3072 .bf16) (ix2 k l)
  cw := fun k l => (m ((c : Thread nD τ).loc main_arg4) : FVec Ideal S3x1024 .f32) (ix2 k l)
  wo := fun k l => (m ((c : Thread nD τ).loc main_arg5) : FVec Ideal S1024x1024 .bf16) (ix2 k l)
  g1 := fun l => (m ((c : Thread nD τ).loc main_arg6) : FVec Ideal S1x1024 .f32) (ix2 0 l)
  g2 := fun l => (m ((c : Thread nD τ).loc main_arg7) : FVec Ideal S1x1024 .f32) (ix2 0 l)
  wr := fun k l => (m ((c : Thread nD τ).loc main_arg8) : FVec Ideal S1024x128 .f32) (ix2 k l)

theorem lt_pts (p : Fin cfg0.N) : p.val < 64 := lt_of_lt_of_eq p.isLt N_0

/-- The point's batch, and row `r` of its tile. -/
def batOf (p : Fin cfg0.N) : Fin 8 := ⟨p.val / 8, by have := lt_pts p; omega⟩
def rowOf (p : Fin cfg0.N) (r : Fin 256) : Fin 2048 := ⟨256 * (p.val % 8) + r.val, by have := r.isLt; omega⟩

theorem coord_at (p : Fin cfg0.N) : (grid0.coords p 1).val = p.val % 8 :=
  (by decide +kernel : ∀ p : Fin grid0.N, (grid0.coords p 1).val = p.val % 8) p

/-- A window that stands on the point's tile; one that holds its array whole. -/
def OnTile (f : Fin 3 → ℕ) (p : ℕ) : Prop := f 0 = p / 8 ∧ f 1 = p % 8 ∧ f 2 = 0
instance (f : Fin 3 → ℕ) (p : ℕ) : Decidable (OnTile f p) := inferInstanceAs (Decidable (_ ∧ _ ∧ _))
def Whole (f : Fin 2 → ℕ) : Prop := f 0 = 0 ∧ f 1 = 0
instance (f : Fin 2 → ℕ) : Decidable (Whole f) := inferInstanceAs (Decidable (_ ∧ _))

theorem at0 : ∀ p : Fin cfg0.N, OnTile (win0_0.index p) p.val := (by decide +kernel : ∀ p : Fin grid0.N, _)
theorem at1 : ∀ p : Fin cfg0.N, win0_1.index p (0 : Fin 3) = p.val / 8 ∧ win0_1.index p (1 : Fin 3) = 16 * (p.val % 8) - 1 ∧ win0_1.index p (2 : Fin 3) = 0 :=
  (by decide +kernel : ∀ p : Fin grid0.N, _)
theorem at2 : ∀ p : Fin cfg0.N, win0_2.index p (0 : Fin 3) = p.val / 8 ∧ win0_2.index p (1 : Fin 3) = min (16 * (p.val % 8) + 16) 127 ∧ win0_2.index p (2 : Fin 3) = 0 :=
  (by decide +kernel : ∀ p : Fin grid0.N, _)
theorem at3 : ∀ p : Fin cfg0.N, OnTile (win0_3.index p) p.val := (by decide +kernel : ∀ p : Fin grid0.N, _)
theorem at4 : ∀ p : Fin cfg0.N, win0_4.index p (0 : Fin 3) = p.val / 8 ∧ win0_4.index p (1 : Fin 3) = 0 ∧ win0_4.index p (2 : Fin 3) = 0 :=
  (by decide +kernel : ∀ p : Fin grid0.N, _)
theorem at5 : ∀ p : Fin cfg0.N, Whole (win0_5.index p) := (by decide +kernel : ∀ p : Fin grid0.N, _)
theorem at6 : ∀ p : Fin cfg0.N, Whole (win0_6.index p) := (by decide +kernel : ∀ p : Fin grid0.N, _)
theorem at7 : ∀ p : Fin cfg0.N, Whole (win0_7.index p) := (by decide +kernel : ∀ p : Fin grid0.N, _)
theorem at8 : ∀ p : Fin cfg0.N, Whole (win0_8.index p) := (by decide +kernel : ∀ p : Fin grid0.N, _)
theorem at9 : ∀ p : Fin cfg0.N, Whole (win0_9.index p) := (by decide +kernel : ∀ p : Fin grid0.N, _)
theorem at10 : ∀ p : Fin cfg0.N, Whole (win0_10.index p) := (by decide +kernel : ∀ p : Fin grid0.N, _)
theorem at11 : ∀ p : Fin cfg0.N, OnTile (win0_11.index p) p.val := (by decide +kernel : ∀ p : Fin grid0.N, _)
theorem at12 : ∀ p : Fin cfg0.N, OnTile (win0_12.index p) p.val := (by decide +kernel : ∀ p : Fin grid0.N, _)
theorem at13 : ∀ p : Fin cfg0.N, OnTile (win0_13.index p) p.val := (by decide +kernel : ∀ p : Fin grid0.N, _)

section
variable (p : Fin cfg0.N)

theorem blk0 (r : Fin 256) (l : Fin 1024) : (iblk m c 0 p : Vec Ideal S1x256x1024 .bf16) (ix3 0 r l) = (inp m c).h (batOf p) (rowOf p r) l := by
  unfold iblk
  rw [View.read_apply]
  refine congrArg (m ((c : Thread nD τ).loc main_arg0) : FVec Ideal S8x2048x1024 .bf16) (funext fun a => Fin.ext ?_)
  match a with
  | ⟨0, _⟩ => show win0_0.index p (0 : Fin 3) * 1 + 1 * 0 = p.val / 8; rw [(at0 p).1]; omega
  | ⟨1, _⟩ => show win0_0.index p (1 : Fin 3) * 256 + 1 * r.val = 256 * (p.val % 8) + r.val; rw [(at0 p).2.1]; omega
  | ⟨2, _⟩ => show win0_0.index p (2 : Fin 3) * 1024 + 1 * l.val = l.val; rw [(at0 p).2.2]; omega
/-- The last row before the tile, and the first one after it. -/
theorem blk1 (j : Fin 16) (hj : j.val = 15) (h0 : p.val % 8 ≠ 0) (t : Fin 2048) (ht : t.val + 1 = 256 * (p.val % 8)) (l : Fin 1024) :
    (iblk m c 1 p : Vec Ideal S1x16x1024 .bf16) (ix3 0 j l) = (inp m c).h (batOf p) t l := by
  unfold iblk
  rw [View.read_apply]
  refine congrArg (m ((c : Thread nD τ).loc main_arg0) : FVec Ideal S8x2048x1024 .bf16) (funext fun a => Fin.ext ?_)
  match a with
  | ⟨0, _⟩ => show win0_1.index p (0 : Fin 3) * 1 + 1 * 0 = p.val / 8; rw [(at1 p).1]; omega
  | ⟨1, _⟩ => show win0_1.index p (1 : Fin 3) * 16 + 1 * j.val = t.val; rw [(at1 p).2.1]; omega
  | ⟨2, _⟩ => show win0_1.index p (2 : Fin 3) * 1024 + 1 * l.val = l.val; rw [(at1 p).2.2]; omega
theorem blk2 (j : Fin 16) (hj : j.val = 0) (h7 : p.val % 8 ≠ 7) (t : Fin 2048) (ht : t.val = 256 * (p.val % 8) + 256) (l : Fin 1024) :
    (iblk m c 2 p : Vec Ideal S1x16x1024 .bf16) (ix3 0 j l) = (inp m c).h (batOf p) t l := by
  unfold iblk
  rw [View.read_apply]
  refine congrArg (m ((c : Thread nD τ).loc main_arg0) : FVec Ideal S8x2048x1024 .bf16) (funext fun a => Fin.ext ?_)
  match a with
  | ⟨0, _⟩ => show win0_2.index p (0 : Fin 3) * 1 + 1 * 0 = p.val / 8; rw [(at2 p).1]; omega
  | ⟨1, _⟩ => show win0_2.index p (1 : Fin 3) * 16 + 1 * j.val = t.val; rw [(at2 p).2.1]; omega
  | ⟨2, _⟩ => show win0_2.index p (2 : Fin 3) * 1024 + 1 * l.val = l.val; rw [(at2 p).2.2]; omega
theorem blk3 (r : Fin 256) (l : Fin 1024) : (iblk m c 3 p : Vec Ideal S1x256x1024 .f32) (ix3 0 r l) = (inp m c).x (batOf p) (rowOf p r) l := by
  unfold iblk
  rw [View.read_apply]
  refine congrArg (m ((c : Thread nD τ).loc main_arg1) : FVec Ideal S8x2048x1024 .f32) (funext fun a => Fin.ext ?_)
  match a with
  | ⟨0, _⟩ => show win0_3.index p (0 : Fin 3) * 1 + 1 * 0 = p.val / 8; rw [(at3 p).1]; omega
  | ⟨1, _⟩ => show win0_3.index p (1 : Fin 3) * 256 + 1 * r.val = 256 * (p.val % 8) + r.val; rw [(at3 p).2.1]; omega
  | ⟨2, _⟩ => show win0_3.index p (2 : Fin 3) * 1024 + 1 * l.val = l.val; rw [(at3 p).2.2]; omega
theorem blk4 (l : Fin 6144) : (iblk m c 4 p : Vec Ideal S1x1x6144 .f32) (ix3 0 0 l) = (inp m c).md (batOf p) l := by
  unfold iblk
  rw [View.read_apply]
  refine congrArg (m ((c : Thread nD τ).loc main_arg2) : FVec Ideal S8x1x6144 .f32) (funext fun a => Fin.ext ?_)
  match a with
  | ⟨0, _⟩ => show win0_4.index p (0 : Fin 3) * 1 + 1 * 0 = p.val / 8; rw [(at4 p).1]; omega
  | ⟨1, _⟩ => show win0_4.index p (1 : Fin 3) * 1 + 1 * 0 = 0; rw [(at4 p).2.1]
  | ⟨2, _⟩ => show win0_4.index p (2 : Fin 3) * 6144 + 1 * l.val = l.val; rw [(at4 p).2.2]; omega
theorem blk5 (k : Fin 1024) (l : Fin 3072) : (iblk m c 5 p : Vec Ideal S1024x3072 .bf16) (ix2 k l) = (inp m c).wi k l := by
  unfold iblk
  rw [View.read_apply]
  refine congrArg (m ((c : Thread nD τ).loc main_arg3) : FVec Ideal S1024x3072 .bf16) (funext fun a => Fin.ext ?_)
  match a with
  | ⟨0, _⟩ => show win0_5.index p (0 : Fin 2) * 1024 + 1 * k.val = k.val; rw [(at5 p).1]; omega
  | ⟨1, _⟩ => show win0_5.index p (1 : Fin 2) * 3072 + 1 * l.val = l.val; rw [(at5 p).2]; omega
theorem blk6 (k : Fin 3) (l : Fin 1024) : (iblk m c 6 p : Vec Ideal S3x1024 .f32) (ix2 k l) = (inp m c).cw k l := by
  unfold iblk
  rw [View.read_apply]
  refine congrArg (m ((c : Thread nD τ).loc main_arg4) : FVec Ideal S3x1024 .f32) (funext fun a => Fin.ext ?_)
  match a with
  | ⟨0, _⟩ => show win0_6.index p (0 : Fin 2) * 3 + 1 * k.val = k.val; rw [(at6 p).1]; omega
  | ⟨1, _⟩ => show win0_6.index p (1 : Fin 2) * 1024 + 1 * l.val = l.val; rw [(at6 p).2]; omega
theorem blk7 (k : Fin 1024) (l : Fin 1024) : (iblk m c 7 p : Vec Ideal S1024x1024 .bf16) (ix2 k l) = (inp m c).wo k l := by
  unfold iblk
  rw [View.read_apply]
  refine congrArg (m ((c : Thread nD τ).loc main_arg5) : FVec Ideal S1024x1024 .bf16) (funext fun a => Fin.ext ?_)
  match a with
  | ⟨0, _⟩ => show win0_7.index p (0 : Fin 2) * 1024 + 1 * k.val = k.val; rw [(at7 p).1]; omega
  | ⟨1, _⟩ => show win0_7.index p (1 : Fin 2) * 1024 + 1 * l.val = l.val; rw [(at7 p).2]; omega
theorem blk8 (l : Fin 1024) : (iblk m c 8 p : Vec Ideal S1x1024 .f32) (ix2 0 l) = (inp m c).g1 l := by
  unfold iblk
  rw [View.read_apply]
  refine congrArg (m ((c : Thread nD τ).loc main_arg6) : FVec Ideal S1x1024 .f32) (funext fun a => Fin.ext ?_)
  match a with
  | ⟨0, _⟩ => show win0_8.index p (0 : Fin 2) * 1 + 1 * 0 = 0; rw [(at8 p).1]
  | ⟨1, _⟩ => show win0_8.index p (1 : Fin 2) * 1024 + 1 * l.val = l.val; rw [(at8 p).2]; omega
theorem blk9 (l : Fin 1024) : (iblk m c 9 p : Vec Ideal S1x1024 .f32) (ix2 0 l) = (inp m c).g2 l := by
  unfold iblk
  rw [View.read_apply]
  refine congrArg (m ((c : Thread nD τ).loc main_arg7) : FVec Ideal S1x1024 .f32) (funext fun a => Fin.ext ?_)
  match a with
  | ⟨0, _⟩ => show win0_9.index p (0 : Fin 2) * 1 + 1 * 0 = 0; rw [(at9 p).1]
  | ⟨1, _⟩ => show win0_9.index p (1 : Fin 2) * 1024 + 1 * l.val = l.val; rw [(at9 p).2]; omega
theorem blk10 (k : Fin 1024) (l : Fin 128) : (iblk m c 10 p : Vec Ideal S1024x128 .f32) (ix2 k l) = (inp m c).wr k l := by
  unfold iblk
  rw [View.read_apply]
  refine congrArg (m ((c : Thread nD τ).loc main_arg8) : FVec Ideal S1024x128 .f32) (funext fun a => Fin.ext ?_)
  match a with
  | ⟨0, _⟩ => show win0_10.index p (0 : Fin 2) * 1024 + 1 * k.val = k.val; rw [(at10 p).1]; omega
  | ⟨1, _⟩ => show win0_10.index p (1 : Fin 2) * 128 + 1 * l.val = l.val; rw [(at10 p).2]; omega

/-! ## A point's tiles -/

/-- The convolution's operand in the 288 rows: 258 of them are the padded sequence's. -/
theorem operand_at (j : Fin 288) (s : ℕ) (hj : j.val = 15 + s) (hs : s ≤ 257) (l : Fin 1024) :
    k0_pay6 (grid0.coords p) (iblk m c 1 p) (iblk m c 0 p) (iblk m c 2 p) (iblk m c 5 p) (ix2 j l) = (inp m c).z (batOf p) (256 * (p.val % 8) + s) l := by
  refine (pay6_at _ _ _ _ _ j l).trans ?_
  have ew : (fun (k : Fin 1024) (q : Fin 3072) => (iblk m c 5 p : Vec Ideal S1024x3072 .bf16) (ix2 k q)) = (inp m c).wi := funext fun k => funext (blk5 m c p k)
  rw [coord_at, ew]
  unfold Inp.z
  have hp : p.val % 8 < 8 := Nat.mod_lt _ (by norm_num)
  by_cases hz : (j.val < 16 ∧ p.val % 8 = 0) ∨ (272 ≤ j.val ∧ p.val % 8 = 7)
  · rw [if_pos hz, dif_neg (by omega)]
  · rw [if_neg hz, dif_pos (by omega)]
    refine congrFun (congrArg₂ zed (funext fun k => ?_) rfl) l
    unfold rowAt
    split
    · exact blk1 m c p _ (by show j.val = 15; omega) (by omega) _ (by show 256 * (p.val % 8) + s - 1 + 1 = _; omega) k
    · split
      · refine (blk0 m c p _ k).trans (congrArg (fun t => (inp m c).h (batOf p) t k) (Fin.ext ?_))
        show 256 * (p.val % 8) + (j.val - 16) = 256 * (p.val % 8) + s - 1
        omega
      · exact blk2 m c p _ (by show j.val - 272 = 0; omega) (by omega) _ (by show 256 * (p.val % 8) + s - 1 = _; omega) k

theorem mid_row (r : Fin 256) (k : Fin 1024) : rowAt (iblk m c 1 p) (iblk m c 0 p) (iblk m c 2 p) (mid r) k = (inp m c).h (batOf p) (rowOf p r) k := by
  have hr := r.isLt
  unfold rowAt
  rw [dif_neg (by show ¬(16 + r.val < 16); omega), dif_pos (by show 16 + r.val < 272; omega)]
  refine (blk0 m c p _ k).trans (congrArg (fun t => (inp m c).h (batOf p) t k) (Fin.ext ?_))
  show 256 * (p.val % 8) + (16 + r.val - 16) = 256 * (p.val % 8) + r.val
  omega

variable (r : Fin 256)

theorem tap_ld (x : Vec Ideal S3x1024 .f32) (q : Fin 3) (o : Fin 2 → ℕ) (ho : o = ![q.val, 0]) (h) (l : Fin 1024) :
    View.ld x (Rect.unit (s := S3x1024) o S1x1024.size h) (ix2 0 l) = x (ix2 q l) := by
  subst ho
  refine congrArg x (funext fun a => Fin.ext ?_)
  match a with
  | ⟨0, _⟩ => rfl
  | ⟨1, _⟩ => show 0 + 1 * l.val = l.val; omega
theorem mod_ld (x : Vec Ideal S1x1x6144 .f32) (q : Fin 6) (o : Fin 3 → ℕ) (ho : o = ![0, 0, 1024 * q.val]) (h) (l : Fin 1024) :
    View.ld x (Rect.unit (s := S1x1x6144) o S1x1x1024.size h) (ix3 0 0 l) = x (ix3 0 0 (Ffn.part q l)) := by
  subst ho
  refine congrArg x (funext fun a => Fin.ext ?_)
  match a with
  | ⟨0, _⟩ => rfl
  | ⟨1, _⟩ => rfl
  | ⟨2, _⟩ => show 1024 * q.val + 1 * l.val = 1024 * q.val + l.val; omega

theorem res_at (l : Fin 1024) :
    k0_pay14 (grid0.coords p) (iblk m c 0 p) (iblk m c 1 p) (iblk m c 2 p) (iblk m c 3 p) (iblk m c 4 p) (iblk m c 5 p) (iblk m c 6 p) (iblk m c 7 p) (iblk m c 8 p)
      (iblk m c 9 p) (iblk m c 10 p) (ix2 r l) = (inp m c).res (batOf p) (rowOf p r) l := by
  unfold k0_pay14
  rw [View.ld_unit_zero zero3, View.ld_unit_zero zero3, View.ld_unit_zero zero3, View.ld_unit_zero zero2, View.ld_unit_zero zero2, View.ld_unit_zero zero3, View.ld_unit_zero zero2]
  refine (pay11_at _ _ _ _ _ _ _ _ r l).trans ?_
  have hr := r.isLt
  have e3 := funext (blk3 m c p r)
  have e4 : (fun l : Fin 1024 => View.ld (iblk m c 4 p : Vec Ideal S1x1x6144 .f32) r0_7 (ix3 0 0 l)) = fun l => (inp m c).md (batOf p) (Ffn.part 2 l) :=
    funext fun l => (mod_ld _ 2 _ rfl _ l).trans (blk4 m c p _)
  have e8 := funext (blk8 m c p)
  unfold Inp.res
  rw [e3, e4, e8]
  refine congrFun (congrArg (fun y => Ffn.mix _ _ y _) (funext fun l => ?_)) l
  refine (Y_at _ _ _ _ _ r l).trans ?_
  have e7 : (fun (k : Fin 1024) (l : Fin 1024) => (iblk m c 7 p : Vec Ideal S1024x1024 .bf16) (ix2 k l)) = (inp m c).wo := funext fun k => funext (blk7 m c p k)
  unfold Inp.y
  rw [e7]
  refine congrFun (congrArg (fun u => out u _) (funext fun k => ?_)) l
  unfold gated taps
  refine congrArg₂ (fun u v : EReal => u * v) ?_ (congrArg₂ (fun u v : EReal => u + v) ?_ (congrArg₂ (fun u v : EReal => u * v) ?_ ?_))
  · refine (pay5_at _ _ _ _ (mid r) _).trans ?_
    exact congrFun (congrArg₂ proj (funext (mid_row m c p r)) (funext fun k => funext (blk5 m c p k))) _
  · refine (pay7_at _ _ _ _ _ _ _ r k).trans (congrArg₂ (fun u v : EReal => u + v) (congrArg₂ (fun u v : EReal => u * v) ?_ ?_) (congrArg₂ (fun u v : EReal => u * v) ?_ ?_))
    · exact operand_at m c p (before r) r.val rfl (by omega) k
    · exact (tap_ld _ 0 _ rfl _ k).trans (blk6 m c p 0 k)
    · exact operand_at m c p (mid r) (r.val + 1) (by show 16 + r.val = 15 + (r.val + 1); omega) (by omega) k
    · exact (tap_ld _ 1 _ rfl _ k).trans (blk6 m c p 1 k)
  · exact (pay8_at _ _ _ _ _ r k).trans (operand_at m c p (after r) (r.val + 2) (by show 17 + r.val = 15 + (r.val + 2); omega) (by omega) k)
  · exact (tap_ld _ 2 _ rfl _ k).trans (blk6 m c p 2 k)

/-- The next layer's row, before it is stored. -/
abbrev Nxt : FVec Ideal S256x1024 .f32 :=
  k0_pay2 (k0_pay12 (grid0.coords p) (iblk m c 0 p) (iblk m c 1 p) (iblk m c 2 p) (iblk m c 3 p) (iblk m c 4 p) (iblk m c 5 p) (iblk m c 6 p) (iblk m c 7 p) (iblk m c 8 p) (iblk m c 9 p) (iblk m c 10 p))
    (k0_pay13 (grid0.coords p) (iblk m c 0 p) (iblk m c 1 p) (iblk m c 2 p) (iblk m c 3 p) (iblk m c 4 p) (iblk m c 5 p) (iblk m c 6 p) (iblk m c 7 p) (iblk m c 8 p) (iblk m c 9 p) (iblk m c 10 p))
    (k0_pay14 (grid0.coords p) (iblk m c 0 p) (iblk m c 1 p) (iblk m c 2 p) (iblk m c 3 p) (iblk m c 4 p) (iblk m c 5 p) (iblk m c 6 p) (iblk m c 7 p) (iblk m c 8 p) (iblk m c 9 p) (iblk m c 10 p))
    (iblk m c 9 p)

theorem nxt_at (l : Fin 1024) : Nxt m c p (ix2 r l) = (inp m c).nxt (batOf p) (rowOf p r) l := by
  refine (pay2_at _ _ _ _ r l).trans ?_
  have e := funext (res_at m c p r)
  have e9 := funext (blk9 m c p)
  have e12 : ∀ l : Fin 1024, k0_pay12 (grid0.coords p) (iblk m c 0 p) (iblk m c 1 p) (iblk m c 2 p) (iblk m c 3 p) (iblk m c 4 p) (iblk m c 5 p) (iblk m c 6 p) (iblk m c 7 p) (iblk m c 8 p) (iblk m c 9 p) (iblk m c 10 p) (ix2 0 l)
      = (inp m c).md (batOf p) (Ffn.part 3 l) := fun l => by
    unfold k0_pay12 k0_pay9
    exact (Ffn.dropUnit_at _ _ l).trans ((mod_ld _ 3 _ rfl _ l).trans (blk4 m c p _))
  have e13 : ∀ l : Fin 1024, k0_pay13 (grid0.coords p) (iblk m c 0 p) (iblk m c 1 p) (iblk m c 2 p) (iblk m c 3 p) (iblk m c 4 p) (iblk m c 5 p) (iblk m c 6 p) (iblk m c 7 p) (iblk m c 8 p) (iblk m c 9 p) (iblk m c 10 p) (ix2 0 l)
      = (inp m c).md (batOf p) (Ffn.part 4 l) := fun l => by
    unfold k0_pay13 k0_pay10
    exact (Ffn.dropUnit_at _ _ l).trans ((mod_ld _ 4 _ rfl _ l).trans (blk4 m c p _))
  unfold Inp.nxt
  rw [e, e9, funext e12, funext e13]

theorem tile11 (l : Fin 1024) :
    out0_11 (grid0.coords p) (iblk m c 0 p) (iblk m c 1 p) (iblk m c 2 p) (iblk m c 3 p) (iblk m c 4 p) (iblk m c 5 p) (iblk m c 6 p) (iblk m c 7 p) (iblk m c 8 p)
      (iblk m c 9 p) (iblk m c 10 p) (ix3 0 r l) = (inp m c).res (batOf p) (rowOf p r) l := by
  unfold out0_11
  rw [View.canon_unit_zero zero3]
  unfold k0_pay1
  exact (Tail.lift_at _ _ r l).trans (res_at m c p r l)

theorem tile12 (l : Fin 1024) :
    out0_12 (grid0.coords p) (iblk m c 0 p) (iblk m c 1 p) (iblk m c 2 p) (iblk m c 3 p) (iblk m c 4 p) (iblk m c 5 p) (iblk m c 6 p) (iblk m c 7 p) (iblk m c 8 p)
      (iblk m c 9 p) (iblk m c 10 p) (ix3 0 r l) = (inp m c).nxt (batOf p) (rowOf p r) l := by
  unfold out0_12
  rw [View.canon_unit_zero zero3, View.ld_unit_zero zero2]
  unfold k0_pay3
  exact (Tail.lift_at _ _ r l).trans (nxt_at m c p r l)

theorem tile13 (e : Fin 128) :
    out0_13 (grid0.coords p) (iblk m c 0 p) (iblk m c 1 p) (iblk m c 2 p) (iblk m c 3 p) (iblk m c 4 p) (iblk m c 5 p) (iblk m c 6 p) (iblk m c 7 p) (iblk m c 8 p)
      (iblk m c 9 p) (iblk m c 10 p) (ix3 0 r e) = (inp m c).logits (batOf p) (rowOf p r) e := by
  unfold out0_13
  rw [View.canon_unit_zero zero3, View.ld_unit_zero zero2, View.ld_unit_zero zero2]
  refine (pay4_at _ _ _ _ _ r e).trans ?_
  unfold Inp.logits
  exact Finset.sum_congr rfl fun k _ => congrArg₂ (fun u v : EReal => u * v) (nxt_at m c p r k) (blk10 m c p k e)

end

/-! ## The arrays -/

/-- The point whose tile holds a row, and the row inside it. -/
def ptOf (b : Fin 8) (t : Fin 2048) : Fin cfg0.N := ⟨8 * b.val + t.val / 256, lt_of_lt_of_eq (by have := b.isLt; have := t.isLt; omega) N_0.symm⟩
def inTile (t : Fin 2048) : Fin 256 := ⟨t.val % 256, Nat.mod_lt _ (by norm_num)⟩

theorem batOf_ptOf (b : Fin 8) (t : Fin 2048) : batOf (ptOf b t) = b :=
  Fin.ext (by have := t.isLt; show (8 * b.val + t.val / 256) / 8 = b.val; omega)
theorem rowOf_ptOf (b : Fin 8) (t : Fin 2048) : rowOf (ptOf b t) (inTile t) = t :=
  Fin.ext (by have := t.isLt; show 256 * ((8 * b.val + t.val / 256) % 8) + t.val % 256 = t.val; omega)

/-- Where a window on the tile puts its element. -/
theorem spot {n : ℕ} (f : Fin 3 → ℕ) (b : Fin 8) (t : Fin 2048) (hf : OnTile f (ptOf b t).val) (l : Fin n) :
    b.val = f 0 * 1 + 1 * 0 ∧ t.val = f 1 * 256 + 1 * (t.val % 256) ∧ l.val = f 2 * n + 1 * l.val := by
  have ht := t.isLt
  have e : (ptOf b t).val = 8 * b.val + t.val / 256 := rfl
  rw [hf.1, hf.2.1, hf.2.2, e]
  refine ⟨by omega, by omega, by omega⟩

theorem fin11 (b : Fin 8) (t : Fin 2048) (l : Fin 1024) : ((dats m 0 c).arrAt 11 cfg0.N : FVec Ideal S8x2048x1024 .f32) (ix3 b t l) = (inp m c).res b t l := by
  have h := congrFun ((Value.blocks11 m c (ptOf b t) (flush0_11 _)).trans (Value.flushed11 m c (ptOf b t))) (ix3 0 (inTile t) l : S1x256x1024.Idx)
  rw [View.read_apply] at h
  refine Eq.trans ?_ (h.trans ((tile11 m c (ptOf b t) (inTile t) l).trans ?_))
  · refine congrArg ((dats m 0 c).arrAt 11 cfg0.N : FVec Ideal S8x2048x1024 .f32) (funext fun a => Fin.ext ?_)
    have s := spot _ b t (at11 (ptOf b t)) l
    match a with
    | ⟨0, _⟩ => exact s.1
    | ⟨1, _⟩ => exact s.2.1
    | ⟨2, _⟩ => exact s.2.2
  · rw [batOf_ptOf, rowOf_ptOf]

theorem fin12 (b : Fin 8) (t : Fin 2048) (l : Fin 1024) : ((dats m 0 c).arrAt 12 cfg0.N : FVec Ideal S8x2048x1024 .bf16) (ix3 b t l) = (inp m c).nxt b t l := by
  have h := congrFun ((Value.blocks12 m c (ptOf b t) (flush0_12 _)).trans (Value.flushed12 m c (ptOf b t))) (ix3 0 (inTile t) l : S1x256x1024.Idx)
  rw [View.read_apply] at h
  refine Eq.trans ?_ (h.trans ((tile12 m c (ptOf b t) (inTile t) l).trans ?_))
  · refine congrArg ((dats m 0 c).arrAt 12 cfg0.N : FVec Ideal S8x2048x1024 .bf16) (funext fun a => Fin.ext ?_)
    have s := spot _ b t (at12 (ptOf b t)) l
    match a with
    | ⟨0, _⟩ => exact s.1
    | ⟨1, _⟩ => exact s.2.1
    | ⟨2, _⟩ => exact s.2.2
  · rw [batOf_ptOf, rowOf_ptOf]

theorem fin13 (b : Fin 8) (t : Fin 2048) (e : Fin 128) : ((dats m 0 c).arrAt 13 cfg0.N : FVec Ideal S8x2048x128 .f32) (ix3 b t e) = (inp m c).logits b t e := by
  have h := congrFun ((Value.blocks13 m c (ptOf b t) (flush0_13 _)).trans (Value.flushed13 m c (ptOf b t))) (ix3 0 (inTile t) e : S1x256x128.Idx)
  rw [View.read_apply] at h
  refine Eq.trans ?_ (h.trans ((tile13 m c (ptOf b t) (inTile t) e).trans ?_))
  · refine congrArg ((dats m 0 c).arrAt 13 cfg0.N : FVec Ideal S8x2048x128 .f32) (funext fun a => Fin.ext ?_)
    have s := spot _ b t (at13 (ptOf b t)) e
    match a with
    | ⟨0, _⟩ => exact s.1
    | ⟨1, _⟩ => exact s.2.1
    | ⟨2, _⟩ => exact s.2.2
  · rw [batOf_ptOf, rowOf_ptOf]

end Conv
-- ==== Proof.Conv.Reference.lean ====
/- The short-convolution call's reference at an element. -/
module

public import proofs.«01_k».proof.Proof.Tail.Ops
public import proofs.«01_k».proof.Proof.Conv.Spec
public import proofs.«01_k».proof.Proof.Gen.ConvReferenceIdeal.Run

@[expose] public section

set_option maxRecDepth 16384

noncomputable section

namespace Conv.Ref

open Idealize.ShloMosaic Idealize.ShloMosaic.TcCoe Cert.ConvReferenceIdeal Cert.ConvReferenceIdeal.Gen Tail

variable (h : FVec Ideal S8x2048x1024 .bf16) (x : FVec Ideal S8x2048x1024 .f32) (md : FVec Ideal S8x1x6144 .f32) (wi : FVec Ideal S1024x3072 .bf16)
  (cw : FVec Ideal S3x1024 .f32) (wo : FVec Ideal S1024x1024 .bf16) (g1 g2 : FVec Ideal S1x1024 .f32) (wr : FVec Ideal S1024x128 .f32)

/-- The arrays' entries. -/
abbrev args : Inp where
  h := fun b t l => h (ix3 b t l)
  x := fun b t l => x (ix3 b t l)
  md := fun b l => md (ix3 b 0 l)
  wi := fun k l => wi (ix2 k l)
  cw := fun k l => cw (ix2 k l)
  wo := fun k l => wo (ix2 k l)
  g1 := fun l => g1 (ix2 0 l)
  g2 := fun l => g2 (ix2 0 l)
  wr := fun k l => wr (ix2 k l)

/-! ## The values the reference prints -/

/-- The first product; the convolution's operand; the operand padded. -/
abbrev P : FVec Ideal S8x2048x3072 .f32 :=
  Host.dotGeneral dot_S8x2048x1024_S1024x3072_S8x2048x3072_2_0_01_1_n_n none (extf .f32 h bitsLt_bf16_f32) (extf .f32 wi bitsLt_bf16_f32)
abbrev Z : FVec Ideal S8x2048x1024 .f32 :=
  mulf (extractStridedSlice S8x2048x1024 ![0, 0, 1024] (P h wi) slices_S8x2048x3072_S8x2048x1024_0_0_1024)
    (extractStridedSlice S8x2048x1024 ![0, 0, 2048] (P h wi) slices_S8x2048x3072_S8x2048x1024_0_0_2048)
abbrev PZ : FVec Ideal S8x2050x1024 .f32 :=
  pad S8x2050x1024 ![0, 1, 0] ![0, 1, 0] ![0, 0, 0] (Z h wi) (sitofp .f32 (constantI S_ 32 0#32)) pads_S8x2048x1024_S8x2050x1024_000_110_000 h_S_

/-- A tap's weights, copied to every row. -/
abbrev W (o : Fin 2 → ℕ) (hs : S3x1024.Slices o S1x1024) : FVec Ideal S8x2048x1024 .f32 :=
  broadcastInDim S8x2048x1024 ![0, 1, 2] bcast_S1x1x1024_S8x2048x1024_0_1_2 (broadcastInDim S1x1x1024 ![2] bcast_S1024_S1x1x1024_2
    (shapeCast S1024 (extractStridedSlice S1x1024 o cw hs) shapeCasts_S1x1024_S1024))

/-- The convolution; the second product; the residual row; the next layer's row. -/
abbrev C : FVec Ideal S8x2048x1024 .f32 :=
  addf (addf (addf (broadcastInDim S8x2048x1024 ![] bcast_S_S8x2048x1024 (constant S_ .f32 0x00000000#32))
    (mulf (extractStridedSlice S8x2048x1024 ![0, 0, 0] (PZ h wi) slices_S8x2050x1024_S8x2048x1024_0_0_0) (W cw ![0, 0] slices_S3x1024_S1x1024_0_0)))
    (mulf (extractStridedSlice S8x2048x1024 ![0, 1, 0] (PZ h wi) slices_S8x2050x1024_S8x2048x1024_0_1_0) (W cw ![1, 0] slices_S3x1024_S1x1024_1_0)))
    (mulf (extractStridedSlice S8x2048x1024 ![0, 2, 0] (PZ h wi) slices_S8x2050x1024_S8x2048x1024_0_2_0) (W cw ![2, 0] slices_S3x1024_S1x1024_2_0))
abbrev Y : FVec Ideal S8x2048x1024 .f32 :=
  Host.dotGeneral dot_S8x2048x1024_S1024x1024_S8x2048x1024_2_0_01_1_n_n none
    (mulf (extractStridedSlice S8x2048x1024 ![0, 0, 0] (P h wi) slices_S8x2048x3072_S8x2048x1024_0_0_0) (C h wi cw)) (extf .f32 wo bitsLt_bf16_f32)
abbrev Inv (y : FVec Ideal S8x2048x1024 .f32) : FVec Ideal S8x2048x1024 .f32 :=
  broadcastInDim S8x2048x1024 ![0, 1, 2] bcast_S8x2048x1_S8x2048x1024_0_1_2 (Host.rsqrt (addf (Host.divf (broadcastInDim S8x2048x1 ![0, 1] bcast_S8x2048_S8x2048x1_0_1
    (Host.reduceAdd (mulf y y) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_ .f32 0x358637BD#32))))
abbrev G (g : FVec Ideal S1x1024 .f32) : FVec Ideal S8x2048x1024 .f32 :=
  broadcastInDim S8x2048x1024 ![0, 1, 2] bcast_S1x1x1024_S8x2048x1024_0_1_2 (broadcastInDim S1x1x1024 ![1, 2] bcast_S1x1024_S1x1x1024_1_2 g)
abbrev X3 : FVec Ideal S8x2048x1024 .f32 :=
  addf x (mulf (broadcastInDim S8x2048x1024 ![0, 1, 2] bcast_S8x1x1024_S8x2048x1024_0_1_2 (extractStridedSlice S8x1x1024 ![0, 0, 2048] md slices_S8x1x6144_S8x1x1024_0_0_2048))
    (mulf (mulf (Y h wi cw wo) (Inv (Y h wi cw wo))) (G g1)))
abbrev H4 : FVec Ideal S8x2048x1024 .f32 :=
  addf (mulf (mulf (mulf (X3 h x md wi cw wo g1) (Inv (X3 h x md wi cw wo g1))) (G g2))
      (broadcastInDim S8x2048x1024 ![0, 1, 2] bcast_S8x1x1024_S8x2048x1024_0_1_2 (addf (broadcastInDim S8x1x1024 ![] bcast_S_S8x1x1024 (constant S_ .f32 0x3F800000#32))
        (extractStridedSlice S8x1x1024 ![0, 0, 4096] md slices_S8x1x6144_S8x1x1024_0_0_4096))))
    (broadcastInDim S8x2048x1024 ![0, 1, 2] bcast_S8x1x1024_S8x2048x1024_0_1_2 (extractStridedSlice S8x1x1024 ![0, 0, 3072] md slices_S8x1x6144_S8x1x1024_0_0_3072))
abbrev Lg : FVec Ideal S8x2048x128 .f32 :=
  Host.dotGeneral dot_S8x2048x1024_S1024x128_S8x2048x128_2_0_01_1_n_n none (H4 h x md wi cw wo g1 g2) wr

/-! ## At an element -/

theorem P_at (b : Fin 8) (t : Fin 2048) (q : Fin 3072) : P h wi (ix3 b t q) = proj (fun k => h (ix3 b t k)) (fun k q => wi (ix2 k q)) q :=
  dots_at (K := 1024) (N := 3072) (φ₁ := .f32) (φ₂ := .f32) _ none (extf .f32 h bitsLt_bf16_f32) (extf .f32 wi bitsLt_bf16_f32) b t q

theorem part_at (v : FVec Ideal S8x2048x3072 .f32) (q : Fin 3) (o : Fin 3 → ℕ) (ho : o = ![0, 0, 1024 * q.val]) (hs) (b : Fin 8) (t : Fin 2048) (l : Fin 1024) :
    extractStridedSlice S8x2048x1024 o v hs (ix3 b t l) = v (ix3 b t (lane q l)) := by
  subst ho
  refine congrArg v (funext fun a => Fin.ext ?_)
  match a with
  | ⟨0, _⟩ => exact Nat.zero_add _
  | ⟨1, _⟩ => exact Nat.zero_add _
  | ⟨2, _⟩ => rfl

theorem Z_at (b : Fin 8) (t : Fin 2048) (l : Fin 1024) : Z h wi (ix3 b t l) = zed (fun k => h (ix3 b t k)) (fun k q => wi (ix2 k q)) l :=
  congrArg₂ (fun u v : EReal => u * v) ((part_at _ 1 _ rfl _ b t l).trans (P_at h wi b t _)) ((part_at _ 2 _ rfl _ b t l).trans (P_at h wi b t _))

theorem PZ_at (b : Fin 8) (s : Fin 2050) (l : Fin 1024) : PZ h wi (ix3 b s l) = (args h x md wi cw wo g1 g2 wr).z b s.val l := by
  unfold Inp.z
  split
  · next hs =>
    refine (pad_apply_of_inside (s := S8x2048x1024) (t := S8x2050x1024) _ _ _ _ _ _ _ _ (ix3 b (⟨s.val - 1, by omega⟩ : Fin 2048) l) fun a => ?_).trans (Z_at h wi b _ l)
    match a with
    | ⟨0, _⟩ => show b.val = 0 + b.val * (0 + 1); omega
    | ⟨1, _⟩ => show s.val = 1 + (s.val - 1) * (0 + 1); omega
    | ⟨2, _⟩ => show l.val = 0 + l.val * (0 + 1); omega
  · next hs =>
    refine (pad_apply_of_not_inside (s := S8x2048x1024) (t := S8x2050x1024) _ _ _ _ _ _ _ _ (1 : Fin 3) ?_).trans ?_
    · show ¬(1 ≤ s.val ∧ (s.val - 1) % (0 + 1) = 0 ∧ (s.val - 1) / (0 + 1) < 2048)
      omega
    · show (Scalar.sitofp .f32 0#32 : Ideal .f32) = 0
      exact sitofp_zero

theorem shift_at (v : FVec Ideal S8x2050x1024 .f32) (q : Fin 3) (o : Fin 3 → ℕ) (ho : o = ![0, q.val, 0]) (hs) (b : Fin 8) (t : Fin 2048) (l : Fin 1024) :
    extractStridedSlice S8x2048x1024 o v hs (ix3 b t l) = v (ix3 b (⟨t.val + q.val, by have := t.isLt; have := q.isLt; omega⟩ : Fin 2050) l) := by
  subst ho
  refine congrArg v (funext fun a => Fin.ext ?_)
  match a with
  | ⟨0, _⟩ => exact Nat.zero_add _
  | ⟨1, _⟩ => exact Nat.add_comm _ _
  | ⟨2, _⟩ => exact Nat.zero_add _

theorem tap_at (q : Fin 3) (o : Fin 3 → ℕ) (ho : o = ![0, q.val, 0]) (hs) (b : Fin 8) (t : Fin 2048) (l : Fin 1024) :
    extractStridedSlice S8x2048x1024 o (PZ h wi) hs (ix3 b t l) = (args h x md wi cw wo g1 g2 wr).z b (t.val + q.val) l :=
  (shift_at _ q o ho hs b t l).trans (PZ_at h x md wi cw wo g1 g2 wr b _ l)

theorem W_at (q : Fin 3) (o : Fin 2 → ℕ) (ho : o = ![q.val, 0]) (hs) (b : Fin 8) (t : Fin 2048) (l : Fin 1024) : W cw o hs (ix3 b t l) = cw (ix2 q l) := by
  subst ho
  refine (broadcastInDim_apply _ _ _ _ (ix3 (0 : Fin 1) (0 : Fin 1) l) fun a => ?_).trans ((broadcastInDim_apply _ _ _ _ (ix1 l) fun a => ?_).trans
    ((shapeCast_apply _ _ _ (ix2 (0 : Fin 1) l) ?_).trans (congrArg cw (funext fun a => Fin.ext ?_))))
  · match a with
    | ⟨0, _⟩ => rfl
    | ⟨1, _⟩ => rfl
    | ⟨2, _⟩ => rfl
  · match a with
    | ⟨0, _⟩ => rfl
  · rw [Shape.rowMajor_val_one, Shape.rowMajor_val_two]
    show 0 * 1024 + l.val = l.val
    omega
  · match a with
    | ⟨0, _⟩ => rfl
    | ⟨1, _⟩ => exact Nat.zero_add _

theorem C_at (b : Fin 8) (t : Fin 2048) (l : Fin 1024) : C h wi cw (ix3 b t l)
    = taps ((args h x md wi cw wo g1 g2 wr).z b t.val) ((args h x md wi cw wo g1 g2 wr).z b (t.val + 1)) ((args h x md wi cw wo g1 g2 wr).z b (t.val + 2)) (fun k l => cw (ix2 k l)) l := by
  unfold taps
  refine congrArg₂ (fun u v : EReal => u + v) (congrArg₂ (fun u v : EReal => u + v) ?_ ?_) ?_
  · refine (congrArg₂ (fun u v : EReal => u + v) Ideal.ofBits_zero_f32 ?_).trans (zero_add _)
    exact congrArg₂ (fun u v : EReal => u * v) (tap_at h x md wi cw wo g1 g2 wr 0 _ rfl _ b t l) (W_at cw 0 _ rfl _ b t l)
  · exact congrArg₂ (fun u v : EReal => u * v) (tap_at h x md wi cw wo g1 g2 wr 1 _ rfl _ b t l) (W_at cw 1 _ rfl _ b t l)
  · exact congrArg₂ (fun u v : EReal => u * v) (tap_at h x md wi cw wo g1 g2 wr 2 _ rfl _ b t l) (W_at cw 2 _ rfl _ b t l)

theorem second_at (u : FVec Ideal S8x2048x1024 .f32) (b : Fin 8) (t : Fin 2048) (l : Fin 1024) :
    Host.dotGeneral dot_S8x2048x1024_S1024x1024_S8x2048x1024_2_0_01_1_n_n none u (extf .f32 wo bitsLt_bf16_f32) (ix3 b t l)
      = out (fun k => u (ix3 b t k)) (fun k l => wo (ix2 k l)) l :=
  dots_at (K := 1024) (N := 1024) (φ₁ := .f32) (φ₂ := .f32) _ none u (extf .f32 wo bitsLt_bf16_f32) b t l

/-- The first part of the first product times the convolution. -/
abbrev U : FVec Ideal S8x2048x1024 .f32 :=
  mulf (extractStridedSlice S8x2048x1024 ![0, 0, 0] (P h wi) slices_S8x2048x3072_S8x2048x1024_0_0_0) (C h wi cw)

theorem U_at (b : Fin 8) (t : Fin 2048) (k : Fin 1024) : U h wi cw (ix3 b t k)
    = gated (fun k => h (ix3 b t k)) (fun k q => wi (ix2 k q)) ((args h x md wi cw wo g1 g2 wr).z b t.val) ((args h x md wi cw wo g1 g2 wr).z b (t.val + 1))
        ((args h x md wi cw wo g1 g2 wr).z b (t.val + 2)) (fun k l => cw (ix2 k l)) k := by
  unfold gated
  exact congrArg₂ (fun u v : EReal => u * v) ((part_at _ 0 _ rfl _ b t k).trans (P_at h wi b t _)) (C_at h x md wi cw wo g1 g2 wr b t k)

theorem Y_at (b : Fin 8) (t : Fin 2048) (l : Fin 1024) : Y h wi cw wo (ix3 b t l) = (args h x md wi cw wo g1 g2 wr).y b t l := by
  have e := funext (U_at h x md wi cw wo g1 g2 wr b t)
  refine (second_at wo (U h wi cw) b t l).trans ?_
  rw [e]
  rfl

theorem Inv_at (y : FVec Ideal S8x2048x1024 .f32) (b : Fin 8) (t : Fin 2048) (l : Fin 1024) : Inv y (ix3 b t l) = Ffn.inv fun k => y (ix3 b t k) :=
  (cols_at _ _ b t l).trans (invs_at _ _ _ _ _ _ b t)

theorem mix_at (y : FVec Ideal S8x2048x1024 .f32) (b : Fin 8) (t : Fin 2048) (l : Fin 1024) :
    addf x (mulf (broadcastInDim S8x2048x1024 ![0, 1, 2] bcast_S8x1x1024_S8x2048x1024_0_1_2 (extractStridedSlice S8x1x1024 ![0, 0, 2048] md slices_S8x1x6144_S8x1x1024_0_0_2048))
      (mulf (mulf y (Inv y)) (G g1))) (ix3 b t l)
      = Ffn.mix (fun l => x (ix3 b t l)) (fun l => md (ix3 b 0 (Ffn.part 2 l))) (fun l => y (ix3 b t l)) (fun l => g1 (ix2 0 l)) l := by
  unfold Ffn.mix Ffn.nrm
  exact congrArg (fun u : EReal => x (ix3 b t l) + u) (congrArg₂ (fun u v : EReal => u * v) (mod_at md 2 _ rfl _ _ b t l)
    (congrArg₂ (fun u v : EReal => u * v) (congrArg (fun u : EReal => y (ix3 b t l) * u) (Inv_at y b t l)) (rows_at g1 _ _ b t l)))

theorem modu_at (y : FVec Ideal S8x2048x1024 .f32) (b : Fin 8) (t : Fin 2048) (l : Fin 1024) :
    addf (mulf (mulf (mulf y (Inv y)) (G g2))
      (broadcastInDim S8x2048x1024 ![0, 1, 2] bcast_S8x1x1024_S8x2048x1024_0_1_2 (addf (broadcastInDim S8x1x1024 ![] bcast_S_S8x1x1024 (constant S_ .f32 0x3F800000#32))
        (extractStridedSlice S8x1x1024 ![0, 0, 4096] md slices_S8x1x6144_S8x1x1024_0_0_4096))))
      (broadcastInDim S8x2048x1024 ![0, 1, 2] bcast_S8x1x1024_S8x2048x1024_0_1_2 (extractStridedSlice S8x1x1024 ![0, 0, 3072] md slices_S8x1x6144_S8x1x1024_0_0_3072)) (ix3 b t l)
      = Ffn.modu (fun l => y (ix3 b t l)) (fun l => g2 (ix2 0 l)) (fun l => md (ix3 b 0 (Ffn.part 3 l))) (fun l => md (ix3 b 0 (Ffn.part 4 l))) l := by
  unfold Ffn.modu Ffn.nrm
  refine congrArg₂ (fun u v : EReal => u + v) (congrArg₂ (fun u v : EReal => u * v) (congrArg₂ (fun u v : EReal => u * v)
    (congrArg (fun u : EReal => y (ix3 b t l) * u) (Inv_at y b t l)) (rows_at g2 _ _ b t l)) ?_) (mod_at md 3 _ rfl _ _ b t l)
  exact congrArg₂ (fun u v : EReal => u + v) Ideal.ofBits_one_f32 (mod_at md 4 _ rfl bcast_S8x1x1024_S8x2048x1024_0_1_2 slices_S8x1x6144_S8x1x1024_0_0_4096 b t l)

theorem X3_at (b : Fin 8) (t : Fin 2048) (l : Fin 1024) : X3 h x md wi cw wo g1 (ix3 b t l) = (args h x md wi cw wo g1 g2 wr).res b t l := by
  have e := funext (Y_at h x md wi cw wo g1 g2 wr b t)
  refine (mix_at x md g1 (Y h wi cw wo) b t l).trans ?_
  rw [e]
  rfl

theorem H4_at (b : Fin 8) (t : Fin 2048) (l : Fin 1024) : H4 h x md wi cw wo g1 g2 (ix3 b t l) = (args h x md wi cw wo g1 g2 wr).nxt b t l := by
  have e := funext (X3_at h x md wi cw wo g1 g2 wr b t)
  refine (modu_at md g2 (X3 h x md wi cw wo g1) b t l).trans ?_
  rw [e]
  rfl

theorem Lg_at (b : Fin 8) (t : Fin 2048) (q : Fin 128) : Lg h x md wi cw wo g1 g2 wr (ix3 b t q) = (args h x md wi cw wo g1 g2 wr).logits b t q := by
  refine (dots_at (K := 1024) (N := 128) (φ₁ := .f32) (φ₂ := .f32) _ none (H4 h x md wi cw wo g1 g2) wr b t q).trans ?_
  unfold Inp.logits
  exact Finset.sum_congr rfl fun k _ => congrArg (fun u : EReal => u * wr (ix2 k q)) (H4_at h x md wi cw wo g1 g2 wr b t k)

/-! ## The results -/

variable (m : (ℓ : Loc nD τ sig) → Buf (Elt Ideal) ℓ) (c : Dev nD)

theorem res0 : Value.res_main_v54 m c = X3 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := by
  unfold Value.res_main_v54; rfl
theorem res1 : Value.res_main_v74 m c = truncf .bf16 (H4 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7))) bitsLt_bf16_f32 := by
  unfold Value.res_main_v74; rfl
theorem res2 : Value.res_main_v75 m c = Lg (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) := by
  unfold Value.res_main_v75; rfl

/-- The arguments in the memory. -/
def mem : Inp := args (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (m ((c.tc : Thread nD τ).loc main_arg7))
  (m ((c.tc : Thread nD τ).loc main_arg8))

variable (b : Fin 8) (t : Fin 2048)

theorem fin0 (l : Fin 1024) : (Value.res_main_v54 m c : FVec Ideal S8x2048x1024 .f32) (ix3 b t l) = (mem m c).res b t l :=
  (congrFun (res0 m c) (ix3 b t l)).trans (X3_at _ _ _ _ _ _ _ _ _ b t l)
theorem fin1 (l : Fin 1024) : (Value.res_main_v74 m c : FVec Ideal S8x2048x1024 .bf16) (ix3 b t l) = (mem m c).nxt b t l :=
  (congrFun (res1 m c) (ix3 b t l)).trans (H4_at _ _ _ _ _ _ _ _ _ b t l)
theorem fin2 (e : Fin 128) : (Value.res_main_v75 m c : FVec Ideal S8x2048x128 .f32) (ix3 b t e) = (mem m c).logits b t e :=
  (congrFun (res2 m c) (ix3 b t e)).trans (Lg_at _ _ _ _ _ _ _ _ _ b t e)

end Conv.Ref
-- ==== Proof.Conv.Claims.lean ====
/- The short-convolution call's two claims: the reference's frame and the value claim. -/
module

public import proofs.«01_k».proof.Defs
public import proofs.«01_k».proof.Proof.Conv.Points
public import proofs.«01_k».proof.Proof.Conv.Reference
public import proofs.«01_k».proof.Proof.Gen.Conv.Frame
public import Idealize.ShloMosaic.Lib.Quiescent

@[expose] public section

set_option maxRecDepth 16384

noncomputable section

namespace Conv

open Idealize.ShloMosaic Idealize.ShloMosaic.TcCoe Idealize.SL.Sem Tail

theorem ref_frame : Cert.quiescent_ConvReferenceIdeal :=
  fun m ρ _ => (θ_run _ _ _).mono (fun r h => ⟨fun c => (h c).2.2.2, sem_eq_zero_of_no_sems (by decide) _⟩)
    (Cert.ConvReferenceIdeal.Value.run m ρ)

theorem value : Cert.algebraic_ConvIdeal_ConvReferenceIdeal := by
  intro m g m' g' _ he
  have same : ∀ c, Ref.mem m' c = inp m c := fun c => by
    obtain ⟨e0, e1, e2, e3, e4, e5, e6, e7, e8⟩ := he c
    unfold Ref.mem
    rw [e0, e1, e2, e3, e4, e5, e6, e7, e8]
    rfl
  refine ⟨fun c => table (inp m c).res, fun c => table (inp m c).nxt, fun c => table (inp m c).logits,
    (θ_run _ _ _).mono (fun r h c => ⟨(h c).1.trans (table_eq (fin11 m c)), (h c).2.1.trans (table_eq (fin12 m c)), (h c).2.2.1.trans (table_eq (fin13 m c)), (h c).2.2.2⟩)
      (Cert.ConvIdeal.Value.run_blocks m g),
    (θ_run _ _ _).mono (fun r h c => ⟨(h c).1.trans (table_eq fun b t l => ?_), (h c).2.1.trans (table_eq fun b t l => ?_), (h c).2.2.1.trans (table_eq fun b t l => ?_), (h c).2.2.2⟩)
      (Cert.ConvReferenceIdeal.Value.run m' g')⟩
  · exact (Ref.fin0 m' c b t l).trans (congrArg (fun a : Inp => a.res b t l) (same c))
  · exact (Ref.fin1 m' c b t l).trans (congrArg (fun a : Inp => a.nxt b t l) (same c))
  · exact (Ref.fin2 m' c b t l).trans (congrArg (fun a : Inp => a.logits b t l) (same c))

end Conv
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Gen.KernelIdeal.Value
public import proofs.«01_k».proof.Proof.Gen.ReferenceIdeal.Run
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeReferenceIdeal
public import proofs.«01_k».proof.Proof.Gen.MoeReferenceIdeal.Run
public import proofs.«01_k».proof.Proof.Gen.Pre_named
public import proofs.«01_k».proof.Proof.Scan.Claims
public import proofs.«01_k».proof.Proof.Ffn.Claims
public import proofs.«01_k».proof.Proof.Experts.Claims
public import proofs.«01_k».proof.Proof.Experts.Twin
public import proofs.«01_k».proof.Proof.Combine.Claims
public import proofs.«01_k».proof.Proof.Conv.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Moe.Gen.facts, Cert.MoeIdeal.Gen.facts, Cert.MoeReferenceIdeal.Gen.facts,
  Cert.Combine.Gen.facts, Cert.CombineIdeal.Gen.facts, Cert.CombineReferenceIdeal.Gen.facts,
  Cert.Conv.Gen.facts, Cert.ConvIdeal.Gen.facts, Cert.ConvReferenceIdeal.Gen.facts, Cert.Pre_tame.Gen.facts, Cert.Pre_named.Gen.facts,
  fun m ρ _ => Cert.Kernel.Gen.frame m ρ, fun m ρ _ => Cert.KernelIdeal.Gen.frame m ρ, fun m ρ _ => Cert.KernelIdeal.Gen.frame m ρ,
  Scan.ref_frame, fun m ρ _ => Scan.ref_frame m ρ trivial,
  fun m ρ _ => Cert.Ffn.Gen.frame m ρ, fun m ρ _ => Cert.FfnIdeal.Gen.frame m ρ, Ffn.ref_frame,
  Experts.frame, Experts.ideal_frame, Experts.ref_frame, fun m ρ _ => Experts.ref_frame m ρ trivial,
  fun m ρ _ => Cert.Combine.Gen.frame m ρ, fun m ρ _ => Cert.CombineIdeal.Gen.frame m ρ, Combine.ref_frame,
  fun m ρ _ => Cert.Conv.Gen.frame m ρ, fun m ρ _ => Cert.ConvIdeal.Gen.frame m ρ, Conv.ref_frame,
  trivial, Scan.value, trivial, Ffn.value, trivial, Experts.value,
  trivial, Combine.value, trivial, Conv.value⟩

end Cert.Proof

end
